-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_finite [hPre_ffn_finite : Cert.Pre_ffn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_finite [hPre_ffn_finite : Cert.Pre_ffn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_norm_finite [hPre_norm_finite : Cert.Pre_norm_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_norm_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_norm_finite [hPre_norm_finite : Cert.Pre_norm_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_norm_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_ffn_finite [hKernel2Ideal : Cert.Kernel2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_ffn_finite [hReference2Ideal : Cert.Reference2Ideal.Facts] [hPre_ffn_finite : Cert.Pre_ffn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_norm_finite [hKernel3Ideal : Cert.Kernel3Ideal.Facts] [hPre_norm_finite : Cert.Pre_norm_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_norm_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_norm_finite [hReference3Ideal : Cert.Reference3Ideal.Facts] [hPre_norm_finite : Cert.Pre_norm_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_norm_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_ffn_finite [hKernel2Ideal : Cert.Kernel2Ideal.Facts] [hReference2Ideal : Cert.Reference2Ideal.Facts] [hPre_ffn_finite : Cert.Pre_ffn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v20)) (v4 : (c : Dev Cert.Kernel2Ideal.nD) → Buf (Elt Ideal) ((c.tc : Thread Cert.Kernel2Ideal.nD Cert.Kernel2Ideal.τ).loc Cert.Kernel2Ideal.main_v21)) (v5 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v20) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_v22) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v57) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_v61) = v4 c
          ∧ r.2.mem ((c.tc : Thread Cert.Reference2Ideal.nD Cert.Reference2Ideal.τ).loc Cert.Reference2Ideal.main_v62) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_norm_finite [hKernel3Ideal : Cert.Kernel3Ideal.Facts] [hReference3Ideal : Cert.Reference3Ideal.Facts] [hPre_norm_finite : Cert.Pre_norm_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_norm_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)) (v2 : (c : Dev Cert.Kernel3Ideal.nD) → Buf (Elt Ideal) ((c.tc : Thread Cert.Kernel3Ideal.nD Cert.Kernel3Ideal.τ).loc Cert.Kernel3Ideal.main_v22_2)) (v3 : (c : Dev Cert.Kernel3Ideal.nD) → Buf (Elt Ideal) ((c.tc : Thread Cert.Kernel3Ideal.nD Cert.Kernel3Ideal.τ).loc Cert.Kernel3Ideal.main_v22_3)) (v4 : (c : Dev Cert.Kernel3Ideal.nD) → Buf (Elt Ideal) ((c.tc : Thread Cert.Kernel3Ideal.nD Cert.Kernel3Ideal.τ).loc Cert.Kernel3Ideal.main_v22_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_v22_2) = v2 c
          ∧ r.2.mem ((c.tc : Thread Cert.Kernel3Ideal.nD Cert.Kernel3Ideal.τ).loc Cert.Kernel3Ideal.main_v22_3) = v3 c
          ∧ r.2.mem ((c.tc : Thread Cert.Kernel3Ideal.nD Cert.Kernel3Ideal.τ).loc Cert.Kernel3Ideal.main_v22_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_v77) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v12)) (v1 : (c : Dev Cert.Kernel4Ideal.nD) → Buf (Elt Ideal) ((c.tc : Thread Cert.Kernel4Ideal.nD Cert.Kernel4Ideal.τ).loc Cert.Kernel4Ideal.main_v10)) (v2 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_v10) = v1 c
          ∧ r.2.mem ((c.tc : Thread Cert.Kernel4Ideal.nD Cert.Kernel4Ideal.τ).loc Cert.Kernel4Ideal.main_v13) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)) (v1 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_v6) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)) (v1 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_v6) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_ffn_finite : Cert.Pre_ffn_finite.Facts) (hPre_norm_finite : Cert.Pre_norm_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_ffn_finite (hKernel2Ideal := hKernel2Ideal) (hPre_ffn_finite := hPre_ffn_finite)
    ∧ quiescent_Reference2Ideal (hReference2Ideal := hReference2Ideal)
    ∧ quiescent_Reference2Ideal_pre_ffn_finite (hReference2Ideal := hReference2Ideal) (hPre_ffn_finite := hPre_ffn_finite)
    ∧ quiescent_Kernel3 (hKernel3 := hKernel3)
    ∧ quiescent_Kernel3Ideal (hKernel3Ideal := hKernel3Ideal)
    ∧ quiescent_Kernel3Ideal_pre_norm_finite (hKernel3Ideal := hKernel3Ideal) (hPre_norm_finite := hPre_norm_finite)
    ∧ quiescent_Reference3Ideal (hReference3Ideal := hReference3Ideal)
    ∧ quiescent_Reference3Ideal_pre_norm_finite (hReference3Ideal := hReference3Ideal) (hPre_norm_finite := hPre_norm_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_ffn_finite (hKernel2Ideal := hKernel2Ideal) (hReference2Ideal := hReference2Ideal) (hPre_ffn_finite := hPre_ffn_finite)
    ∧ preserves_Kernel3_Kernel3Ideal
    ∧ algebraic_Kernel3Ideal_Reference3Ideal_pre_norm_finite (hKernel3Ideal := hKernel3Ideal) (hReference3Ideal := hReference3Ideal) (hPre_norm_finite := hPre_norm_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_ffn_finite.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : IVec S_ 1 := andi main_v3 main_v7
  let main_v33 : IVec S_ 1 := andi main_v32 main_v11
  let main_v34 : IVec S_ 1 := andi main_v33 main_v15
  let main_v35 : IVec S_ 1 := andi main_v34 main_v19
  let main_v36 : IVec S_ 1 := andi main_v35 main_v23
  let main_v37 : IVec S_ 1 := andi main_v36 main_v27
  let main_v38 : IVec S_ 1 := andi main_v37 main_v31
  main_v38

def fn_part1 {F : FTy → Type} [FloatOps F] (main_arg4 : FVec F S1024 .f32) (main_arg5 : FVec F S1024 .f32) (main_arg6 : FVec F S4096x1024 .f32) (main_arg7 : FVec F S4096x1024 .f32) (main_v3 : IVec S_ 1) (main_v7 : IVec S_ 1) (main_v11 : IVec S_ 1) (main_v15 : IVec S_ 1) : IVec S_ 1 :=
  let main_v16 : FVec F S1024 .f32 := Host.absf main_arg4
  let main_cst_6 : FVec F S_ .f32 := constant S_ .f32 0x7F800000#32
  let main_v17 : FVec F S1024 .f32 := broadcastInDim S1024 ![] bcast_S_S1024 main_cst_6
  let main_v18 : IVec S1024 1 := cmpf .olt main_v16 main_v17
  let main_c_7 : IVec S_ 1 := constantI S_ 1 1#1
  let main_v19 : IVec S_ 1 := (fun x v => Host.reduce IntOp.andi x v reducesTo_S1024_S_d0 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S4096x1024 .f32 := Host.absf main_arg6
  let main_cst_10 : FVec F S_ .f32 := constant S_ .f32 0x7F800000#32
  let main_v25 : FVec F S4096x1024 .f32 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S4096x1024 .f32 := Host.absf main_arg7
  let main_cst_12 : FVec F S_ .f32 := constant S_ .f32 0x7F800000#32
  let main_v29 : FVec F S4096x1024 .f32 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_v3 main_v7 main_v11 main_v15 main_v19 main_v23 main_v27 main_v31

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S1024 .f32) (main_arg5 : FVec F S1024 .f32) (main_arg6 : FVec F S4096x1024 .f32) (main_arg7 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_arg5 main_arg6 main_arg7 main_v3 main_v7 main_v11 main_v15
-- ==== Pre_finite.lean ====
abbrev S4096x3072 : Shape := ⟨2, ![4096, 3072]⟩
abbrev S4096x16x64 : Shape := ⟨3, ![4096, 16, 64]⟩
abbrev S4096x16 : Shape := ⟨2, ![4096, 16]⟩
abbrev S4096x1024 : Shape := ⟨2, ![4096, 1024]⟩
abbrev S16 : Shape := ⟨1, ![16]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x16x64 : S_.BroadcastsInDim S4096x16x64 (![] : Fin 0 → Fin S4096x16x64.rank)
  reducesTo_S4096x16x64_S_d0_1_2 : S4096x16x64.ReducesTo [0, 1, 2] S_
  bcast_S_S4096x16 : S_.BroadcastsInDim S4096x16 (![] : Fin 0 → Fin S4096x16.rank)
  reducesTo_S4096x16_S_d0_1 : S4096x16.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x16 .f32) (main_arg5 : FVec F S4096x1024 .f32) (main_arg6 : FVec F S16 .f32) (main_v3 : IVec S_ 1) (main_v7 : IVec S_ 1) (main_v11 : IVec S_ 1) (main_v15 : IVec S_ 1) : IVec S_ 1 :=
  let main_v16 : FVec F S4096x16 .f32 := Host.absf main_arg4
  let main_cst_6 : FVec F S_ .f32 := constant S_ .f32 0x7F800000#32
  let main_v17 : FVec F S4096x16 .f32 := broadcastInDim S4096x16 ![] bcast_S_S4096x16 main_cst_6
  let main_v18 : IVec S4096x16 1 := cmpf .olt main_v16 main_v17
  let main_c_7 : IVec S_ 1 := constantI S_ 1 1#1
  let main_v19 : IVec S_ 1 := (fun x v => Host.reduce IntOp.andi x v reducesTo_S4096x16_S_d0_1 h_S_) main_v18 main_c_7
  let main_v20 : FVec F S4096x1024 .f32 := Host.absf main_arg5
  let main_cst_8 : FVec F S_ .f32 := constant S_ .f32 0x7F800000#32
  let main_v21 : FVec F S4096x1024 .f32 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S16 .f32 := Host.absf main_arg6
  let main_cst_10 : FVec F S_ .f32 := constant S_ .f32 0x7F800000#32
  let main_v25 : FVec F S16 .f32 := broadcastInDim S16 ![] bcast_S_S16 main_cst_10
  let main_v26 : IVec S16 1 := cmpf .olt main_v24 main_v25
  let main_c_11 : IVec S_ 1 := constantI S_ 1 1#1
  let main_v27 : IVec S_ 1 := (fun x v => Host.reduce IntOp.andi x v reducesTo_S16_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x3072 .f32) (main_arg1 : FVec F S4096x16x64 .f32) (main_arg2 : FVec F S4096x16 .f32) (main_arg3 : FVec F S4096x16x64 .f32) (main_arg4 : FVec F S4096x16 .f32) (main_arg5 : FVec F S4096x1024 .f32) (main_arg6 : FVec F S16 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x16x64 .f32 := Host.absf main_arg1
  let main_cst_0 : FVec F S_ .f32 := constant S_ .f32 0x7F800000#32
  let main_v5 : FVec F S4096x16x64 .f32 := broadcastInDim S4096x16x64 ![] bcast_S_S4096x16x64 main_cst_0
  let main_v6 : IVec S4096x16x64 1 := cmpf .olt main_v4 main_v5
  let main_c_1 : IVec S_ 1 := constantI S_ 1 1#1
  let main_v7 : IVec S_ 1 := (fun x v => Host.reduce IntOp.andi x v reducesTo_S4096x16x64_S_d0_1_2 h_S_) main_v6 main_c_1
  let main_v8 : FVec F S4096x16 .f32 := Host.absf main_arg2
  let main_cst_2 : FVec F S_ .f32 := constant S_ .f32 0x7F800000#32
  let main_v9 : FVec F S4096x16 .f32 := broadcastInDim S4096x16 ![] bcast_S_S4096x16 main_cst_2
  let main_v10 : IVec S4096x16 1 := cmpf .olt main_v8 main_v9
  let main_c_3 : IVec S_ 1 := constantI S_ 1 1#1
  let main_v11 : IVec S_ 1 := (fun x v => Host.reduce IntOp.andi x v reducesTo_S4096x16_S_d0_1 h_S_) main_v10 main_c_3
  let main_v12 : FVec F S4096x16x64 .f32 := Host.absf main_arg3
  let main_cst_4 : FVec F S_ .f32 := constant S_ .f32 0x7F800000#32
  let main_v13 : FVec F S4096x16x64 .f32 := broadcastInDim S4096x16x64 ![] bcast_S_S4096x16x64 main_cst_4
  let main_v14 : IVec S4096x16x64 1 := cmpf .olt main_v12 main_v13
  let main_c_5 : IVec S_ 1 := constantI S_ 1 1#1
  let main_v15 : IVec S_ 1 := (fun x v => Host.reduce IntOp.andi x v reducesTo_S4096x16x64_S_d0_1_2 h_S_) main_v14 main_c_5
  fn_part1 (F := F) main_arg4 main_arg5 main_arg6 main_v3 main_v7 main_v11 main_v15
-- ==== Pre_norm_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S4096x1024 .f32) (main_arg2 : FVec F S1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024 .f32 := Host.absf main_arg2
  let main_cst_2 : FVec F S_ .f32 := constant S_ .f32 0x7F800000#32
  let main_v9 : FVec F S1024 .f32 := broadcastInDim S1024 ![] bcast_S_S1024 main_cst_2
  let main_v10 : IVec S1024 1 := cmpf .olt main_v8 main_v9
  let main_c_3 : IVec S_ 1 := constantI S_ 1 1#1
  let main_v11 : IVec S_ 1 := (fun x v => Host.reduce IntOp.andi x v reducesTo_S1024_S_d0 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_v3 main_v7 main_v11 main_v15
-- ==== Kernel.lean ====
abbrev S4096x3072 : Shape := ⟨2, ![4096, 3072]⟩
abbrev S4096x16x64 : Shape := ⟨3, ![4096, 16, 64]⟩
abbrev S4096x16 : Shape := ⟨2, ![4096, 16]⟩
abbrev S4096x1024 : Shape := ⟨2, ![4096, 1024]⟩
abbrev S16 : Shape := ⟨1, ![16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x1x1 : Shape := ⟨3, ![16, 1, 1]⟩
abbrev S1x4096x4096 : Shape := ⟨3, ![1, 4096, 4096]⟩
abbrev S16x4096x4096 : Shape := ⟨3, ![16, 4096, 4096]⟩
abbrev S4096x1x16x64 : Shape := ⟨4, ![4096, 1, 16, 64]⟩
abbrev S1x16x4096x64 : Shape := ⟨4, ![1, 16, 4096, 64]⟩
abbrev S1x16x4096x1x64 : Shape := ⟨5, ![1, 16, 4096, 1, 64]⟩
abbrev S1x16x1x4096x64 : Shape := ⟨5, ![1, 16, 1, 4096, 64]⟩
abbrev S1x16x4096x4096x64 : Shape := ⟨5, ![1, 16, 4096, 4096, 64]⟩
abbrev S1x16x4096x4096 : Shape := ⟨4, ![1, 16, 4096, 4096]⟩
abbrev S1x16x4096 : Shape := ⟨3, ![1, 16, 4096]⟩
abbrev S1x16x4096x1 : Shape := ⟨4, ![1, 16, 4096, 1]⟩
abbrev S1x16x4096x4096x1 : Shape := ⟨5, ![1, 16, 4096, 4096, 1]⟩
abbrev S4096x1x16 : Shape := ⟨3, ![4096, 1, 16]⟩
abbrev S1x4096x16 : Shape := ⟨3, ![1, 4096, 16]⟩
abbrev S3x4096x16 : Shape := ⟨3, ![3, 4096, 16]⟩
abbrev S3x4096x16x1 : Shape := ⟨4, ![3, 4096, 16, 1]⟩
abbrev S1x4096x16x64 : Shape := ⟨4, ![1, 4096, 16, 64]⟩
abbrev S3x4096x16x64 : Shape := ⟨4, ![3, 4096, 16, 64]⟩
abbrev S4096x96 : Shape := ⟨2, ![4096, 96]⟩
abbrev S4096x128 : Shape := ⟨2, ![4096, 128]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S16x128x256 : Shape := ⟨3, ![16, 128, 256]⟩
abbrev S64x1024 : Shape := ⟨2, ![64, 1024]⟩
abbrev S128x1024 : Shape := ⟨2, ![128, 1024]⟩
abbrev S64x128 : Shape := ⟨2, ![64, 128]⟩
abbrev S128x128 : Shape := ⟨2, ![128, 128]⟩
abbrev S128x3072 : Shape := ⟨2, ![128, 3072]⟩
abbrev S256x128 : Shape := ⟨2, ![256, 128]⟩

abbrev nBuf : Space → Nat
  | .hbm => 166
  | .vmem => 33
  | .smem => 0
  | _ => 0

abbrev hbmTy0_0 (i : Nat) : BufTy := match i % 128 with
  | 0 => ⟨S4096x3072, .f32⟩
  | 1 => ⟨S4096x16x64, .f32⟩
  | 2 => ⟨S4096x16, .f32⟩
  | 3 => ⟨S4096x16x64, .f32⟩
  | 4 => ⟨S4096x16, .f32⟩
  | 5 => ⟨S4096x1024, .f32⟩
  | 6 => ⟨S16, .f32⟩
  | 7 => ⟨S4096x1024, .f32⟩
  | 8 => ⟨S4096x1024, .f32⟩
  | 9 => ⟨S4096x1024, .f32⟩
  | 10 => ⟨S4096x16x64, .f32⟩
  | 11 => ⟨S4096x16x64, .f32⟩
  | 12 => ⟨S4096x16x64, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .f32⟩
  | 24 => ⟨S16x1x1, .f32⟩
  | 25 => ⟨S16x1x1, .f32⟩
  | 26 => ⟨S1x4096x4096, .f32⟩
  | 27 => ⟨S16x4096x4096, .f32⟩
  | 28 => ⟨S16x4096x4096, .f32⟩
  | 29 => ⟨S16x4096x4096, .f32⟩
  | 30 => ⟨S4096x1x16x64, .f32⟩
  | 31 => ⟨S1x16x4096x64, .f32⟩
  | 32 => ⟨S4096x1x16x64, .f32⟩
  | 33 => ⟨S1x16x4096x64, .f32⟩
  | 34 => ⟨S1x16x4096x1x64, .f32⟩
  | 35 => ⟨S1x16x1x4096x64, .f32⟩
  | 36 => ⟨S1x16x4096x4096x64, .f32⟩
  | 37 => ⟨S1x16x4096x4096x64, .f32⟩
  | 38 => ⟨S1x16x4096x4096x64, .f32⟩
  | 39 => ⟨S_, .f32⟩
  | 40 => ⟨S1x16x4096x4096, .f32⟩
  | 41 => ⟨S_, .f32⟩
  | 42 => ⟨S1x16x4096x4096, .f32⟩
  | 43 => ⟨S1x16x4096x4096, .f32⟩
  | 44 => ⟨S1x16x4096x4096, .f32⟩
  | 45 => ⟨S1x16x4096x4096, .f32⟩
  | 46 => ⟨S4096x4096, .i32⟩
  | 47 => ⟨S_, .i32⟩
  | 48 => ⟨S4096x4096, .i32⟩
  | 49 => ⟨S4096x4096, .i1⟩
  | 50 => ⟨S_, .f32⟩
  | 51 => ⟨S_, .f32⟩
  | 52 => ⟨S1x16x4096x4096, .i1⟩
  | 53 => ⟨S1x16x4096x4096, .f32⟩
  | 54 => ⟨S1x16x4096x4096, .f32⟩
  | 55 => ⟨S_, .f32⟩
  | 56 => ⟨S1x16x4096, .f32⟩
  | 57 => ⟨S1x16x4096x1, .f32⟩
  | 58 => ⟨S1x16x4096, .f32⟩
  | 59 => ⟨S1x16x4096x4096, .f32⟩
  | 60 => ⟨S1x16x4096x4096, .f32⟩
  | 61 => ⟨S1x16x4096x4096, .f32⟩
  | 62 => ⟨S_, .f32⟩
  | 63 => ⟨S1x16x4096, .f32⟩
  | 64 => ⟨S1x16x4096, .f32⟩
  | 65 => ⟨S1x16x4096, .f32⟩
  | 66 => ⟨S1x16x4096x1, .f32⟩
  | 67 => ⟨S1x16x4096x4096, .f32⟩
  | 68 => ⟨S1x16x4096x4096, .f32⟩
  | 69 => ⟨S1x16x4096x4096, .f32⟩
  | 70 => ⟨S4096x1x16x64, .f32⟩
  | 71 => ⟨S1x16x4096x64, .f32⟩
  | 72 => ⟨S1x16x4096x4096x1, .f32⟩
  | 73 => ⟨S1x16x1x4096x64, .f32⟩
  | 74 => ⟨S1x16x4096x4096x64, .f32⟩
  | 75 => ⟨S1x16x4096x4096x64, .f32⟩
  | 76 => ⟨S1x16x4096x4096x64, .f32⟩
  | 77 => ⟨S_, .f32⟩
  | 78 => ⟨S1x16x4096x64, .f32⟩
  | 79 => ⟨S4096x1x16x64, .f32⟩
  | 80 => ⟨S4096x16x64, .f32⟩
  | 81 => ⟨S4096x1x16, .f32⟩
  | 82 => ⟨S4096x16, .f32⟩
  | 83 => ⟨S1x4096x16, .f32⟩
  | 84 => ⟨S1x4096x16, .f32⟩
  | 85 => ⟨S1x4096x16, .f32⟩
  | 86 => ⟨S3x4096x16, .f32⟩
  | 87 => ⟨S_, .f32⟩
  | 88 => ⟨S4096x16, .f32⟩
  | 89 => ⟨S_, .f32⟩
  | 90 => ⟨S4096x16, .f32⟩
  | 91 => ⟨S4096x16, .f32⟩
  | 92 => ⟨S1x4096x16, .f32⟩
  | 93 => ⟨S3x4096x16, .f32⟩
  | 94 => ⟨S3x4096x16, .f32⟩
  | 95 => ⟨S3x4096x16, .f32⟩
  | 96 => ⟨S_, .f32⟩
  | 97 => ⟨S4096x16, .f32⟩
  | 98 => ⟨S1x4096x16, .f32⟩
  | 99 => ⟨S3x4096x16, .f32⟩
  | 100 => ⟨S3x4096x16, .f32⟩
  | 101 => ⟨S3x4096x16x1, .f32⟩
  | 102 => ⟨S1x4096x16x64, .f32⟩
  | 103 => ⟨S1x4096x16x64, .f32⟩
  | 104 => ⟨S1x4096x16x64, .f32⟩
  | 105 => ⟨S3x4096x16x64, .f32⟩
  | 106 => ⟨S3x4096x16x64, .f32⟩
  | 107 => ⟨S3x4096x16x64, .f32⟩
  | 108 => ⟨S_, .f32⟩
  | 109 => ⟨S4096x16x64, .f32⟩
  | 110 => ⟨S1x4096x16, .f32⟩
  | 111 => ⟨S1x4096x16, .f32⟩
  | 112 => ⟨S1x4096x16, .f32⟩
  | 113 => ⟨S3x4096x16, .f32⟩
  | 114 => ⟨S_, .f32⟩
  | 115 => ⟨S4096x16, .f32⟩
  | 116 => ⟨S1x4096x16, .f32⟩
  | 117 => ⟨S4096x16, .f32⟩
  | 118 => ⟨S3x4096x16, .f32⟩
  | 119 => ⟨S3x4096x16, .f32⟩
  | 120 => ⟨S3x4096x16, .f32⟩
  | 121 => ⟨S_, .f32⟩
  | 122 => ⟨S4096x16, .f32⟩
  | 123 => ⟨S4096x16, .f32⟩
  | 124 => ⟨S4096x16, .f32⟩
  | 125 => ⟨S4096x16x64, .f32⟩
  | 126 => ⟨S4096x16x64, .f32⟩
  | 127 => ⟨S_, .f32⟩
  | _ => ⟨S4096x3072, .f32⟩

abbrev hbmTy0_1 (i : Nat) : BufTy := match i % 128 with
  | 0 => ⟨S4096x16, .f32⟩
  | 1 => ⟨S_, .f32⟩
  | 2 => ⟨S4096x96, .f32⟩
  | 3 => ⟨S4096x128, .f32⟩
  | 4 => ⟨S4096x3072, .bf16⟩
  | 5 => ⟨S4096x1024, .bf16⟩
  | 6 => ⟨S256, .i32⟩
  | 7 => ⟨S1x256, .i32⟩
  | 8 => ⟨S_, .i32⟩
  | 9 => ⟨S1x256, .i32⟩
  | 10 => ⟨S1x256, .i32⟩
  | 11 => ⟨S128, .i32⟩
  | 12 => ⟨S128x1, .i32⟩
  | 13 => ⟨S128x256, .i32⟩
  | 14 => ⟨S128x256, .i32⟩
  | 15 => ⟨S128x256, .i32⟩
  | 16 => ⟨S128x256, .i32⟩
  | 17 => ⟨S_, .i32⟩
  | 18 => ⟨S128x256, .i32⟩
  | 19 => ⟨S128x256, .i32⟩
  | 20 => ⟨S128x256, .f32⟩
  | 21 => ⟨S16x1x1, .f32⟩
  | 22 => ⟨S16x1x1, .f32⟩
  | 23 => ⟨S1x128x256, .f32⟩
  | 24 => ⟨S16x128x256, .f32⟩
  | 25 => ⟨S16x128x256, .f32⟩
  | 26 => ⟨S16x128x256, .f32⟩
  | 27 => ⟨S128x256, .i32⟩
  | 28 => ⟨S1x128x256, .i32⟩
  | 29 => ⟨S_, .i32⟩
  | 30 => ⟨S1x128x256, .i32⟩
  | 31 => ⟨S1x128x256, .i1⟩
  | 32 => ⟨S_, .f32⟩
  | 33 => ⟨S_, .f32⟩
  | 34 => ⟨S16x128x256, .i1⟩
  | 35 => ⟨S16x128x256, .f32⟩
  | 36 => ⟨S16x128x256, .f32⟩
  | 37 => ⟨S4096x3072, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S64x1024, .bf16⟩
  | .local _ .vmem, ⟨1, _⟩ => ⟨S64x1024, .bf16⟩
  | .local _ .vmem, ⟨2, _⟩ => ⟨S128x1024, .bf16⟩
  | .local _ .vmem, ⟨3, _⟩ => ⟨S128x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S128x1024, .bf16⟩
  | .local _ .vmem, ⟨9, _⟩ => ⟨S128x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S128x1024, .bf16⟩
  | .local _ .vmem, ⟨15, _⟩ => ⟨S128x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S128x1024, .bf16⟩
  | .local _ .vmem, ⟨21, _⟩ => ⟨S128x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S128x128, .f32⟩
  | .local _ .vmem, ⟨27, _⟩ => ⟨S128x128, .f32⟩
  | .local _ .vmem, ⟨28, _⟩ => ⟨S64x128, .f32⟩
  | .local _ .vmem, ⟨29, _⟩ => ⟨S64x128, .f32⟩
  | .local _ .vmem, ⟨30, _⟩ => ⟨S16x128x256, .f32⟩
  | .local _ .vmem, ⟨31, _⟩ => ⟨S128x3072, .bf16⟩
  | .local _ .vmem, ⟨32, _⟩ => ⟨S128x3072, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_6 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_10 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_11 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_12 : Ref sig .tc := ⟨.hbm, 127, rfl⟩
abbrev main_v103 : Ref sig .tc := ⟨.hbm, 128, rfl⟩
abbrev main_cst_13 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_c_14 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c_15 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_c_16 : Ref sig .tc := ⟨.hbm, 157, rfl⟩
abbrev main_v129 : Ref sig .tc := ⟨.hbm, 158, rfl⟩
abbrev main_v130 : Ref sig .tc := ⟨.hbm, 159, rfl⟩
abbrev main_cst_17 : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_v131 : Ref sig .tc := ⟨.hbm, 164, rfl⟩
abbrev main_v132 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c1_i32 : BitVec 32 := 1#32
  let c0_i32 : BitVec 32 := 0#32
  ![v4.toNat, c1_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c2_i32_0 : BitVec 32 := 2#32
  let c0_i32_1 : BitVec 32 := 0#32
  ![v4.toNat, c2_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c2_i32_1 : BitVec 32 := 2#32
  let c0_i32 : BitVec 32 := 0#32
  ![v4.toNat, c2_i32_1.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c0_i32 : BitVec 32 := 0#32
  let c0_i32_1 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c0_i32 : BitVec 32 := 0#32
  let c0_i32_1 : BitVec 32 := 0#32
  ![v4.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S16x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S128x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
abbrev S4096x3072 : Shape := ⟨2, ![4096, 3072]⟩
abbrev S4096x16x64 : Shape := ⟨3, ![4096, 16, 64]⟩
abbrev S4096x16 : Shape := ⟨2, ![4096, 16]⟩
abbrev S4096x1024 : Shape := ⟨2, ![4096, 1024]⟩
abbrev S16 : Shape := ⟨1, ![16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x1x1 : Shape := ⟨3, ![16, 1, 1]⟩
abbrev S1x4096x4096 : Shape := ⟨3, ![1, 4096, 4096]⟩
abbrev S16x4096x4096 : Shape := ⟨3, ![16, 4096, 4096]⟩
abbrev S4096x1x16x64 : Shape := ⟨4, ![4096, 1, 16, 64]⟩
abbrev S1x16x4096x64 : Shape := ⟨4, ![1, 16, 4096, 64]⟩
abbrev S1x16x4096x1x64 : Shape := ⟨5, ![1, 16, 4096, 1, 64]⟩
abbrev S1x16x1x4096x64 : Shape := ⟨5, ![1, 16, 1, 4096, 64]⟩
abbrev S1x16x4096x4096x64 : Shape := ⟨5, ![1, 16, 4096, 4096, 64]⟩
abbrev S1x16x4096x4096 : Shape := ⟨4, ![1, 16, 4096, 4096]⟩
abbrev S1x16x4096 : Shape := ⟨3, ![1, 16, 4096]⟩
abbrev S1x16x4096x1 : Shape := ⟨4, ![1, 16, 4096, 1]⟩
abbrev S1x16x4096x4096x1 : Shape := ⟨5, ![1, 16, 4096, 4096, 1]⟩
abbrev S4096x1x16 : Shape := ⟨3, ![4096, 1, 16]⟩
abbrev S1x4096x16 : Shape := ⟨3, ![1, 4096, 16]⟩
abbrev S3x4096x16 : Shape := ⟨3, ![3, 4096, 16]⟩
abbrev S3x4096x16x1 : Shape := ⟨4, ![3, 4096, 16, 1]⟩
abbrev S1x4096x16x64 : Shape := ⟨4, ![1, 4096, 16, 64]⟩
abbrev S3x4096x16x64 : Shape := ⟨4, ![3, 4096, 16, 64]⟩
abbrev S4096x96 : Shape := ⟨2, ![4096, 96]⟩
abbrev S4096x128 : Shape := ⟨2, ![4096, 128]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S1x128x256 : Shape := ⟨3, ![1, 128, 256]⟩
abbrev S16x128x256 : Shape := ⟨3, ![16, 128, 256]⟩
abbrev S64x1024 : Shape := ⟨2, ![64, 1024]⟩
abbrev S128x1024 : Shape := ⟨2, ![128, 1024]⟩
abbrev S64x128 : Shape := ⟨2, ![64, 128]⟩
abbrev S128x128 : Shape := ⟨2, ![128, 128]⟩
abbrev S128x3072 : Shape := ⟨2, ![128, 3072]⟩
abbrev S256x128 : Shape := ⟨2, ![256, 128]⟩

abbrev nBuf : Space → Nat
  | .hbm => 166
  | .vmem => 33
  | .smem => 0
  | _ => 0

abbrev hbmTy0_0 (i : Nat) : BufTy := match i % 128 with
  | 0 => ⟨S4096x3072, .f32⟩
  | 1 => ⟨S4096x16x64, .f32⟩
  | 2 => ⟨S4096x16, .f32⟩
  | 3 => ⟨S4096x16x64, .f32⟩
  | 4 => ⟨S4096x16, .f32⟩
  | 5 => ⟨S4096x1024, .f32⟩
  | 6 => ⟨S16, .f32⟩
  | 7 => ⟨S4096x1024, .f32⟩
  | 8 => ⟨S4096x1024, .f32⟩
  | 9 => ⟨S4096x1024, .f32⟩
  | 10 => ⟨S4096x16x64, .f32⟩
  | 11 => ⟨S4096x16x64, .f32⟩
  | 12 => ⟨S4096x16x64, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .f32⟩
  | 24 => ⟨S16x1x1, .f32⟩
  | 25 => ⟨S16x1x1, .f32⟩
  | 26 => ⟨S1x4096x4096, .f32⟩
  | 27 => ⟨S16x4096x4096, .f32⟩
  | 28 => ⟨S16x4096x4096, .f32⟩
  | 29 => ⟨S16x4096x4096, .f32⟩
  | 30 => ⟨S4096x1x16x64, .f32⟩
  | 31 => ⟨S1x16x4096x64, .f32⟩
  | 32 => ⟨S4096x1x16x64, .f32⟩
  | 33 => ⟨S1x16x4096x64, .f32⟩
  | 34 => ⟨S1x16x4096x1x64, .f32⟩
  | 35 => ⟨S1x16x1x4096x64, .f32⟩
  | 36 => ⟨S1x16x4096x4096x64, .f32⟩
  | 37 => ⟨S1x16x4096x4096x64, .f32⟩
  | 38 => ⟨S1x16x4096x4096x64, .f32⟩
  | 39 => ⟨S_, .f32⟩
  | 40 => ⟨S1x16x4096x4096, .f32⟩
  | 41 => ⟨S_, .f32⟩
  | 42 => ⟨S1x16x4096x4096, .f32⟩
  | 43 => ⟨S1x16x4096x4096, .f32⟩
  | 44 => ⟨S1x16x4096x4096, .f32⟩
  | 45 => ⟨S1x16x4096x4096, .f32⟩
  | 46 => ⟨S4096x4096, .i32⟩
  | 47 => ⟨S_, .i32⟩
  | 48 => ⟨S4096x4096, .i32⟩
  | 49 => ⟨S4096x4096, .i1⟩
  | 50 => ⟨S_, .f32⟩
  | 51 => ⟨S_, .f32⟩
  | 52 => ⟨S1x16x4096x4096, .i1⟩
  | 53 => ⟨S1x16x4096x4096, .f32⟩
  | 54 => ⟨S1x16x4096x4096, .f32⟩
  | 55 => ⟨S_, .f32⟩
  | 56 => ⟨S1x16x4096, .f32⟩
  | 57 => ⟨S1x16x4096x1, .f32⟩
  | 58 => ⟨S1x16x4096, .f32⟩
  | 59 => ⟨S1x16x4096x4096, .f32⟩
  | 60 => ⟨S1x16x4096x4096, .f32⟩
  | 61 => ⟨S1x16x4096x4096, .f32⟩
  | 62 => ⟨S_, .f32⟩
  | 63 => ⟨S1x16x4096, .f32⟩
  | 64 => ⟨S1x16x4096, .f32⟩
  | 65 => ⟨S1x16x4096, .f32⟩
  | 66 => ⟨S1x16x4096x1, .f32⟩
  | 67 => ⟨S1x16x4096x4096, .f32⟩
  | 68 => ⟨S1x16x4096x4096, .f32⟩
  | 69 => ⟨S1x16x4096x4096, .f32⟩
  | 70 => ⟨S4096x1x16x64, .f32⟩
  | 71 => ⟨S1x16x4096x64, .f32⟩
  | 72 => ⟨S1x16x4096x4096x1, .f32⟩
  | 73 => ⟨S1x16x1x4096x64, .f32⟩
  | 74 => ⟨S1x16x4096x4096x64, .f32⟩
  | 75 => ⟨S1x16x4096x4096x64, .f32⟩
  | 76 => ⟨S1x16x4096x4096x64, .f32⟩
  | 77 => ⟨S_, .f32⟩
  | 78 => ⟨S1x16x4096x64, .f32⟩
  | 79 => ⟨S4096x1x16x64, .f32⟩
  | 80 => ⟨S4096x16x64, .f32⟩
  | 81 => ⟨S4096x1x16, .f32⟩
  | 82 => ⟨S4096x16, .f32⟩
  | 83 => ⟨S1x4096x16, .f32⟩
  | 84 => ⟨S1x4096x16, .f32⟩
  | 85 => ⟨S1x4096x16, .f32⟩
  | 86 => ⟨S3x4096x16, .f32⟩
  | 87 => ⟨S_, .f32⟩
  | 88 => ⟨S4096x16, .f32⟩
  | 89 => ⟨S_, .f32⟩
  | 90 => ⟨S4096x16, .f32⟩
  | 91 => ⟨S4096x16, .f32⟩
  | 92 => ⟨S1x4096x16, .f32⟩
  | 93 => ⟨S3x4096x16, .f32⟩
  | 94 => ⟨S3x4096x16, .f32⟩
  | 95 => ⟨S3x4096x16, .f32⟩
  | 96 => ⟨S_, .f32⟩
  | 97 => ⟨S4096x16, .f32⟩
  | 98 => ⟨S1x4096x16, .f32⟩
  | 99 => ⟨S3x4096x16, .f32⟩
  | 100 => ⟨S3x4096x16, .f32⟩
  | 101 => ⟨S3x4096x16x1, .f32⟩
  | 102 => ⟨S1x4096x16x64, .f32⟩
  | 103 => ⟨S1x4096x16x64, .f32⟩
  | 104 => ⟨S1x4096x16x64, .f32⟩
  | 105 => ⟨S3x4096x16x64, .f32⟩
  | 106 => ⟨S3x4096x16x64, .f32⟩
  | 107 => ⟨S3x4096x16x64, .f32⟩
  | 108 => ⟨S_, .f32⟩
  | 109 => ⟨S4096x16x64, .f32⟩
  | 110 => ⟨S1x4096x16, .f32⟩
  | 111 => ⟨S1x4096x16, .f32⟩
  | 112 => ⟨S1x4096x16, .f32⟩
  | 113 => ⟨S3x4096x16, .f32⟩
  | 114 => ⟨S_, .f32⟩
  | 115 => ⟨S4096x16, .f32⟩
  | 116 => ⟨S1x4096x16, .f32⟩
  | 117 => ⟨S4096x16, .f32⟩
  | 118 => ⟨S3x4096x16, .f32⟩
  | 119 => ⟨S3x4096x16, .f32⟩
  | 120 => ⟨S3x4096x16, .f32⟩
  | 121 => ⟨S_, .f32⟩
  | 122 => ⟨S4096x16, .f32⟩
  | 123 => ⟨S4096x16, .f32⟩
  | 124 => ⟨S4096x16, .f32⟩
  | 125 => ⟨S4096x16x64, .f32⟩
  | 126 => ⟨S4096x16x64, .f32⟩
  | 127 => ⟨S_, .f32⟩
  | _ => ⟨S4096x3072, .f32⟩

abbrev hbmTy0_1 (i : Nat) : BufTy := match i % 128 with
  | 0 => ⟨S4096x16, .f32⟩
  | 1 => ⟨S_, .f32⟩
  | 2 => ⟨S4096x96, .f32⟩
  | 3 => ⟨S4096x128, .f32⟩
  | 4 => ⟨S4096x3072, .bf16⟩
  | 5 => ⟨S4096x1024, .bf16⟩
  | 6 => ⟨S256, .i32⟩
  | 7 => ⟨S1x256, .i32⟩
  | 8 => ⟨S_, .i32⟩
  | 9 => ⟨S1x256, .i32⟩
  | 10 => ⟨S1x256, .i32⟩
  | 11 => ⟨S128, .i32⟩
  | 12 => ⟨S128x1, .i32⟩
  | 13 => ⟨S128x256, .i32⟩
  | 14 => ⟨S128x256, .i32⟩
  | 15 => ⟨S128x256, .i32⟩
  | 16 => ⟨S128x256, .i32⟩
  | 17 => ⟨S_, .i32⟩
  | 18 => ⟨S128x256, .i32⟩
  | 19 => ⟨S128x256, .i32⟩
  | 20 => ⟨S128x256, .f32⟩
  | 21 => ⟨S16x1x1, .f32⟩
  | 22 => ⟨S16x1x1, .f32⟩
  | 23 => ⟨S1x128x256, .f32⟩
  | 24 => ⟨S16x128x256, .f32⟩
  | 25 => ⟨S16x128x256, .f32⟩
  | 26 => ⟨S16x128x256, .f32⟩
  | 27 => ⟨S128x256, .i32⟩
  | 28 => ⟨S1x128x256, .i32⟩
  | 29 => ⟨S_, .i32⟩
  | 30 => ⟨S1x128x256, .i32⟩
  | 31 => ⟨S1x128x256, .i1⟩
  | 32 => ⟨S_, .f32⟩
  | 33 => ⟨S_, .f32⟩
  | 34 => ⟨S16x128x256, .i1⟩
  | 35 => ⟨S16x128x256, .f32⟩
  | 36 => ⟨S16x128x256, .f32⟩
  | 37 => ⟨S4096x3072, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S64x1024, .bf16⟩
  | .local _ .vmem, ⟨1, _⟩ => ⟨S64x1024, .bf16⟩
  | .local _ .vmem, ⟨2, _⟩ => ⟨S128x1024, .bf16⟩
  | .local _ .vmem, ⟨3, _⟩ => ⟨S128x1024, .bf16⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S128x1024, .bf16⟩
  | .local _ .vmem, ⟨9, _⟩ => ⟨S128x1024, .bf16⟩
  | .local _ .vmem, ⟨10, _⟩ => ⟨S64x1024, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S128x1024, .bf16⟩
  | .local _ .vmem, ⟨15, _⟩ => ⟨S128x1024, .bf16⟩
  | .local _ .vmem, ⟨16, _⟩ => ⟨S64x1024, .bf16⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S128x1024, .bf16⟩
  | .local _ .vmem, ⟨21, _⟩ => ⟨S128x1024, .bf16⟩
  | .local _ .vmem, ⟨22, _⟩ => ⟨S64x1024, .bf16⟩
  | .local _ .vmem, ⟨23, _⟩ => ⟨S64x1024, .bf16⟩
  | .local _ .vmem, ⟨24, _⟩ => ⟨S64x128, .f32⟩
  | .local _ .vmem, ⟨25, _⟩ => ⟨S64x128, .f32⟩
  | .local _ .vmem, ⟨26, _⟩ => ⟨S128x128, .f32⟩
  | .local _ .vmem, ⟨27, _⟩ => ⟨S128x128, .f32⟩
  | .local _ .vmem, ⟨28, _⟩ => ⟨S64x128, .f32⟩
  | .local _ .vmem, ⟨29, _⟩ => ⟨S64x128, .f32⟩
  | .local _ .vmem, ⟨30, _⟩ => ⟨S16x128x256, .f32⟩
  | .local _ .vmem, ⟨31, _⟩ => ⟨S128x3072, .bf16⟩
  | .local _ .vmem, ⟨32, _⟩ => ⟨S128x3072, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst : Ref sig .tc := ⟨.hbm, 39, rfl⟩
abbrev main_v31 : Ref sig .tc := ⟨.hbm, 40, rfl⟩
abbrev main_cst_0 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_5 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_6 : Ref sig .tc := ⟨.hbm, 87, rfl⟩
abbrev main_v69 : Ref sig .tc := ⟨.hbm, 88, rfl⟩
abbrev main_cst_7 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_cst_9 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_10 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_11 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_12 : Ref sig .tc := ⟨.hbm, 127, rfl⟩
abbrev main_v103 : Ref sig .tc := ⟨.hbm, 128, rfl⟩
abbrev main_cst_13 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_c_14 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_c_15 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_c_16 : Ref sig .tc := ⟨.hbm, 157, rfl⟩
abbrev main_v129 : Ref sig .tc := ⟨.hbm, 158, rfl⟩
abbrev main_v130 : Ref sig .tc := ⟨.hbm, 159, rfl⟩
abbrev main_cst_17 : Ref sig .tc := ⟨.hbm, 160, rfl⟩
abbrev main_call1_v0 : Ref sig .tc := ⟨.hbm, 161, rfl⟩
abbrev main_call1_v1 : Ref sig .tc := ⟨.hbm, 162, rfl⟩
abbrev main_call1_v2 : Ref sig .tc := ⟨.hbm, 163, rfl⟩
abbrev main_v131 : Ref sig .tc := ⟨.hbm, 164, rfl⟩
abbrev main_v132 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg16_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem16_1 : DmaSem sig := 32

abbrev nD : Nat := 1
abbrev τ : Topo := Topo.v7x

variable {F : FTy → Type} [FloatOps F] [Named F]

def κ : String → Option EReal := fun
  | "mask" => some ⊥
  | _ => none

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c0_i32 : BitVec 32 := 0#32
  let c0_i32_1 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c1_i32_0 : BitVec 32 := 1#32
  let c0_i32_1 : BitVec 32 := 0#32
  ![v4.toNat, c1_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c1_i32 : BitVec 32 := 1#32
  let c0_i32 : BitVec 32 := 0#32
  ![v4.toNat, c1_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c2_i32_0 : BitVec 32 := 2#32
  let c0_i32_1 : BitVec 32 := 0#32
  ![v4.toNat, c2_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c2_i32_1 : BitVec 32 := 2#32
  let c0_i32 : BitVec 32 := 0#32
  ![v4.toNat, c2_i32_1.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c0_i32 : BitVec 32 := 0#32
  let c0_i32_1 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let v2 : BitVec 32 := Scalar.muli c2_i32 v1
  let c2_i32_0 : BitVec 32 := 2#32
  let v3 : BitVec 32 := Scalar.addi v2 c2_i32_0
  let c63_i32 : BitVec 32 := 63#32
  let v4 : BitVec 32 := Scalar.minsi v3 c63_i32
  let c0_i32 : BitVec 32 := 0#32
  let c0_i32_1 : BitVec 32 := 0#32
  ![v4.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S16x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S128x3072 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S4096x3072 : Shape := ⟨2, ![4096, 3072]⟩
abbrev S4096x16x64 : Shape := ⟨3, ![4096, 16, 64]⟩
abbrev S4096x16 : Shape := ⟨2, ![4096, 16]⟩
abbrev S4096x1024 : Shape := ⟨2, ![4096, 1024]⟩
abbrev S16 : Shape := ⟨1, ![16]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S16x1x1 : Shape := ⟨3, ![16, 1, 1]⟩
abbrev S1x4096x4096 : Shape := ⟨3, ![1, 4096, 4096]⟩
abbrev S16x4096x4096 : Shape := ⟨3, ![16, 4096, 4096]⟩
abbrev S4096x1x16x64 : Shape := ⟨4, ![4096, 1, 16, 64]⟩
abbrev S1x16x4096x64 : Shape := ⟨4, ![1, 16, 4096, 64]⟩
abbrev S1x16x4096x4096 : Shape := ⟨4, ![1, 16, 4096, 4096]⟩
abbrev S1x16x4096 : Shape := ⟨3, ![1, 16, 4096]⟩
abbrev S1x16x4096x1 : Shape := ⟨4, ![1, 16, 4096, 1]⟩
abbrev S4096x1x16 : Shape := ⟨3, ![4096, 1, 16]⟩
abbrev S1x4096x16 : Shape := ⟨3, ![1, 4096, 16]⟩
abbrev S3x4096x16 : Shape := ⟨3, ![3, 4096, 16]⟩
abbrev S3x4096x16x1 : Shape := ⟨4, ![3, 4096, 16, 1]⟩
abbrev S1x4096x16x64 : Shape := ⟨4, ![1, 4096, 16, 64]⟩
abbrev S3x4096x16x64 : Shape := ⟨4, ![3, 4096, 16, 64]⟩
abbrev S1x16x64x4096 : Shape := ⟨4, ![1, 16, 64, 4096]⟩
abbrev S16x4096 : Shape := ⟨2, ![16, 4096]⟩

abbrev nBuf : Space → Nat
  | .hbm => 214
  | .vmem => 0
  | .smem => 0
  | _ => 0

abbrev hbmTy0_0 (i : Nat) : BufTy := match i % 128 with
  | 0 => ⟨S4096x3072, .f32⟩
  | 1 => ⟨S4096x16x64, .f32⟩
  | 2 => ⟨S4096x16, .f32⟩
  | 3 => ⟨S4096x16x64, .f32⟩
  | 4 => ⟨S4096x16, .f32⟩
  | 5 => ⟨S4096x1024, .f32⟩
  | 6 => ⟨S16, .f32⟩
  | 7 => ⟨S4096x1024, .f32⟩
  | 8 => ⟨S4096x1024, .f32⟩
  | 9 => ⟨S4096x1024, .f32⟩
  | 10 => ⟨S4096x16x64, .f32⟩
  | 11 => ⟨S4096x16x64, .f32⟩
  | 12 => ⟨S4096x16x64, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .f32⟩
  | 24 => ⟨S16x1x1, .f32⟩
  | 25 => ⟨S16x1x1, .f32⟩
  | 26 => ⟨S1x4096x4096, .f32⟩
  | 27 => ⟨S16x4096x4096, .f32⟩
  | 28 => ⟨S16x4096x4096, .f32⟩
  | 29 => ⟨S16x4096x4096, .f32⟩
  | 30 => ⟨S4096x1x16x64, .f32⟩
  | 31 => ⟨S1x16x4096x64, .f32⟩
  | 32 => ⟨S4096x1x16x64, .f32⟩
  | 33 => ⟨S1x16x4096x64, .f32⟩
  | 34 => ⟨S1x16x4096x4096, .f32⟩
  | 35 => ⟨S_, .f32⟩
  | 36 => ⟨S1x16x4096x4096, .f32⟩
  | 37 => ⟨S1x16x4096x4096, .f32⟩
  | 38 => ⟨S1x16x4096x4096, .f32⟩
  | 39 => ⟨S1x16x4096x4096, .f32⟩
  | 40 => ⟨S4096x4096, .i32⟩
  | 41 => ⟨S_, .i32⟩
  | 42 => ⟨S4096x4096, .i32⟩
  | 43 => ⟨S4096x4096, .i1⟩
  | 44 => ⟨S_, .f32⟩
  | 45 => ⟨S_, .f32⟩
  | 46 => ⟨S1x16x4096x4096, .i1⟩
  | 47 => ⟨S1x16x4096x4096, .f32⟩
  | 48 => ⟨S1x16x4096x4096, .f32⟩
  | 49 => ⟨S_, .f32⟩
  | 50 => ⟨S1x16x4096x4096, .f32⟩
  | 51 => ⟨S_, .f32⟩
  | 52 => ⟨S1x16x4096, .f32⟩
  | 53 => ⟨S1x16x4096x1, .f32⟩
  | 54 => ⟨S1x16x4096x4096, .f32⟩
  | 55 => ⟨S1x16x4096x4096, .i1⟩
  | 56 => ⟨S1x16x4096x4096, .f32⟩
  | 57 => ⟨S_, .f32⟩
  | 58 => ⟨S1x16x4096, .f32⟩
  | 59 => ⟨S1x16x4096x1, .f32⟩
  | 60 => ⟨S1x16x4096, .f32⟩
  | 61 => ⟨S1x16x4096x4096, .f32⟩
  | 62 => ⟨S1x16x4096x4096, .f32⟩
  | 63 => ⟨S1x16x4096x4096, .f32⟩
  | 64 => ⟨S_, .f32⟩
  | 65 => ⟨S1x16x4096, .f32⟩
  | 66 => ⟨S1x16x4096, .f32⟩
  | 67 => ⟨S1x16x4096, .f32⟩
  | 68 => ⟨S1x16x4096x1, .f32⟩
  | 69 => ⟨S1x16x4096x4096, .f32⟩
  | 70 => ⟨S1x16x4096x4096, .f32⟩
  | 71 => ⟨S1x16x4096x4096, .f32⟩
  | 72 => ⟨S4096x1x16x64, .f32⟩
  | 73 => ⟨S1x16x4096x64, .f32⟩
  | 74 => ⟨S1x16x4096x64, .f32⟩
  | 75 => ⟨S4096x1x16x64, .f32⟩
  | 76 => ⟨S4096x16x64, .f32⟩
  | 77 => ⟨S4096x1x16, .f32⟩
  | 78 => ⟨S4096x16, .f32⟩
  | 79 => ⟨S1x4096x16, .f32⟩
  | 80 => ⟨S1x4096x16, .f32⟩
  | 81 => ⟨S1x4096x16, .f32⟩
  | 82 => ⟨S3x4096x16, .f32⟩
  | 83 => ⟨S_, .f32⟩
  | 84 => ⟨S4096x16, .f32⟩
  | 85 => ⟨S_, .f32⟩
  | 86 => ⟨S4096x16, .f32⟩
  | 87 => ⟨S_, .f32⟩
  | 88 => ⟨S4096x16, .f32⟩
  | 89 => ⟨S1x4096x16, .f32⟩
  | 90 => ⟨S3x4096x16, .f32⟩
  | 91 => ⟨S3x4096x16, .i1⟩
  | 92 => ⟨S3x4096x16, .f32⟩
  | 93 => ⟨S_, .f32⟩
  | 94 => ⟨S4096x16, .f32⟩
  | 95 => ⟨S_, .f32⟩
  | 96 => ⟨S4096x16, .f32⟩
  | 97 => ⟨S4096x16, .f32⟩
  | 98 => ⟨S_, .f32⟩
  | 99 => ⟨S4096x16, .f32⟩
  | 100 => ⟨S4096x16, .i1⟩
  | 101 => ⟨S_, .f32⟩
  | 102 => ⟨S4096x16, .f32⟩
  | 103 => ⟨S4096x16, .i1⟩
  | 104 => ⟨S_, .f32⟩
  | 105 => ⟨S4096x16, .f32⟩
  | 106 => ⟨S_, .f32⟩
  | 107 => ⟨S4096x16, .f32⟩
  | 108 => ⟨S_, .f32⟩
  | 109 => ⟨S4096x16, .f32⟩
  | 110 => ⟨S4096x16, .f32⟩
  | 111 => ⟨S4096x16, .f32⟩
  | 112 => ⟨S1x4096x16, .f32⟩
  | 113 => ⟨S3x4096x16, .f32⟩
  | 114 => ⟨S3x4096x16, .f32⟩
  | 115 => ⟨S3x4096x16, .f32⟩
  | 116 => ⟨S_, .f32⟩
  | 117 => ⟨S4096x16, .f32⟩
  | 118 => ⟨S1x4096x16, .f32⟩
  | 119 => ⟨S3x4096x16, .f32⟩
  | 120 => ⟨S3x4096x16, .f32⟩
  | 121 => ⟨S1x4096x16, .f32⟩
  | 122 => ⟨S_, .f32⟩
  | 123 => ⟨S1x4096x16, .f32⟩
  | 124 => ⟨S1x4096x16, .f32⟩
  | 125 => ⟨S3x4096x16x1, .f32⟩
  | 126 => ⟨S1x4096x16x64, .f32⟩
  | 127 => ⟨S1x4096x16x64, .f32⟩
  | _ => ⟨S4096x3072, .f32⟩

abbrev hbmTy0_1 (i : Nat) : BufTy := match i % 128 with
  | 0 => ⟨S1x4096x16x64, .f32⟩
  | 1 => ⟨S3x4096x16x64, .f32⟩
  | 2 => ⟨S_, .f32⟩
  | 3 => ⟨S4096x16x64, .f32⟩
  | 4 => ⟨S_, .f32⟩
  | 5 => ⟨S4096x16x64, .f32⟩
  | 6 => ⟨S3x4096x16x64, .f32⟩
  | 7 => ⟨S3x4096x16x64, .f32⟩
  | 8 => ⟨S_, .f32⟩
  | 9 => ⟨S4096x16x64, .f32⟩
  | 10 => ⟨S4096x1024, .f32⟩
  | 11 => ⟨S4096x16x64, .f32⟩
  | 12 => ⟨S3x4096x16x64, .f32⟩
  | 13 => ⟨S3x4096x16x64, .f32⟩
  | 14 => ⟨S3x4096x16x64, .f32⟩
  | 15 => ⟨S3x4096x16x64, .f32⟩
  | 16 => ⟨S_, .f32⟩
  | 17 => ⟨S3x4096x16, .f32⟩
  | 18 => ⟨S3x4096x16x1, .f32⟩
  | 19 => ⟨S1x4096x16x64, .f32⟩
  | 20 => ⟨S4096x16x64, .f32⟩
  | 21 => ⟨S1x4096x16x64, .f32⟩
  | 22 => ⟨S4096x16x64, .f32⟩
  | 23 => ⟨S1x4096x16x64, .f32⟩
  | 24 => ⟨S4096x16x64, .f32⟩
  | 25 => ⟨S_, .f32⟩
  | 26 => ⟨S3x4096x16, .f32⟩
  | 27 => ⟨S3x4096x16, .f32⟩
  | 28 => ⟨S3x4096x16, .f32⟩
  | 29 => ⟨S3x4096x16, .f32⟩
  | 30 => ⟨S_, .f32⟩
  | 31 => ⟨S4096x16, .f32⟩
  | 32 => ⟨S1x4096x16, .f32⟩
  | 33 => ⟨S1x4096x16, .f32⟩
  | 34 => ⟨S3x4096x16, .f32⟩
  | 35 => ⟨S3x4096x16, .f32⟩
  | 36 => ⟨S_, .f32⟩
  | 37 => ⟨S4096x16, .f32⟩
  | 38 => ⟨S3x4096x16, .f32⟩
  | 39 => ⟨S3x4096x16, .f32⟩
  | 40 => ⟨S3x4096x16, .f32⟩
  | 41 => ⟨S1x4096x16, .f32⟩
  | 42 => ⟨S4096x16, .f32⟩
  | 43 => ⟨S1x4096x16, .f32⟩
  | 44 => ⟨S4096x16, .f32⟩
  | 45 => ⟨S1x4096x16, .f32⟩
  | 46 => ⟨S4096x16, .f32⟩
  | 47 => ⟨S4096x1x16, .f32⟩
  | 48 => ⟨S1x16x4096, .f32⟩
  | 49 => ⟨S4096x1x16x64, .f32⟩
  | 50 => ⟨S1x16x4096x64, .f32⟩
  | 51 => ⟨S1x16x64x4096, .f32⟩
  | 52 => ⟨S1x16x4096x64, .f32⟩
  | 53 => ⟨S1x16x4096x4096, .f32⟩
  | 54 => ⟨S4096x1x16x64, .f32⟩
  | 55 => ⟨S4096x16x64, .f32⟩
  | 56 => ⟨S1x16x4096x4096, .f32⟩
  | 57 => ⟨S1x16x4096x4096, .f32⟩
  | 58 => ⟨S_, .f32⟩
  | 59 => ⟨S1x16x4096, .f32⟩
  | 60 => ⟨S1x16x4096x1, .f32⟩
  | 61 => ⟨S_, .f32⟩
  | 62 => ⟨S16x4096, .f32⟩
  | 63 => ⟨S1x16x4096, .f32⟩
  | 64 => ⟨S1x16x4096, .f32⟩
  | 65 => ⟨S1x16x4096, .f32⟩
  | 66 => ⟨S1x16x4096x4096, .f32⟩
  | 67 => ⟨S1x16x4096x4096, .f32⟩
  | 68 => ⟨S1x16x4096x4096, .f32⟩
  | 69 => ⟨S_, .f32⟩
  | 70 => ⟨S1x16x4096x4096, .f32⟩
  | 71 => ⟨S1x16x4096x4096, .f32⟩
  | 72 => ⟨S_, .f32⟩
  | 73 => ⟨S1x16x4096x4096, .f32⟩
  | 74 => ⟨S1x16x4096x4096, .f32⟩
  | 75 => ⟨S1x16x4096x64, .f32⟩
  | 76 => ⟨S1x16x4096x64, .f32⟩
  | 77 => ⟨S4096x1x16x64, .f32⟩
  | 78 => ⟨S4096x16x64, .f32⟩
  | 79 => ⟨S4096x1x16x64, .f32⟩
  | 80 => ⟨S4096x16x64, .f32⟩
  | 81 => ⟨S4096x1024, .f32⟩
  | 82 => ⟨S4096x1024, .f32⟩
  | 83 => ⟨S4096x1024, .f32⟩
  | 84 => ⟨S4096x3072, .f32⟩
  | 85 => ⟨S4096x3072, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_0 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_call0_v0 : Ref sig .tc := ⟨.hbm, 45, rfl⟩
abbrev main_v34_1 : Ref sig .tc := ⟨.hbm, 46, rfl⟩
abbrev main_call0_v2 : Ref sig .tc := ⟨.hbm, 47, rfl⟩
abbrev main_v34_0 : Ref sig .tc := ⟨.hbm, 48, rfl⟩
abbrev main_call0_cst : Ref sig .tc := ⟨.hbm, 49, rfl⟩
abbrev main_v34_2 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_3 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_cst_6 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_8 : Ref sig .tc := ⟨.hbm, 93, rfl⟩
abbrev main_v71 : Ref sig .tc := ⟨.hbm, 94, rfl⟩
abbrev main_cst_9 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_v77 : Ref sig .tc := ⟨.hbm, 103, rfl⟩
abbrev main_cst_12 : Ref sig .tc := ⟨.hbm, 104, rfl⟩
abbrev main_v78 : Ref sig .tc := ⟨.hbm, 105, rfl⟩
abbrev main_cst_13 : Ref sig .tc := ⟨.hbm, 106, rfl⟩
abbrev main_v79 : Ref sig .tc := ⟨.hbm, 107, rfl⟩
abbrev main_cst_14 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_15 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_17 : Ref sig .tc := ⟨.hbm, 130, rfl⟩
abbrev main_v99 : Ref sig .tc := ⟨.hbm, 131, rfl⟩
abbrev main_cst_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_21 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_22 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_23 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_cst_24 : Ref sig .tc := ⟨.hbm, 186, rfl⟩
abbrev main_v148 : Ref sig .tc := ⟨.hbm, 187, rfl⟩
abbrev main_v149 : Ref sig .tc := ⟨.hbm, 188, rfl⟩
abbrev main_cst_25 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_call1_cst : Ref sig .tc := ⟨.hbm, 197, rfl⟩
abbrev main_call1_v0 : Ref sig .tc := ⟨.hbm, 198, rfl⟩
abbrev main_v157 : Ref sig .tc := ⟨.hbm, 199, rfl⟩
abbrev main_cst_26 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩

abbrev nD : Nat := 1
abbrev τ : Topo := Topo.v7x

variable {F : FTy → Type} [FloatOps F]

def κ : String → Option EReal := fun
  | "mask" => some ⊥
  | _ => none
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S1024x8x352 : Shape := ⟨3, ![1024, 8, 352]⟩
abbrev S8x1024x352 : Shape := ⟨3, ![8, 1024, 352]⟩
abbrev S_ : Shape := ⟨0, ![]⟩
abbrev S8x1024x384 : Shape := ⟨3, ![8, 1024, 384]⟩
abbrev S8x1024x768 : Shape := ⟨3, ![8, 1024, 768]⟩
abbrev S8x352x1024 : Shape := ⟨3, ![8, 352, 1024]⟩
abbrev S8x384x1024 : Shape := ⟨3, ![8, 384, 1024]⟩
abbrev S3072x1024 : Shape := ⟨2, ![3072, 1024]⟩
abbrev S1x1024 : Shape := ⟨2, ![1, 1024]⟩
abbrev S1024x4096 : Shape := ⟨2, ![1024, 4096]⟩
abbrev S512x1024 : Shape := ⟨2, ![512, 1024]⟩
abbrev S1024x512 : Shape := ⟨2, ![1024, 512]⟩
abbrev S4096x3072 : Shape := ⟨2, ![4096, 3072]⟩
abbrev S1024x1024 : Shape := ⟨2, ![1024, 1024]⟩
abbrev S2x1024x768 : Shape := ⟨3, ![2, 1024, 768]⟩
abbrev S1024x768 : Shape := ⟨2, ![1024, 768]⟩
abbrev S1x1024x768 : Shape := ⟨3, ![1, 1024, 768]⟩
abbrev S1024x384 : Shape := ⟨2, ![1024, 384]⟩
abbrev S4096x1 : Shape := ⟨2, ![4096, 1]⟩
abbrev S512x3072 : Shape := ⟨2, ![512, 3072]⟩
abbrev S512x1 : Shape := ⟨2, ![512, 1]⟩
abbrev S512 : Shape := ⟨1, ![512]⟩
abbrev S4096x6144 : Shape := ⟨2, ![4096, 6144]⟩
abbrev S768x1024 : Shape := ⟨2, ![768, 1024]⟩
abbrev S1024x1536 : Shape := ⟨2, ![1024, 1536]⟩
abbrev S512x4096 : Shape := ⟨2, ![512, 4096]⟩
abbrev S4096x768 : Shape := ⟨2, ![4096, 768]⟩
abbrev S2x512x384 : Shape := ⟨3, ![2, 512, 384]⟩
abbrev S512x768 : Shape := ⟨2, ![512, 768]⟩
abbrev S512x384 : Shape := ⟨2, ![512, 384]⟩
abbrev S1x512x384 : Shape := ⟨3, ![1, 512, 384]⟩
abbrev S1x512x768 : Shape := ⟨3, ![1, 512, 768]⟩
abbrev S512x6144 : Shape := ⟨2, ![512, 6144]⟩

abbrev nBuf : Space → Nat
  | .hbm => 44
  | .vmem => 62
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S1024x8x352, .f32⟩
  | .hbm, ⟨9, _⟩ => ⟨S8x1024x352, .f32⟩
  | .hbm, ⟨10, _⟩ => ⟨S_, .i32⟩
  | .hbm, ⟨11, _⟩ => ⟨S_, .f32⟩
  | .hbm, ⟨12, _⟩ => ⟨S8x1024x384, .f32⟩
  | .hbm, ⟨13, _⟩ => ⟨S1024x8x352, .f32⟩
  | .hbm, ⟨14, _⟩ => ⟨S8x1024x352, .f32⟩
  | .hbm, ⟨15, _⟩ => ⟨S_, .i32⟩
  | .hbm, ⟨16, _⟩ => ⟨S_, .f32⟩
  | .hbm, ⟨17, _⟩ => ⟨S8x1024x384, .f32⟩
  | .hbm, ⟨18, _⟩ => ⟨S8x1024x768, .f32⟩
  | .hbm, ⟨19, _⟩ => ⟨S8x1024x768, .bf16⟩
  | .hbm, ⟨20, _⟩ => ⟨S8x352x1024, .f32⟩
  | .hbm, ⟨21, _⟩ => ⟨S_, .i32⟩
  | .hbm, ⟨22, _⟩ => ⟨S_, .f32⟩
  | .hbm, ⟨23, _⟩ => ⟨S8x384x1024, .f32⟩
  | .hbm, ⟨24, _⟩ => ⟨S8x384x1024, .bf16⟩
  | .hbm, ⟨25, _⟩ => ⟨S3072x1024, .bf16⟩
  | .hbm, ⟨26, _⟩ => ⟨S1x1024, .f32⟩
  | .hbm, ⟨27, _⟩ => ⟨S1x1024, .f32⟩
  | .hbm, ⟨28, _⟩ => ⟨S4096x1024, .bf16⟩
  | .hbm, ⟨29, _⟩ => ⟨S1024x4096, .bf16⟩
  | .hbm, ⟨30, _⟩ => ⟨S4096x3072, .bf16⟩
  | .hbm, ⟨31, _⟩ => ⟨S4096x3072, .bf16⟩
  | .hbm, ⟨32, _⟩ => ⟨S4096x3072, .bf16⟩
  | .hbm, ⟨33, _⟩ => ⟨S4096x1024, .f32⟩
  | .hbm, ⟨34, _⟩ => ⟨S4096x1024, .bf16⟩
  | .hbm, ⟨35, _⟩ => ⟨S1024x4096, .bf16⟩
  | .hbm, ⟨36, _⟩ => ⟨S4096x1024, .f32⟩
  | .hbm, ⟨37, _⟩ => ⟨S4096x1, .f32⟩
  | .hbm, ⟨38, _⟩ => ⟨S4096x1024, .bf16⟩
  | .hbm, ⟨39, _⟩ => ⟨S4096x6144, .bf16⟩
  | .hbm, ⟨40, _⟩ => ⟨S1024x4096, .bf16⟩
  | .hbm, ⟨41, _⟩ => ⟨S8x1024x384, .bf16⟩
  | .hbm, ⟨42, _⟩ => ⟨S8x1024x768, .bf16⟩
  | .hbm, ⟨43, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S2x1024x768, .bf16⟩
  | .local _ .vmem, ⟨9, _⟩ => ⟨S2x1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S1024x768, .bf16⟩
  | .local _ .vmem, ⟨14, _⟩ => ⟨S1024x768, .bf16⟩
  | .local _ .vmem, ⟨15, _⟩ => ⟨S1024x768, .bf16⟩
  | .local _ .vmem, ⟨16, _⟩ => ⟨S512x3072, .bf16⟩
  | .local _ .vmem, ⟨17, _⟩ => ⟨S512x3072, .bf16⟩
  | .local _ .vmem, ⟨18, _⟩ => ⟨S3072x1024, .bf16⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S1024x512, .bf16⟩
  | .local _ .vmem, ⟨28, _⟩ => ⟨S1024x512, .bf16⟩
  | .local _ .vmem, ⟨29, _⟩ => ⟨S512x1024, .f32⟩
  | .local _ .vmem, ⟨30, _⟩ => ⟨S512x1024, .f32⟩
  | .local _ .vmem, ⟨31, _⟩ => ⟨S512x1, .f32⟩
  | .local _ .vmem, ⟨32, _⟩ => ⟨S512x1, .f32⟩
  | .local _ .vmem, ⟨33, _⟩ => ⟨S1024x1024, .bf16⟩
  | .local _ .vmem, ⟨34, _⟩ => ⟨S1024x1024, .bf16⟩
  | .local _ .vmem, ⟨35, _⟩ => ⟨S768x1024, .bf16⟩
  | .local _ .vmem, ⟨36, _⟩ => ⟨S768x1024, .bf16⟩
  | .local _ .vmem, ⟨37, _⟩ => ⟨S1024x768, .bf16⟩
  | .local _ .vmem, ⟨38, _⟩ => ⟨S1024x768, .bf16⟩
  | .local _ .vmem, ⟨39, _⟩ => ⟨S1024x768, .bf16⟩
  | .local _ .vmem, ⟨40, _⟩ => ⟨S1024x768, .bf16⟩
  | .local _ .vmem, ⟨41, _⟩ => ⟨S1024x1536, .bf16⟩
  | .local _ .vmem, ⟨42, _⟩ => ⟨S1024x1536, .bf16⟩
  | .local _ .vmem, ⟨43, _⟩ => ⟨S512x4096, .bf16⟩
  | .local _ .vmem, ⟨44, _⟩ => ⟨S512x4096, .bf16⟩
  | .local _ .vmem, ⟨45, _⟩ => ⟨S4096x768, .bf16⟩
  | .local _ .vmem, ⟨46, _⟩ => ⟨S4096x768, .bf16⟩
  | .local _ .vmem, ⟨47, _⟩ => ⟨S2x512x384, .bf16⟩
  | .local _ .vmem, ⟨48, _⟩ => ⟨S2x512x384, .bf16⟩
  | .local _ .vmem, ⟨49, _⟩ => ⟨S512x4096, .bf16⟩
  | .local _ .vmem, ⟨50, _⟩ => ⟨S512x4096, .bf16⟩
  | .local _ .vmem, ⟨51, _⟩ => ⟨S4096x768, .bf16⟩
  | .local _ .vmem, ⟨52, _⟩ => ⟨S4096x768, .bf16⟩
  | .local _ .vmem, ⟨53, _⟩ => ⟨S1x512x768, .bf16⟩
  | .local _ .vmem, ⟨54, _⟩ => ⟨S1x512x768, .bf16⟩
  | .local _ .vmem, ⟨55, _⟩ => ⟨S512x6144, .bf16⟩
  | .local _ .vmem, ⟨56, _⟩ => ⟨S512x6144, .bf16⟩
  | .local _ .vmem, ⟨57, _⟩ => ⟨S8x1024x768, .bf16⟩
  | .local _ .vmem, ⟨58, _⟩ => ⟨S512x1024, .f32⟩
  | .local _ .vmem, ⟨59, _⟩ => ⟨S512x1024, .f32⟩
  | .local _ .vmem, ⟨60, _⟩ => ⟨S512x1024, .f32⟩
  | .local _ .vmem, ⟨61, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call2_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v16_3 : Ref sig .tc := ⟨.hbm, 36, rfl⟩
abbrev main_v16_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc2_stg8_0 : Ref sig .tc := ⟨.vmem, 29, rfl⟩
abbrev cc2_stg8_1 : Ref sig .tc := ⟨.vmem, 30, rfl⟩
abbrev cc2_stg9_0 : Ref sig .tc := ⟨.vmem, 31, rfl⟩
abbrev cc2_stg9_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg4_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg2_1 : Ref sig .tc := ⟨.vmem, 59, rfl⟩
abbrev cc6_stg3_0 : Ref sig .tc := ⟨.vmem, 60, rfl⟩
abbrev cc6_stg3_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28
abbrev cc2_sem8_0 : DmaSem sig := 29
abbrev cc2_sem8_1 : DmaSem sig := 30
abbrev cc2_sem9_0 : DmaSem sig := 31
abbrev cc2_sem9_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc6_sem0_0 : DmaSem sig := 55
abbrev cc6_sem0_1 : DmaSem sig := 56
abbrev cc6_sem1_0 : DmaSem sig := 57
abbrev cc6_sem2_0 : DmaSem sig := 58
abbrev cc6_sem2_1 : DmaSem sig := 59
abbrev cc6_sem3_0 : DmaSem sig := 60
abbrev cc6_sem3_1 : DmaSem sig := 61

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2x1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x768 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3072x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1024x512 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S768x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x768 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x768 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x1536 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x768 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2x512x384 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, false]

abbrev stage5_1 : Fin 2 → Memref sig .tc .vmem S4096x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S1x512x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x6144 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S8x1024x768 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S1024 : Shape := ⟨1, ![1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x352x1024 : Shape := ⟨3, ![8, 352, 1024]⟩
abbrev S8x1024x352 : Shape := ⟨3, ![8, 1024, 352]⟩
abbrev S8x1024x384 : Shape := ⟨3, ![8, 1024, 384]⟩
abbrev S1024x8x352 : Shape := ⟨3, ![1024, 8, 352]⟩
abbrev S8x1024x768 : Shape := ⟨3, ![8, 1024, 768]⟩
abbrev S1024x4096 : Shape := ⟨2, ![1024, 4096]⟩

abbrev nBuf : Space → Nat
  | .hbm => 99
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S1024x2816, .f32⟩
  | .hbm, ⟨62, _⟩ => ⟨S2816x1024, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S2816x1024, .f32⟩
  | .hbm, ⟨67, _⟩ => ⟨S1024x2816, .f32⟩
  | .hbm, ⟨68, _⟩ => ⟨S4096x1024, .f32⟩
  | .hbm, ⟨69, _⟩ => ⟨S4096x2816, .f32⟩
  | .hbm, ⟨70, _⟩ => ⟨S4096x2816, .f32⟩
  | .hbm, ⟨71, _⟩ => ⟨S4096x2816, .f32⟩
  | .hbm, ⟨72, _⟩ => ⟨S4096x2816, .f32⟩
  | .hbm, ⟨73, _⟩ => ⟨S2816x1024, .f32⟩
  | .hbm, ⟨74, _⟩ => ⟨S1024x2816, .f32⟩
  | .hbm, ⟨75, _⟩ => ⟨S4096x1024, .f32⟩
  | .hbm, ⟨76, _⟩ => ⟨S4096x1024, .f32⟩
  | .hbm, ⟨77, _⟩ => ⟨S8x352x1024, .f32⟩
  | .hbm, ⟨78, _⟩ => ⟨S8x1024x352, .f32⟩
  | .hbm, ⟨79, _⟩ => ⟨S_, .i32⟩
  | .hbm, ⟨80, _⟩ => ⟨S_, .f32⟩
  | .hbm, ⟨81, _⟩ => ⟨S8x1024x384, .f32⟩
  | .hbm, ⟨82, _⟩ => ⟨S1024x8x352, .f32⟩
  | .hbm, ⟨83, _⟩ => ⟨S8x1024x352, .f32⟩
  | .hbm, ⟨84, _⟩ => ⟨S_, .i32⟩
  | .hbm, ⟨85, _⟩ => ⟨S_, .f32⟩
  | .hbm, ⟨86, _⟩ => ⟨S8x1024x384, .f32⟩
  | .hbm, ⟨87, _⟩ => ⟨S1024x8x352, .f32⟩
  | .hbm, ⟨88, _⟩ => ⟨S8x1024x352, .f32⟩
  | .hbm, ⟨89, _⟩ => ⟨S_, .i32⟩
  | .hbm, ⟨90, _⟩ => ⟨S_, .f32⟩
  | .hbm, ⟨91, _⟩ => ⟨S8x1024x384, .f32⟩
  | .hbm, ⟨92, _⟩ => ⟨S8x1024x768, .f32⟩
  | .hbm, ⟨93, _⟩ => ⟨S4096x1024, .bf16⟩
  | .hbm, ⟨94, _⟩ => ⟨S1024x4096, .f32⟩
  | .hbm, ⟨95, _⟩ => ⟨S1024x4096, .bf16⟩
  | .hbm, ⟨96, _⟩ => ⟨S8x1024x384, .bf16⟩
  | .hbm, ⟨97, _⟩ => ⟨S8x1024x768, .bf16⟩
  | .hbm, ⟨98, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v1_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v1_1 : Ref sig .tc := ⟨.hbm, 20, rfl⟩
abbrev main_v1_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_cst_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_3 : Ref sig .tc := ⟨.hbm, 41, rfl⟩
abbrev main_v17 : Ref sig .tc := ⟨.hbm, 42, rfl⟩
abbrev main_v18 : Ref sig .tc := ⟨.hbm, 43, rfl⟩
abbrev main_cst_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_5 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c : Ref sig .tc := ⟨.hbm, 79, rfl⟩
abbrev main_call2_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_6 : Ref sig .tc := ⟨.hbm, 84, rfl⟩
abbrev main_call3_v0 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_7 : Ref sig .tc := ⟨.hbm, 89, rfl⟩
abbrev main_call4_v0 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩
abbrev S512x1024 : Shape := ⟨2, ![512, 1024]⟩
abbrev S512x1 : Shape := ⟨2, ![512, 1]⟩
abbrev S1024x512 : Shape := ⟨2, ![1024, 512]⟩
abbrev S512 : Shape := ⟨1, ![512]⟩

abbrev nBuf : Space → Nat
  | .hbm => 38
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .bf16⟩
  | .hbm, ⟨35, _⟩ => ⟨S1024x4096, .bf16⟩
  | .hbm, ⟨36, _⟩ => ⟨S1x1024, .f32⟩
  | .hbm, ⟨37, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1024x512, .bf16⟩
  | .local _ .vmem, ⟨12, _⟩ => ⟨S1024x512, .bf16⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_20 : BitVec 32 := 0#32
  let v42 : BitVec 1 := Scalar.cmpi .ne v41 c0_i32_20
  v42

def k0_cond2 (i : grid0.Coords) : BitVec 1 :=
  let arg0 : BitVec 32 := BitVec.ofNat 32 (i 0).val
  let c0_i32_21 : BitVec 32 := 0#32
  let v43 : BitVec 1 := Scalar.cmpi .sgt arg0 c0_i32_21
  let v44 : BitVec 32 := Scalar.extui v43
  let c0_i32_22 : BitVec 32 := 0#32
  let v45 : BitVec 1 := Scalar.cmpi .ne v44 c0_i32_22
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x4096 : Shape := ⟨2, ![1024, 4096]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S4096, .f32⟩
  | .hbm, ⟨92, _⟩ => ⟨S4096x1024, .f32⟩
  | .hbm, ⟨93, _⟩ => ⟨S4096x1024, .f32⟩
  | .hbm, ⟨94, _⟩ => ⟨S_, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S4096x1024, .bf16⟩
  | .hbm, ⟨101, _⟩ => ⟨S1024x4096, .f32⟩
  | .hbm, ⟨102, _⟩ => ⟨S1024x4096, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_12 : Ref sig .tc := ⟨.hbm, 61, rfl⟩
abbrev main_v44 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_cst_16 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_20 : Ref sig .tc := ⟨.hbm, 94, rfl⟩
abbrev main_v69 : Ref sig .tc := ⟨.hbm, 95, rfl⟩
abbrev main_v70 : Ref sig .tc := ⟨.hbm, 96, rfl⟩
abbrev main_cst_21 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩

abbrev nD : Nat := 1
abbrev τ : Topo := Topo.v7x

variable {F : FTy → Type} [FloatOps F]
-- ==== Kernel4.lean ====
abbrev S4096x1024 : Shape := ⟨2, ![4096, 1024]⟩
abbrev S1024x9216 : Shape := ⟨2, ![1024, 9216]⟩
abbrev S4096x3072 : Shape := ⟨2, ![4096, 3072]⟩
abbrev S1024x4096 : Shape := ⟨2, ![1024, 4096]⟩
abbrev S8x1024x1152 : Shape := ⟨3, ![8, 1024, 1152]⟩
abbrev S512x4096 : Shape := ⟨2, ![512, 4096]⟩
abbrev S4096x384 : Shape := ⟨2, ![4096, 384]⟩
abbrev S1x512x384 : Shape := ⟨3, ![1, 512, 384]⟩
abbrev S512x384 : Shape := ⟨2, ![512, 384]⟩
abbrev S2x4x1024x1152 : Shape := ⟨4, ![2, 4, 1024, 1152]⟩
abbrev S4x2x1024x1152 : Shape := ⟨4, ![4, 2, 1024, 1152]⟩
abbrev S1024x8x1152 : Shape := ⟨3, ![1024, 8, 1152]⟩
abbrev S1024x3072 : Shape := ⟨2, ![1024, 3072]⟩
abbrev S1024x1024 : Shape := ⟨2, ![1024, 1024]⟩
abbrev S1024x768 : Shape := ⟨2, ![1024, 768]⟩
abbrev S512x3072 : Shape := ⟨2, ![512, 3072]⟩
abbrev S512x1024 : Shape := ⟨2, ![512, 1024]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x9216, .bf16⟩
  | .hbm, ⟨4, _⟩ => ⟨S4096x3072, .bf16⟩
  | .hbm, ⟨5, _⟩ => ⟨S1024x4096, .f32⟩
  | .hbm, ⟨6, _⟩ => ⟨S1024x4096, .bf16⟩
  | .hbm, ⟨7, _⟩ => ⟨S8x1024x1152, .bf16⟩
  | .hbm, ⟨8, _⟩ => ⟨S2x4x1024x1152, .bf16⟩
  | .hbm, ⟨9, _⟩ => ⟨S4x2x1024x1152, .bf16⟩
  | .hbm, ⟨10, _⟩ => ⟨S8x1024x1152, .bf16⟩
  | .hbm, ⟨11, _⟩ => ⟨S1024x8x1152, .bf16⟩
  | .hbm, ⟨12, _⟩ => ⟨S1024x9216, .bf16⟩
  | .hbm, ⟨13, _⟩ => ⟨S1024x3072, .bf16⟩
  | .hbm, ⟨14, _⟩ => ⟨S4096x1024, .bf16⟩
  | .hbm, ⟨15, _⟩ => ⟨S4096x3072, .bf16⟩
  | .hbm, ⟨16, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x384, .bf16⟩
  | .local _ .vmem, ⟨3, _⟩ => ⟨S4096x384, .bf16⟩
  | .local _ .vmem, ⟨4, _⟩ => ⟨S1x512x384, .bf16⟩
  | .local _ .vmem, ⟨5, _⟩ => ⟨S1x512x384, .bf16⟩
  | .local _ .vmem, ⟨6, _⟩ => ⟨S512x4096, .bf16⟩
  | .local _ .vmem, ⟨7, _⟩ => ⟨S1024x1024, .bf16⟩
  | .local _ .vmem, ⟨8, _⟩ => ⟨S1024x1024, .bf16⟩
  | .local _ .vmem, ⟨9, _⟩ => ⟨S1024x768, .bf16⟩
  | .local _ .vmem, ⟨10, _⟩ => ⟨S1024x768, .bf16⟩
  | .local _ .vmem, ⟨11, _⟩ => ⟨S1024x768, .bf16⟩
  | .local _ .vmem, ⟨12, _⟩ => ⟨S1024x768, .bf16⟩
  | .local _ .vmem, ⟨13, _⟩ => ⟨S512x3072, .bf16⟩
  | .local _ .vmem, ⟨14, _⟩ => ⟨S512x3072, .bf16⟩
  | .local _ .vmem, ⟨15, _⟩ => ⟨S1024x3072, .bf16⟩
  | .local _ .vmem, ⟨16, _⟩ => ⟨S512x1024, .f32⟩
  | .local _ .vmem, ⟨17, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c3_i32 : BitVec 32 := 3#32
  let v1 : BitVec 32 := Scalar.divsi v0 c3_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi v0 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_5 : BitVec 32 := 0#32
  let v18 : BitVec 1 := Scalar.cmpi .eq c2_i32 c0_i32_5
  let c1_i32_6 : BitVec 32 := 1#32
  let v19 : BitVec 32 := Scalar.select v18 c1_i32_6 c2_i32
  let v20 : BitVec 32 := Scalar.remsi v17 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.muli c4_i32 v27
  let c2_i32_10 : BitVec 32 := 2#32
  let v29 : BitVec 32 := Scalar.divsi v17 c2_i32_10
  let c0_i32_11 : BitVec 32 := 0#32
  let v30 : BitVec 1 := Scalar.cmpi .sgt v17 c0_i32_11
  let v31 : BitVec 32 := Scalar.extui v30
  let c0_i32_12 : BitVec 32 := 0#32
  let v32 : BitVec 1 := Scalar.cmpi .slt v17 c0_i32_12
  let v33 : BitVec 32 := Scalar.extui v32
  let v34 : BitVec 32 := Scalar.subi v31 v33
  let c0_i32_13 : BitVec 32 := 0#32
  let v35 : BitVec 1 := Scalar.cmpi .sgt c2_i32_10 c0_i32_13
  let v36 : BitVec 32 := Scalar.extui v35
  let c0_i32_14 : BitVec 32 := 0#32
  let v37 : BitVec 1 := Scalar.cmpi .slt c2_i32_10 c0_i32_14
  let v38 : BitVec 32 := Scalar.extui v37
  let v39 : BitVec 32 := Scalar.subi v36 v38
  let v40 : BitVec 1 := Scalar.cmpi .ne v34 v39
  let v41 : BitVec 32 := Scalar.remsi v17 c2_i32_10
  let c0_i32_15 : BitVec 32 := 0#32
  let v42 : BitVec 1 := Scalar.cmpi .ne v41 c0_i32_15
  let v43 : BitVec 1 := Scalar.andi v40 v42
  let c1_i32_16 : BitVec 32 := 1#32
  let v44 : BitVec 32 := Scalar.subi v29 c1_i32_16
  let v45 : BitVec 32 := Scalar.select v43 v44 v29
  let v46 : BitVec 32 := Scalar.addi v28 v45
  let c3_i32_17 : BitVec 32 := 3#32
  let c0_i32_18 : BitVec 32 := 0#32
  let v47 : BitVec 1 := Scalar.cmpi .eq c3_i32_17 c0_i32_18
  let c1_i32_19 : BitVec 32 := 1#32
  let v48 : BitVec 32 := Scalar.select v47 c1_i32_19 c3_i32_17
  let v49 : BitVec 32 := Scalar.remsi v0 v48
  let c0_i32_20 : BitVec 32 := 0#32
  let v50 : BitVec 1 := Scalar.cmpi .ne v49 c0_i32_20
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let v54 : BitVec 1 := Scalar.andi v53 v50
  let v55 : BitVec 32 := Scalar.addi v49 v48
  let v56 : BitVec 32 := Scalar.select v54 v55 v49
  let c0_i32_23 : BitVec 32 := 0#32
  ![v46.toNat, arg0.toNat, v56.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x3072 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x3072 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== Reference4Ideal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x3072, .f32⟩
  | .hbm, ⟨4, _⟩ => ⟨S4096x3072, .f32⟩
  | .hbm, ⟨5, _⟩ => ⟨S3072x1024, .f32⟩
  | .hbm, ⟨6, _⟩ => ⟨S1024x3072, .f32⟩
  | .hbm, ⟨7, _⟩ => ⟨S4096x1024, .f32⟩
  | .hbm, ⟨8, _⟩ => ⟨S4096x3072, .bf16⟩
  | .hbm, ⟨9, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x9216 : Shape := ⟨2, ![1024, 9216]⟩
abbrev S4096x3072 : Shape := ⟨2, ![4096, 3072]⟩
abbrev S4x1024x3072 : Shape := ⟨3, ![4, 1024, 3072]⟩
abbrev S1024x1024 : Shape := ⟨2, ![1024, 1024]⟩
abbrev S1024x768 : Shape := ⟨2, ![1024, 768]⟩
abbrev S4x256x768 : Shape := ⟨3, ![4, 256, 768]⟩
abbrev S6x1024x128 : Shape := ⟨3, ![6, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x768 : Shape := ⟨2, ![256, 768]⟩
abbrev S1x256x768 : Shape := ⟨3, ![1, 256, 768]⟩
abbrev S4x128x3072 : Shape := ⟨3, ![4, 128, 3072]⟩
abbrev S1024x3072 : Shape := ⟨2, ![1024, 3072]⟩
abbrev S512x1024 : Shape := ⟨2, ![512, 1024]⟩
abbrev S8x512x128 : Shape := ⟨3, ![8, 512, 128]⟩
abbrev S512x3072 : Shape := ⟨2, ![512, 3072]⟩
abbrev S128x1024 : Shape := ⟨2, ![128, 1024]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x9216, .bf16⟩
  | .hbm, ⟨4, _⟩ => ⟨S4096x1024, .bf16⟩
  | .hbm, ⟨5, _⟩ => ⟨S4x1024x3072, .bf16⟩
  | .hbm, ⟨6, _⟩ => ⟨S4096x3072, .bf16⟩
  | .hbm, ⟨7, _⟩ => ⟨S4096x3072, .bf16⟩
  | .hbm, ⟨8, _⟩ => ⟨S4x1024x3072, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S4x256x768, .bf16⟩
  | .local _ .vmem, ⟨5, _⟩ => ⟨S4x256x768, .bf16⟩
  | .local _ .vmem, ⟨6, _⟩ => ⟨S6x1024x128, .f32⟩
  | .local _ .vmem, ⟨7, _⟩ => ⟨S4x128x3072, .bf16⟩
  | .local _ .vmem, ⟨8, _⟩ => ⟨S4x128x3072, .bf16⟩
  | .local _ .vmem, ⟨9, _⟩ => ⟨S1024x3072, .bf16⟩
  | .local _ .vmem, ⟨10, _⟩ => ⟨S512x1024, .f32⟩
  | .local _ .vmem, ⟨11, _⟩ => ⟨S512x1024, .f32⟩
  | .local _ .vmem, ⟨12, _⟩ => ⟨S8x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x128x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Kernel5Ideal.lean ====
abbrev S4096x1024 : Shape := ⟨2, ![4096, 1024]⟩
abbrev S1024x9216 : Shape := ⟨2, ![1024, 9216]⟩
abbrev S4096x3072 : Shape := ⟨2, ![4096, 3072]⟩
abbrev S4x1024x3072 : Shape := ⟨3, ![4, 1024, 3072]⟩
abbrev S1024x1024 : Shape := ⟨2, ![1024, 1024]⟩
abbrev S1024x768 : Shape := ⟨2, ![1024, 768]⟩
abbrev S4x256x768 : Shape := ⟨3, ![4, 256, 768]⟩
abbrev S6x1024x128 : Shape := ⟨3, ![6, 1024, 128]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S256x768 : Shape := ⟨2, ![256, 768]⟩
abbrev S1x256x768 : Shape := ⟨3, ![1, 256, 768]⟩
abbrev S4x128x3072 : Shape := ⟨3, ![4, 128, 3072]⟩
abbrev S1024x3072 : Shape := ⟨2, ![1024, 3072]⟩
abbrev S512x1024 : Shape := ⟨2, ![512, 1024]⟩
abbrev S8x512x128 : Shape := ⟨3, ![8, 512, 128]⟩
abbrev S512x3072 : Shape := ⟨2, ![512, 3072]⟩
abbrev S128x1024 : Shape := ⟨2, ![128, 1024]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x9216, .bf16⟩
  | .hbm, ⟨4, _⟩ => ⟨S4096x1024, .bf16⟩
  | .hbm, ⟨5, _⟩ => ⟨S4x1024x3072, .bf16⟩
  | .hbm, ⟨6, _⟩ => ⟨S4096x3072, .bf16⟩
  | .hbm, ⟨7, _⟩ => ⟨S4096x3072, .bf16⟩
  | .hbm, ⟨8, _⟩ => ⟨S4x1024x3072, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S4x256x768, .bf16⟩
  | .local _ .vmem, ⟨5, _⟩ => ⟨S4x256x768, .bf16⟩
  | .local _ .vmem, ⟨6, _⟩ => ⟨S6x1024x128, .f32⟩
  | .local _ .vmem, ⟨7, _⟩ => ⟨S4x128x3072, .bf16⟩
  | .local _ .vmem, ⟨8, _⟩ => ⟨S4x128x3072, .bf16⟩
  | .local _ .vmem, ⟨9, _⟩ => ⟨S1024x3072, .bf16⟩
  | .local _ .vmem, ⟨10, _⟩ => ⟨S512x1024, .f32⟩
  | .local _ .vmem, ⟨11, _⟩ => ⟨S512x1024, .f32⟩
  | .local _ .vmem, ⟨12, _⟩ => ⟨S8x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x128x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference5Ideal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩
abbrev S1024x4x3072 : Shape := ⟨3, ![1024, 4, 3072]⟩
abbrev S4x1024x3072 : Shape := ⟨3, ![4, 1024, 3072]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x3072, .f32⟩
  | .hbm, ⟨4, _⟩ => ⟨S4096x3072, .f32⟩
  | .hbm, ⟨5, _⟩ => ⟨S1024x4x3072, .f32⟩
  | .hbm, ⟨6, _⟩ => ⟨S4x1024x3072, .f32⟩
  | .hbm, ⟨7, _⟩ => ⟨S4096x3072, .f32⟩
  | .hbm, ⟨8, _⟩ => ⟨S4096x3072, .bf16⟩
  | .hbm, ⟨9, _⟩ => ⟨S4x1024x3072, .f32⟩
  | .hbm, ⟨10, _⟩ => ⟨S1024x4x3072, .f32⟩
  | .hbm, ⟨11, _⟩ => ⟨S4096x3072, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S4096x3072 : Shape := ⟨2, ![4096, 3072]⟩
abbrev S1024x4x1024 : Shape := ⟨3, ![1024, 4, 1024]⟩
abbrev S4x1024x1024 : Shape := ⟨3, ![4, 1024, 1024]⟩
abbrev S8x1024x1152 : Shape := ⟨3, ![8, 1024, 1152]⟩
abbrev S4x512x1024 : Shape := ⟨3, ![4, 512, 1024]⟩
abbrev S4096x384 : Shape := ⟨2, ![4096, 384]⟩
abbrev S1x512x384 : Shape := ⟨3, ![1, 512, 384]⟩
abbrev S512x4096 : Shape := ⟨2, ![512, 4096]⟩
abbrev S1x512x1024 : Shape := ⟨3, ![1, 512, 1024]⟩
abbrev S512x1024 : Shape := ⟨2, ![512, 1024]⟩
abbrev S512x384 : Shape := ⟨2, ![512, 384]⟩
abbrev S2x4x1024x1152 : Shape := ⟨4, ![2, 4, 1024, 1152]⟩
abbrev S4x2x1024x1152 : Shape := ⟨4, ![4, 2, 1024, 1152]⟩
abbrev S1024x8x1152 : Shape := ⟨3, ![1024, 8, 1152]⟩
abbrev S1024x9216 : Shape := ⟨2, ![1024, 9216]⟩
abbrev S1024x3072 : Shape := ⟨2, ![1024, 3072]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x3072, .bf16⟩
  | .hbm, ⟨6, _⟩ => ⟨S8x1024x1152, .bf16⟩
  | .hbm, ⟨7, _⟩ => ⟨S2x4x1024x1152, .bf16⟩
  | .hbm, ⟨8, _⟩ => ⟨S4x2x1024x1152, .bf16⟩
  | .hbm, ⟨9, _⟩ => ⟨S8x1024x1152, .bf16⟩
  | .hbm, ⟨10, _⟩ => ⟨S1024x8x1152, .bf16⟩
  | .hbm, ⟨11, _⟩ => ⟨S1024x9216, .bf16⟩
  | .hbm, ⟨12, _⟩ => ⟨S1024x3072, .bf16⟩
  | .local _ .vmem, ⟨0, _⟩ => ⟨S4x512x1024, .bf16⟩
  | .local _ .vmem, ⟨1, _⟩ => ⟨S4x512x1024, .bf16⟩
  | .local _ .vmem, ⟨2, _⟩ => ⟨S4096x384, .bf16⟩
  | .local _ .vmem, ⟨3, _⟩ => ⟨S4096x384, .bf16⟩
  | .local _ .vmem, ⟨4, _⟩ => ⟨S1x512x384, .bf16⟩
  | .local _ .vmem, ⟨5, _⟩ => ⟨S1x512x384, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let v18 : BitVec 1 := Scalar.cmpi .eq c2_i32 c0_i32_4
  let c1_i32_5 : BitVec 32 := 1#32
  let v19 : BitVec 32 := Scalar.select v18 c1_i32_5 c2_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.muli c4_i32 v27
  let c2_i32_9 : BitVec 32 := 2#32
  let v29 : BitVec 32 := Scalar.divsi v17 c2_i32_9
  let c0_i32_10 : BitVec 32 := 0#32
  let v30 : BitVec 1 := Scalar.cmpi .sgt v17 c0_i32_10
  let v31 : BitVec 32 := Scalar.extui v30
  let c0_i32_11 : BitVec 32 := 0#32
  let v32 : BitVec 1 := Scalar.cmpi .slt v17 c0_i32_11
  let v33 : BitVec 32 := Scalar.extui v32
  let v34 : BitVec 32 := Scalar.subi v31 v33
  let c0_i32_12 : BitVec 32 := 0#32
  let v35 : BitVec 1 := Scalar.cmpi .sgt c2_i32_9 c0_i32_12
  let v36 : BitVec 32 := Scalar.extui v35
  let c0_i32_13 : BitVec 32 := 0#32
  let v37 : BitVec 1 := Scalar.cmpi .slt c2_i32_9 c0_i32_13
  let v38 : BitVec 32 := Scalar.extui v37
  let v39 : BitVec 32 := Scalar.subi v36 v38
  let v40 : BitVec 1 := Scalar.cmpi .ne v34 v39
  let v41 : BitVec 32 := Scalar.remsi v17 c2_i32_9
  let c0_i32_14 : BitVec 32 := 0#32
  let v42 : BitVec 1 := Scalar.cmpi .ne v41 c0_i32_14
  let v43 : BitVec 1 := Scalar.andi v40 v42
  let c1_i32_15 : BitVec 32 := 1#32
  let v44 : BitVec 32 := Scalar.subi v29 c1_i32_15
  let v45 : BitVec 32 := Scalar.select v43 v44 v29
  let v46 : BitVec 32 := Scalar.addi v28 v45
  let c3_i32_16 : BitVec 32 := 3#32
  let c0_i32_17 : BitVec 32 := 0#32
  let v47 : BitVec 1 := Scalar.cmpi .eq c3_i32_16 c0_i32_17
  let c1_i32_18 : BitVec 32 := 1#32
  let v48 : BitVec 32 := Scalar.select v47 c1_i32_18 c3_i32_16
  let v49 : BitVec 32 := Scalar.remsi v0 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c0_i32_22 : BitVec 32 := 0#32
  ![v46.toNat, arg0.toNat, v56.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel6Ideal.lean ====
abbrev S4096x1024 : Shape := ⟨2, ![4096, 1024]⟩
abbrev S4096x3072 : Shape := ⟨2, ![4096, 3072]⟩
abbrev S1024x4x1024 : Shape := ⟨3, ![1024, 4, 1024]⟩
abbrev S4x1024x1024 : Shape := ⟨3, ![4, 1024, 1024]⟩
abbrev S8x1024x1152 : Shape := ⟨3, ![8, 1024, 1152]⟩
abbrev S4x512x1024 : Shape := ⟨3, ![4, 512, 1024]⟩
abbrev S4096x384 : Shape := ⟨2, ![4096, 384]⟩
abbrev S1x512x384 : Shape := ⟨3, ![1, 512, 384]⟩
abbrev S512x4096 : Shape := ⟨2, ![512, 4096]⟩
abbrev S1x512x1024 : Shape := ⟨3, ![1, 512, 1024]⟩
abbrev S512x1024 : Shape := ⟨2, ![512, 1024]⟩
abbrev S512x384 : Shape := ⟨2, ![512, 384]⟩
abbrev S2x4x1024x1152 : Shape := ⟨4, ![2, 4, 1024, 1152]⟩
abbrev S4x2x1024x1152 : Shape := ⟨4, ![4, 2, 1024, 1152]⟩
abbrev S1024x8x1152 : Shape := ⟨3, ![1024, 8, 1152]⟩
abbrev S1024x9216 : Shape := ⟨2, ![1024, 9216]⟩
abbrev S1024x3072 : Shape := ⟨2, ![1024, 3072]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S1024x4x1024, .f32⟩
  | .hbm, ⟨3, _⟩ => ⟨S4x1024x1024, .f32⟩
  | .hbm, ⟨4, _⟩ => ⟨S4x1024x1024, .bf16⟩
  | .hbm, ⟨5, _⟩ => ⟨S4096x3072, .bf16⟩
  | .hbm, ⟨6, _⟩ => ⟨S8x1024x1152, .bf16⟩
  | .hbm, ⟨7, _⟩ => ⟨S2x4x1024x1152, .bf16⟩
  | .hbm, ⟨8, _⟩ => ⟨S4x2x1024x1152, .bf16⟩
  | .hbm, ⟨9, _⟩ => ⟨S8x1024x1152, .bf16⟩
  | .hbm, ⟨10, _⟩ => ⟨S1024x8x1152, .bf16⟩
  | .hbm, ⟨11, _⟩ => ⟨S1024x9216, .bf16⟩
  | .hbm, ⟨12, _⟩ => ⟨S1024x3072, .bf16⟩
  | .local _ .vmem, ⟨0, _⟩ => ⟨S4x512x1024, .bf16⟩
  | .local _ .vmem, ⟨1, _⟩ => ⟨S4x512x1024, .bf16⟩
  | .local _ .vmem, ⟨2, _⟩ => ⟨S4096x384, .bf16⟩
  | .local _ .vmem, ⟨3, _⟩ => ⟨S4096x384, .bf16⟩
  | .local _ .vmem, ⟨4, _⟩ => ⟨S1x512x384, .bf16⟩
  | .local _ .vmem, ⟨5, _⟩ => ⟨S1x512x384, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let v18 : BitVec 1 := Scalar.cmpi .eq c2_i32 c0_i32_4
  let c1_i32_5 : BitVec 32 := 1#32
  let v19 : BitVec 32 := Scalar.select v18 c1_i32_5 c2_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.muli c4_i32 v27
  let c2_i32_9 : BitVec 32 := 2#32
  let v29 : BitVec 32 := Scalar.divsi v17 c2_i32_9
  let c0_i32_10 : BitVec 32 := 0#32
  let v30 : BitVec 1 := Scalar.cmpi .sgt v17 c0_i32_10
  let v31 : BitVec 32 := Scalar.extui v30
  let c0_i32_11 : BitVec 32 := 0#32
  let v32 : BitVec 1 := Scalar.cmpi .slt v17 c0_i32_11
  let v33 : BitVec 32 := Scalar.extui v32
  let v34 : BitVec 32 := Scalar.subi v31 v33
  let c0_i32_12 : BitVec 32 := 0#32
  let v35 : BitVec 1 := Scalar.cmpi .sgt c2_i32_9 c0_i32_12
  let v36 : BitVec 32 := Scalar.extui v35
  let c0_i32_13 : BitVec 32 := 0#32
  let v37 : BitVec 1 := Scalar.cmpi .slt c2_i32_9 c0_i32_13
  let v38 : BitVec 32 := Scalar.extui v37
  let v39 : BitVec 32 := Scalar.subi v36 v38
  let v40 : BitVec 1 := Scalar.cmpi .ne v34 v39
  let v41 : BitVec 32 := Scalar.remsi v17 c2_i32_9
  let c0_i32_14 : BitVec 32 := 0#32
  let v42 : BitVec 1 := Scalar.cmpi .ne v41 c0_i32_14
  let v43 : BitVec 1 := Scalar.andi v40 v42
  let c1_i32_15 : BitVec 32 := 1#32
  let v44 : BitVec 32 := Scalar.subi v29 c1_i32_15
  let v45 : BitVec 32 := Scalar.select v43 v44 v29
  let v46 : BitVec 32 := Scalar.addi v28 v45
  let c3_i32_16 : BitVec 32 := 3#32
  let c0_i32_17 : BitVec 32 := 0#32
  let v47 : BitVec 1 := Scalar.cmpi .eq c3_i32_16 c0_i32_17
  let c1_i32_18 : BitVec 32 := 1#32
  let v48 : BitVec 32 := Scalar.select v47 c1_i32_18 c3_i32_16
  let v49 : BitVec 32 := Scalar.remsi v0 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c0_i32_22 : BitVec 32 := 0#32
  ![v46.toNat, arg0.toNat, v56.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S1024x4x3072 : Shape := ⟨3, ![1024, 4, 3072]⟩
abbrev S4x1024x3072 : Shape := ⟨3, ![4, 1024, 3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S1024x4x3072, .f32⟩
  | .hbm, ⟨6, _⟩ => ⟨S4x1024x3072, .f32⟩
  | .hbm, ⟨7, _⟩ => ⟨S4096x3072, .f32⟩
  | .hbm, ⟨8, _⟩ => ⟨S4x1024x3072, .f32⟩
  | .hbm, ⟨9, _⟩ => ⟨S1024x4x3072, .f32⟩
  | .hbm, ⟨10, _⟩ => ⟨S4096x3072, .f32⟩
  | .hbm, ⟨11, _⟩ => ⟨S3072x1024, .f32⟩
  | .hbm, ⟨12, _⟩ => ⟨S1024x3072, .f32⟩
  | .hbm, ⟨13, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel7.lean ====
abbrev S4096x1024 : Shape := ⟨2, ![4096, 1024]⟩
abbrev S1024x9216 : Shape := ⟨2, ![1024, 9216]⟩
abbrev S4096x3072 : Shape := ⟨2, ![4096, 3072]⟩
abbrev S16x256x3072 : Shape := ⟨3, ![16, 256, 3072]⟩
abbrev S1024x1024 : Shape := ⟨2, ![1024, 1024]⟩
abbrev S1024x768 : Shape := ⟨2, ![1024, 768]⟩
abbrev S16x64x768 : Shape := ⟨3, ![16, 64, 768]⟩
abbrev S6x1024x128 : Shape := ⟨3, ![6, 1024, 128]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S64x768 : Shape := ⟨2, ![64, 768]⟩
abbrev S1x64x768 : Shape := ⟨3, ![1, 64, 768]⟩
abbrev S16x32x3072 : Shape := ⟨3, ![16, 32, 3072]⟩
abbrev S1024x3072 : Shape := ⟨2, ![1024, 3072]⟩
abbrev S512x1024 : Shape := ⟨2, ![512, 1024]⟩
abbrev S8x512x128 : Shape := ⟨3, ![8, 512, 128]⟩
abbrev S512x3072 : Shape := ⟨2, ![512, 3072]⟩
abbrev S32x1024 : Shape := ⟨2, ![32, 1024]⟩
abbrev S32x128 : Shape := ⟨2, ![32, 128]⟩
abbrev S1x32x128 : Shape := ⟨3, ![1, 32, 128]⟩
abbrev S1x512x128 : Shape := ⟨3, ![1, 512, 128]⟩
abbrev S512x128 : Shape := ⟨2, ![512, 128]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x9216, .bf16⟩
  | .hbm, ⟨4, _⟩ => ⟨S4096x1024, .bf16⟩
  | .hbm, ⟨5, _⟩ => ⟨S16x256x3072, .bf16⟩
  | .hbm, ⟨6, _⟩ => ⟨S4096x3072, .bf16⟩
  | .hbm, ⟨7, _⟩ => ⟨S4096x3072, .bf16⟩
  | .hbm, ⟨8, _⟩ => ⟨S16x256x3072, .bf16⟩
  | .hbm, ⟨9, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S16x64x768, .bf16⟩
  | .local _ .vmem, ⟨5, _⟩ => ⟨S16x64x768, .bf16⟩
  | .local _ .vmem, ⟨6, _⟩ => ⟨S6x1024x128, .f32⟩
  | .local _ .vmem, ⟨7, _⟩ => ⟨S16x32x3072, .bf16⟩
  | .local _ .vmem, ⟨8, _⟩ => ⟨S16x32x3072, .bf16⟩
  | .local _ .vmem, ⟨9, _⟩ => ⟨S1024x3072, .bf16⟩
  | .local _ .vmem, ⟨10, _⟩ => ⟨S512x1024, .f32⟩
  | .local _ .vmem, ⟨11, _⟩ => ⟨S512x1024, .f32⟩
  | .local _ .vmem, ⟨12, _⟩ => ⟨S8x512x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x32x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== Reference7Ideal.lean ====
abbrev S4096x1024 : Shape := ⟨2, ![4096, 1024]⟩
abbrev S1024x9216 : Shape := ⟨2, ![1024, 9216]⟩
abbrev S4096x3072 : Shape := ⟨2, ![4096, 3072]⟩
abbrev S1024x3072 : Shape := ⟨2, ![1024, 3072]⟩
abbrev S256x16x3072 : Shape := ⟨3, ![256, 16, 3072]⟩
abbrev S16x256x3072 : Shape := ⟨3, ![16, 256, 3072]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x9216, .f32⟩
  | .hbm, ⟨2, _⟩ => ⟨S4096x3072, .f32⟩
  | .hbm, ⟨3, _⟩ => ⟨S1024x3072, .f32⟩
  | .hbm, ⟨4, _⟩ => ⟨S4096x3072, .f32⟩
  | .hbm, ⟨5, _⟩ => ⟨S256x16x3072, .f32⟩
  | .hbm, ⟨6, _⟩ => ⟨S16x256x3072, .f32⟩
  | .hbm, ⟨7, _⟩ => ⟨S4096x3072, .f32⟩
  | .hbm, ⟨8, _⟩ => ⟨S4096x3072, .bf16⟩
  | .hbm, ⟨9, _⟩ => ⟨S16x256x3072, .f32⟩
  | .hbm, ⟨10, _⟩ => ⟨S256x16x3072, .f32⟩
  | .hbm, ⟨11, _⟩ => ⟨S4096x3072, .f32⟩
  | .hbm, ⟨12, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S4096x1024 : Shape := ⟨2, ![4096, 1024]⟩
abbrev S4096x3072 : Shape := ⟨2, ![4096, 3072]⟩
abbrev S256x16x1024 : Shape := ⟨3, ![256, 16, 1024]⟩
abbrev S16x1024x256 : Shape := ⟨3, ![16, 1024, 256]⟩
abbrev S8x1024x1152 : Shape := ⟨3, ![8, 1024, 1152]⟩
abbrev S16x512x256 : Shape := ⟨3, ![16, 512, 256]⟩
abbrev S4096x384 : Shape := ⟨2, ![4096, 384]⟩
abbrev S1x512x384 : Shape := ⟨3, ![1, 512, 384]⟩
abbrev S512x4096 : Shape := ⟨2, ![512, 4096]⟩
abbrev S1x512x256 : Shape := ⟨3, ![1, 512, 256]⟩
abbrev S512x256 : Shape := ⟨2, ![512, 256]⟩
abbrev S512x384 : Shape := ⟨2, ![512, 384]⟩
abbrev S2x4x1024x1152 : Shape := ⟨4, ![2, 4, 1024, 1152]⟩
abbrev S4x2x1024x1152 : Shape := ⟨4, ![4, 2, 1024, 1152]⟩
abbrev S1024x8x1152 : Shape := ⟨3, ![1024, 8, 1152]⟩
abbrev S1024x9216 : Shape := ⟨2, ![1024, 9216]⟩
abbrev S1024x3072 : Shape := ⟨2, ![1024, 3072]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S256x16x1024, .f32⟩
  | .hbm, ⟨3, _⟩ => ⟨S16x1024x256, .f32⟩
  | .hbm, ⟨4, _⟩ => ⟨S16x1024x256, .bf16⟩
  | .hbm, ⟨5, _⟩ => ⟨S4096x3072, .bf16⟩
  | .hbm, ⟨6, _⟩ => ⟨S8x1024x1152, .bf16⟩
  | .hbm, ⟨7, _⟩ => ⟨S2x4x1024x1152, .bf16⟩
  | .hbm, ⟨8, _⟩ => ⟨S4x2x1024x1152, .bf16⟩
  | .hbm, ⟨9, _⟩ => ⟨S8x1024x1152, .bf16⟩
  | .hbm, ⟨10, _⟩ => ⟨S1024x8x1152, .bf16⟩
  | .hbm, ⟨11, _⟩ => ⟨S1024x9216, .bf16⟩
  | .hbm, ⟨12, _⟩ => ⟨S1024x3072, .bf16⟩
  | .local _ .vmem, ⟨0, _⟩ => ⟨S16x512x256, .bf16⟩
  | .local _ .vmem, ⟨1, _⟩ => ⟨S16x512x256, .bf16⟩
  | .local _ .vmem, ⟨2, _⟩ => ⟨S4096x384, .bf16⟩
  | .local _ .vmem, ⟨3, _⟩ => ⟨S4096x384, .bf16⟩
  | .local _ .vmem, ⟨4, _⟩ => ⟨S1x512x384, .bf16⟩
  | .local _ .vmem, ⟨5, _⟩ => ⟨S1x512x384, .bf16⟩
  | .local _ .vmem, ⟨6, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let v18 : BitVec 1 := Scalar.cmpi .eq c2_i32 c0_i32_4
  let c1_i32_5 : BitVec 32 := 1#32
  let v19 : BitVec 32 := Scalar.select v18 c1_i32_5 c2_i32
  let v20 : BitVec 32 := Scalar.remsi v17 v19
  let c0_i32_6 : BitVec 32 := 0#32
  let v21 : BitVec 1 := Scalar.cmpi .ne v20 c0_i32_6
  let c0_i32_7 : BitVec 32 := 0#32
  let v22 : BitVec 1 := Scalar.cmpi .slt v20 c0_i32_7
  let c0_i32_8 : BitVec 32 := 0#32
  let v23 : BitVec 1 := Scalar.cmpi .slt v19 c0_i32_8
  let v24 : BitVec 1 := Scalar.xori v22 v23
  let v25 : BitVec 1 := Scalar.andi v24 v21
  let v26 : BitVec 32 := Scalar.addi v20 v19
  let v27 : BitVec 32 := Scalar.select v25 v26 v20
  let c4_i32 : BitVec 32 := 4#32
  let v28 : BitVec 32 := Scalar.muli c4_i32 v27
  let c2_i32_9 : BitVec 32 := 2#32
  let v29 : BitVec 32 := Scalar.divsi v17 c2_i32_9
  let c0_i32_10 : BitVec 32 := 0#32
  let v30 : BitVec 1 := Scalar.cmpi .sgt v17 c0_i32_10
  let v31 : BitVec 32 := Scalar.extui v30
  let c0_i32_11 : BitVec 32 := 0#32
  let v32 : BitVec 1 := Scalar.cmpi .slt v17 c0_i32_11
  let v33 : BitVec 32 := Scalar.extui v32
  let v34 : BitVec 32 := Scalar.subi v31 v33
  let c0_i32_12 : BitVec 32 := 0#32
  let v35 : BitVec 1 := Scalar.cmpi .sgt c2_i32_9 c0_i32_12
  let v36 : BitVec 32 := Scalar.extui v35
  let c0_i32_13 : BitVec 32 := 0#32
  let v37 : BitVec 1 := Scalar.cmpi .slt c2_i32_9 c0_i32_13
  let v38 : BitVec 32 := Scalar.extui v37
  let v39 : BitVec 32 := Scalar.subi v36 v38
  let v40 : BitVec 1 := Scalar.cmpi .ne v34 v39
  let v41 : BitVec 32 := Scalar.remsi v17 c2_i32_9
  let c0_i32_14 : BitVec 32 := 0#32
  let v42 : BitVec 1 := Scalar.cmpi .ne v41 c0_i32_14
  let v43 : BitVec 1 := Scalar.andi v40 v42
  let c1_i32_15 : BitVec 32 := 1#32
  let v44 : BitVec 32 := Scalar.subi v29 c1_i32_15
  let v45 : BitVec 32 := Scalar.select v43 v44 v29
  let v46 : BitVec 32 := Scalar.addi v28 v45
  let c3_i32_16 : BitVec 32 := 3#32
  let c0_i32_17 : BitVec 32 := 0#32
  let v47 : BitVec 1 := Scalar.cmpi .eq c3_i32_16 c0_i32_17
  let c1_i32_18 : BitVec 32 := 1#32
  let v48 : BitVec 32 := Scalar.select v47 c1_i32_18 c3_i32_16
  let v49 : BitVec 32 := Scalar.remsi v0 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c0_i32_22 : BitVec 32 := 0#32
  ![v46.toNat, arg0.toNat, v56.toNat]

abbrev stage0_0 : Fin 2 → Memref sig .tc .vmem S16x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S256x16x3072 : Shape := ⟨3, ![256, 16, 3072]⟩
abbrev S16x256x3072 : Shape := ⟨3, ![16, 256, 3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S_, .f32⟩
  | .hbm, ⟨3, _⟩ => ⟨S1024x3072, .f32⟩
  | .hbm, ⟨4, _⟩ => ⟨S4096x3072, .f32⟩
  | .hbm, ⟨5, _⟩ => ⟨S256x16x3072, .f32⟩
  | .hbm, ⟨6, _⟩ => ⟨S16x256x3072, .f32⟩
  | .hbm, ⟨7, _⟩ => ⟨S4096x3072, .f32⟩
  | .hbm, ⟨8, _⟩ => ⟨S16x256x3072, .f32⟩
  | .hbm, ⟨9, _⟩ => ⟨S256x16x3072, .f32⟩
  | .hbm, ⟨10, _⟩ => ⟨S4096x3072, .f32⟩
  | .hbm, ⟨11, _⟩ => ⟨S3072x1024, .f32⟩
  | .hbm, ⟨12, _⟩ => ⟨S1024x3072, .f32⟩
  | .hbm, ⟨13, _⟩ => ⟨S1024x3072, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Proof.Frames.lean ====
/- The claims that need no mathematics: every program runs to the end with its arguments unchanged and every semaphore
   counter back at zero, and the only rewrite between the printed kernel and its idealization is the named mask. -/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace Cert.Frames

open Idealize.ShloMosaic Idealize.SL.Sem Cert.Kernel.Gen Cert.KernelIdeal.Gen Cert.ReferenceIdeal.Gen

/-- The kernel as printed. -/
theorem kernel : Cert.quiescent_Kernel := fun m ρ _ => Cert.Kernel.Gen.frame m ρ

/-- The kernel with its mask named. -/
theorem kernelIdeal : Cert.quiescent_KernelIdeal := fun m ρ _ => Cert.KernelIdeal.Gen.frame m ρ

/-- The reference: a run of host operations that declares no semaphore. -/
theorem referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The mask's literal is the constant named `mask`, of value minus infinity. -/
theorem preserves : Cert.preserves_Kernel_KernelIdeal :=
  IdealRules.named_const.statement Cert.KernelIdeal.κ "mask" .f32 0xF149F2CA#32 ⊥ rfl

end Cert.Frames

end
-- ==== Proof.Band.lean ====
/- The mathematics of one attention head on the real numbers. Queries, keys, values and the output's cotangent are the rows
   of four tables; a query sees the keys at distance at most 64, with a score lowered by the distance. The head's softmax is
   merged with two further groups, of which only the log sums `l1`, `l2` and the outputs `o1`, `o2` are known. This module
   states the gradient with respect to q, k and v in the form a fused backward pass computes it (from the merged softmax and
   one number per query, `delta`), and the identities that bring the chain rule's form to it. -/
module

public import Idealize.ShloMosaic.Lib.Pipeline.ValueKit
public import Mathlib.Analysis.SpecialFunctions.Log.Basic

@[expose] public section

noncomputable section

namespace Cert.Band

open scoped BigOperators

variable {n : ℕ}

/-- The distance between two positions. -/
def dist (i j : Fin n) : ℕ := ((j.val : ℤ) - (i.val : ℤ)).natAbs

/-- One head's inputs: the rows of q, k, v and of the output's cotangent, the slope of the distance penalty (already times
    the group's stride), and what the other two groups of the merge contribute. -/
structure Head (n : ℕ) where
  q : Fin n → Fin 64 → ℝ
  k : Fin n → Fin 64 → ℝ
  v : Fin n → Fin 64 → ℝ
  g : Fin n → Fin 64 → ℝ
  slope : ℝ
  l1 : Fin n → ℝ
  l2 : Fin n → ℝ
  o1 : Fin n → Fin 64 → ℝ
  o2 : Fin n → Fin 64 → ℝ

namespace Head

variable (H : Head n)

/-- The score of key `j` for query `i`. -/
def score (i j : Fin n) : ℝ := (∑ e, H.q i e * H.k j e) * 0.125 + -H.slope * (dist i j : ℝ)

/-- The exponential of the score inside the band, nothing outside. -/
def ex (i j : Fin n) : ℝ := if dist i j ≤ 64 then Real.exp (H.score i j) else 0

/-- The softmax's sum of this group. -/
def Z (i : Fin n) : ℝ := ∑ j, H.ex i j

/-- The merged softmax's sum over all three groups. -/
def T (i : Fin n) : ℝ := H.Z i + Real.exp (H.l1 i) + Real.exp (H.l2 i)

/-- This group's own output. -/
def o0 (i : Fin n) (e : Fin 64) : ℝ := ∑ j, H.ex i j / H.Z i * H.v j e

/-- The merged output. -/
def out (i : Fin n) (e : Fin 64) : ℝ :=
  H.Z i / H.T i * H.o0 i e + Real.exp (H.l1 i) / H.T i * H.o1 i e + Real.exp (H.l2 i) / H.T i * H.o2 i e

/-- The inner product of the cotangent with the merged output. -/
def delta (i : Fin n) : ℝ := ∑ e, H.g i e * H.out i e

/-- The merged probability. -/
def P (i j : Fin n) : ℝ := H.ex i j / H.T i

/-- The cotangent against a value row. -/
def dP (i j : Fin n) : ℝ := ∑ e, H.g i e * H.v j e

/-- The score's cotangent. -/
def dS (i j : Fin n) : ℝ := H.P i j * (H.dP i j - H.delta i)

/-- The gradient of q. -/
def dq (i : Fin n) (e : Fin 64) : ℝ := (∑ j, H.dS i j * H.k j e) * 0.125
/-- The gradient of k. -/
def dk (j : Fin n) (e : Fin 64) : ℝ := (∑ i, H.dS i j * H.q i e) * 0.125
/-- The gradient of v. -/
def dv (j : Fin n) (e : Fin 64) : ℝ := ∑ i, H.P i j * H.g i e

theorem dist_self (i : Fin n) : dist i i = 0 := by simp [dist]

theorem dist_comm (i j : Fin n) : dist i j = dist j i := by unfold dist; omega

theorem ex_nonneg (i j : Fin n) : 0 ≤ H.ex i j := by
  unfold ex; split_ifs
  · exact (Real.exp_pos _).le
  · exact le_rfl

theorem Z_pos (i : Fin n) : 0 < H.Z i :=
  Finset.sum_pos' (fun j _ => H.ex_nonneg i j) ⟨i, Finset.mem_univ i, by
    unfold ex; rw [if_pos (by rw [dist_self]; omega)]; exact Real.exp_pos _⟩

theorem T_pos (i : Fin n) : 0 < H.T i := by
  have := H.Z_pos i; have := Real.exp_pos (H.l1 i); have := Real.exp_pos (H.l2 i)
  unfold T; linarith

/-- The cotangent of this group's softmax weights against its own output. -/
def r0 (i : Fin n) : ℝ := ∑ e, H.g i e * H.o0 i e
def r1 (i : Fin n) : ℝ := ∑ e, H.g i e * H.o1 i e
def r2 (i : Fin n) : ℝ := ∑ e, H.g i e * H.o2 i e

theorem delta_eq (i : Fin n) : H.delta i
    = H.Z i / H.T i * H.r0 i + Real.exp (H.l1 i) / H.T i * H.r1 i + Real.exp (H.l2 i) / H.T i * H.r2 i := by
  simp only [delta, out, r0, r1, r2, Finset.mul_sum, ← Finset.sum_add_distrib]
  exact Finset.sum_congr rfl fun e _ => by ring

/-- Summed over the keys, the probabilities of this group against the cotangent's products give `r0`. -/
theorem sum_dP (i : Fin n) : ∑ j, H.dP i j * (H.ex i j / H.Z i) = H.r0 i := by
  simp only [dP, r0, o0, Finset.sum_mul, Finset.mul_sum]
  rw [Finset.sum_comm]
  exact Finset.sum_congr rfl fun e _ => Finset.sum_congr rfl fun j _ => by ring

/-- The chain rule's cotangent of a score is the fused form `dS`. -/
theorem chain (i j : Fin n) (μ ν : ℝ) :
    H.Z i / H.T i * H.dP i j * (H.ex i j / H.Z i)
      + ((H.r0 i / (H.T i * Real.exp (-ν)) + -((H.r0 i * (1 / (H.T i * Real.exp (-ν) * (H.T i * Real.exp (-ν)))) * (H.Z i * Real.exp (-ν))
            + H.r1 i * (1 / (H.T i * Real.exp (-ν) * (H.T i * Real.exp (-ν)))) * Real.exp (H.l1 i - ν))
            + H.r2 i * (1 / (H.T i * Real.exp (-ν) * (H.T i * Real.exp (-ν)))) * Real.exp (H.l2 i - ν))) * (H.Z i * Real.exp (-ν))
          + -(H.Z i / H.T i * H.r0 i)) / (H.Z i * Real.exp (-μ)) * (H.ex i j * Real.exp (-μ))
      = H.dS i j := by
  have hZ := (H.Z_pos i).ne'; have hT := (H.T_pos i).ne'
  have hμ := (Real.exp_pos (-μ)).ne'; have hν := (Real.exp_pos (-ν)).ne'
  have e1 : Real.exp (H.l1 i - ν) = Real.exp (H.l1 i) * Real.exp (-ν) := by rw [sub_eq_add_neg, Real.exp_add]
  have e2 : Real.exp (H.l2 i - ν) = Real.exp (H.l2 i) * Real.exp (-ν) := by rw [sub_eq_add_neg, Real.exp_add]
  rw [dS, P, delta_eq, e1, e2]
  field_simp
  ring

end Head

/-- A sum over the positions of a window of 256 around a block of 128 rows is the sum over the whole sequence, where the
    summand vanishes farther than 64 from a row of the block. -/
theorem sum_window (b : ℕ) (a : Fin 128) (hn : 128 * b + a.val < n) (f : Fin n → ℝ)
    (hf : ∀ j : Fin n, 64 < dist ⟨128 * b + a.val, hn⟩ j → f j = 0) :
    (∑ w : Fin 256, if h : 64 ≤ 128 * b + w.val ∧ 128 * b + w.val - 64 < n then f ⟨128 * b + w.val - 64, h.2⟩ else 0) = ∑ j, f j := by
  classical
  set S : Finset (Fin 256) := Finset.univ.filter fun w => 64 ≤ 128 * b + w.val ∧ 128 * b + w.val - 64 < n with hS
  have h1 : (∑ w : Fin 256, if h : 64 ≤ 128 * b + w.val ∧ 128 * b + w.val - 64 < n then f ⟨128 * b + w.val - 64, h.2⟩ else 0)
      = ∑ w ∈ S, if h : 64 ≤ 128 * b + w.val ∧ 128 * b + w.val - 64 < n then f ⟨128 * b + w.val - 64, h.2⟩ else 0 := by
    refine (Finset.sum_subset (Finset.filter_subset _ _) fun w _ hw => ?_).symm
    rw [dif_neg]; intro h; exact hw (by simp only [hS, Finset.mem_filter]; exact ⟨Finset.mem_univ _, h⟩)
  rw [h1]
  set N : Finset (Fin n) := Finset.univ.filter fun j => 128 * b ≤ j.val + 64 ∧ j.val + 64 < 128 * b + 256 with hN
  have h2 : ∑ j, f j = ∑ j ∈ N, f j := by
    refine (Finset.sum_subset (Finset.filter_subset _ _) fun j _ hj => hf j ?_).symm
    by_contra hd
    apply hj
    simp only [hN, Finset.mem_filter, Finset.mem_univ, true_and]
    have ha := a.isLt
    unfold dist at hd
    constructor <;> simp only at hd <;> omega
  rw [h2]
  refine Finset.sum_bij' (fun w hw => ⟨128 * b + w.val - 64, ((Finset.mem_filter.mp hw).2).2⟩)
    (fun j hj => ⟨j.val + 64 - 128 * b, by have := (Finset.mem_filter.mp hj).2; omega⟩) ?_ ?_ ?_ ?_ ?_
  · intro w hw
    have h := (Finset.mem_filter.mp hw).2; have := w.isLt
    simp only [hN, Finset.mem_filter, Finset.mem_univ, true_and]; omega
  · intro j hj
    have h := (Finset.mem_filter.mp hj).2; have := j.isLt
    simp only [hS, Finset.mem_filter, Finset.mem_univ, true_and]; omega
  · intro w hw
    have h := (Finset.mem_filter.mp hw).2
    apply Fin.ext; simp only; omega
  · intro j hj
    have h := (Finset.mem_filter.mp hj).2
    apply Fin.ext; simp only; omega
  · intro w hw
    have h := (Finset.mem_filter.mp hw).2
    rw [dif_pos h]

end Cert.Band

end
-- ==== Proof.Scalars.lean ====
/- Scalars of the extended reals and of the 32-bit words the two programs meet: sums of finite values, the running maximum of
   values below plus infinity, the float constants, and the distance of two positions as the integer operations compute it. -/
module

public import proofs.«01_k».proof.Proof.Band
public import Idealize.ShloMosaic.Lib.IdealHost

@[expose] public section

noncomputable section

namespace Cert.Band

open Idealize.ShloMosaic
open scoped BigOperators

/-- A sum of finite values is finite. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is finite. -/
theorem sum_eq_coe {ι : Type} [Fintype ι] {x : ι → EReal} {f : ι → ℝ} (h : ∀ i, x i = (f i : EReal)) :
    ∑ i, x i = ((∑ i, f i : ℝ) : EReal) := by
  rw [coe_sum]; exact Finset.sum_congr rfl fun i _ => h i

theorem ofBits_eighth : Ideal.ofBits .f32 0x3E000000#32 = ((0.125 : ℝ) : EReal) := by
  simp [Ideal.ofBits, Ideal.ieee, -BitVec.toNat_ofNat] <;> norm_num
  rw [← EReal.coe_mul]; norm_num

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

theorem log_real {r : ℝ} (h : 0 < r) : Ideal.log (r : EReal) = (Real.log r : EReal) := by
  rw [Ideal.log_coe, if_neg (not_le.mpr h)]

theorem div_real {a b : ℝ} (h : 0 < b) : Ideal.div (a : EReal) (b : EReal) = ((a / b : ℝ) : EReal) := by
  rw [Ideal.div_coe h.ne', ← EReal.coe_mul, mul_one_div]

/-- The distance of two positions, as the words compute it. -/
theorem absi_subi (a b : ℕ) (ha : a < 4096) (hb : b < 4096) :
    IntOp.absi (IntOp.subi (BitVec.ofNat 32 a) (BitVec.ofNat 32 b)) = BitVec.ofNat 32 ((a : ℤ) - (b : ℤ)).natAbs := by
  unfold IntOp.absi IntOp.subi
  rcases Nat.lt_or_ge a b with h | h
  · have e : BitVec.ofNat 32 a - BitVec.ofNat 32 b = BitVec.ofNat 32 (2 ^ 32 - (b - a)) := by
      apply BitVec.eq_of_toNat_eq; simp only [BitVec.toNat_sub, BitVec.toNat_ofNat]; omega
    have hm : (BitVec.ofNat 32 (2 ^ 32 - (b - a))).msb = true := by
      rw [BitVec.msb_eq_decide, BitVec.toNat_ofNat]; exact decide_eq_true (by omega)
    rw [e, if_pos hm]
    apply BitVec.eq_of_toNat_eq; simp only [BitVec.toNat_neg, BitVec.toNat_ofNat]; omega
  · have e : BitVec.ofNat 32 a - BitVec.ofNat 32 b = BitVec.ofNat 32 (a - b) := by
      apply BitVec.eq_of_toNat_eq; simp only [BitVec.toNat_sub, BitVec.toNat_ofNat]; omega
    have hm : (BitVec.ofNat 32 (a - b)).msb = false := by
      rw [BitVec.msb_eq_decide, BitVec.toNat_ofNat]; exact decide_eq_false (by omega)
    rw [e, if_neg (by rw [hm]; exact Bool.false_ne_true)]
    congr 1; omega

theorem toInt_small (k : ℕ) (hk : k < 2 ^ 31) : (BitVec.ofNat 32 k).toInt = (k : ℤ) := by
  rw [BitVec.toInt_ofNat', Int.bmod_def]; omega

theorem sle_64 (k : ℕ) (hk : k < 2 ^ 31) : IntOp.cmpi .sle (BitVec.ofNat 32 k) 64#32 = 1#1 ↔ k ≤ 64 := by
  have h : IntOp.cmpi .sle (BitVec.ofNat 32 k) 64#32 = BitVec.ofBool ((BitVec.ofNat 32 k).sle 64#32) := rfl
  rw [h]
  have : (BitVec.ofNat 32 k).sle 64#32 = decide (k ≤ 64) := by
    rw [BitVec.sle_eq_decide, toInt_small k hk]; simp
  rw [this]; by_cases hk' : k ≤ 64 <;> simp [hk']

/-- A running maximum of values below plus infinity that starts below it stays below it. -/
theorem foldl_max_lt {ι : Type} (f : ι → EReal) : ∀ (l : List ι) (m : EReal), m < ⊤ → (∀ i ∈ l, f i < ⊤) →
    l.foldl (fun r i => max r (f i)) m < ⊤
  | [], _, hm, _ => hm
  | a :: l, _, hm, hf => foldl_max_lt f l _ (max_lt hm (hf a (.head _))) fun i hi => hf i (.tail _ hi)

/-- A running maximum is at least its start and each value it ran over. -/
theorem le_foldl_max {ι : Type} (f : ι → EReal) : ∀ (l : List ι) (m : EReal),
    m ≤ l.foldl (fun r i => max r (f i)) m ∧ ∀ i ∈ l, f i ≤ l.foldl (fun r i => max r (f i)) m
  | [], _ => ⟨le_rfl, fun _ h => nomatch h⟩
  | a :: l, m => by
    obtain ⟨h1, h2⟩ := le_foldl_max f l (max m (f a))
    refine ⟨(le_max_left _ _).trans h1, fun i hi => ?_⟩
    rcases List.mem_cons.mp hi with rfl | hi
    · exact (le_max_right _ _).trans h1
    · exact h2 i hi

/-- A maximum over values below plus infinity, one of them above minus infinity, is a real number. -/
theorem reduce_max_real {s t u : Shape} {axes : List (Fin s.rank)} (x : s.Idx → EReal) (init : u.Idx → EReal)
    (h : s.ReducesTo axes t) (hu : 0 < u.numel) (j : t.Idx) (h0 : init (Shape.Idx.first hu) = ⊥) (hx : ∀ i, x i < ⊤)
    (i : s.Idx) (hi : h.drop i = j) (hb : ⊥ < x i) :
    ∃ μ : ℝ, Host.reduce max x init h hu j = (μ : EReal) := by
  rw [Host.reduce_eq_foldl, h0]
  refine ⟨_, (EReal.coe_toReal (foldl_max_lt x _ _ bot_lt_top fun i _ => hx i).ne (lt_of_lt_of_le hb
    ((le_foldl_max x _ _).2 i ?_)).ne').symm⟩
  refine List.mem_filter.mpr ⟨List.mem_map.mpr ⟨s.rowMajor i, List.mem_finRange _, s.rowMajor.symm_apply_apply i⟩, ?_⟩
  exact decide_eq_true hi

theorem and1 : ∀ x y : BitVec 1, IntOp.andi x y = 1#1 → x = 1#1 ∧ y = 1#1 := by decide

/-- A conjunction over flags that comes out true has every flag true. -/
theorem foldl_andi {ι : Type} (f : ι → BitVec 1) : ∀ (l : List ι) (m : BitVec 1),
    l.foldl (fun r i => IntOp.andi r (f i)) m = 1#1 → m = 1#1 ∧ ∀ i ∈ l, f i = 1#1
  | [], _, h => ⟨h, fun _ h => nomatch h⟩
  | a :: l, m, h => by
    obtain ⟨h1, h2⟩ := foldl_andi f l _ h
    obtain ⟨h3, h4⟩ : m = 1#1 ∧ f a = 1#1 := and1 _ _ h1
    refine ⟨h3, fun i hi => ?_⟩
    rcases List.mem_cons.mp hi with rfl | hi
    · exact h4
    · exact h2 i hi

theorem reduce_andi {s t u : Shape} {axes : List (Fin s.rank)} (x : s.Idx → BitVec 1) (init : u.Idx → BitVec 1)
    (h : s.ReducesTo axes t) (hu : 0 < u.numel) (j : t.Idx) (e : Host.reduce IntOp.andi x init h hu j = 1#1)
    (i : s.Idx) (hi : h.drop i = j) : x i = 1#1 := by
  rw [Host.reduce_eq_foldl] at e
  exact (foldl_andi x _ _ e).2 i (List.mem_filter.mpr
    ⟨List.mem_map.mpr ⟨s.rowMajor i, List.mem_finRange _, s.rowMajor.symm_apply_apply i⟩, decide_eq_true hi⟩)

end Cert.Band

end
-- ==== Proof.RefRead.lean ====
/- The reference program read on finite arguments. Where every argument is a table of real numbers, each intermediate array
   of the reference is a table of real numbers too (or minus infinity off the band), and its three results are the gradients
   `Head.dq`, `Head.dk`, `Head.dv` of each head. This module reads the forward part, up to the merged softmax. -/
module

public import proofs.«01_k».proof.Proof.Scalars
public import proofs.«01_k».proof.Proof.Gen.ReferenceIdeal.Read

@[expose] public section

set_option maxRecDepth 16384

noncomputable section

namespace Cert.RefRead

open Cert.Band Cert.ReferenceIdeal Cert.ReferenceIdeal.Gen Cert.ReferenceIdeal.Read
open Idealize.ShloMosaic
open scoped BigOperators

/-- The seven arguments as tables of real numbers. -/
structure Args where
  Q : Fin 4096 → Fin 3072 → ℝ
  O1 : Fin 4096 → Fin 16 → Fin 64 → ℝ
  L1 : Fin 4096 → Fin 16 → ℝ
  O2 : Fin 4096 → Fin 16 → Fin 64 → ℝ
  L2 : Fin 4096 → Fin 16 → ℝ
  G : Fin 4096 → Fin 1024 → ℝ
  s : Fin 16 → ℝ

namespace Args

variable (A : Args)

/-- Column `e` of head `h` in the column block that starts at `c`. -/
abbrev col (h : Fin 16) (e : Fin 64) : Fin 1024 := ⟨64 * h.val + e.val, by omega⟩

/-- What head `h` sees of the arguments. -/
def head (h : Fin 16) : Head 4096 where
  q i e := A.Q i ⟨64 * h.val + e.val, by omega⟩
  k i e := A.Q i ⟨1024 + (64 * h.val + e.val), by omega⟩
  v i e := A.Q i ⟨2048 + (64 * h.val + e.val), by omega⟩
  g i e := A.G i ⟨64 * h.val + e.val, by omega⟩
  slope := A.s h
  l1 i := A.L1 i h
  l2 i := A.L2 i h
  o1 i e := A.O1 i h e
  o2 i e := A.O2 i h e

def x0 : S4096x3072.Idx → EReal := fun i => (A.Q (i 0) (i 1) : EReal)
def x1 : S4096x16x64.Idx → EReal := fun i => (A.O1 (i 0) (i 1) (i 2) : EReal)
def x2 : S4096x16.Idx → EReal := fun i => (A.L1 (i 0) (i 1) : EReal)
def x3 : S4096x16x64.Idx → EReal := fun i => (A.O2 (i 0) (i 1) (i 2) : EReal)
def x4 : S4096x16.Idx → EReal := fun i => (A.L2 (i 0) (i 1) : EReal)
def x5 : S4096x1024.Idx → EReal := fun i => (A.G (i 0) (i 1) : EReal)
def x6 : S16.Idx → EReal := fun i => (A.s (i 0) : EReal)

end Args

variable (A : Args)

/-! ### The rows of q, k and v, by head -/

theorem r3 (x : S4096x16x64.Idx) : val_main_v3 (F := Ideal) A.x0 x = ((A.head (x 1)).q (x 0) (x 2) : EReal) := by
  rw [val_main_v3_apply, val_main_v0_apply]
  exact congrArg (fun r : ℝ => (r : EReal)) (congrArg₂ A.Q (Fin.ext (by idx_bounds x; show _ / 1024 = (x 0).val; omega)) (Fin.ext (by idx_bounds x; show _ % 1024 = 64 * (x 1).val + (x 2).val; omega)))

theorem r4 (x : S4096x16x64.Idx) : val_main_v4 (F := Ideal) A.x0 x = ((A.head (x 1)).k (x 0) (x 2) : EReal) := by
  rw [val_main_v4_apply, val_main_v1_apply]
  exact congrArg (fun r : ℝ => (r : EReal)) (congrArg₂ A.Q (Fin.ext (by idx_bounds x; show _ / 1024 = (x 0).val; omega)) (Fin.ext (by idx_bounds x; show 1024 + _ % 1024 = 1024 + (64 * (x 1).val + (x 2).val); omega)))

theorem r5 (x : S4096x16x64.Idx) : val_main_v5 (F := Ideal) A.x0 x = ((A.head (x 1)).v (x 0) (x 2) : EReal) := by
  rw [val_main_v5_apply, val_main_v2_apply]
  exact congrArg (fun r : ℝ => (r : EReal)) (congrArg₂ A.Q (Fin.ext (by idx_bounds x; show _ / 1024 = (x 0).val; omega)) (Fin.ext (by idx_bounds x; show 2048 + _ % 1024 = 2048 + (64 * (x 1).val + (x 2).val); omega)))

/-- The reshape that inserts the axis of the dilation's residues reads the same element. -/
theorem i22 (x : S4096x1x16x64.Idx) : idx_main_v22 x = (ix3 (n0 := 4096) (n1 := 16) (n2 := 64) (x 0) (x 2) (x 3)) := by blk_ext
theorem i24 (x : S4096x1x16x64.Idx) : idx_main_v24 x = (ix3 (n0 := 4096) (n1 := 16) (n2 := 64) (x 0) (x 2) (x 3)) := i22 x
theorem i53 (x : S4096x1x16x64.Idx) : idx_main_v53 x = (ix3 (n0 := 4096) (n1 := 16) (n2 := 64) (x 0) (x 2) (x 3)) := i22 x

theorem r23 (x : S1x16x4096x64.Idx) : val_main_v23 (F := Ideal) A.x0 x = ((A.head (x 1)).q (x 2) (x 3) : EReal) := by
  rw [val_main_v23_apply, val_main_v22_apply, i22, r3]; rfl
theorem r25 (x : S1x16x4096x64.Idx) : val_main_v25 (F := Ideal) A.x0 x = ((A.head (x 1)).k (x 2) (x 3) : EReal) := by
  rw [val_main_v25_apply, val_main_v24_apply, i24, r4]; rfl
theorem r54 (x : S1x16x4096x64.Idx) : val_main_v54 (F := Ideal) A.x0 x = ((A.head (x 1)).v (x 2) (x 3) : EReal) := by
  rw [val_main_v54_apply, val_main_v53_apply, i53, r5]; rfl

/-! ### The scores -/

theorem r26 (x : S1x16x4096x4096.Idx) : val_main_v26 (F := Ideal) A.x0 x
    = ((∑ e, (A.head (x 1)).q (x 2) e * (A.head (x 1)).k (x 3) e : ℝ) : EReal) := by
  rw [val_main_v26_apply]
  exact sum_eq_coe fun e => by rw [r23, r25, EReal.coe_mul]; rfl

/-- The distance of two positions, computed on words. -/
theorem r12 (x : S4096x4096.Idx) : val_main_v12 (F := Ideal) x = BitVec.ofNat 32 (Band.dist (n := 4096) (x 0) (x 1)) := by
  rw [val_main_v12_apply, val_main_v11_apply, val_main_v9_apply, val_main_v7_apply, val_main_v6_apply, val_main_v10_apply,
    val_main_v8_apply, val_main_v6_apply]
  exact absi_subi (x 1).val (x 0).val (x 1).isLt (x 0).isLt

theorem dist_lt (i j : Fin 4096) : Band.dist i j < 4096 := by unfold Band.dist; omega

theorem r15 (x : S4096x4096.Idx) : val_main_v15 (F := Ideal) x = (((Band.dist (n := 4096) (x 0) (x 1) : ℕ) : ℝ) : EReal) := by
  rw [val_main_v15_apply, val_main_v14_apply, val_main_v13_apply, val_main_c_apply, r12]
  have e : IntOp.muli 1#32 (BitVec.ofNat 32 (Band.dist (n := 4096) (x 0) (x 1))) = BitVec.ofNat 32 (Band.dist (n := 4096) (x 0) (x 1)) := by
    unfold IntOp.muli; exact BitVec.one_mul _
  rw [e]
  show (((BitVec.ofNat 32 (Band.dist (n := 4096) (x 0) (x 1))).toInt : ℝ) : EReal) = _
  rw [toInt_small _ (by have := dist_lt (x 0) (x 1); omega)]; rfl

theorem r21 (x : S16x4096x4096.Idx) : val_main_v21 (F := Ideal) A.x6 x
    = ((-A.s (x 0) * ((Band.dist (n := 4096) (x 1) (x 2) : ℕ) : ℝ) : ℝ) : EReal) := by
  rw [val_main_v21_apply, val_main_v19_apply, val_main_v17_apply, val_main_v16_apply, val_main_v20_apply, val_main_v18_apply, r15]
  exact (EReal.coe_mul _ _).symm

theorem r30 (x : S1x16x4096x4096.Idx) : val_main_v30 (F := Ideal) A.x0 A.x6 x = ((A.head (x 1)).score (x 2) (x 3) : EReal) := by
  rw [val_main_v30_apply, val_main_v28_apply, r26, val_main_v27_apply, val_main_cst_apply, val_main_v29_apply, r21]
  show _ * Ideal.ofBits .f32 0x3E000000#32 + _ = _
  rw [ofBits_eighth, ← EReal.coe_mul, ← EReal.coe_add]; rfl

theorem r33 (x : S4096x4096.Idx) : val_main_v33 (F := Ideal) x = 1#1 ↔ Band.dist (n := 4096) (x 0) (x 1) ≤ 64 := by
  rw [val_main_v33_apply, val_main_v31_apply, val_main_v32_apply, val_main_c_0_apply]
  have e : IntOp.absi (val_main_v11 (F := Ideal) x) = BitVec.ofNat 32 (Band.dist (n := 4096) (x 0) (x 1)) := r12 x
  rw [e]
  exact sle_64 _ (by have := dist_lt (x 0) (x 1); omega)

theorem r34 (x : S1x16x4096x4096.Idx) : val_main_v34_0 (F := Ideal) A.x0 A.x6 x
    = if Band.dist (n := 4096) (x 2) (x 3) ≤ 64 then ((A.head (x 1)).score (x 2) (x 3) : EReal) else ⊥ := by
  rw [val_main_v34_0_apply, val_main_v34_1_apply, r30, val_main_call0_v2_apply, val_main_call0_v0_apply, val_main_cst_1_apply]
  show (if val_main_v33 (F := Ideal) (idx_main_v34_1 x) = 1 then _ else Ideal.ofBits .f32 0xFF800000#32) = _
  rw [ofBits_negInf]
  exact if_congr (r33 _) rfl rfl

/-! ### The softmax of the group: its shift cancels -/

theorem r35 (x : S1x16x4096.Idx) : ∃ μ : ℝ, val_main_v35 (F := Ideal) A.x0 A.x6 x = (μ : EReal) := by
  refine reduce_max_real _ _ _ _ x ofBits_negInf (fun i => ?_) (ix4 (n0 := 1) (n1 := 16) (n2 := 4096) (n3 := 4096) (x 0) (x 1) (x 2) (x 2)) ?_ ?_
  · rw [r34]; split_ifs
    · exact EReal.coe_lt_top _
    · exact bot_lt_top
  · funext a; match a with
    | ⟨0, _⟩ => rfl
    | ⟨1, _⟩ => rfl
    | ⟨2, _⟩ => rfl
  · rw [r34]
    exact lt_of_lt_of_eq (EReal.bot_lt_coe _) (if_pos ((Head.dist_self (n := 4096) (x 2)).trans_le (by omega))).symm

/-- The group's running maximum. -/
def mu (h : Fin 16) (i : Fin 4096) : ℝ := (r35 A (ix3 (n1 := 16) (n2 := 4096) (0 : Fin 1) h i)).choose

theorem r35' (x : S1x16x4096.Idx) : val_main_v35 (F := Ideal) A.x0 A.x6 x = (mu A (x 1) (x 2) : EReal) := by
  have e : x = ix3 (n1 := 16) (n2 := 4096) (0 : Fin 1) (x 1) (x 2) := by
    funext a; match a with
    | ⟨0, _⟩ => exact Subsingleton.elim (α := Fin 1) _ _
    | ⟨1, _⟩ => rfl
    | ⟨2, _⟩ => rfl
  conv_lhs => rw [e]
  exact (r35 A (ix3 (n1 := 16) (n2 := 4096) (0 : Fin 1) (x 1) (x 2))).choose_spec

theorem r45 (x : S1x16x4096x4096.Idx) : val_main_v45 (F := Ideal) A.x0 A.x6 x
    = (((A.head (x 1)).ex (x 2) (x 3) * Real.exp (-mu A (x 1) (x 2)) : ℝ) : EReal) := by
  rw [val_main_v45_apply, val_main_v44_apply, r34, val_main_v43_apply, val_main_v41_apply, r35']
  show Ideal.exp ((if Band.dist (n := 4096) (x 2) (x 3) ≤ 64 then _ else ⊥) - ((mu A (x 1) (x 2) : ℝ) : EReal)) = _
  unfold Head.ex
  split_ifs with h
  · rw [← EReal.coe_sub, Ideal.exp_coe, sub_eq_add_neg, Real.exp_add]
  · rw [EReal.bot_sub, Ideal.exp_bot]; simp

theorem r46 (x : S1x16x4096.Idx) : val_main_v46 (F := Ideal) A.x0 A.x6 x
    = (((A.head (x 1)).Z (x 2) * Real.exp (-mu A (x 1) (x 2)) : ℝ) : EReal) := by
  rw [val_main_v46_apply, val_main_cst_4_apply]
  rw [Ideal.ofBits_def, Ideal.ofBits_zero_f32, zero_add]
  exact (sum_eq_coe (f := fun j => (A.head (x 1)).ex (x 2) j * Real.exp (-mu A (x 1) (x 2))) fun j => r45 A _).trans
    (congrArg _ (Finset.sum_mul _ _ _).symm)

/-- The reshape that drops an axis of extent one reads the same element. -/
theorem i42 (x : S1x16x4096.Idx) : idx_main_v42 x = ix4 (n0 := 1) (n1 := 16) (n2 := 4096) (x 0) (x 1) (x 2) (0 : Fin 1) := by blk_ext

theorem r48 (x : S1x16x4096.Idx) : val_main_v48 (F := Ideal) A.x0 A.x6 x = (Real.log ((A.head (x 1)).Z (x 2)) : EReal) := by
  rw [val_main_v48_apply, val_main_v42_apply, i42, val_main_v41_apply, r35', val_main_v47_apply, r46]
  rw [Ideal.addf_def, Ideal.hostUnary_log_def]
  have hZ := (A.head (x 1)).Z_pos (x 2)
  rw [log_real (mul_pos hZ (Real.exp_pos _)), Real.log_mul hZ.ne' (Real.exp_pos _).ne', Real.log_exp, ← EReal.coe_add]
  refine congrArg _ (?_ : mu A (x 1) (x 2) + (Real.log ((A.head (x 1)).Z (x 2)) + -mu A (x 1) (x 2)) = _); ring

theorem r52 (x : S1x16x4096x4096.Idx) : val_main_v52 (F := Ideal) A.x0 A.x6 x
    = (((A.head (x 1)).ex (x 2) (x 3) / (A.head (x 1)).Z (x 2) : ℝ) : EReal) := by
  rw [val_main_v52_apply, val_main_v51_apply, r34, val_main_v50_apply, val_main_v49_apply, r48]
  show Ideal.exp ((if Band.dist (n := 4096) (x 2) (x 3) ≤ 64 then _ else ⊥) - ((Real.log ((A.head (x 1)).Z (x 2)) : ℝ) : EReal)) = _
  have hZ := (A.head (x 1)).Z_pos (x 2)
  unfold Head.ex
  split_ifs with h
  · rw [← EReal.coe_sub, Ideal.exp_coe, Real.exp_sub, Real.exp_log hZ]
  · rw [EReal.bot_sub, Ideal.exp_bot]; simp

theorem i57 (x : S4096x16x64.Idx) : idx_main_v57 x = ix4 (n0 := 4096) (n2 := 16) (n3 := 64) (x 0) (0 : Fin 1) (x 1) (x 2) := by blk_ext

theorem r57 (x : S4096x16x64.Idx) : val_main_v57 (F := Ideal) A.x0 A.x6 x = ((A.head (x 1)).o0 (x 0) (x 2) : EReal) := by
  rw [val_main_v57_apply, i57, val_main_v56_apply, val_main_v55_apply]
  exact sum_eq_coe (f := fun j => (A.head (x 1)).ex (x 0) j / (A.head (x 1)).Z (x 0) * (A.head (x 1)).v j (x 2)) fun j => by rw [r52, r54, EReal.coe_mul]; rfl

theorem i59 (x : S4096x16.Idx) : idx_main_v59 x = ix3 (n0 := 4096) (n2 := 16) (x 0) (0 : Fin 1) (x 1) := by blk_ext

theorem r59 (x : S4096x16.Idx) : val_main_v59 (F := Ideal) A.x0 A.x6 x = (Real.log ((A.head (x 1)).Z (x 0)) : EReal) := by
  rw [val_main_v59_apply, i59, val_main_v58_apply, r48]; rfl

end Cert.RefRead

end
-- ==== Proof.Finite.lean ====
/- The precondition read: where `finite` holds of the arguments, every entry of them is a real number. -/
module

public import proofs.«01_k».proof.Defs
public import proofs.«01_k».proof.Proof.RefRead

@[expose] public section

noncomputable section

namespace Cert.Finite

open Idealize.ShloMosaic Cert.Pre_finite Cert.RefRead
open scoped BigOperators

/-- An extended real whose absolute value is below plus infinity is a real number. -/
theorem real_of_lt (x : EReal) (h : Ideal.cmp .olt (max x (-x)) ⊤ = 1#1) : ((x.toReal : ℝ) : EReal) = x := by
  have hlt : max x (-x) < ⊤ := by
    by_contra hn
    simp [Ideal.cmp, hn] at h
  refine EReal.coe_toReal (fun e => ?_) (fun e => ?_)
  · rw [e] at hlt; simp at hlt
  · rw [e] at hlt; simp at hlt

/-- A conjunction of `|x| < ∞` over a whole array makes the array one of real numbers. -/
theorem all_real {s : Shape} {axes : List (Fin s.rank)} (x : FVec Ideal s .f32) (h : s.ReducesTo axes S_) (hu : 0 < S_.numel)
    (hb : S_.BroadcastsInDim s (![] : Fin 0 → Fin s.rank)) (j : S_.Idx)
    (e : Host.reduce IntOp.andi (cmpf .olt (Host.absf x) (broadcastInDim s ![] hb (constant S_ .f32 0x7F800000#32))) (constantI S_ 1 1#1) h hu j = 1#1)
    (i : s.Idx) : (((x i : EReal).toReal : ℝ) : EReal) = x i := by
  have h1 := Cert.Band.reduce_andi _ _ h hu j e i (Subsingleton.elim _ _)
  refine real_of_lt (x i) (Eq.trans ?_ h1)
  show _ = Ideal.cmp .olt (max (x i : EReal) (-(x i : EReal))) (Ideal.ofBits .f32 0x7F800000#32)
  rw [Cert.Band.ofBits_posInf]

theorem facts : Cert.Pre_finite.Facts :=
  ⟨by decide, by decide, by decide, by decide, by decide, by decide, by decide, by decide, by decide, by decide, by decide⟩

variable [Cert.Pre_finite.Facts]

/-- The real arrays behind arguments that satisfy the precondition. -/
theorem args (a0 : FVec Ideal S4096x3072 .f32) (a1 : FVec Ideal S4096x16x64 .f32) (a2 : FVec Ideal S4096x16 .f32)
    (a3 : FVec Ideal S4096x16x64 .f32) (a4 : FVec Ideal S4096x16 .f32) (a5 : FVec Ideal S4096x1024 .f32) (a6 : FVec Ideal S16 .f32)
    (h : ∀ j, fn (F := Ideal) a0 a1 a2 a3 a4 a5 a6 j = 1#1) :
    ∃ A : Args, a0 = A.x0 ∧ a1 = A.x1 ∧ a2 = A.x2 ∧ a3 = A.x3 ∧ a4 = A.x4 ∧ a5 = A.x5 ∧ a6 = A.x6 := by
  let j : S_.Idx := fun k => k.elim0
  obtain ⟨h, h6⟩ := Cert.Band.and1 _ _ (h j)
  obtain ⟨h, h5⟩ := Cert.Band.and1 _ _ h
  obtain ⟨h, h4⟩ := Cert.Band.and1 _ _ h
  obtain ⟨h, h3⟩ := Cert.Band.and1 _ _ h
  obtain ⟨h, h2⟩ := Cert.Band.and1 _ _ h
  obtain ⟨h0, h1⟩ := Cert.Band.and1 _ _ h
  refine ⟨⟨fun a b => (a0 (ix2 (n0 := 4096) (n1 := 3072) a b) : EReal).toReal, fun a b c => (a1 (ix3 (n0 := 4096) (n1 := 16) (n2 := 64) a b c) : EReal).toReal,
    fun a b => (a2 (ix2 (n0 := 4096) (n1 := 16) a b) : EReal).toReal, fun a b c => (a3 (ix3 (n0 := 4096) (n1 := 16) (n2 := 64) a b c) : EReal).toReal,
    fun a b => (a4 (ix2 (n0 := 4096) (n1 := 16) a b) : EReal).toReal, fun a b => (a5 (ix2 (n0 := 4096) (n1 := 1024) a b) : EReal).toReal,
    fun a => (a6 (ix1 (n0 := 16) a) : EReal).toReal⟩, ?_, ?_, ?_, ?_, ?_, ?_, ?_⟩
  · funext i; exact (all_real a0 _ _ _ j h0 i).symm.trans (by rw [eq_ix2 i]; rfl)
  · funext i; exact (all_real a1 _ _ _ j h1 i).symm.trans (by rw [eq_ix3 i]; rfl)
  · funext i; exact (all_real a2 _ _ _ j h2 i).symm.trans (by rw [eq_ix2 i]; rfl)
  · funext i; exact (all_real a3 _ _ _ j h3 i).symm.trans (by rw [eq_ix3 i]; rfl)
  · funext i; exact (all_real a4 _ _ _ j h4 i).symm.trans (by rw [eq_ix2 i]; rfl)
  · funext i; exact (all_real a5 _ _ _ j h5 i).symm.trans (by rw [eq_ix2 i]; rfl)
  · funext i; exact (all_real a6 _ _ _ j h6 i).symm.trans (by rw [eq_ix1 i]; rfl)

end Cert.Finite

end
-- ==== Proof.KBody.lean ====
/- One head of the kernel's body, written once: the two gradients that pass through the scores (of q, from the windows of k and v;
   of k, from the windows of q and of the cotangent) are one function of their operands, and the gradient of v is another. Read
   pointwise on finite operands they are sums over the window of 256 rows, the entries off the band being zero. -/
module

public import proofs.«01_k».proof.Proof.Gen.KernelIdeal.Frame
public import proofs.«01_k».proof.Proof.Scalars
public import Idealize.ShloMosaic.Lib.Pipeline.ValueKit

@[expose] public section

set_option maxRecDepth 16384
set_option backward.isDefEq.respectTransparency false

noncomputable section

namespace Cert.KBody

open Cert.KernelIdeal Cert.KernelIdeal.Gen Cert.Band
open Idealize.ShloMosaic Idealize.ShloMosaic.TcCoe
open scoped BigOperators

/-- The word that stands for a masked score. -/
def masked : Ideal .f32 := Named.named κ "mask" 0xF149F2CA#32

/-- The product that contracts the lanes of both operands. -/
def mmT (x : FVec Ideal S128x128 .bf16) (w : FVec Ideal S256x128 .bf16) : FVec Ideal S128x256 .f32 :=
  matmul dot_S128x128_S256x128_S128x256_1_1_0_0_n_n none x w (constant S128x256 .f32 0x00000000#32)

/-- The product that contracts the window's rows. -/
def mmW (x : FVec Ideal S128x256 .bf16) (w : FVec Ideal S256x128 .bf16) : FVec Ideal S128x128 .f32 :=
  matmul dot_S128x256_S256x128_S128x128_1_0_0_1_n_n none x w (constant S128x128 .f32 0x00000000#32)

/-- Lane `b` of the rows' statistics, along the window. -/
def colAt (b : BitVec 32) (st : FVec Ideal S128x128 .f32) : FVec Ideal S128x256 .f32 :=
  broadcastTo S128x256 (shapeCast S128x1 (multiReduction (F := Ideal) .add [1] S128
    (select (α := Ideal .f32) (cmpi .eq (iota .tc S128x128 32 [1] iota_S128x128_d1_w32) (broadcast S128x128 b)) st
      (broadcast S128x128 (Scalar.ofBits (F := Ideal) .f32 0x00000000#32))) 0x00000000#32 reduces_S128x128_S128 (.inl rfl) rfl)
    shapeCasts_S128_S128x1) broadcasts_S128x1_S128x256

/-- Row `o` of the window's statistics, transposed, along the block's rows. -/
def rowAt (o : Fin 2 → ℕ) (st : FVec Ideal S128x256 .f32) (hs : S128x256.Slices o S1x256) : FVec Ideal S128x256 .f32 :=
  broadcastTo S128x256 (extractStridedSlice S1x256 o st hs) broadcasts_S1x256_S128x256

/-- The probabilities of a head: the exponentials of its masked scores less the log-sum. -/
def prob (mask : IVec S128x256 1) (half a : FVec Ideal S128x128 .bf16) (w : FVec Ideal S256x128 .bf16)
    (bias : Vec Ideal S1x128x256 .f32) (l : FVec Ideal S128x256 .f32) : FVec Ideal S128x256 .f32 :=
  exp (subf (select (α := Ideal .f32) mask (addf (mmT (mulf a half) w) (shapeCast S128x256 bias shapeCasts_S1x128x256_S128x256))
    (broadcast S128x256 masked)) l)

/-- A gradient through the scores. -/
def gradH (mask : IVec S128x256 1) (half shalf : FVec Ideal S128x128 .bf16) (l d : FVec Ideal S128x256 .f32)
    (a b : FVec Ideal S128x128 .bf16) (aw bw : FVec Ideal S256x128 .bf16) (bias : Vec Ideal S1x128x256 .f32) : FVec Ideal S128x128 .f32 :=
  mulf (mmW (truncf .bf16 (mulf (prob mask shalf a aw bias l) (subf (mmT (mulf b half) bw) d)) bitsLt_bf16_f32) aw)
    (broadcast S128x128 (Scalar.ofBits (F := Ideal) .f32 0x3E000000#32))

/-- The gradient of v. -/
def gradV (mask : IVec S128x256 1) (shalf : FVec Ideal S128x128 .bf16) (l : FVec Ideal S128x256 .f32)
    (a : FVec Ideal S128x128 .bf16) (aw bw : FVec Ideal S256x128 .bf16) (bias : Vec Ideal S1x128x256 .f32) : FVec Ideal S128x128 .f32 :=
  mmW (truncf .bf16 (prob mask shalf a aw bias l) bitsLt_bf16_f32) bw

/-- What is stored of two heads: the lower lanes of the one, the upper of the other. -/
def pair (x y : FVec Ideal S128x128 .f32) : FVec Ideal S128x128 .bf16 :=
  truncf .bf16 (select (α := Ideal .f32) k0_pay3 x y) bitsLt_bf16_f32

/-- A block of rows, as loaded. -/
def same (x : Vec Ideal S128x128 .bf16) : FVec Ideal S128x128 .bf16 := shapeCast S128x128 x shapeCasts_S128x128_S128x128

/-- The window of 256 rows: 64 before the block, the block, 64 after it. -/
def win (p : Vec Ideal S64x128 .bf16) (x : Vec Ideal S128x128 .bf16) (n : Vec Ideal S64x128 .bf16) : FVec Ideal S256x128 .bf16 :=
  concatenate S256x128 0 [⟨S64x128, shapeCast S64x128 p shapeCasts_S64x128_S64x128⟩, ⟨S128x128, same x⟩,
    ⟨S64x128, shapeCast S64x128 n shapeCasts_S64x128_S64x128⟩] concatenates_S64x128_S128x128_S64x128_S256x128_d0

/-! ### Read pointwise -/

theorem masked_eq : masked = (⊥ : EReal) := by
  unfold masked
  simp [Named.named, κ]

theorem mmT_apply (x : FVec Ideal S128x128 .bf16) (w : FVec Ideal S256x128 .bf16) (r : Fin 128) (c : Fin 256) :
    mmT x w (ix2 (n0 := 128) (n1 := 256) r c)
      = ∑ l : Fin 128, x (ix2 (n0 := 128) (n1 := 128) r l) * w (ix2 (n0 := 256) (n1 := 128) c l) := by
  pointwise [mmT]

theorem mmW_apply (x : FVec Ideal S128x256 .bf16) (w : FVec Ideal S256x128 .bf16) (r : Fin 128) (c : Fin 128) :
    mmW x w (ix2 (n0 := 128) (n1 := 128) r c)
      = ∑ l : Fin 256, x (ix2 (n0 := 128) (n1 := 256) r l) * w (ix2 (n0 := 256) (n1 := 128) l c) := by
  pointwise [mmW]

theorem colAt_apply (b : BitVec 32) (st : FVec Ideal S128x128 .f32) (h : Fin 128) (hb : b = BitVec.ofNat 32 h.val) (r : Fin 128)
    (c : Fin 256) : colAt b st (ix2 (n0 := 128) (n1 := 256) r c) = st (ix2 (n0 := 128) (n1 := 128) r h) := by
  pointwise [colAt]
  rw [Finset.sum_eq_single h]
  · subst hb
    have e : IntOp.cmpi CmpIPredicate.eq (BitVec.ofNat 32 h.val) (BitVec.ofNat 32 h.val) = 1 := by simp [IntOp.cmpi]
    rw [e]; rfl
  · intro x _ hx
    have hne : BitVec.ofNat 32 x.val ≠ b := by
      intro h'
      apply hx
      rw [hb] at h'
      have := congrArg BitVec.toNat h'
      simp only [BitVec.toNat_ofNat] at this
      apply Fin.ext
      omega
    have e : IntOp.cmpi CmpIPredicate.eq (BitVec.ofNat 32 x.val) b = 0 := by
      show BitVec.ofBool (_ == b) = 0#1
      rw [beq_eq_false_iff_ne.mpr hne]; rfl
    rw [e]; rfl
  · intro h'; exact absurd (Finset.mem_univ _) h'

theorem rowAt_apply (o : Fin 2 → ℕ) (st : FVec Ideal S128x256 .f32) (hs : S128x256.Slices o S1x256) (h : Fin 128) (ho : o 0 = h.val)
    (ho' : o 1 = 0) (r : Fin 128) (c : Fin 256) :
    rowAt o st hs (ix2 (n0 := 128) (n1 := 256) r c) = st (ix2 (n0 := 128) (n1 := 256) h c) := by
  pointwise [rowAt]
  congr 1
  funext a
  fin_cases a
  · exact Fin.ext ho
  · exact Fin.ext (by show o 1 + c.val = c.val; omega)

/-- The probability of a pair of a row and a window row, in reals: zero where the mask or the table exclude it. -/
def probR (α : Fin 128 → ℝ) (s : Fin 128 → ℝ) (ω : Fin 128 → ℝ) (β l : ℝ) : ℝ := Real.exp ((∑ e, α e * s e * ω e) + β - l)

theorem prob_apply (mask : IVec S128x256 1) (half a : FVec Ideal S128x128 .bf16) (w : FVec Ideal S256x128 .bf16)
    (bias : Vec Ideal S1x128x256 .f32) (l : FVec Ideal S128x256 .f32) (r : Fin 128) (c : Fin 256)
    (α s ω : Fin 128 → ℝ) (β lr : ℝ) (M N : Prop) [Decidable M] [Decidable N]
    (ha : ∀ e, a (ix2 (n0 := 128) (n1 := 128) r e) = (α e : EReal))
    (hs : ∀ e, half (ix2 (n0 := 128) (n1 := 128) r e) = (s e : EReal))
    (hw : ∀ e, w (ix2 (n0 := 256) (n1 := 128) c e) = (ω e : EReal))
    (hb : bias (ix3 (n0 := 1) (n1 := 128) (n2 := 256) 0 r c) = if N then ((β : ℝ) : EReal) else ⊥)
    (hl : l (ix2 (n0 := 128) (n1 := 256) r c) = (lr : EReal))
    (hm : mask (ix2 (n0 := 128) (n1 := 256) r c) = if M then 1 else 0) :
    prob mask half a w bias l (ix2 (n0 := 128) (n1 := 256) r c) = ((if M ∧ N then probR α s ω β lr else 0 : ℝ) : EReal) := by
  have e1 : mmT (mulf (F := Ideal) (φ := .bf16) a half) w (ix2 (n0 := 128) (n1 := 256) r c) = ((∑ e, α e * s e * ω e : ℝ) : EReal) := by
    rw [mmT_apply]
    refine sum_eq_coe fun e => ?_
    rw [EReal.coe_mul, EReal.coe_mul, ← ha, ← hs, ← hw]; rfl
  have e2 : shapeCast S128x256 bias shapeCasts_S1x128x256_S128x256 (ix2 (n0 := 128) (n1 := 256) r c)
      = bias (ix3 (n0 := 1) (n1 := 128) (n2 := 256) 0 r c) := by
    pointwise
  have e3 : prob mask half a w bias l (ix2 (n0 := 128) (n1 := 256) r c)
      = Ideal.exp (Scalar.select (mask (ix2 (n0 := 128) (n1 := 256) r c))
          ((mmT (mulf (F := Ideal) (φ := .bf16) a half) w (ix2 (n0 := 128) (n1 := 256) r c)
            + shapeCast S128x256 bias shapeCasts_S1x128x256_S128x256 (ix2 (n0 := 128) (n1 := 256) r c) : EReal)) masked
          - l (ix2 (n0 := 128) (n1 := 256) r c) : EReal) := rfl
  rw [e3, e1, e2, hb, hl, hm, masked_eq]
  by_cases hM : M
  · by_cases hN : N
    · rw [if_pos hM, if_pos hN, if_pos ⟨hM, hN⟩]
      show Ideal.exp (((_ : ℝ) : EReal) + _ - _) = _
      rw [← EReal.coe_add, ← EReal.coe_sub, Ideal.exp_coe]; rfl
    · rw [if_pos hM, if_neg hN, if_neg (fun h : M ∧ N => hN h.2)]
      show Ideal.exp (((_ : ℝ) : EReal) + ⊥ - _) = _
      simp
  · rw [if_neg hM, if_neg (fun h : M ∧ N => hM h.1)]
    show Ideal.exp ((⊥ : EReal) - _) = _
    simp

theorem gradV_apply (mask : IVec S128x256 1) (half : FVec Ideal S128x128 .bf16) (l : FVec Ideal S128x256 .f32)
    (a : FVec Ideal S128x128 .bf16) (aw bw : FVec Ideal S256x128 .bf16) (bias : Vec Ideal S1x128x256 .f32) (r : Fin 128) (k : Fin 128)
    (α s : Fin 128 → ℝ) (ω υ : Fin 256 → Fin 128 → ℝ) (β lr : Fin 256 → ℝ) (M N : Fin 256 → Prop) [DecidablePred M] [DecidablePred N]
    (ha : ∀ e, a (ix2 (n0 := 128) (n1 := 128) r e) = (α e : EReal))
    (hs : ∀ e, half (ix2 (n0 := 128) (n1 := 128) r e) = (s e : EReal))
    (hw : ∀ c e, aw (ix2 (n0 := 256) (n1 := 128) c e) = (ω c e : EReal))
    (hv : ∀ c e, bw (ix2 (n0 := 256) (n1 := 128) c e) = (υ c e : EReal))
    (hb : ∀ c, bias (ix3 (n0 := 1) (n1 := 128) (n2 := 256) 0 r c) = if N c then ((β c : ℝ) : EReal) else ⊥)
    (hl : ∀ c, l (ix2 (n0 := 128) (n1 := 256) r c) = (lr c : EReal))
    (hm : ∀ c, mask (ix2 (n0 := 128) (n1 := 256) r c) = if M c then 1 else 0) :
    gradV mask half l a aw bw bias (ix2 (n0 := 128) (n1 := 128) r k)
      = ((∑ c, if M c ∧ N c then probR α s (ω c) (β c) (lr c) * υ c k else 0 : ℝ) : EReal) := by
  unfold gradV
  rw [mmW_apply]
  refine sum_eq_coe fun c => ?_
  rw [hv]
  show prob mask half a aw bias l (ix2 (n0 := 128) (n1 := 256) r c) * _ = _
  rw [prob_apply mask half a aw bias l r c α s (ω c) (β c) (lr c) (M c) (N c) ha hs (hw c) (hb c) (hl c) (hm c), ← EReal.coe_mul]
  split <;> simp

theorem gradH_apply (mask : IVec S128x256 1) (half shalf : FVec Ideal S128x128 .bf16) (l d : FVec Ideal S128x256 .f32)
    (a b : FVec Ideal S128x128 .bf16) (aw bw : FVec Ideal S256x128 .bf16) (bias : Vec Ideal S1x128x256 .f32) (r : Fin 128) (k : Fin 128)
    (α γ s u : Fin 128 → ℝ) (ω υ : Fin 256 → Fin 128 → ℝ) (β lr dr : Fin 256 → ℝ) (M N : Fin 256 → Prop) [DecidablePred M]
    [DecidablePred N]
    (ha : ∀ e, a (ix2 (n0 := 128) (n1 := 128) r e) = (α e : EReal))
    (hg : ∀ e, b (ix2 (n0 := 128) (n1 := 128) r e) = (γ e : EReal))
    (hs : ∀ e, shalf (ix2 (n0 := 128) (n1 := 128) r e) = (s e : EReal))
    (hu : ∀ e, half (ix2 (n0 := 128) (n1 := 128) r e) = (u e : EReal))
    (hw : ∀ c e, aw (ix2 (n0 := 256) (n1 := 128) c e) = (ω c e : EReal))
    (hv : ∀ c e, bw (ix2 (n0 := 256) (n1 := 128) c e) = (υ c e : EReal))
    (hb : ∀ c, bias (ix3 (n0 := 1) (n1 := 128) (n2 := 256) 0 r c) = if N c then ((β c : ℝ) : EReal) else ⊥)
    (hl : ∀ c, l (ix2 (n0 := 128) (n1 := 256) r c) = (lr c : EReal))
    (hd : ∀ c, d (ix2 (n0 := 128) (n1 := 256) r c) = (dr c : EReal))
    (hm : ∀ c, mask (ix2 (n0 := 128) (n1 := 256) r c) = if M c then 1 else 0) :
    gradH mask half shalf l d a b aw bw bias (ix2 (n0 := 128) (n1 := 128) r k)
      = (((∑ c, if M c ∧ N c then probR α s (ω c) (β c) (lr c) * ((∑ e, γ e * u e * υ c e) - dr c) * ω c k else 0) * 0.125 : ℝ) : EReal) := by
  have e8 : (Scalar.ofBits (F := Ideal) .f32 0x3E000000#32 : EReal) = ((0.125 : ℝ) : EReal) := ofBits_eighth
  have e0 : gradH mask half shalf l d a b aw bw bias (ix2 (n0 := 128) (n1 := 128) r k)
      = mmW (truncf (F := Ideal) (φ := .f32) .bf16 (mulf (F := Ideal) (φ := .f32) (prob mask shalf a aw bias l)
          (subf (F := Ideal) (φ := .f32) (mmT (mulf (F := Ideal) (φ := .bf16) b half) bw) d)) bitsLt_bf16_f32) aw (ix2 (n0 := 128) (n1 := 128) r k)
        * (Scalar.ofBits (F := Ideal) .f32 0x3E000000#32 : EReal) := rfl
  rw [e0, e8, EReal.coe_mul, mmW_apply]
  congr 1
  refine sum_eq_coe fun c => ?_
  have e1 : mmT (mulf (F := Ideal) (φ := .bf16) b half) bw (ix2 (n0 := 128) (n1 := 256) r c) = ((∑ e, γ e * u e * υ c e : ℝ) : EReal) := by
    rw [mmT_apply]
    refine sum_eq_coe fun e => ?_
    rw [EReal.coe_mul, EReal.coe_mul, ← hg, ← hu, ← hv]; rfl
  rw [hw]
  show prob mask shalf a aw bias l (ix2 (n0 := 128) (n1 := 256) r c)
    * (mmT (mulf (F := Ideal) (φ := .bf16) b half) bw (ix2 (n0 := 128) (n1 := 256) r c) - d (ix2 (n0 := 128) (n1 := 256) r c) : EReal) * _ = _
  rw [prob_apply mask shalf a aw bias l r c α s (ω c) (β c) (lr c) (M c) (N c) ha hs (hw c) (hb c) (hl c) (hm c), e1, hd,
    ← EReal.coe_sub, ← EReal.coe_mul, ← EReal.coe_mul]
  split <;> simp

theorem same_apply (x : Vec Ideal S128x128 .bf16) : same x = x := by
  funext y
  unfold same
  exact shapeCast_apply _ _ _ _ rfl

theorem win_apply (p : Vec Ideal S64x128 .bf16) (x : Vec Ideal S128x128 .bf16) (n : Vec Ideal S64x128 .bf16) (c : Fin 256) (e : Fin 128) :
    win p x n (ix2 (n0 := 256) (n1 := 128) c e) =
      if h : c.val < 64 then p (ix2 (n0 := 64) (n1 := 128) ⟨c.val, h⟩ e)
      else if h' : c.val - 64 < 128 then x (ix2 (n0 := 128) (n1 := 128) ⟨c.val - 64, h'⟩ e)
      else n (ix2 (n0 := 64) (n1 := 128) ⟨c.val - 64 - 128, by omega⟩ e) := by
  pointwise [win, same]

end Cert.KBody
-- ==== Proof.KHostOps.lean ====
/- The host operations before the kernel's launch, read at the buffers the launch takes. Apart from two products that the
   kernel's host code writes as sums, they are the reference's own operations on the same arguments, so their results are
   stated with the reference's intermediate arrays. The line is read in stretches, each over any contents before it. -/
module

public import proofs.«01_k».proof.Proof.Gen.KernelIdeal.Frame
public import proofs.«01_k».proof.Proof.Gen.ReferenceIdeal.Read
public import Idealize.ShloMosaic.Lib.StableHlo.RunRead

@[expose] public section

set_option maxRecDepth 16384
set_option backward.isDefEq.respectTransparency false

noncomputable section

namespace Cert.KHost

open Cert.KernelIdeal Cert.KernelIdeal.Gen Cert.ReferenceIdeal.Read
open Idealize.ShloMosaic Idealize.ShloMosaic.StableHlo Idealize.ShloMosaic.TcCoe

abbrev Vals : Type := Valuation τ sig (Elt Ideal)

/-- The product of the queries with the keys, as the sum the kernel's host code writes. -/
def qk (x : S4096x3072.Idx → EReal) : S1x16x4096x4096.Idx → EReal :=
  Host.reduceAdd (F := Ideal) (φ := .f32) (mulf (F := Ideal) (φ := .f32) (broadcastInDim S1x16x4096x4096x64 ![0, 1, 2, 3, 4] bcast_S1x16x4096x1x64_S1x16x4096x4096x64_0_1_2_3_4
      (broadcastInDim S1x16x4096x1x64 ![0, 1, 2, 4] bcast_S1x16x4096x64_S1x16x4096x1x64_0_1_2_4 (val_main_v23 (F := Ideal) x)))
    (broadcastInDim S1x16x4096x4096x64 ![0, 1, 2, 3, 4] bcast_S1x16x1x4096x64_S1x16x4096x4096x64_0_1_2_3_4
      (broadcastInDim S1x16x1x4096x64 ![0, 1, 3, 4] bcast_S1x16x4096x64_S1x16x1x4096x64_0_1_3_4 (val_main_v25 (F := Ideal) x))))
    (constant (F := Ideal) S_ .f32 0x00000000#32) reducesTo_S1x16x4096x4096x64_S1x16x4096x4096_d4 h_S_

/-- The product of the probabilities `p` with the values, as the sum the kernel's host code writes. -/
def pv (p : S1x16x4096x4096.Idx → EReal) (v : S1x16x4096x64.Idx → EReal) : S1x16x4096x64.Idx → EReal :=
  Host.reduceAdd (F := Ideal) (φ := .f32) (mulf (F := Ideal) (φ := .f32) (broadcastInDim S1x16x4096x4096x64 ![0, 1, 2, 3, 4] bcast_S1x16x4096x4096x1_S1x16x4096x4096x64_0_1_2_3_4
      (broadcastInDim S1x16x4096x4096x1 ![0, 1, 2, 3] bcast_S1x16x4096x4096_S1x16x4096x4096x1_0_1_2_3 p))
    (broadcastInDim S1x16x4096x4096x64 ![0, 1, 2, 3, 4] bcast_S1x16x1x4096x64_S1x16x4096x4096x64_0_1_2_3_4
      (broadcastInDim S1x16x1x4096x64 ![0, 1, 3, 4] bcast_S1x16x4096x64_S1x16x1x4096x64_0_1_3_4 v)))
    (constant (F := Ideal) S_ .f32 0x00000000#32) reducesTo_S1x16x4096x4096x64_S1x16x4096x64_d3 h_S_

/-! ### The scores -/

theorem a38 (W : Vals) : after hostOps0 W (Proc.devRef .tc main_v38) = val_main_v33 (F := Ideal) := by
  after_reads_simp; rfl

theorem a5 (W : Vals) : after hostOps0 W (Proc.devRef .tc main_v5) = val_main_v5 (F := Ideal) (W (Proc.devRef .tc main_arg0)) := by
  after_reads_simp; rfl

theorem a35 (W : Vals) : after hostOps0 W (Proc.devRef .tc main_v35)
    = addf (F := Ideal) (φ := .f32) (mulf (F := Ideal) (φ := .f32) (qk (W (Proc.devRef .tc main_arg0))) (val_main_v27 (F := Ideal))) (val_main_v29 (F := Ideal) (W (Proc.devRef .tc main_arg6))) := by
  after_reads_simp; rfl

theorem a2 (W : Vals) : after hostOps0 W (Proc.devRef .tc main_cst_2) = constant (F := Ideal) S_ .f32 0xFF800000#32 := by
  after_reads_simp

/-- The masked scores. -/
theorem b39 (W : Vals) : after hostOps0_1 W (Proc.devRef .tc main_v39)
    = select (α := EReal) (broadcastInDim S1x16x4096x4096 ![2, 3] bcast_S4096x4096_S1x16x4096x4096_2_3 (W (Proc.devRef .tc main_v38)))
        (W (Proc.devRef .tc main_v35)) (broadcastInDim S1x16x4096x4096 ![] bcast_S_S1x16x4096x4096 (W (Proc.devRef .tc main_cst_2))) := by
  simp only [hostOps0_1, TRef.nullary, TRef.ternary, TRef.unary, TRef.toBuf, TRef.ofBuf, cast_eq]
  after_results_simp
  try rfl

/-! ### The third stretch, in seven parts -/

abbrev c1 : List (HloOp τ sig (Elt Ideal)) := (hostOps0_2 (F := Ideal)).take 11
abbrev c2 : List (HloOp τ sig (Elt Ideal)) := ((hostOps0_2 (F := Ideal)).drop 11).take 17
abbrev c3 : List (HloOp τ sig (Elt Ideal)) := ((hostOps0_2 (F := Ideal)).drop 28).take 13
abbrev c4 : List (HloOp τ sig (Elt Ideal)) := ((hostOps0_2 (F := Ideal)).drop 41).take 14
abbrev c5 : List (HloOp τ sig (Elt Ideal)) := ((hostOps0_2 (F := Ideal)).drop 55).take 15
abbrev c6 : List (HloOp τ sig (Elt Ideal)) := ((hostOps0_2 (F := Ideal)).drop 70).take 9
abbrev c7 : List (HloOp τ sig (Elt Ideal)) := (hostOps0_2 (F := Ideal)).drop 79

variable (x0 : S4096x3072.Idx → EReal) (x1 : S4096x16x64.Idx → EReal) (x2 : S4096x16.Idx → EReal) (x3 : S4096x16x64.Idx → EReal)
  (x4 : S4096x16.Idx → EReal) (x5 : S4096x1024.Idx → EReal) (x6 : S16.Idx → EReal)

/-- The group's log sum. -/
theorem c48 (W : Vals) (h : W (Proc.devRef .tc main_v39) = val_main_v34_0 (F := Ideal) x0 x6) :
    after c1 W (Proc.devRef .tc main_v48) = val_main_v48 (F := Ideal) x0 x6 := by
  after_reads_simp; rw [h]; rfl

/-- The group's output, with the product as a sum. -/
theorem c62 (W : Vals) (h : W (Proc.devRef .tc main_v39) = val_main_v34_0 (F := Ideal) x0 x6)
    (h' : W (Proc.devRef .tc main_v48) = val_main_v48 (F := Ideal) x0 x6) (h5 : W (Proc.devRef .tc main_v5) = val_main_v5 (F := Ideal) x0) :
    after c2 W (Proc.devRef .tc main_v62) = shapeCast S4096x16x64 (transpose S4096x1x16x64 [2, 0, 1, 3]
      (pv (val_main_v52 (F := Ideal) x0 x6) (val_main_v54 (F := Ideal) x0)) transposes_S1x16x4096x64_S4096x1x16x64_2_0_1_3) shapeCasts_S4096x1x16x64_S4096x16x64 := by
  after_reads_simp; rw [h, h', h5]; rfl

theorem c64 (W : Vals) (h' : W (Proc.devRef .tc main_v48) = val_main_v48 (F := Ideal) x0 x6) :
    after c2 W (Proc.devRef .tc main_v64) = val_main_v59 (F := Ideal) x0 x6 := by
  after_reads_simp; rw [h']; rfl

/-- The stacked log sums' exponentials. -/
theorem c75 (W : Vals) (h : W (Proc.devRef .tc main_v64) = val_main_v59 (F := Ideal) x0 x6) (h2 : W (Proc.devRef .tc main_arg2) = x2)
    (h4 : W (Proc.devRef .tc main_arg4) = x4) : after c3 W (Proc.devRef .tc main_v75) = val_main_v86 (F := Ideal) x0 x2 x4 x6 := by
  have e65 : upto c3 W 3 (Proc.devRef .tc main_v65) = val_main_v60 (F := Ideal) x0 x6 := by after_reads_simp; rw [h]; rfl
  have e66 : upto c3 W 3 (Proc.devRef .tc main_v66) = val_main_v61 (F := Ideal) x2 := by after_reads_simp; rw [h2]; rfl
  have e67 : upto c3 W 3 (Proc.devRef .tc main_v67) = val_main_v62 (F := Ideal) x4 := by after_reads_simp; rw [h4]; rfl
  after_reads_simp; dsimp only [Matrix.cons_val]; rw [e65, e66, e67]; rfl

/-- The merged output. -/
theorem c87 (W : Vals) (h : W (Proc.devRef .tc main_v75) = val_main_v86 (F := Ideal) x0 x2 x4 x6)
    (h' : W (Proc.devRef .tc main_v62) = val_main_v57 (F := Ideal) x0 x6) (h1 : W (Proc.devRef .tc main_arg1) = x1)
    (h3 : W (Proc.devRef .tc main_arg3) = x3) : after c4 W (Proc.devRef .tc main_v87) = val_main_v103 (F := Ideal) x0 x1 x2 x3 x4 x6 := by
  have e81 : upto c4 W 9 (Proc.devRef .tc main_v81) = val_main_v95 (F := Ideal) x0 x6 := by after_reads_simp; rw [h']; rfl
  have e82 : upto c4 W 9 (Proc.devRef .tc main_v82) = val_main_v96 (F := Ideal) x1 := by after_reads_simp; rw [h1]; rfl
  have e83 : upto c4 W 9 (Proc.devRef .tc main_v83) = val_main_v97 (F := Ideal) x3 := by after_reads_simp; rw [h3]; rfl
  after_reads_simp; dsimp only [Matrix.cons_val]; rw [e81, e82, e83, h]; rfl

/-- The stacked log sums' maximum, with a leading axis of extent one. -/
def top1 (s : S3x4096x16.Idx → EReal) : S1x4096x16.Idx → EReal :=
  broadcastInDim S1x4096x16 ![1, 2] bcast_S4096x16_S1x4096x16_1_2
    (Host.reduce (FloatOps.maximumf (F := Ideal) (φ := .f32)) s (constant (F := Ideal) S_ .f32 0xFF800000#32) reducesTo_S3x4096x16_S4096x16_d0 h_S_)

/-- The log sum of the three groups together, from the stacked log sums. -/
def lse3 (s : S3x4096x16.Idx → EReal) : S4096x16.Idx → EReal :=
  addf (F := Ideal) (φ := .f32) (shapeCast S4096x16 (top1 s) shapeCasts_S1x4096x16_S4096x16)
    (Host.log (F := Ideal) (φ := .f32) (Host.reduceAdd (F := Ideal) (φ := .f32) (Host.exp (F := Ideal) (φ := .f32) (subf (F := Ideal) (φ := .f32) s
      (broadcastInDim S3x4096x16 ![0, 1, 2] bcast_S1x4096x16_S3x4096x16_0_1_2 (top1 s))))
      (constant (F := Ideal) S_ .f32 0x00000000#32) reducesTo_S3x4096x16_S4096x16_d0 h_S_))

theorem c100 (W : Vals) (h : W (Proc.devRef .tc main_v64) = val_main_v59 (F := Ideal) x0 x6) (h2 : W (Proc.devRef .tc main_arg2) = x2)
    (h4 : W (Proc.devRef .tc main_arg4) = x4) : after c5 W (Proc.devRef .tc main_v100) = lse3 (val_main_v63 (F := Ideal) x0 x2 x4 x6) := by
  have e88 : upto c5 W 3 (Proc.devRef .tc main_v88) = val_main_v60 (F := Ideal) x0 x6 := by after_reads_simp; rw [h]; rfl
  have e89 : upto c5 W 3 (Proc.devRef .tc main_v89) = val_main_v61 (F := Ideal) x2 := by after_reads_simp; rw [h2]; rfl
  have e90 : upto c5 W 3 (Proc.devRef .tc main_v90) = val_main_v62 (F := Ideal) x4 := by after_reads_simp; rw [h4]; rfl
  after_reads_simp; dsimp only [Matrix.cons_val]; rw [e88, e89, e90]; rfl

/-- The inner product of the cotangent `g` with the merged output `o`, per head. -/
def inner (g : S4096x1024.Idx → EReal) (o : S4096x16x64.Idx → EReal) : S4096x16.Idx → EReal :=
  Host.reduceAdd (F := Ideal) (φ := .f32) (mulf (F := Ideal) (φ := .f32) (shapeCast S4096x16x64 g shapeCasts_S4096x1024_S4096x16x64) o)
    (constant (F := Ideal) S_ .f32 0x00000000#32) reducesTo_S4096x16x64_S4096x16_d2 h_S_

/-- The statistics the kernel takes: log sums, inner products, zeros. -/
def stats (l d : S4096x16.Idx → EReal) : S4096x128.Idx → EReal :=
  concatenate S4096x128 1 [⟨S4096x16, l⟩, ⟨S4096x16, d⟩, ⟨S4096x96, broadcastInDim S4096x96 ![] bcast_S_S4096x96 (constant (F := Ideal) S_ .f32 0x00000000#32)⟩]
    concatenates_S4096x16_S4096x16_S4096x96_S4096x128_d1

theorem c105 (W : Vals) (l : S4096x16.Idx → EReal) (o : S4096x16x64.Idx → EReal) (h : W (Proc.devRef .tc main_v100) = l)
    (h' : W (Proc.devRef .tc main_v87) = o) (h5 : W (Proc.devRef .tc main_arg5) = x5) :
    after c6 W (Proc.devRef .tc main_v105) = stats l (inner x5 o) := by
  have e100 : upto c6 W 6 (Proc.devRef .tc main_v100) = l := by after_reads_simp; exact h
  have e103 : upto c6 W 6 (Proc.devRef .tc main_v103) = inner x5 o := by after_reads_simp; rw [h', h5]; rfl
  have e104 : upto c6 W 6 (Proc.devRef .tc main_v104) = broadcastInDim S4096x96 ![] bcast_S_S4096x96 (constant (F := Ideal) S_ .f32 0x00000000#32) := by
    after_reads_simp
  after_reads_simp; dsimp only [Matrix.cons_val]; rw [e100, e103, e104]; rfl
theorem c106 (W : Vals) (h : W (Proc.devRef .tc main_arg0) = x0) : after c6 W (Proc.devRef .tc main_v106) = x0 := by
  after_reads_simp; rw [h]; rfl
theorem c107 (W : Vals) (h : W (Proc.devRef .tc main_arg5) = x5) : after c6 W (Proc.devRef .tc main_v107) = x5 := by
  after_reads_simp; rw [h]; rfl

/-- The distance of column `w` of a block's window from row `a`, as a word. -/
def distw : S128x256.Idx → BitVec 32 :=
  absi (subi (broadcastInDim S128x256 ![0, 1] bcast_S1x256_S128x256_0_1 (subi (broadcastInDim S1x256 ![1] bcast_S256_S1x256_1 (iotaInDim S256 32 0))
      (broadcastInDim S1x256 ![] bcast_S_S1x256 (constantI S_ 32 64#32))))
    (broadcastInDim S128x256 ![0, 1] bcast_S128x1_S128x256_0_1 (broadcastInDim S128x1 ![0] bcast_S128_S128x1_0 (iotaInDim S128 32 0))))

theorem c126 (W : Vals) (h : W (Proc.devRef .tc main_arg6) = x6) : after c7 W (Proc.devRef .tc main_v126)
    = mulf (F := Ideal) (φ := .f32) (broadcastInDim S16x128x256 ![0, 1, 2] bcast_S16x1x1_S16x128x256_0_1_2 (val_main_v17 (F := Ideal) x6))
        (broadcastInDim S16x128x256 ![0, 1, 2] bcast_S1x128x256_S16x128x256_0_1_2 (broadcastInDim S1x128x256 ![1, 2] bcast_S128x256_S1x128x256_1_2
          (sitofp (F := Ideal) .f32 (muli (broadcastInDim S128x256 ![] bcast_S_S128x256 (constantI S_ 32 1#32)) distw)))) := by
  after_reads_simp; rw [h]; rfl
theorem c130 (W : Vals) : after c7 W (Proc.devRef .tc main_v130)
    = cmpi .sle (broadcastInDim S1x128x256 ![1, 2] bcast_S128x256_S1x128x256_1_2 distw) (broadcastInDim S1x128x256 ![] bcast_S_S1x128x256 (constantI S_ 32 64#32)) := by
  after_reads_simp; rfl
theorem c17 (W : Vals) : after c7 W (Proc.devRef .tc main_cst_17) = constant (F := Ideal) S_ .f32 0xFF800000#32 := by
  after_reads_simp

/-- The bias table. -/
theorem d131 (W : Vals) : after hostOps0_3 W (Proc.devRef .tc main_v131)
    = select (α := EReal) (broadcastInDim S16x128x256 ![0, 1, 2] bcast_S1x128x256_S16x128x256_0_1_2 (W (Proc.devRef .tc main_v130)))
        (W (Proc.devRef .tc main_v126)) (broadcastInDim S16x128x256 ![] bcast_S_S16x128x256 (W (Proc.devRef .tc main_cst_17))) := by
  simp only [hostOps0_3, TRef.nullary, TRef.ternary, TRef.unary, TRef.toBuf, TRef.ofBuf, cast_eq]
  after_results_simp
  try rfl

end Cert.KHost

end
-- ==== Proof.RefMerge.lean ====
/- The reference program read on finite arguments: the merge of the three groups. The three log sums are stacked, their
   softmax weighs the three outputs; the backward pass through that softmax gives the cotangent of this group's log sum. -/
module

public import proofs.«01_k».proof.Proof.RefRead

@[expose] public section

set_option maxRecDepth 16384
set_option backward.isDefEq.respectTransparency false

noncomputable section

namespace Cert.RefRead

open Cert.Band Cert.ReferenceIdeal Cert.ReferenceIdeal.Gen Cert.ReferenceIdeal.Read
open Idealize.ShloMosaic
open scoped BigOperators

/-- The log sum of group `g` at a query. -/
def lseg (H : Head 4096) (g : Fin 3) (i : Fin 4096) : ℝ := ![Real.log (H.Z i), H.l1 i, H.l2 i] g
/-- Its exponential. -/
def eg (H : Head 4096) (g : Fin 3) (i : Fin 4096) : ℝ := ![H.Z i, Real.exp (H.l1 i), Real.exp (H.l2 i)] g
/-- The output of group `g`. -/
def og (H : Head 4096) (g : Fin 3) (i : Fin 4096) (e : Fin 64) : ℝ := ![H.o0 i e, H.o1 i e, H.o2 i e] g
/-- The cotangent against the output of group `g`. -/
def rg (H : Head 4096) (g : Fin 3) (i : Fin 4096) : ℝ := ∑ e, H.g i e * og H g i e

theorem exp_lseg (H : Head 4096) (g : Fin 3) (i : Fin 4096) : Real.exp (lseg H g i) = eg H g i := by
  fin_cases g
  · exact Real.exp_log (H.Z_pos i)
  · rfl
  · rfl

theorem sum_eg (H : Head 4096) (i : Fin 4096) : ∑ g, eg H g i = H.T i := by
  rw [Fin.sum_univ_three]; rfl

/-- The three groups' merged output. -/
theorem sum_og (H : Head 4096) (i : Fin 4096) (e : Fin 64) : ∑ g, eg H g i / H.T i * og H g i e = H.out i e := by
  rw [Fin.sum_univ_three]; rfl

/-- The cotangent of this group's log sum, as the chain rule through the softmax spells it with the shift `ν`. -/
def dl0 (H : Head 4096) (i : Fin 4096) (ν : ℝ) : ℝ :=
  (rg H 0 i / (H.T i * Real.exp (-ν))
    + -∑ g, rg H g i * (1 / (H.T i * Real.exp (-ν) * (H.T i * Real.exp (-ν)))) * (eg H g i * Real.exp (-ν))) * (H.Z i * Real.exp (-ν))

theorem chain' (H : Head 4096) (i j : Fin 4096) (μ ν : ℝ) :
    H.Z i / H.T i * H.dP i j * (H.ex i j / H.Z i)
      + (dl0 H i ν + -(H.Z i / H.T i * H.r0 i)) / (H.Z i * Real.exp (-μ)) * (H.ex i j * Real.exp (-μ)) = H.dS i j := by
  rw [← H.chain i j μ ν, dl0, Fin.sum_univ_three, sub_eq_add_neg, sub_eq_add_neg, Real.exp_add, Real.exp_add]
  rfl

variable (A : Args)

/-- Three arrays stacked along an axis on which each has extent one, read at an index. -/
theorem stack3 {s t : Shape} (x y z : s.Idx → EReal) (a : Fin t.rank) (hc : Shape.Concatenates [s, s, s] t a) (hr : s.rank = t.rank)
    (hs : s.size (a.cast hr.symm) = 1) (j : t.Idx) (i : s.Idx) (hi : ∀ b : Fin s.rank, b.cast hr ≠ a → (i b).val = (j (b.cast hr)).val)
    (h3 : (j a).val < 3) (v : EReal) (h0 : (j a).val = 0 → x i = v) (h1 : (j a).val = 1 → y i = v) (h2 : (j a).val = 2 → z i = v) :
    concatenate t a [⟨s, x⟩, ⟨s, y⟩, ⟨s, z⟩] hc j = v := by
  have ha : (i (a.cast hr.symm)).val = (j a).val % 1 := by have := (i (a.cast hr.symm)).isLt; omega
  have e := concatenate_ofFn_apply a ![x, y, z] hc hr 1 hs j ⟨(j a).val, h3⟩ (Nat.div_one _) i ha hi
  refine e.trans ?_
  generalize hg : (⟨(j a).val, h3⟩ : Fin 3) = g
  have hg' : (j a).val = g.val := congrArg Fin.val hg
  fin_cases g
  · exact h0 hg'
  · exact h1 hg'
  · exact h2 hg'

theorem lseg_0 (H : Head 4096) (i : Fin 4096) : lseg H 0 i = Real.log (H.Z i) := by simp [lseg]
theorem lseg_1 (H : Head 4096) (i : Fin 4096) : lseg H 1 i = H.l1 i := by simp [lseg]
theorem lseg_2 (H : Head 4096) (i : Fin 4096) : lseg H 2 i = H.l2 i := by simp [lseg]
theorem og_0 (H : Head 4096) (i : Fin 4096) (e : Fin 64) : og H 0 i e = H.o0 i e := by simp [og]
theorem og_1 (H : Head 4096) (i : Fin 4096) (e : Fin 64) : og H 1 i e = H.o1 i e := by simp [og]
theorem og_2 (H : Head 4096) (i : Fin 4096) (e : Fin 64) : og H 2 i e = H.o2 i e := by simp [og]

theorem r60 (x : S1x4096x16.Idx) : val_main_v60 (F := Ideal) A.x0 A.x6 x = (Real.log ((A.head (x 2)).Z (x 1)) : EReal) := by
  rw [val_main_v60_apply, r59]; rfl
theorem r61 (x : S1x4096x16.Idx) : val_main_v61 (F := Ideal) A.x2 x = ((A.head (x 2)).l1 (x 1) : EReal) := by
  rw [val_main_v61_apply]; rfl
theorem r62 (x : S1x4096x16.Idx) : val_main_v62 (F := Ideal) A.x4 x = ((A.head (x 2)).l2 (x 1) : EReal) := by
  rw [val_main_v62_apply]; rfl

theorem r63 (x : S3x4096x16.Idx) : val_main_v63 (F := Ideal) A.x0 A.x2 A.x4 A.x6 x = (lseg (A.head (x 2)) (x 0) (x 1) : EReal) := by
  unfold val_main_v63
  refine stack3 (s := S1x4096x16) (t := S3x4096x16) _ _ _ 0 _ rfl rfl x (ix3 (n0 := 1) (n1 := 4096) (n2 := 16) 0 (x 1) (x 2)) (fun b => match b with
    | ⟨0, _⟩ => fun h => absurd rfl h
    | ⟨1, _⟩ => fun _ => rfl
    | ⟨2, _⟩ => fun _ => rfl) (x 0).isLt _ (fun h => ?_) (fun h => ?_) (fun h => ?_)
  · rw [r60, show x 0 = (0 : Fin 3) from Fin.ext h, lseg_0]; rfl
  · rw [r61, show x 0 = (1 : Fin 3) from Fin.ext h, lseg_1]; rfl
  · rw [r62, show x 0 = (2 : Fin 3) from Fin.ext h, lseg_2]; rfl

theorem r66 (x : S4096x16.Idx) : ∃ ν : ℝ, val_main_v66 (F := Ideal) A.x0 A.x2 A.x4 A.x6 x = (ν : EReal) := by
  refine reduce_max_real _ _ _ _ x ofBits_negInf (fun i => ?_) (ix3 (n0 := 3) (n1 := 4096) (n2 := 16) 0 (x 0) (x 1)) ?_ ?_
  · rw [r63]; exact EReal.coe_lt_top _
  · funext a; match a with
    | ⟨0, _⟩ => rfl
    | ⟨1, _⟩ => rfl
  · rw [r63]; exact EReal.bot_lt_coe _

/-- The running maximum of the three log sums. -/
def nu (i : Fin 4096) (h : Fin 16) : ℝ := (r66 A (ix2 i h)).choose

theorem r73 (x : S4096x16.Idx) : val_main_v73 (F := Ideal) A.x0 A.x2 A.x4 A.x6 x = (nu A (x 0) (x 1) : EReal) := by
  have e : x = ix2 (n0 := 4096) (n1 := 16) (x 0) (x 1) := eq_ix2 x
  have h := (r66 A (ix2 (n0 := 4096) (n1 := 16) (x 0) (x 1))).choose_spec
  rw [val_main_v73_apply, val_main_v72_apply, val_main_cst_9_apply]
  conv_lhs => rw [e]
  rw [h]
  show max (Ideal.ofBits .f32 0xFF800000#32) _ = _
  rw [ofBits_negInf, max_eq_right bot_le]; rfl

theorem r86 (x : S3x4096x16.Idx) : val_main_v86 (F := Ideal) A.x0 A.x2 A.x4 A.x6 x
    = ((eg (A.head (x 2)) (x 0) (x 1) * Real.exp (-nu A (x 1) (x 2)) : ℝ) : EReal) := by
  rw [val_main_v86_apply, val_main_v85_apply, r63, val_main_v84_apply, val_main_v83_apply, r73, ← exp_lseg, ← Real.exp_add]
  rw [← sub_eq_add_neg]; rfl

theorem r87 (x : S4096x16.Idx) : val_main_v87 (F := Ideal) A.x0 A.x2 A.x4 A.x6 x
    = (((A.head (x 1)).T (x 0) * Real.exp (-nu A (x 0) (x 1)) : ℝ) : EReal) := by
  rw [val_main_v87_apply, val_main_cst_15_apply, Ideal.ofBits_def, Ideal.ofBits_zero_f32, zero_add, ← sum_eg, Finset.sum_mul]
  exact sum_eq_coe (f := fun g => eg (A.head (x 1)) g (x 0) * Real.exp (-nu A (x 0) (x 1))) fun g => r86 A _

theorem Te_pos (h : Fin 16) (i : Fin 4096) (ν : ℝ) : 0 < (A.head h).T i * Real.exp (-ν) :=
  mul_pos ((A.head h).T_pos i) (Real.exp_pos _)

theorem r88 (x : S1x4096x16.Idx) : val_main_v88 (F := Ideal) A.x0 A.x2 A.x4 A.x6 x
    = (((A.head (x 2)).T (x 1) * Real.exp (-nu A (x 1) (x 2)) : ℝ) : EReal) := by
  rw [val_main_v88_apply, r87]; rfl

/-- The merged softmax's weight of each group. -/
theorem r90 (x : S3x4096x16.Idx) : val_main_v90 (F := Ideal) A.x0 A.x2 A.x4 A.x6 x
    = ((eg (A.head (x 2)) (x 0) (x 1) / (A.head (x 2)).T (x 1) : ℝ) : EReal) := by
  rw [val_main_v90_apply, r86, val_main_v89_apply, r88]
  exact (div_real (Te_pos A _ _ _)).trans (congrArg _ (mul_div_mul_right _ _ (Real.exp_pos _).ne'))

theorem r93 (x : S1x4096x16.Idx) : val_main_v93 (F := Ideal) A.x0 A.x2 A.x4 A.x6 x
    = ((1 / ((A.head (x 2)).T (x 1) * Real.exp (-nu A (x 1) (x 2)) * ((A.head (x 2)).T (x 1) * Real.exp (-nu A (x 1) (x 2)))) : ℝ) : EReal) := by
  rw [val_main_v93_apply, val_main_v92_apply, val_main_cst_16_apply, Ideal.ofBits_def, Ideal.ofBits_one_f32, val_main_v91_apply, r88]
  rw [Ideal.mulf_def, ← EReal.coe_mul]
  exact div_real (a := 1) (mul_pos (Te_pos A _ _ _) (Te_pos A _ _ _))

theorem r94 (x : S3x4096x16x1.Idx) : val_main_v94 (F := Ideal) A.x0 A.x2 A.x4 A.x6 x
    = ((eg (A.head (x 2)) (x 0) (x 1) / (A.head (x 2)).T (x 1) : ℝ) : EReal) := by
  rw [val_main_v94_apply, r90]; rfl

theorem r95 (x : S1x4096x16x64.Idx) : val_main_v95 (F := Ideal) A.x0 A.x6 x = ((A.head (x 2)).o0 (x 1) (x 3) : EReal) := by
  rw [val_main_v95_apply, r57]; rfl
theorem r96 (x : S1x4096x16x64.Idx) : val_main_v96 (F := Ideal) A.x1 x = ((A.head (x 2)).o1 (x 1) (x 3) : EReal) := by
  rw [val_main_v96_apply]; rfl
theorem r97 (x : S1x4096x16x64.Idx) : val_main_v97 (F := Ideal) A.x3 x = ((A.head (x 2)).o2 (x 1) (x 3) : EReal) := by
  rw [val_main_v97_apply]; rfl

theorem r98 (x : S3x4096x16x64.Idx) : val_main_v98 (F := Ideal) A.x0 A.x1 A.x3 A.x6 x = (og (A.head (x 2)) (x 0) (x 1) (x 3) : EReal) := by
  unfold val_main_v98
  refine stack3 (s := S1x4096x16x64) (t := S3x4096x16x64) _ _ _ 0 _ rfl rfl x (ix4 (n0 := 1) (n1 := 4096) (n2 := 16) (n3 := 64) 0 (x 1) (x 2) (x 3)) (fun b => match b with
    | ⟨0, _⟩ => fun h => absurd rfl h
    | ⟨1, _⟩ => fun _ => rfl
    | ⟨2, _⟩ => fun _ => rfl
    | ⟨3, _⟩ => fun _ => rfl) (x 0).isLt _ (fun h => ?_) (fun h => ?_) (fun h => ?_)
  · rw [r95, show x 0 = (0 : Fin 3) from Fin.ext h, og_0]; rfl
  · rw [r96, show x 0 = (1 : Fin 3) from Fin.ext h, og_1]; rfl
  · rw [r97, show x 0 = (2 : Fin 3) from Fin.ext h, og_2]; rfl

/-- The merged output. -/
theorem r103 (x : S4096x16x64.Idx) : val_main_v103 (F := Ideal) A.x0 A.x1 A.x2 A.x3 A.x4 A.x6 x
    = ((A.head (x 1)).out (x 0) (x 2) : EReal) := by
  rw [val_main_v103_apply, val_main_cst_19_apply, Ideal.ofBits_def, Ideal.ofBits_zero_f32, zero_add, ← sum_og]
  exact sum_eq_coe (f := fun g => eg (A.head (x 1)) g (x 0) / (A.head (x 1)).T (x 0) * og (A.head (x 1)) g (x 0) (x 2)) fun g => by
    rw [val_main_v102_apply, val_main_v101_apply, r94, r98, Ideal.mulf_def, ← EReal.coe_mul]; rfl

theorem r105 (x : S4096x16x64.Idx) : val_main_v105 (F := Ideal) A.x5 x = ((A.head (x 1)).g (x 0) (x 2) : EReal) := by
  rw [val_main_v105_apply]
  exact congrArg (fun r : ℝ => (r : EReal)) (congrArg₂ A.G (Fin.ext (by idx_bounds x; show _ / 1024 = (x 0).val; omega)) (Fin.ext (by idx_bounds x; show _ % 1024 = 64 * (x 1).val + (x 2).val; omega)))

theorem r110 (x : S3x4096x16.Idx) : val_main_v110 (F := Ideal) A.x0 A.x1 A.x3 A.x5 A.x6 x = (rg (A.head (x 2)) (x 0) (x 1) : EReal) := by
  rw [val_main_v110_apply, val_main_cst_20_apply, Ideal.ofBits_def, Ideal.ofBits_zero_f32, zero_add]
  exact sum_eq_coe (f := fun e => (A.head (x 2)).g (x 1) e * og (A.head (x 2)) (x 0) (x 1) e) fun e => by
    rw [val_main_v109_apply, val_main_v106_apply, r105, r98, Ideal.mulf_def, ← EReal.coe_mul]; rfl

theorem i111 (x : S3x4096x16x1.Idx) : idx_main_v111 x = ix3 (n0 := 3) (n1 := 4096) (n2 := 16) (x 0) (x 1) (x 2) := by blk_ext

theorem r118 (x : S3x4096x16.Idx) : val_main_v118 (F := Ideal) A.x0 A.x1 A.x3 A.x5 A.x6 x = (rg (A.head (x 2)) (x 0) (x 1) : EReal) := by
  rw [val_main_v118_apply, val_main_cst_21_apply, Ideal.ofBits_def, Ideal.ofBits_zero_f32, zero_add, Fin.sum_univ_one,
    val_main_v111_apply, i111, r110]; rfl

theorem r121 (x : S3x4096x16.Idx) : val_main_v121 (F := Ideal) A.x0 A.x1 A.x2 A.x3 A.x4 A.x5 A.x6 x
    = ((rg (A.head (x 2)) (x 0) (x 1)
        * (1 / ((A.head (x 2)).T (x 1) * Real.exp (-nu A (x 1) (x 2)) * ((A.head (x 2)).T (x 1) * Real.exp (-nu A (x 1) (x 2)))))
        * (eg (A.head (x 2)) (x 0) (x 1) * Real.exp (-nu A (x 1) (x 2))) : ℝ) : EReal) := by
  rw [val_main_v121_apply, val_main_v120_apply, r118, val_main_v119_apply, r93, r86, Ideal.mulf_def, Ideal.mulf_def,
    ← EReal.coe_mul, ← EReal.coe_mul]; rfl

theorem i123 (x : S1x4096x16.Idx) : idx_main_v123 x = ix2 (n0 := 4096) (n1 := 16) (x 1) (x 2) := by blk_ext

theorem r127 (x : S4096x16.Idx) : val_main_v127 (F := Ideal) A.x0 A.x1 A.x2 A.x3 A.x4 A.x5 A.x6 x
    = ((-∑ g, rg (A.head (x 1)) g (x 0)
        * (1 / ((A.head (x 1)).T (x 0) * Real.exp (-nu A (x 0) (x 1)) * ((A.head (x 1)).T (x 0) * Real.exp (-nu A (x 0) (x 1)))))
        * (eg (A.head (x 1)) g (x 0) * Real.exp (-nu A (x 0) (x 1))) : ℝ) : EReal) := by
  rw [val_main_v127_apply, val_main_cst_23_apply, Ideal.ofBits_def, Ideal.ofBits_zero_f32, zero_add, Fin.sum_univ_one,
    val_main_v124_apply, val_main_v123_apply, i123, val_main_v122_apply, val_main_cst_22_apply, Ideal.ofBits_def, Ideal.ofBits_zero_f32, zero_add]
  exact (congrArg Neg.neg (sum_eq_coe fun g => r121 A _)).trans (EReal.coe_neg _).symm

theorem r126 (x : S3x4096x16.Idx) : val_main_v126 (F := Ideal) A.x0 A.x1 A.x2 A.x3 A.x4 A.x5 A.x6 x
    = ((rg (A.head (x 2)) (x 0) (x 1) / ((A.head (x 2)).T (x 1) * Real.exp (-nu A (x 1) (x 2))) : ℝ) : EReal) := by
  rw [val_main_v126_apply, r118, val_main_v125_apply, r88]
  exact div_real (Te_pos A _ _ _)

theorem r130 (x : S3x4096x16.Idx) : val_main_v130 (F := Ideal) A.x0 A.x1 A.x2 A.x3 A.x4 A.x5 A.x6 x
    = (((rg (A.head (x 2)) (x 0) (x 1) / ((A.head (x 2)).T (x 1) * Real.exp (-nu A (x 1) (x 2)))
        + -∑ g, rg (A.head (x 2)) g (x 1)
          * (1 / ((A.head (x 2)).T (x 1) * Real.exp (-nu A (x 1) (x 2)) * ((A.head (x 2)).T (x 1) * Real.exp (-nu A (x 1) (x 2)))))
          * (eg (A.head (x 2)) g (x 1) * Real.exp (-nu A (x 1) (x 2))))
        * (eg (A.head (x 2)) (x 0) (x 1) * Real.exp (-nu A (x 1) (x 2))) : ℝ) : EReal) := by
  rw [val_main_v130_apply, val_main_v129_apply, r126, val_main_v128_apply, r127, r86, Ideal.mulf_def, Ideal.addf_def,
    ← EReal.coe_add, ← EReal.coe_mul]; rfl

theorem i132 (x : S4096x16.Idx) : idx_main_v132 x = ix3 (n0 := 1) (n1 := 4096) (n2 := 16) 0 (x 0) (x 1) := by blk_ext
theorem i137 (x : S4096x1x16.Idx) : idx_main_v137 x = ix2 (n0 := 4096) (n1 := 16) (x 0) (x 2) := by blk_ext

/-- The cotangent of this group's log sum. -/
theorem r138 (x : S1x16x4096.Idx) : val_main_v138 (F := Ideal) A.x0 A.x1 A.x2 A.x3 A.x4 A.x5 A.x6 x
    = (dl0 (A.head (x 1)) (x 2) (nu A (x 2) (x 1)) : EReal) := by
  rw [val_main_v138_apply, val_main_v137_apply, i137, val_main_v132_apply, i132, val_main_v131_apply]
  exact r130 A _

end Cert.RefRead

end
-- ==== Proof.RefGrad.lean ====
/- The reference program read on finite arguments: the backward pass of the group's attention, down to the three results. -/
module

public import proofs.«01_k».proof.Proof.RefMerge

@[expose] public section

set_option maxRecDepth 16384
set_option backward.isDefEq.respectTransparency false

noncomputable section

namespace Cert.RefRead

open Cert.Band Cert.ReferenceIdeal Cert.ReferenceIdeal.Gen Cert.ReferenceIdeal.Read
open Idealize.ShloMosaic
open scoped BigOperators

variable (A : Args)

theorem i113 (x : S4096x16x64.Idx) : idx_main_v113 x = ix4 (n0 := 1) (n1 := 4096) (n2 := 16) (n3 := 64) 0 (x 0) (x 1) (x 2) := by blk_ext
theorem i139 (x : S4096x1x16x64.Idx) : idx_main_v139 x = ix3 (n0 := 4096) (n1 := 16) (n2 := 64) (x 0) (x 2) (x 3) := i22 x

/-- The cotangent of this group's output: the merged output's, times the group's weight. -/
theorem r108 (x : S3x4096x16x64.Idx) : val_main_v108 (F := Ideal) A.x0 A.x2 A.x4 A.x5 A.x6 x
    = ((eg (A.head (x 2)) (x 0) (x 1) / (A.head (x 2)).T (x 1) * (A.head (x 2)).g (x 1) (x 3) : ℝ) : EReal) := by
  rw [val_main_v108_apply, val_main_v107_apply, r94, val_main_v106_apply, r105, Ideal.mulf_def, ← EReal.coe_mul]; rfl

theorem r140 (x : S1x16x4096x64.Idx) : val_main_v140 (F := Ideal) A.x0 A.x2 A.x4 A.x5 A.x6 x
    = (((A.head (x 1)).Z (x 2) / (A.head (x 1)).T (x 2) * (A.head (x 1)).g (x 2) (x 3) : ℝ) : EReal) := by
  rw [val_main_v140_apply, val_main_v139_apply, i139, val_main_v113_apply, i113, val_main_v112_apply]
  exact r108 A _

/-- The gradient of v. -/
theorem r142 (x : S1x16x4096x64.Idx) : val_main_v142 (F := Ideal) A.x0 A.x2 A.x4 A.x5 A.x6 x = ((A.head (x 1)).dv (x 2) (x 3) : EReal) := by
  rw [val_main_v142_apply, val_main_v141_apply]
  refine sum_eq_coe (f := fun i => (A.head (x 1)).P i (x 2) * (A.head (x 1)).g i (x 3)) fun i => ?_
  rw [r140, r52, ← EReal.coe_mul]
  have hZ := ((A.head (x 1)).Z_pos i).ne'
  refine congrArg (fun r : ℝ => (r : EReal)) ?_
  show (A.head (x 1)).Z i / (A.head (x 1)).T i * (A.head (x 1)).g i (x 3) * ((A.head (x 1)).ex i (x 2) / (A.head (x 1)).Z i)
    = (A.head (x 1)).ex i (x 2) / (A.head (x 1)).T i * (A.head (x 1)).g i (x 3)
  field_simp

theorem r143 (x : S1x16x4096x4096.Idx) : val_main_v143 (F := Ideal) A.x0 A.x2 A.x4 A.x5 A.x6 x
    = (((A.head (x 1)).Z (x 2) / (A.head (x 1)).T (x 2) * (A.head (x 1)).dP (x 2) (x 3) : ℝ) : EReal) := by
  rw [val_main_v143_apply, Head.dP, Finset.mul_sum]
  refine sum_eq_coe (f := fun e => (A.head (x 1)).Z (x 2) / (A.head (x 1)).T (x 2) * ((A.head (x 1)).g (x 2) e * (A.head (x 1)).v (x 3) e)) fun e => ?_
  rw [r140, r54, ← EReal.coe_mul]
  exact congrArg (fun r : ℝ => (r : EReal)) (mul_assoc _ _ _)

theorem r146 (x : S1x16x4096x4096.Idx) : val_main_v146 (F := Ideal) A.x0 A.x2 A.x4 A.x5 A.x6 x
    = (((A.head (x 1)).Z (x 2) / (A.head (x 1)).T (x 2) * (A.head (x 1)).dP (x 2) (x 3) * ((A.head (x 1)).ex (x 2) (x 3) / (A.head (x 1)).Z (x 2)) : ℝ) : EReal) := by
  rw [val_main_v146_apply, r143, r52, Ideal.mulf_def, ← EReal.coe_mul]

theorem r148 (x : S1x16x4096.Idx) : val_main_v148 (F := Ideal) A.x0 A.x2 A.x4 A.x5 A.x6 x
    = ((-((A.head (x 1)).Z (x 2) / (A.head (x 1)).T (x 2) * (A.head (x 1)).r0 (x 2)) : ℝ) : EReal) := by
  rw [val_main_v148_apply, val_main_cst_24_apply, Ideal.ofBits_def, Ideal.ofBits_zero_f32, zero_add, ← Head.sum_dP, Finset.mul_sum, ← Finset.sum_neg_distrib]
  refine sum_eq_coe (f := fun j => -((A.head (x 1)).Z (x 2) / (A.head (x 1)).T (x 2) * ((A.head (x 1)).dP (x 2) j * ((A.head (x 1)).ex (x 2) j / (A.head (x 1)).Z (x 2))))) fun j => ?_
  rw [val_main_v147_apply, r146]
  exact (EReal.coe_neg _).symm.trans (congrArg (fun r : ℝ => (r : EReal)) (congrArg Neg.neg (mul_assoc _ _ _)))

theorem i149 (x : S1x16x4096x1.Idx) : idx_main_v149 x = ix3 (n0 := 1) (n1 := 16) (n2 := 4096) 0 (x 1) (x 2) := by blk_ext

/-- The sum over two axes of extent one is the one element. -/
theorem r150 (x : S16x4096.Idx) : val_main_v150 (F := Ideal) A.x0 A.x2 A.x4 A.x5 A.x6 x
    = ((-((A.head (x 0)).Z (x 1) / (A.head (x 0)).T (x 1) * (A.head (x 0)).r0 (x 1)) : ℝ) : EReal) := by
  unfold val_main_v150
  rw [ValueIdx.hostReduceAdd_apply, Ideal.hostReduceAdd, val_main_cst_25_apply, Ideal.ofBits_def, Ideal.ofBits_zero_f32, zero_add,
    Finset.sum_eq_single (ix4 (n0 := 1) (n1 := 16) (n2 := 4096) (n3 := 1) 0 (x 0) (x 1) 0)]
  · rw [val_main_v149_apply, i149, r148]; rfl
  · intro b hb hne
    refine absurd ?_ hne
    have hb' := (Finset.mem_filter.mp hb).2
    funext a
    match a with
    | ⟨0, _⟩ => exact Subsingleton.elim (α := Fin 1) _ _
    | ⟨1, _⟩ => exact congrFun hb' 0
    | ⟨2, _⟩ => exact congrFun hb' 1
    | ⟨3, _⟩ => exact Subsingleton.elim (α := Fin 1) _ _
  · intro h
    refine absurd (Finset.mem_filter.mpr ⟨Finset.mem_univ _, ?_⟩) h
    funext a
    match a with
    | ⟨0, _⟩ => rfl
    | ⟨1, _⟩ => rfl

theorem r153 (x : S1x16x4096.Idx) : val_main_v153 (F := Ideal) A.x0 A.x1 A.x2 A.x3 A.x4 A.x5 A.x6 x
    = (((dl0 (A.head (x 1)) (x 2) (nu A (x 2) (x 1)) + -((A.head (x 1)).Z (x 2) / (A.head (x 1)).T (x 2) * (A.head (x 1)).r0 (x 2)))
        / ((A.head (x 1)).Z (x 2) * Real.exp (-mu A (x 1) (x 2))) : ℝ) : EReal) := by
  rw [val_main_v153_apply, val_main_v152_apply, r138, val_main_v151_apply, r150, r46, Ideal.addf_def, ← EReal.coe_add]
  exact div_real (mul_pos ((A.head (x 1)).Z_pos (x 2)) (Real.exp_pos _))

/-- The cotangent of the masked scores. -/
theorem r156 (x : S1x16x4096x4096.Idx) : val_main_v156 (F := Ideal) A.x0 A.x1 A.x2 A.x3 A.x4 A.x5 A.x6 x
    = ((A.head (x 1)).dS (x 2) (x 3) : EReal) := by
  rw [val_main_v156_apply, r146, val_main_v155_apply, val_main_v154_apply, r153, r45, Ideal.mulf_def, Ideal.addf_def,
    ← EReal.coe_mul, ← EReal.coe_add]
  exact congrArg (fun r : ℝ => (r : EReal)) (chain' (A.head (x 1)) (x 2) (x 3) (mu A (x 1) (x 2)) (nu A (x 2) (x 1)))

/-- Off the band the score has no cotangent. -/
theorem dS_off (H : Head 4096) (i j : Fin 4096) (h : ¬ Band.dist i j ≤ 64) : H.dS i j = 0 := by
  rw [Head.dS, Head.P, Head.ex, if_neg h, zero_div, zero_mul]

theorem r159 (x : S1x16x4096x4096.Idx) : val_main_v159 (F := Ideal) A.x0 A.x1 A.x2 A.x3 A.x4 A.x5 A.x6 x
    = (((A.head (x 1)).dS (x 2) (x 3) * 0.125 : ℝ) : EReal) := by
  have e : val_main_v157 (F := Ideal) A.x0 A.x1 A.x2 A.x3 A.x4 A.x5 A.x6 x = ((A.head (x 1)).dS (x 2) (x 3) : EReal) := by
    rw [val_main_v157_apply, val_main_v34_1_apply, r156, val_main_call1_v0_apply, val_main_call1_cst_apply, Ideal.ofBits_def, Ideal.ofBits_zero_f32]
    by_cases h : Band.dist (n := 4096) (x 2) (x 3) ≤ 64
    · exact if_pos ((r33 (idx_main_v34_1 x)).mpr h)
    · rw [dS_off _ _ _ h]
      exact if_neg fun h' => h ((r33 (idx_main_v34_1 x)).mp h')
  rw [val_main_v159_apply, e, val_main_v158_apply, val_main_cst_26_apply, Ideal.ofBits_def, ofBits_eighth, Ideal.mulf_def, ← EReal.coe_mul]

theorem r160 (x : S1x16x4096x64.Idx) : val_main_v160 (F := Ideal) A.x0 A.x1 A.x2 A.x3 A.x4 A.x5 A.x6 x = ((A.head (x 1)).dk (x 2) (x 3) : EReal) := by
  rw [val_main_v160_apply, Head.dk, Finset.sum_mul]
  refine sum_eq_coe (f := fun i => (A.head (x 1)).dS i (x 2) * (A.head (x 1)).q i (x 3) * 0.125) fun i => ?_
  rw [r159, r23, ← EReal.coe_mul]
  exact congrArg (fun r : ℝ => (r : EReal)) (mul_right_comm _ _ _)

theorem r161 (x : S1x16x4096x64.Idx) : val_main_v161 (F := Ideal) A.x0 A.x1 A.x2 A.x3 A.x4 A.x5 A.x6 x = ((A.head (x 1)).dq (x 2) (x 3) : EReal) := by
  rw [val_main_v161_apply, Head.dq, Finset.sum_mul]
  refine sum_eq_coe (f := fun j => (A.head (x 1)).dS (x 2) j * (A.head (x 1)).k j (x 3) * 0.125) fun j => ?_
  rw [r159, r25, ← EReal.coe_mul]
  exact congrArg (fun r : ℝ => (r : EReal)) (mul_right_comm _ _ _)

/-! ### The results' layout: heads side by side, then q, k and v side by side -/

theorem i145 (x : S4096x16x64.Idx) : idx_main_v145 x = ix4 (n0 := 4096) (n1 := 1) (n2 := 16) (n3 := 64) (x 0) 0 (x 1) (x 2) := i57 x
theorem i163 (x : S4096x16x64.Idx) : idx_main_v163 x = ix4 (n0 := 4096) (n1 := 1) (n2 := 16) (n3 := 64) (x 0) 0 (x 1) (x 2) := i57 x
theorem i165 (x : S4096x16x64.Idx) : idx_main_v165 x = ix4 (n0 := 4096) (n1 := 1) (n2 := 16) (n3 := 64) (x 0) 0 (x 1) (x 2) := i57 x

/-- The head and the lane of a column. -/
abbrev hd (c : Fin 1024) : Fin 16 := ⟨c.val / 64, by omega⟩
abbrev ln (c : Fin 1024) : Fin 64 := ⟨c.val % 64, by omega⟩

theorem i166 (x : S4096x1024.Idx) : idx_main_v166 x = ix3 (n0 := 4096) (n1 := 16) (n2 := 64) (x 0) (hd (x 1)) (ln (x 1)) := by blk_ext
theorem i167 (x : S4096x1024.Idx) : idx_main_v167 x = ix3 (n0 := 4096) (n1 := 16) (n2 := 64) (x 0) (hd (x 1)) (ln (x 1)) := i166 x
theorem i168 (x : S4096x1024.Idx) : idx_main_v168 x = ix3 (n0 := 4096) (n1 := 16) (n2 := 64) (x 0) (hd (x 1)) (ln (x 1)) := i166 x

theorem r166 (x : S4096x1024.Idx) : val_main_v166 (F := Ideal) A.x0 A.x2 A.x4 A.x5 A.x6 x = ((A.head (hd (x 1))).dv (x 0) (ln (x 1)) : EReal) := by
  rw [val_main_v166_apply, i166, val_main_v145_apply, i145, val_main_v144_apply]; exact r142 A _
theorem r167 (x : S4096x1024.Idx) : val_main_v167 (F := Ideal) A.x0 A.x1 A.x2 A.x3 A.x4 A.x5 A.x6 x = ((A.head (hd (x 1))).dk (x 0) (ln (x 1)) : EReal) := by
  rw [val_main_v167_apply, i167, val_main_v163_apply, i163, val_main_v162_apply]; exact r160 A _
theorem r168 (x : S4096x1024.Idx) : val_main_v168 (F := Ideal) A.x0 A.x1 A.x2 A.x3 A.x4 A.x5 A.x6 x = ((A.head (hd (x 1))).dq (x 0) (ln (x 1)) : EReal) := by
  rw [val_main_v168_apply, i168, val_main_v165_apply, i165, val_main_v164_apply]; exact r161 A _

/-- Three blocks of columns side by side, read at a column of block `g`. -/
theorem cols3 (x y z : S4096x1024.Idx → EReal) (hc : Shape.Concatenates [S4096x1024, S4096x1024, S4096x1024] S4096x3072 1)
    (j : S4096x3072.Idx) (g : Fin 3) (c : Fin 1024) (h : (j 1).val = 1024 * g.val + c.val) (v : EReal)
    (h0 : g = 0 → x (ix2 (n0 := 4096) (n1 := 1024) (j 0) c) = v) (h1 : g = 1 → y (ix2 (n0 := 4096) (n1 := 1024) (j 0) c) = v)
    (h2 : g = 2 → z (ix2 (n0 := 4096) (n1 := 1024) (j 0) c) = v) :
    concatenate S4096x3072 1 [⟨S4096x1024, x⟩, ⟨S4096x1024, y⟩, ⟨S4096x1024, z⟩] hc j = v := by
  have e := concatenate_ofFn_apply (α := EReal) (t := S4096x3072) (s₁ := S4096x1024) 1 ![x, y, z] hc rfl 1024 rfl j g (by rw [h]; omega)
    (ix2 (n0 := 4096) (n1 := 1024) (j 0) c) (by show c.val = (j 1).val % 1024; omega)
    (fun b => match b with
      | ⟨0, _⟩ => fun _ => rfl
      | ⟨1, _⟩ => fun h => absurd rfl h)
  refine e.trans ?_
  fin_cases g
  · exact h0 rfl
  · exact h1 rfl
  · exact h2 rfl

/-- The gradient with respect to q, k or v (`g` is 0, 1, 2). -/
def grad (H : Head 4096) (g : Fin 3) (i : Fin 4096) (e : Fin 64) : ℝ := ![H.dq i e, H.dk i e, H.dv i e] g

theorem grad_0 (H : Head 4096) (i : Fin 4096) (e : Fin 64) : grad H 0 i e = H.dq i e := by simp [grad]
theorem grad_1 (H : Head 4096) (i : Fin 4096) (e : Fin 64) : grad H 1 i e = H.dk i e := by simp [grad]
theorem grad_2 (H : Head 4096) (i : Fin 4096) (e : Fin 64) : grad H 2 i e = H.dv i e := by simp [grad]

/-- The reference's result: column block `g` holds the gradient of q, k, v, head by head. -/
theorem result (x : S4096x3072.Idx) (g : Fin 3) (c : Fin 1024) (hc : (x 1).val = 1024 * g.val + c.val) :
    val_main_v170 (F := Ideal) A.x0 A.x1 A.x2 A.x3 A.x4 A.x5 A.x6 x = (grad (A.head (hd c)) g (x 0) (ln c) : EReal) := by
  rw [val_main_v170_apply, Ideal.truncf_def]
  unfold val_main_v169
  refine cols3 _ _ _ _ x g c hc _ (fun h => ?_) (fun h => ?_) (fun h => ?_)
  · rw [h, grad_0]; exact r168 A _
  · rw [h, grad_1]; exact r167 A _
  · rw [h, grad_2]; exact r166 A _

end Cert.RefRead

end
-- ==== Proof.KHost.lean ====
/- What the launch finds in its operands, on finite arguments: q, k and v and the cotangent as they were given (the casts are
   the identity on the extended reals), the merged softmax's log sum and the inner product per row and head, and the table of
   distance penalties that is minus infinity off the band. -/
module

public import proofs.«01_k».proof.Proof.KHostOps
public import proofs.«01_k».proof.Proof.RefGrad

@[expose] public section

set_option maxRecDepth 16384
set_option backward.isDefEq.respectTransparency false

noncomputable section

namespace Cert.KHost

open Cert.KernelIdeal Cert.KernelIdeal.Gen Cert.ReferenceIdeal.Read Cert.Band Cert.RefRead
open Idealize.ShloMosaic Idealize.ShloMosaic.StableHlo Idealize.ShloMosaic.TcCoe
open scoped BigOperators

variable (A : Args)

/-! ### The summed products are the reference's products -/

theorem qk_eq : qk A.x0 = val_main_v26 (F := Ideal) A.x0 := by
  funext x
  rw [r26]
  unfold qk
  simp only [Host.reduceAdd, Ideal.hostReduceAdd_def]
  rw [Ideal.hostReduceAdd_single reducesTo_S1x16x4096x4096x64_S1x16x4096x4096_d4 (by decide)]
  have e0 : constant (F := Ideal) S_ .f32 0x00000000#32 (Shape.Idx.first h_S_) = (0 : EReal) := Ideal.ofBits_zero_f32
  rw [e0, zero_add]
  refine sum_eq_coe (f := fun e => (A.head (x 1)).q (x 2) e * (A.head (x 1)).k (x 3) e) fun e => ?_
  rw [EReal.coe_mul]
  exact congrArg₂ (fun a b : EReal => a * b)
    ((broadcastInDim_apply _ _ _ _ (ix5 (n0 := 1) (n1 := 16) (n2 := 4096) (n3 := 1) (n4 := 64) 0 (x 1) (x 2) 0 e) (by intro a; fin_cases a <;> rfl)).trans
      ((broadcastInDim_apply _ _ _ _ (ix4 (n0 := 1) (n1 := 16) (n2 := 4096) (n3 := 64) 0 (x 1) (x 2) e) (by intro a; fin_cases a <;> rfl)).trans (r23 A _)))
    ((broadcastInDim_apply _ _ _ _ (ix5 (n0 := 1) (n1 := 16) (n2 := 1) (n3 := 4096) (n4 := 64) 0 (x 1) 0 (x 3) e) (by intro a; fin_cases a <;> rfl)).trans
      ((broadcastInDim_apply _ _ _ _ (ix4 (n0 := 1) (n1 := 16) (n2 := 4096) (n3 := 64) 0 (x 1) (x 3) e) (by intro a; fin_cases a <;> rfl)).trans (r25 A _)))

theorem pv_eq (x0 : S4096x3072.Idx → EReal) (x6 : S16.Idx → EReal) :
    pv (val_main_v52 (F := Ideal) x0 x6) (val_main_v54 (F := Ideal) x0) = val_main_v55 (F := Ideal) x0 x6 := by
  funext x
  rw [val_main_v55_apply]
  unfold pv
  simp only [Host.reduceAdd, Ideal.hostReduceAdd_def]
  rw [Ideal.hostReduceAdd_single reducesTo_S1x16x4096x4096x64_S1x16x4096x64_d3 (by decide)]
  have e0 : constant (F := Ideal) S_ .f32 0x00000000#32 (Shape.Idx.first h_S_) = (0 : EReal) := Ideal.ofBits_zero_f32
  rw [e0, zero_add]
  refine Finset.sum_congr rfl fun k _ => ?_
  exact congrArg₂ (fun a b : EReal => a * b)
    ((broadcastInDim_apply _ _ _ _ (ix5 (n0 := 1) (n1 := 16) (n2 := 4096) (n3 := 4096) (n4 := 1) 0 (x 1) (x 2) k 0) (by intro a; fin_cases a <;> rfl)).trans
      ((broadcastInDim_apply _ _ _ _ (lidx_main_v55 x k) (by intro a; fin_cases a <;> first | rfl | exact Fin.val_eq_zero (x 0)))))
    ((broadcastInDim_apply _ _ _ _ (ix5 (n0 := 1) (n1 := 16) (n2 := 1) (n3 := 4096) (n4 := 64) 0 (x 1) 0 k (x 3)) (by intro a; fin_cases a <;> rfl)).trans
      ((broadcastInDim_apply _ _ _ _ (ridx_main_v55 x k) (by intro a; fin_cases a <;> first | rfl | exact Fin.val_eq_zero (x 0)))))

/-! ### The log sum over the three groups, the inner product -/

theorem top1_eq (x : S1x4096x16.Idx) : top1 (val_main_v63 (F := Ideal) A.x0 A.x2 A.x4 A.x6) x = (nu A (x 1) (x 2) : EReal) := by
  refine (broadcastInDim_apply _ _ _ _ (ix2 (n0 := 4096) (n1 := 16) (x 1) (x 2)) (by intro a; fin_cases a <;> rfl)).trans ?_
  exact (r66 A (ix2 (n0 := 4096) (n1 := 16) (x 1) (x 2))).choose_spec

theorem sum_d0 (f : S3x4096x16.Idx → EReal) (x : S4096x16.Idx) :
    Host.reduceAdd (F := Ideal) (φ := .f32) f (constant (F := Ideal) S_ .f32 0x00000000#32) reducesTo_S3x4096x16_S4096x16_d0 h_S_ x
      = ∑ g : Fin 3, f (ix3 (n0 := 3) (n1 := 4096) (n2 := 16) g (x 0) (x 1)) := by
  simp only [Host.reduceAdd, Ideal.hostReduceAdd_def]
  rw [Ideal.hostReduceAdd_single reducesTo_S3x4096x16_S4096x16_d0 (by decide)]
  have e0 : constant (F := Ideal) S_ .f32 0x00000000#32 (Shape.Idx.first h_S_) = (0 : EReal) := Ideal.ofBits_zero_f32
  rw [e0, zero_add]
  refine Finset.sum_congr rfl fun k _ => ?_
  exact congrArg f (funext fun a => Fin.ext (by match a with | ⟨0, _⟩ => rfl | ⟨1, _⟩ => rfl | ⟨2, _⟩ => rfl))

theorem sum_d2 (f : S4096x16x64.Idx → EReal) (x : S4096x16.Idx) :
    Host.reduceAdd (F := Ideal) (φ := .f32) f (constant (F := Ideal) S_ .f32 0x00000000#32) reducesTo_S4096x16x64_S4096x16_d2 h_S_ x
      = ∑ e : Fin 64, f (ix3 (n0 := 4096) (n1 := 16) (n2 := 64) (x 0) (x 1) e) := by
  simp only [Host.reduceAdd, Ideal.hostReduceAdd_def]
  rw [Ideal.hostReduceAdd_single reducesTo_S4096x16x64_S4096x16_d2 (by decide)]
  have e0 : constant (F := Ideal) S_ .f32 0x00000000#32 (Shape.Idx.first h_S_) = (0 : EReal) := Ideal.ofBits_zero_f32
  rw [e0, zero_add]
  refine Finset.sum_congr rfl fun k _ => ?_
  exact congrArg f (funext fun a => Fin.ext (by match a with | ⟨0, _⟩ => rfl | ⟨1, _⟩ => rfl | ⟨2, _⟩ => rfl))

theorem lse3_eq (x : S4096x16.Idx) : lse3 (val_main_v63 (F := Ideal) A.x0 A.x2 A.x4 A.x6) x = (Real.log ((A.head (x 1)).T (x 0)) : EReal) := by
  have hT := (A.head (x 1)).T_pos (x 0)
  have e1 : shapeCast S4096x16 (top1 (val_main_v63 (F := Ideal) A.x0 A.x2 A.x4 A.x6)) shapeCasts_S1x4096x16_S4096x16 x = (nu A (x 0) (x 1) : EReal) := by
    refine (shapeCast_apply _ _ _ (ix3 (n0 := 1) (n1 := 4096) (n2 := 16) 0 (x 0) (x 1)) ?_).trans (top1_eq A _)
    rewrite [Shape.rowMajor_val_three, Shape.rowMajor_val_two]
    show (0 * 4096 + (x 0).val) * 16 + (x 1).val = (x 0).val * 16 + (x 1).val
    omega
  have e2 : Host.reduceAdd (F := Ideal) (φ := .f32) (Host.exp (F := Ideal) (φ := .f32) (subf (F := Ideal) (φ := .f32) (val_main_v63 (F := Ideal) A.x0 A.x2 A.x4 A.x6)
      (broadcastInDim S3x4096x16 ![0, 1, 2] bcast_S1x4096x16_S3x4096x16_0_1_2 (top1 (val_main_v63 (F := Ideal) A.x0 A.x2 A.x4 A.x6)))))
      (constant (F := Ideal) S_ .f32 0x00000000#32) reducesTo_S3x4096x16_S4096x16_d0 h_S_ x
      = (((A.head (x 1)).T (x 0) * Real.exp (-nu A (x 0) (x 1)) : ℝ) : EReal) := by
    rw [sum_d0, ← sum_eg, Finset.sum_mul]
    refine sum_eq_coe (f := fun g => eg (A.head (x 1)) g (x 0) * Real.exp (-nu A (x 0) (x 1))) fun g => ?_
    have e3 := r63 A (ix3 (n0 := 3) (n1 := 4096) (n2 := 16) g (x 0) (x 1))
    have e4 := (broadcastInDim_apply (t := S3x4096x16) ![0, 1, 2] bcast_S1x4096x16_S3x4096x16_0_1_2 (top1 (val_main_v63 (F := Ideal) A.x0 A.x2 A.x4 A.x6))
      (ix3 (n0 := 3) (n1 := 4096) (n2 := 16) g (x 0) (x 1)) (ix3 (n0 := 1) (n1 := 4096) (n2 := 16) 0 (x 0) (x 1)) (by intro a; fin_cases a <;> rfl)).trans (top1_eq A _)
    refine (congrArg₂ (fun a b : EReal => Ideal.exp (a - b)) e3 e4).trans ?_
    rw [← EReal.coe_sub, Ideal.exp_coe, sub_eq_add_neg, Real.exp_add, exp_lseg]
    rfl
  refine (congrArg₂ (fun a b : EReal => a + Ideal.log b) e1 e2).trans ?_
  rw [log_real (mul_pos hT (Real.exp_pos _)), Real.log_mul hT.ne' (Real.exp_pos _).ne', Real.log_exp, ← EReal.coe_add]
  refine congrArg _ (?_ : nu A (x 0) (x 1) + (Real.log ((A.head (x 1)).T (x 0)) + -nu A (x 0) (x 1)) = _); ring

theorem inner_eq (x : S4096x16.Idx) : inner A.x5 (val_main_v103 (F := Ideal) A.x0 A.x1 A.x2 A.x3 A.x4 A.x6) x = ((A.head (x 1)).delta (x 0) : EReal) := by
  unfold inner
  rw [sum_d2]
  refine sum_eq_coe (f := fun e => (A.head (x 1)).g (x 0) e * (A.head (x 1)).out (x 0) e) fun e => ?_
  rw [EReal.coe_mul]
  exact congrArg₂ (fun a b : EReal => a * b) (r105 A (ix3 (n0 := 4096) (n1 := 16) (n2 := 64) (x 0) (x 1) e)) (r103 A (ix3 (n0 := 4096) (n1 := 16) (n2 := 64) (x 0) (x 1) e))

/-- The statistics' columns: the log sums of the sixteen heads, then their inner products. -/
theorem stats_lse (l d : S4096x16.Idx → EReal) (x : S4096x128.Idx) (h : Fin 16) (hx : (x 1).val = h.val) :
    stats l d x = l (ix2 (n0 := 4096) (n1 := 16) (x 0) h) :=
  concatenate_apply_piece 1 _ _ x 0 (by exact Nat.zero_lt_succ _) S4096x16 l rfl rfl 0 rfl _
    (fun b => match b with
      | ⟨0, _⟩ => fun _ => rfl
      | ⟨1, _⟩ => fun h => absurd rfl h) (by rw [hx]; exact Nat.zero_add _)

theorem stats_delta (l d : S4096x16.Idx → EReal) (x : S4096x128.Idx) (h : Fin 16) (hx : (x 1).val = 16 + h.val) :
    stats l d x = d (ix2 (n0 := 4096) (n1 := 16) (x 0) h) :=
  concatenate_apply_piece 1 _ _ x 1 (by exact Nat.succ_lt_succ (Nat.zero_lt_succ _)) S4096x16 d rfl rfl 16 rfl _
    (fun b => match b with
      | ⟨0, _⟩ => fun _ => rfl
      | ⟨1, _⟩ => fun h => absurd rfl h) (by rw [hx]; rfl)

/-! ### The bias table -/

/-- The distance of a window's column from a row of the block. -/
def wdist (a : Fin 128) (w : Fin 256) : ℕ := ((w.val : ℤ) - 64 - a.val).natAbs

theorem distw_eq (x : S128x256.Idx) : distw x = BitVec.ofNat 32 (wdist (x 0) (x 1)) := by
  have e : distw x = IntOp.absi (IntOp.subi (IntOp.subi (BitVec.ofNat 32 (x 1).val) 64#32) (BitVec.ofNat 32 (x 0).val)) := rfl
  rw [e]
  have h : ∀ (a : Fin 128) (w : Fin 256), IntOp.absi (IntOp.subi (IntOp.subi (BitVec.ofNat 32 w.val) 64#32) (BitVec.ofNat 32 a.val)) = BitVec.ofNat 32 (wdist a w) := by
    intro a w
    have e1 : IntOp.subi (IntOp.subi (BitVec.ofNat 32 w.val) 64#32) (BitVec.ofNat 32 a.val) = IntOp.subi (BitVec.ofNat 32 w.val) (BitVec.ofNat 32 (64 + a.val)) := by
      unfold IntOp.subi; rw [BitVec.ofNat_add, BitVec.sub_sub]
    rw [e1, absi_subi w.val (64 + a.val) (by omega) (by omega)]
    unfold wdist; congr 1; omega
  exact h (x 0) (x 1)

theorem wdist_lt (a : Fin 128) (w : Fin 256) : wdist a w < 4096 := by unfold wdist; omega

/-- The table as the host writes it. -/
def table (x6 : S16.Idx → EReal) : S16x128x256.Idx → EReal :=
  select (α := EReal) (broadcastInDim S16x128x256 ![0, 1, 2] bcast_S1x128x256_S16x128x256_0_1_2
      (cmpi .sle (broadcastInDim S1x128x256 ![1, 2] bcast_S128x256_S1x128x256_1_2 distw) (broadcastInDim S1x128x256 ![] bcast_S_S1x128x256 (constantI S_ 32 64#32))))
    (mulf (F := Ideal) (φ := .f32) (broadcastInDim S16x128x256 ![0, 1, 2] bcast_S16x1x1_S16x128x256_0_1_2 (val_main_v17 (F := Ideal) x6))
        (broadcastInDim S16x128x256 ![0, 1, 2] bcast_S1x128x256_S16x128x256_0_1_2 (broadcastInDim S1x128x256 ![1, 2] bcast_S128x256_S1x128x256_1_2
          (sitofp (F := Ideal) .f32 (muli (broadcastInDim S128x256 ![] bcast_S_S128x256 (constantI S_ 32 1#32)) distw)))))
    (broadcastInDim S16x128x256 ![] bcast_S_S16x128x256 (constant (F := Ideal) S_ .f32 0xFF800000#32))

theorem table_eq (x : S16x128x256.Idx) : table A.x6 x
    = if wdist (x 1) (x 2) ≤ 64 then ((-A.s (x 0) * (wdist (x 1) (x 2) : ℝ) : ℝ) : EReal) else ⊥ := by
  have b3 : ∀ {α : Type} (y : S128x256.Idx → α), broadcastInDim S16x128x256 ![0, 1, 2] bcast_S1x128x256_S16x128x256_0_1_2 (broadcastInDim S1x128x256 ![1, 2] bcast_S128x256_S1x128x256_1_2 y) x
      = y (ix2 (n0 := 128) (n1 := 256) (x 1) (x 2)) := fun y =>
    (broadcastInDim_apply _ _ _ _ (ix3 (n0 := 1) (n1 := 128) (n2 := 256) 0 (x 1) (x 2)) (by intro a; fin_cases a <;> rfl)).trans
      (broadcastInDim_apply _ _ _ _ (ix2 (n0 := 128) (n1 := 256) (x 1) (x 2)) (by intro a; fin_cases a <;> rfl))
  have e1 : broadcastInDim S16x128x256 ![0, 1, 2] bcast_S1x128x256_S16x128x256_0_1_2
      (cmpi .sle (broadcastInDim S1x128x256 ![1, 2] bcast_S128x256_S1x128x256_1_2 distw) (broadcastInDim S1x128x256 ![] bcast_S_S1x128x256 (constantI S_ 32 64#32))) x
      = IntOp.cmpi .sle (BitVec.ofNat 32 (wdist (x 1) (x 2))) 64#32 := by
    refine (broadcastInDim_apply _ _ _ _ (ix3 (n0 := 1) (n1 := 128) (n2 := 256) 0 (x 1) (x 2)) (by intro a; fin_cases a <;> rfl)).trans ?_
    refine congrArg (fun z => IntOp.cmpi .sle z 64#32) ?_
    exact (broadcastInDim_apply _ _ _ _ (ix2 (n0 := 128) (n1 := 256) (x 1) (x 2)) (by intro a; fin_cases a <;> rfl)).trans (distw_eq _)
  have e2 : broadcastInDim S16x128x256 ![0, 1, 2] bcast_S16x1x1_S16x128x256_0_1_2 (val_main_v17 (F := Ideal) A.x6) x = ((-A.s (x 0) : ℝ) : EReal) := by
    refine (broadcastInDim_apply _ _ _ _ (ix3 (n0 := 16) (n1 := 1) (n2 := 1) (x 0) 0 0) (by intro a; fin_cases a <;> rfl)).trans ?_
    rw [val_main_v17_apply, val_main_v16_apply]; rfl
  have e3 : broadcastInDim S16x128x256 ![0, 1, 2] bcast_S1x128x256_S16x128x256_0_1_2 (broadcastInDim S1x128x256 ![1, 2] bcast_S128x256_S1x128x256_1_2
          (sitofp (F := Ideal) .f32 (muli (broadcastInDim S128x256 ![] bcast_S_S128x256 (constantI S_ 32 1#32)) distw))) x = (((wdist (x 1) (x 2) : ℕ) : ℝ) : EReal) := by
    rw [b3]
    show (((IntOp.muli 1#32 (distw (ix2 (n0 := 128) (n1 := 256) (x 1) (x 2)))).toInt : ℝ) : EReal) = _
    rw [distw_eq]
    have e : IntOp.muli 1#32 (BitVec.ofNat 32 (wdist (x 1) (x 2))) = BitVec.ofNat 32 (wdist (x 1) (x 2)) := by
      unfold IntOp.muli; exact BitVec.one_mul _
    refine (congrArg (fun z : BitVec 32 => (((z.toInt : ℤ) : ℝ) : EReal)) e).trans ?_
    rw [toInt_small _ (by have := wdist_lt (x 1) (x 2); omega)]; rfl
  refine (congrArg₂ (fun (c : BitVec 1) (z : EReal) => if c = 1 then z else Ideal.ofBits .f32 0xFF800000#32) e1 ((congrArg₂ (fun a b : EReal => a * b) e2 e3).trans (EReal.coe_mul _ _).symm)).trans ?_
  rw [ofBits_negInf]
  exact if_congr (sle_64 _ (by have := wdist_lt (x 1) (x 2); omega)) rfl rfl

/-! ### All of it together -/

theorem split2 : hostOps0_2 (F := Ideal) = c1 ++ (c2 ++ (c3 ++ (c4 ++ (c5 ++ (c6 ++ c7))))) := rfl

/-- What the launch finds. -/
theorem host (W : Vals) (h0 : W (Proc.devRef .tc main_arg0) = A.x0) (h1 : W (Proc.devRef .tc main_arg1) = A.x1)
    (h2 : W (Proc.devRef .tc main_arg2) = A.x2) (h3 : W (Proc.devRef .tc main_arg3) = A.x3) (h4 : W (Proc.devRef .tc main_arg4) = A.x4)
    (h5 : W (Proc.devRef .tc main_arg5) = A.x5) (h6 : W (Proc.devRef .tc main_arg6) = A.x6) :
    let V := after (List.flatten [hostOps0, hostOps0_1, hostOps0_2, hostOps0_3]) W
    V (Proc.devRef .tc main_v106) = A.x0 ∧ V (Proc.devRef .tc main_v107) = A.x5
      ∧ V (Proc.devRef .tc main_v105) = stats (lse3 (val_main_v63 (F := Ideal) A.x0 A.x2 A.x4 A.x6)) (inner A.x5 (val_main_v103 (F := Ideal) A.x0 A.x1 A.x2 A.x3 A.x4 A.x6))
      ∧ V (Proc.devRef .tc main_v131) = table A.x6 := by
  intro V
  have hV : V = after hostOps0_3 (after c7 (after c6 (after c5 (after c4 (after c3 (after c2 (after c1 (after hostOps0_1 (after hostOps0 W))))))))) := by
    show after (List.flatten [hostOps0, hostOps0_1, hostOps0_2, hostOps0_3]) W = _
    rw [List.flatten_cons, List.flatten_cons, List.flatten_cons, List.flatten_cons, List.flatten_nil, List.append_nil, after_append, after_append, after_append, split2,
      after_append, after_append, after_append, after_append, after_append, after_append]
  rw [hV]
  have i38 := a38 W; have i5 := a5 W; have i35 := a35 W; have i2 := a2 W
  rw [h0] at i5; rw [h0, h6, qk_eq] at i35
  have k0 : after hostOps0 W (Proc.devRef .tc main_arg0) = A.x0 := by rw [← h0]; after_reads_simp
  have k1 : after hostOps0 W (Proc.devRef .tc main_arg1) = A.x1 := by rw [← h1]; after_reads_simp
  have k2 : after hostOps0 W (Proc.devRef .tc main_arg2) = A.x2 := by rw [← h2]; after_reads_simp
  have k3 : after hostOps0 W (Proc.devRef .tc main_arg3) = A.x3 := by rw [← h3]; after_reads_simp
  have k4 : after hostOps0 W (Proc.devRef .tc main_arg4) = A.x4 := by rw [← h4]; after_reads_simp
  have k5 : after hostOps0 W (Proc.devRef .tc main_arg5) = A.x5 := by rw [← h5]; after_reads_simp
  have k6 : after hostOps0 W (Proc.devRef .tc main_arg6) = A.x6 := by rw [← h6]; after_reads_simp
  clear h0 h1 h2 h3 h4 h5 h6 hV V
  generalize after hostOps0 W = W at *
  have j39 : after hostOps0_1 W (Proc.devRef .tc main_v39) = val_main_v34_0 (F := Ideal) A.x0 A.x6 := by
    rw [b39, i38, i35, i2]; rfl
  have s0_5 : after hostOps0_1 W (Proc.devRef .tc main_v5) = val_main_v5 (F := Ideal) A.x0 := by rw [← i5]; after_reads_simp
  have s0_arg0 : after hostOps0_1 W (Proc.devRef .tc main_arg0) = A.x0 := by rw [← k0]; after_reads_simp
  have s0_arg1 : after hostOps0_1 W (Proc.devRef .tc main_arg1) = A.x1 := by rw [← k1]; after_reads_simp
  have s0_arg2 : after hostOps0_1 W (Proc.devRef .tc main_arg2) = A.x2 := by rw [← k2]; after_reads_simp
  have s0_arg3 : after hostOps0_1 W (Proc.devRef .tc main_arg3) = A.x3 := by rw [← k3]; after_reads_simp
  have s0_arg4 : after hostOps0_1 W (Proc.devRef .tc main_arg4) = A.x4 := by rw [← k4]; after_reads_simp
  have s0_arg5 : after hostOps0_1 W (Proc.devRef .tc main_arg5) = A.x5 := by rw [← k5]; after_reads_simp
  have s0_arg6 : after hostOps0_1 W (Proc.devRef .tc main_arg6) = A.x6 := by rw [← k6]; after_reads_simp
  clear i5 k0 k1 k2 k3 k4 k5 k6 i38 i35 i2
  generalize after hostOps0_1 W = W at *
  have s1_48 := c48 A.x0 A.x6 _ j39
  have s1_39 : after c1 W (Proc.devRef .tc main_v39) = val_main_v34_0 (F := Ideal) A.x0 A.x6 := by rw [← j39]; after_reads_simp
  have s1_5 : after c1 W (Proc.devRef .tc main_v5) = val_main_v5 (F := Ideal) A.x0 := by rw [← s0_5]; after_reads_simp
  have s1_arg0 : after c1 W (Proc.devRef .tc main_arg0) = A.x0 := by rw [← s0_arg0]; after_reads_simp
  have s1_arg1 : after c1 W (Proc.devRef .tc main_arg1) = A.x1 := by rw [← s0_arg1]; after_reads_simp
  have s1_arg2 : after c1 W (Proc.devRef .tc main_arg2) = A.x2 := by rw [← s0_arg2]; after_reads_simp
  have s1_arg3 : after c1 W (Proc.devRef .tc main_arg3) = A.x3 := by rw [← s0_arg3]; after_reads_simp
  have s1_arg4 : after c1 W (Proc.devRef .tc main_arg4) = A.x4 := by rw [← s0_arg4]; after_reads_simp
  have s1_arg5 : after c1 W (Proc.devRef .tc main_arg5) = A.x5 := by rw [← s0_arg5]; after_reads_simp
  have s1_arg6 : after c1 W (Proc.devRef .tc main_arg6) = A.x6 := by rw [← s0_arg6]; after_reads_simp
  clear j39 s0_5 s0_arg0 s0_arg1 s0_arg2 s0_arg3 s0_arg4 s0_arg5 s0_arg6
  generalize after c1 W = W at *
  have s2_62 := c62 A.x0 A.x6 _ s1_39 s1_48 s1_5
  rw [pv_eq] at s2_62
  replace s2_62 : after c2 W (Proc.devRef .tc main_v62) = val_main_v57 (F := Ideal) A.x0 A.x6 := s2_62
  have s2_64 := c64 A.x0 A.x6 _ s1_48
  have s2_arg0 : after c2 W (Proc.devRef .tc main_arg0) = A.x0 := by rw [← s1_arg0]; after_reads_simp
  have s2_arg1 : after c2 W (Proc.devRef .tc main_arg1) = A.x1 := by rw [← s1_arg1]; after_reads_simp
  have s2_arg2 : after c2 W (Proc.devRef .tc main_arg2) = A.x2 := by rw [← s1_arg2]; after_reads_simp
  have s2_arg3 : after c2 W (Proc.devRef .tc main_arg3) = A.x3 := by rw [← s1_arg3]; after_reads_simp
  have s2_arg4 : after c2 W (Proc.devRef .tc main_arg4) = A.x4 := by rw [← s1_arg4]; after_reads_simp
  have s2_arg5 : after c2 W (Proc.devRef .tc main_arg5) = A.x5 := by rw [← s1_arg5]; after_reads_simp
  have s2_arg6 : after c2 W (Proc.devRef .tc main_arg6) = A.x6 := by rw [← s1_arg6]; after_reads_simp
  clear s1_48 s1_39 s1_5 s1_arg0 s1_arg1 s1_arg2 s1_arg3 s1_arg4 s1_arg5 s1_arg6
  generalize after c2 W = W at *
  have s3_75 := c75 A.x0 A.x2 A.x4 A.x6 _ s2_64 s2_arg2 s2_arg4
  have s3_62 : after c3 W (Proc.devRef .tc main_v62) = val_main_v57 (F := Ideal) A.x0 A.x6 := by rw [← s2_62]; after_reads_simp
  have s3_64 : after c3 W (Proc.devRef .tc main_v64) = val_main_v59 (F := Ideal) A.x0 A.x6 := by rw [← s2_64]; after_reads_simp
  have s3_arg0 : after c3 W (Proc.devRef .tc main_arg0) = A.x0 := by rw [← s2_arg0]; after_reads_simp
  have s3_arg1 : after c3 W (Proc.devRef .tc main_arg1) = A.x1 := by rw [← s2_arg1]; after_reads_simp
  have s3_arg2 : after c3 W (Proc.devRef .tc main_arg2) = A.x2 := by rw [← s2_arg2]; after_reads_simp
  have s3_arg3 : after c3 W (Proc.devRef .tc main_arg3) = A.x3 := by rw [← s2_arg3]; after_reads_simp
  have s3_arg4 : after c3 W (Proc.devRef .tc main_arg4) = A.x4 := by rw [← s2_arg4]; after_reads_simp
  have s3_arg5 : after c3 W (Proc.devRef .tc main_arg5) = A.x5 := by rw [← s2_arg5]; after_reads_simp
  have s3_arg6 : after c3 W (Proc.devRef .tc main_arg6) = A.x6 := by rw [← s2_arg6]; after_reads_simp
  clear s2_62 s2_64 s2_arg0 s2_arg1 s2_arg2 s2_arg3 s2_arg4 s2_arg5 s2_arg6
  generalize after c3 W = W at *
  have s4_87 := c87 A.x0 A.x1 A.x2 A.x3 A.x4 A.x6 _ s3_75 s3_62 s3_arg1 s3_arg3
  have s4_64 : after c4 W (Proc.devRef .tc main_v64) = val_main_v59 (F := Ideal) A.x0 A.x6 := by rw [← s3_64]; after_reads_simp
  have s4_arg0 : after c4 W (Proc.devRef .tc main_arg0) = A.x0 := by rw [← s3_arg0]; after_reads_simp
  have s4_arg2 : after c4 W (Proc.devRef .tc main_arg2) = A.x2 := by rw [← s3_arg2]; after_reads_simp
  have s4_arg4 : after c4 W (Proc.devRef .tc main_arg4) = A.x4 := by rw [← s3_arg4]; after_reads_simp
  have s4_arg5 : after c4 W (Proc.devRef .tc main_arg5) = A.x5 := by rw [← s3_arg5]; after_reads_simp
  have s4_arg6 : after c4 W (Proc.devRef .tc main_arg6) = A.x6 := by rw [← s3_arg6]; after_reads_simp
  clear s3_75 s3_62 s3_64 s3_arg0 s3_arg1 s3_arg2 s3_arg3 s3_arg4 s3_arg5 s3_arg6
  generalize after c4 W = W at *
  have s5_100 := c100 A.x0 A.x2 A.x4 A.x6 _ s4_64 s4_arg2 s4_arg4
  have s5_87 : after c5 W (Proc.devRef .tc main_v87) = val_main_v103 (F := Ideal) A.x0 A.x1 A.x2 A.x3 A.x4 A.x6 := by rw [← s4_87]; after_reads_simp
  have s5_arg0 : after c5 W (Proc.devRef .tc main_arg0) = A.x0 := by rw [← s4_arg0]; after_reads_simp
  have s5_arg5 : after c5 W (Proc.devRef .tc main_arg5) = A.x5 := by rw [← s4_arg5]; after_reads_simp
  have s5_arg6 : after c5 W (Proc.devRef .tc main_arg6) = A.x6 := by rw [← s4_arg6]; after_reads_simp
  clear s4_87 s4_64 s4_arg0 s4_arg2 s4_arg4 s4_arg5 s4_arg6
  generalize after c5 W = W at *
  have s6_105 := c105 A.x5 _ _ _ s5_100 s5_87 s5_arg5
  have s6_106 := c106 A.x0 _ s5_arg0
  have s6_107 := c107 A.x5 _ s5_arg5
  have s6_arg6 : after c6 W (Proc.devRef .tc main_arg6) = A.x6 := by rw [← s5_arg6]; after_reads_simp
  clear s5_100 s5_87 s5_arg0 s5_arg5 s5_arg6
  generalize after c6 W = W at *
  have s7_126 := c126 A.x6 _ s6_arg6
  have s7_130 := c130 W
  have s7_17 := c17 W
  have s7_105 : after c7 W (Proc.devRef .tc main_v105) = stats (lse3 (val_main_v63 (F := Ideal) A.x0 A.x2 A.x4 A.x6)) (inner A.x5 (val_main_v103 (F := Ideal) A.x0 A.x1 A.x2 A.x3 A.x4 A.x6)) := by rw [← s6_105]; after_reads_simp
  have s7_106 : after c7 W (Proc.devRef .tc main_v106) = A.x0 := by rw [← s6_106]; after_reads_simp
  have s7_107 : after c7 W (Proc.devRef .tc main_v107) = A.x5 := by rw [← s6_107]; after_reads_simp
  clear s6_105 s6_106 s6_107 s6_arg6
  generalize after c7 W = W at *
  refine ⟨?_, ?_, ?_, ?_⟩
  · rw [← s7_106]; after_reads_simp
  · rw [← s7_107]; after_reads_simp
  · rw [← s7_105]; after_reads_simp
  · rw [d131, s7_126, s7_130, s7_17]; rfl

end Cert.KHost

end
-- ==== Proof.KMath.lean ====
/- The sums over a window of 256 rows are the gradients of the reference: what the window holds outside the sequence is masked,
   what lies off the band has probability zero, and half of the 128 lanes is masked away. -/
module

public import proofs.«01_k».proof.Proof.KBody
public import proofs.«01_k».proof.Proof.KHost

@[expose] public section

noncomputable section

namespace Cert.KMath

open Cert.Band Cert.KBody Cert.KHost
open scoped BigOperators

/-- Column `e` of the head in the half `hh` of a pair's 128 lanes. -/
def lane (hh : Fin 2) (e : Fin 64) : Fin 128 := ⟨64 * hh.val + e.val, by omega⟩

/-- The window's row `w` lies in the sequence. -/
abbrev M (b : Fin 32) (w : Fin 256) : Prop := 64 ≤ 128 * b.val + w.val ∧ 128 * b.val + w.val - 64 < 4096

/-- The row of the sequence that the window's row `w` is read from. -/
def wrow (b : Fin 32) (w : Fin 256) : Fin 4096 :=
  if w.val < 64 then ⟨64 * (2 * b.val - 1) + w.val % 64, by omega⟩
  else if w.val - 64 < 128 then ⟨128 * b.val + (w.val - 64) % 128, by omega⟩
  else ⟨64 * min (2 * b.val + 2) 63 + (w.val - 64 - 128) % 64, by omega⟩

/-- The block's row `a`. -/
def brow (b : Fin 32) (a : Fin 128) : Fin 4096 := ⟨128 * b.val + a.val, by omega⟩

theorem wrow_eq (b : Fin 32) (w : Fin 256) (h : M b w) : wrow b w = ⟨128 * b.val + w.val - 64, h.2⟩ := by
  obtain ⟨h1, h2⟩ := h
  unfold wrow
  split
  · apply Fin.ext; show 64 * (2 * b.val - 1) + w.val % 64 = _; simp only; omega
  · split
    · apply Fin.ext; show 128 * b.val + (w.val - 64) % 128 = _; simp only; omega
    · apply Fin.ext; show 64 * min (2 * b.val + 2) 63 + (w.val - 64 - 128) % 64 = _; simp only; omega

theorem dist_wrow (b : Fin 32) (a : Fin 128) (w : Fin 256) (h : M b w) : dist (brow b a) (wrow b w) = wdist a w := by
  rw [wrow_eq b w h]
  obtain ⟨h1, h2⟩ := h
  unfold Band.dist wdist brow
  simp only
  omega

theorem sum_lanes (hh : Fin 2) (c : ℝ) (f g s : Fin 128 → ℝ) (hs : ∀ e, s e = if e.val / 64 = hh.val then c else 0) :
    (∑ e, f e * s e * g e) = (∑ e, f (lane hh e) * g (lane hh e)) * c := by
  rw [Finset.sum_mul]
  have h1 : (∑ e, f e * s e * g e) = ∑ e : Fin (64 + 64), f e * s e * g e := rfl
  rw [h1, Fin.sum_univ_add, ← Finset.sum_add_distrib]
  refine Finset.sum_congr rfl fun e _ => ?_
  rw [hs, hs]
  have e0 : ((Fin.castAdd 64 e : Fin (64 + 64)).val / 64) = 0 := by simp only [Fin.val_castAdd]; omega
  have e1 : ((Fin.natAdd 64 e : Fin (64 + 64)).val / 64) = 1 := by simp only [Fin.val_natAdd]; omega
  rw [e0, e1]
  fin_cases hh
  · have : lane 0 e = Fin.castAdd 64 e := Fin.ext (by simp [lane])
    simp [this]; ring
  · have : lane 1 e = Fin.natAdd 64 e := Fin.ext (by simp [lane, Nat.add_comm])
    simp [this]; ring

variable (H : Head 4096) (b : Fin 32) (a : Fin 128) (hh : Fin 2)

theorem exp_T (x : ℝ) (i : Fin 4096) : Real.exp (x - Real.log (H.T i)) = Real.exp x / H.T i := by
  rw [Real.exp_sub, Real.exp_log (H.T_pos i)]

/-- A sum over the window whose entries are those of a dense sum's rows, and which is zero off the band. -/
theorem window (f : Fin 4096 → ℝ) (hf : ∀ j, 64 < dist (brow b a) j → f j = 0) (g : Fin 256 → ℝ)
    (hg : ∀ w, M b w → wdist a w ≤ 64 → g w = f (wrow b w)) :
    (∑ w, if M b w ∧ wdist a w ≤ 64 then g w else 0) = ∑ j, f j := by
  rw [← sum_window b.val a (brow b a).isLt f hf]
  refine Finset.sum_congr rfl fun w _ => ?_
  by_cases h : M b w
  · by_cases h' : wdist a w ≤ 64
    · rw [if_pos ⟨h, h'⟩, dif_pos h, hg w h h', wrow_eq b w h]
    · rw [if_neg (fun x : M b w ∧ wdist a w ≤ 64 => h' x.2), dif_pos h]
      refine (hf _ ?_).symm
      have := dist_wrow b a w h
      rw [wrow_eq b w h] at this
      rw [this]; omega
  · rw [if_neg (fun x : M b w ∧ wdist a w ≤ 64 => h x.1), dif_neg h]

theorem P_off (i j : Fin 4096) (h : 64 < dist i j) : H.P i j = 0 := by
  unfold Head.P Head.ex; rw [if_neg (by omega), zero_div]

theorem dS_off (i j : Fin 4096) (h : 64 < dist i j) : H.dS i j = 0 := by
  unfold Head.dS; rw [P_off H i j h, zero_mul]

theorem P_on (i j : Fin 4096) (d : ℕ) (hd : dist i j = d) (h : d ≤ 64) (x : ℝ) (hx : x = (∑ e, H.q i e * H.k j e) * 0.125) (β l : ℝ)
    (hβ : β = -H.slope * (d : ℝ)) (hl : l = Real.log (H.T i)) : Real.exp (x + β - l) = H.P i j := by
  unfold Head.P Head.ex Head.score
  rw [hl, exp_T, if_pos (by omega), hx, hβ, hd]

variable (α γ s u : Fin 128 → ℝ) (ω υ : Fin 256 → Fin 128 → ℝ) (β lr dr : Fin 256 → ℝ)
  (hs : ∀ e : Fin 128, s e = if e.val / 64 = hh.val then 0.125 else 0) (hu : ∀ e : Fin 128, u e = if e.val / 64 = hh.val then 1 else 0)
  (hβ : ∀ w, β w = -H.slope * (wdist a w : ℝ))

include hs hu hβ in
theorem dq_sum (hα : ∀ e, α (lane hh e) = H.q (brow b a) e) (hγ : ∀ e, γ (lane hh e) = H.g (brow b a) e)
    (hω : ∀ w e, ω w (lane hh e) = H.k (wrow b w) e) (hυ : ∀ w e, υ w (lane hh e) = H.v (wrow b w) e)
    (hl : ∀ w, lr w = Real.log (H.T (brow b a))) (hd : ∀ w, dr w = H.delta (brow b a)) (e : Fin 64) :
    (∑ w, if M b w ∧ wdist a w ≤ 64 then probR α s (ω w) (β w) (lr w) * ((∑ e, γ e * u e * υ w e) - dr w) * ω w (lane hh e) else 0) * 0.125
      = H.dq (brow b a) e := by
  unfold Head.dq
  congr 1
  refine window b a (fun j => H.dS (brow b a) j * H.k j e) (fun j hj => by rw [dS_off H _ _ hj, zero_mul]) _ fun w hM hN => ?_
  rw [hω, hd]
  unfold Head.dS probR
  rw [P_on H (brow b a) (wrow b w) _ (dist_wrow b a w hM) hN _ (by rw [sum_lanes hh 0.125 α (ω w) s hs]; simp only [hα, hω]) _ _ (hβ w) (hl w),
    sum_lanes hh 1 γ (υ w) u hu]
  simp only [hγ, hυ, mul_one]
  rfl

include hs hu hβ in
theorem dk_sum (hα : ∀ e, α (lane hh e) = H.k (brow b a) e) (hγ : ∀ e, γ (lane hh e) = H.v (brow b a) e)
    (hω : ∀ w e, ω w (lane hh e) = H.q (wrow b w) e) (hυ : ∀ w e, υ w (lane hh e) = H.g (wrow b w) e)
    (hl : ∀ w, lr w = Real.log (H.T (wrow b w))) (hd : ∀ w, dr w = H.delta (wrow b w)) (e : Fin 64) :
    (∑ w, if M b w ∧ wdist a w ≤ 64 then probR α s (ω w) (β w) (lr w) * ((∑ e, γ e * u e * υ w e) - dr w) * ω w (lane hh e) else 0) * 0.125
      = H.dk (brow b a) e := by
  unfold Head.dk
  congr 1
  refine window b a (fun i => H.dS i (brow b a) * H.q i e) (fun j hj => by rw [dS_off H _ _ (by rw [Head.dist_comm]; exact hj), zero_mul]) _ fun w hM hN => ?_
  rw [hω, hd]
  unfold Head.dS probR
  rw [P_on H (wrow b w) (brow b a) _ ((Head.dist_comm _ _).trans (dist_wrow b a w hM)) hN _
      (by rw [sum_lanes hh 0.125 α (ω w) s hs]; simp only [hα, hω, mul_comm]) _ _ (hβ w) (hl w),
    sum_lanes hh 1 γ (υ w) u hu]
  simp only [hγ, hυ, mul_one]
  unfold Head.dP
  simp only [mul_comm]

include hs hβ in
theorem dv_sum (hα : ∀ e, α (lane hh e) = H.k (brow b a) e)
    (hω : ∀ w e, ω w (lane hh e) = H.q (wrow b w) e) (hυ : ∀ w e, υ w (lane hh e) = H.g (wrow b w) e)
    (hl : ∀ w, lr w = Real.log (H.T (wrow b w))) (e : Fin 64) :
    (∑ w, if M b w ∧ wdist a w ≤ 64 then probR α s (ω w) (β w) (lr w) * υ w (lane hh e) else 0) = H.dv (brow b a) e := by
  unfold Head.dv
  refine window b a (fun i => H.P i (brow b a) * H.g i e) (fun j hj => by rw [P_off H _ _ (by rw [Head.dist_comm]; exact hj), zero_mul]) _ fun w hM hN => ?_
  rw [hυ]
  unfold probR
  rw [P_on H (wrow b w) (brow b a) _ ((Head.dist_comm _ _).trans (dist_wrow b a w hM)) hN _
      (by rw [sum_lanes hh 0.125 α (ω w) s hs]; simp only [hα, hω, mul_comm]) _ _ (hβ w) (hl w)]

end Cert.KMath

end
-- ==== Proof.KPiece.lean ====
/- What one point of the kernel's grid stores: each of the 24 pieces of its output block is a gradient of two heads. -/
module

public import proofs.«01_k».proof.Proof.KMath

@[expose] public section

set_option maxRecDepth 16384
set_option backward.isDefEq.respectTransparency false

noncomputable section

namespace Cert.KPiece

open Cert.KernelIdeal Cert.KernelIdeal.Gen Cert.Band Cert.KBody Cert.KMath Cert.KHost Cert.RefRead
open Idealize.ShloMosaic Idealize.ShloMosaic.TcCoe
open scoped BigOperators

/-! ### The masks -/

theorem lower_eq (x : S128x128.Idx) : k0_pay3 x = if (x 1).val / 64 = 0 then 1 else 0 := by
  have h : ∀ c : Fin 128, IntOp.cmpi .slt (BitVec.ofNat 32 c.val) 64#32 = if c.val / 64 = 0 then 1 else 0 := by decide +kernel
  have e : k0_pay3 x = IntOp.cmpi .slt (BitVec.ofNat 32 (x 1).val) 64#32 := by pointwise [k0_pay3]
  rw [e]
  exact h (x 1)

theorem half0 (r e : Fin 128) : k0_pay4 (F := Ideal) (ix2 (n0 := 128) (n1 := 128) r e) = ((if e.val / 64 = 0 then 1 else 0 : ℝ) : EReal) := by
  show Scalar.select (k0_pay3 (ix2 (n0 := 128) (n1 := 128) r e)) (Ideal.ofBits .f32 0x3F800000#32 : EReal) (Ideal.ofBits .f32 0x00000000#32) = _
  rw [lower_eq, Ideal.ofBits_one_f32, Ideal.ofBits_zero_f32]
  show Scalar.select (if e.val / 64 = 0 then 1 else 0) (1 : EReal) 0 = _
  split <;> simp [Scalar.select]

theorem half1 (r e : Fin 128) : k0_pay5 (F := Ideal) (ix2 (n0 := 128) (n1 := 128) r e) = ((if e.val / 64 = 1 then 1 else 0 : ℝ) : EReal) := by
  show Scalar.select (k0_pay3 (ix2 (n0 := 128) (n1 := 128) r e)) (Ideal.ofBits .f32 0x00000000#32 : EReal) (Ideal.ofBits .f32 0x3F800000#32) = _
  rw [lower_eq, Ideal.ofBits_one_f32, Ideal.ofBits_zero_f32]
  show Scalar.select (if e.val / 64 = 0 then 1 else 0) (0 : EReal) 1 = _
  by_cases h : e.val / 64 = 0
  · rw [if_pos h, if_neg (by omega)]; simp [Scalar.select]
  · rw [if_neg h, if_pos (by omega)]; simp [Scalar.select]

theorem shalf0 (r e : Fin 128) : k0_pay6 (F := Ideal) (ix2 (n0 := 128) (n1 := 128) r e) = ((if e.val / 64 = 0 then 0.125 else 0 : ℝ) : EReal) := by
  show Scalar.select (k0_pay3 (ix2 (n0 := 128) (n1 := 128) r e)) (Ideal.ofBits .f32 0x3E000000#32 : EReal) (Ideal.ofBits .f32 0x00000000#32) = _
  rw [lower_eq, ofBits_eighth, Ideal.ofBits_zero_f32]
  show Scalar.select (if e.val / 64 = 0 then 1 else 0) ((0.125 : ℝ) : EReal) 0 = _
  split <;> simp [Scalar.select]

theorem shalf1 (r e : Fin 128) : k0_pay7 (F := Ideal) (ix2 (n0 := 128) (n1 := 128) r e) = ((if e.val / 64 = 1 then 0.125 else 0 : ℝ) : EReal) := by
  show Scalar.select (k0_pay3 (ix2 (n0 := 128) (n1 := 128) r e)) (Ideal.ofBits .f32 0x00000000#32 : EReal) (Ideal.ofBits .f32 0x3E000000#32) = _
  rw [lower_eq, ofBits_eighth, Ideal.ofBits_zero_f32]
  show Scalar.select (if e.val / 64 = 0 then 1 else 0) (0 : EReal) ((0.125 : ℝ) : EReal) = _
  by_cases h : e.val / 64 = 0
  · rw [if_pos h, if_neg (by omega)]; simp [Scalar.select]
  · rw [if_neg h, if_pos (by omega)]; simp [Scalar.select]

/-- Whether a window's row lies in the sequence, computed on words. -/
theorem mask_eq (i : grid0.Coords) (b : Fin 32) (hi : (i 1).val = b.val) (r : Fin 128) (w : Fin 256) :
    k0_pay2 i (ix2 (n0 := 128) (n1 := 256) r w) = if M b w then 1 else 0 := by
  have h : ∀ (b : Fin 32) (w : Fin 256), IntOp.andi (IntOp.cmpi .sge (IntOp.addi (Scalar.subi (Scalar.muli (BitVec.ofNat 32 b.val) 128#32) 64#32) (BitVec.ofNat 32 w.val)) 0#32)
      (IntOp.cmpi .slt (IntOp.addi (Scalar.subi (Scalar.muli (BitVec.ofNat 32 b.val) 128#32) 64#32) (BitVec.ofNat 32 w.val)) 4096#32)
      = if M b w then 1 else 0 := by decide +kernel
  rw [← h b w, ← hi]
  pointwise [k0_pay2]

/-! ### The loads -/

/-- A load of 128 lanes of a block of rows. -/
abbrev ldB (x : Vec Ideal S128x1024 .bf16) (o : ℕ)
    (h : ∀ a : Fin 2, (![0, o] : Fin 2 → ℕ) a + S128x128.size a ≤ S128x1024.size a) : Vec Ideal S128x128 .bf16 :=
  View.ld x (Rect.unit (s := S128x1024) ![0, o] S128x128.size h)

abbrev ldH (x : Vec Ideal S64x1024 .bf16) (o : ℕ)
    (h : ∀ a : Fin 2, (![0, o] : Fin 2 → ℕ) a + S64x128.size a ≤ S64x1024.size a) : Vec Ideal S64x128 .bf16 :=
  View.ld x (Rect.unit (s := S64x1024) ![0, o] S64x128.size h)

abbrev ldT (x : Vec Ideal S16x128x256 .f32) (o : ℕ)
    (h : ∀ a : Fin 3, (![o, 0, 0] : Fin 3 → ℕ) a + S1x128x256.size a ≤ S16x128x256.size a) : Vec Ideal S1x128x256 .f32 :=
  View.ld x (Rect.unit (s := S16x128x256) ![o, 0, 0] S1x128x256.size h)

/-- Column `e` of the pair `hp`. -/
def pcol (hp : Fin 8) (e : Fin 128) : Fin 1024 := ⟨128 * hp.val + e.val, by omega⟩

theorem ldB_apply (x : Vec Ideal S128x1024 .bf16) (hp : Fin 8) (o : ℕ) (ho : o = 128 * hp.val)
    (h : ∀ a : Fin 2, (![0, o] : Fin 2 → ℕ) a + S128x128.size a ≤ S128x1024.size a) (r e : Fin 128) :
    ldB x o h (ix2 (n0 := 128) (n1 := 128) r e) = x (ix2 (n0 := 128) (n1 := 1024) r (pcol hp e)) :=
  View.ld_unit_apply_of x _ _ _ _ _ fun a => by
    subst ho
    match a with
    | ⟨0, _⟩ => exact (Nat.zero_add _).symm
    | ⟨1, _⟩ => rfl

theorem ldH_apply (x : Vec Ideal S64x1024 .bf16) (hp : Fin 8) (o : ℕ) (ho : o = 128 * hp.val)
    (h : ∀ a : Fin 2, (![0, o] : Fin 2 → ℕ) a + S64x128.size a ≤ S64x1024.size a) (r : Fin 64) (e : Fin 128) :
    ldH x o h (ix2 (n0 := 64) (n1 := 128) r e) = x (ix2 (n0 := 64) (n1 := 1024) r (pcol hp e)) :=
  View.ld_unit_apply_of x _ _ _ _ _ fun a => by
    subst ho
    match a with
    | ⟨0, _⟩ => exact (Nat.zero_add _).symm
    | ⟨1, _⟩ => rfl

theorem ldT_apply (x : Vec Ideal S16x128x256 .f32) (g : Fin 16) (o : ℕ) (ho : o = g.val)
    (h : ∀ a : Fin 3, (![o, 0, 0] : Fin 3 → ℕ) a + S1x128x256.size a ≤ S16x128x256.size a) (r : Fin 128) (w : Fin 256) :
    ldT x o h (ix3 (n0 := 1) (n1 := 128) (n2 := 256) 0 r w) = x (ix3 (n0 := 16) (n1 := 128) (n2 := 256) g r w) :=
  View.ld_unit_apply_of x _ _ _ _ _ fun a => by
    subst ho
    match a with
    | ⟨0, _⟩ => rfl
    | ⟨1, _⟩ => exact (Nat.zero_add _).symm
    | ⟨2, _⟩ => exact (Nat.zero_add _).symm

/-- The rows before and after the block. -/
def prow (b : Fin 32) (r : Fin 64) : Fin 4096 := ⟨64 * (2 * b.val - 1) + r.val, by omega⟩
def nrow (b : Fin 32) (r : Fin 64) : Fin 4096 := ⟨64 * min (2 * b.val + 2) 63 + r.val, by omega⟩

theorem win_real {α : Type} (R : Fin 4096 → α) (b : Fin 32) (w : Fin 256) (z : α) (x0 : ∀ h : w.val < 64, R (prow b ⟨w.val, h⟩) = z)
    (x1 : ∀ h : w.val - 64 < 128, ¬ w.val < 64 → R (brow b ⟨w.val - 64, h⟩) = z)
    (x2 : ∀ h : w.val - 64 - 128 < 64, ¬ w.val - 64 < 128 → R (nrow b ⟨w.val - 64 - 128, h⟩) = z) : R (wrow b w) = z := by
  unfold wrow
  split
  · rw [← x0 ‹_›]
    exact congrArg R (Fin.ext (by show 64 * (2 * b.val - 1) + w.val % 64 = 64 * (2 * b.val - 1) + w.val; omega))
  · split
    · rw [← x1 ‹_› ‹_›]
      exact congrArg R (Fin.ext (by show 128 * b.val + (w.val - 64) % 128 = 128 * b.val + (w.val - 64); omega))
    · rw [← x2 (by omega) ‹_›]
      exact congrArg R (Fin.ext (by show 64 * min (2 * b.val + 2) 63 + (w.val - 64 - 128) % 64 = 64 * min (2 * b.val + 2) 63 + (w.val - 64 - 128); omega))

/-- A window whose three parts are rows of one array is a run of that array's rows. -/
theorem win_rows (R : Fin 4096 → Fin 128 → ℝ) (b : Fin 32) (p : Vec Ideal S64x128 .bf16) (x : Vec Ideal S128x128 .bf16) (n : Vec Ideal S64x128 .bf16)
    (hp : ∀ r e, p (ix2 (n0 := 64) (n1 := 128) r e) = (R (prow b r) e : EReal))
    (hx : ∀ r e, x (ix2 (n0 := 128) (n1 := 128) r e) = (R (brow b r) e : EReal))
    (hn : ∀ r e, n (ix2 (n0 := 64) (n1 := 128) r e) = (R (nrow b r) e : EReal)) (w : Fin 256) (e : Fin 128) :
    win p x n (ix2 (n0 := 256) (n1 := 128) w e) = (R (wrow b w) e : EReal) := by
  rw [win_apply]
  symm
  refine win_real (fun i => (R i e : EReal)) b w _ (fun h => ?_) (fun h h' => ?_) (fun h h' => ?_)
  · rw [dif_pos h]; exact (hp _ e).symm
  · rw [dif_neg h', dif_pos h]; exact (hx _ e).symm
  · rw [dif_neg (by omega), dif_neg h']; exact (hn _ e).symm

/-- The transposed statistics of the window. -/
theorem statsT_apply (R : Fin 4096 → Fin 128 → EReal) (b : Fin 32) (x : Vec Ideal S128x128 .f32) (p n : Vec Ideal S64x128 .f32)
    (hp : ∀ r e, p (ix2 (n0 := 64) (n1 := 128) r e) = R (prow b r) e)
    (hx : ∀ r e, x (ix2 (n0 := 128) (n1 := 128) r e) = R (brow b r) e)
    (hn : ∀ r e, n (ix2 (n0 := 64) (n1 := 128) r e) = R (nrow b r) e) (c : Fin 128) (w : Fin 256) :
    k0_pay9 (F := Ideal) x p n (ix2 (n0 := 128) (n1 := 256) c w) = R (wrow b w) c := by
  have e1 : k0_pay9 (F := Ideal) x p n (ix2 (n0 := 128) (n1 := 256) c w)
      = if h : w.val < 64 then p (ix2 (n0 := 64) (n1 := 128) ⟨w.val, h⟩ c)
        else if h' : w.val - 64 < 128 then x (ix2 (n0 := 128) (n1 := 128) ⟨w.val - 64, h'⟩ c)
        else n (ix2 (n0 := 64) (n1 := 128) ⟨w.val - 64 - 128, by omega⟩ c) := by
    pointwise [k0_pay9, k0_pay8]
  rw [e1]
  symm
  refine win_real (fun i => R i c) b w _ (fun h => ?_) (fun h h' => ?_) (fun h h' => ?_)
  · rw [dif_pos h]; exact (hp _ c).symm
  · rw [dif_neg h', dif_pos h]; exact (hx _ c).symm
  · rw [dif_neg (by omega), dif_neg h']; exact (hn _ c).symm

end Cert.KPiece

end
-- ==== Proof.KOut.lean ====
/- The block of gradients that one point of the grid stores. -/
module

public import proofs.«01_k».proof.Proof.KPiece

@[expose] public section

set_option maxRecDepth 16384
set_option backward.isDefEq.respectTransparency false

noncomputable section

namespace Cert.KOut

open Cert.KernelIdeal Cert.KernelIdeal.Gen Cert.Band Cert.KBody Cert.KMath Cert.KHost Cert.RefRead Cert.KPiece
open Idealize.ShloMosaic Idealize.ShloMosaic.TcCoe
open scoped BigOperators

/-- Column `c` of the blocks of q, k and v in the array that holds all three. -/
def tcol (g : Fin 3) (c : Fin 1024) : Fin 3072 := ⟨1024 * g.val + c.val, by omega⟩

/-- A lane of the statistics, by number. -/
def stl (o : ℕ) (h : o + 16 ≤ 128) (g : Fin 16) : Fin 128 := ⟨o + g.val, by omega⟩

/-- What the point `b` finds in its windows. -/
structure Blk (A : Args) (b : Fin 32) (ST : Fin 4096 → Fin 128 → EReal)
    (x0 : Vec Ideal S64x1024 .bf16) (x1 : Vec Ideal S128x1024 .bf16) (x2 : Vec Ideal S64x1024 .bf16) (x3 : Vec Ideal S64x1024 .bf16)
    (x4 : Vec Ideal S128x1024 .bf16) (x5 : Vec Ideal S64x1024 .bf16) (x6 : Vec Ideal S64x1024 .bf16) (x7 : Vec Ideal S128x1024 .bf16)
    (x8 : Vec Ideal S64x1024 .bf16) (x9 : Vec Ideal S64x1024 .bf16) (x10 : Vec Ideal S128x1024 .bf16) (x11 : Vec Ideal S64x1024 .bf16)
    (x12 : Vec Ideal S64x128 .f32) (x13 : Vec Ideal S128x128 .f32) (x14 : Vec Ideal S64x128 .f32) (x15 : Vec Ideal S16x128x256 .f32) : Prop where
  b0 : ∀ r c, x0 (ix2 (n0 := 64) (n1 := 1024) r c) = (A.Q (prow b r) (tcol 0 c) : EReal)
  b1 : ∀ r c, x1 (ix2 (n0 := 128) (n1 := 1024) r c) = (A.Q (brow b r) (tcol 0 c) : EReal)
  b2 : ∀ r c, x2 (ix2 (n0 := 64) (n1 := 1024) r c) = (A.Q (nrow b r) (tcol 0 c) : EReal)
  b3 : ∀ r c, x3 (ix2 (n0 := 64) (n1 := 1024) r c) = (A.Q (prow b r) (tcol 1 c) : EReal)
  b4 : ∀ r c, x4 (ix2 (n0 := 128) (n1 := 1024) r c) = (A.Q (brow b r) (tcol 1 c) : EReal)
  b5 : ∀ r c, x5 (ix2 (n0 := 64) (n1 := 1024) r c) = (A.Q (nrow b r) (tcol 1 c) : EReal)
  b6 : ∀ r c, x6 (ix2 (n0 := 64) (n1 := 1024) r c) = (A.Q (prow b r) (tcol 2 c) : EReal)
  b7 : ∀ r c, x7 (ix2 (n0 := 128) (n1 := 1024) r c) = (A.Q (brow b r) (tcol 2 c) : EReal)
  b8 : ∀ r c, x8 (ix2 (n0 := 64) (n1 := 1024) r c) = (A.Q (nrow b r) (tcol 2 c) : EReal)
  b9 : ∀ r c, x9 (ix2 (n0 := 64) (n1 := 1024) r c) = (A.G (prow b r) c : EReal)
  b10 : ∀ r c, x10 (ix2 (n0 := 128) (n1 := 1024) r c) = (A.G (brow b r) c : EReal)
  b11 : ∀ r c, x11 (ix2 (n0 := 64) (n1 := 1024) r c) = (A.G (nrow b r) c : EReal)
  b12 : ∀ r c, x12 (ix2 (n0 := 64) (n1 := 128) r c) = ST (prow b r) c
  b13 : ∀ r c, x13 (ix2 (n0 := 128) (n1 := 128) r c) = ST (brow b r) c
  b14 : ∀ r c, x14 (ix2 (n0 := 64) (n1 := 128) r c) = ST (nrow b r) c
  b15 : ∀ g r w, x15 (ix3 (n0 := 16) (n1 := 128) (n2 := 256) g r w)
    = if wdist r w ≤ 64 then ((-A.s g * (wdist r w : ℝ) : ℝ) : EReal) else ⊥
  lse : ∀ i g, ST i (stl 0 (by omega) g) = (Real.log ((A.head g).T i) : EReal)
  dlt : ∀ i g, ST i (stl 16 (by omega) g) = ((A.head g).delta i : EReal)

/-- Lanes of a pair's block of one of the arrays. -/
def lanes (R : Fin 4096 → Fin 1024 → ℝ) (hp : Fin 8) (r : Fin 4096) (e : Fin 128) : ℝ := R r (pcol hp e)

theorem lanes_head (R : Fin 4096 → Fin 1024 → ℝ) (hp : Fin 8) (hh : Fin 2) (g : Fin 16) (hg : g.val = 2 * hp.val + hh.val) (r : Fin 4096) (e : Fin 64) :
    lanes R hp r (lane hh e) = R r ⟨64 * g.val + e.val, by omega⟩ :=
  congrArg (R r) (Fin.ext (by show 128 * hp.val + (64 * hh.val + e.val) = 64 * g.val + e.val; omega))

section Heads

variable {A : Args} {b : Fin 32} {ST : Fin 4096 → Fin 128 → EReal}
  {x0 : Vec Ideal S64x1024 .bf16} {x1 : Vec Ideal S128x1024 .bf16} {x2 : Vec Ideal S64x1024 .bf16} {x3 : Vec Ideal S64x1024 .bf16}
  {x4 : Vec Ideal S128x1024 .bf16} {x5 : Vec Ideal S64x1024 .bf16} {x6 : Vec Ideal S64x1024 .bf16} {x7 : Vec Ideal S128x1024 .bf16}
  {x8 : Vec Ideal S64x1024 .bf16} {x9 : Vec Ideal S64x1024 .bf16} {x10 : Vec Ideal S128x1024 .bf16} {x11 : Vec Ideal S64x1024 .bf16}
  {x12 : Vec Ideal S64x128 .f32} {x13 : Vec Ideal S128x128 .f32} {x14 : Vec Ideal S64x128 .f32} {x15 : Vec Ideal S16x128x256 .f32}
  (hB : Blk A b ST x0 x1 x2 x3 x4 x5 x6 x7 x8 x9 x10 x11 x12 x13 x14 x15)
  (i : grid0.Coords) (hi : (i 1).val = b.val) (hp : Fin 8) (hh : Fin 2) (g : Fin 16) (hg : g.val = 2 * hp.val + hh.val)
  (half shalf : FVec Ideal S128x128 .bf16)
  (hhalf : ∀ r e, half (ix2 (n0 := 128) (n1 := 128) r e) = ((if e.val / 64 = hh.val then 1 else 0 : ℝ) : EReal))
  (hshalf : ∀ r e, shalf (ix2 (n0 := 128) (n1 := 128) r e) = ((if e.val / 64 = hh.val then 0.125 else 0 : ℝ) : EReal))
  (o : ℕ) (ho : o = 128 * hp.val) (og : ℕ) (hog : og = g.val)
  (hb : ∀ a : Fin 2, (![0, o] : Fin 2 → ℕ) a + S128x128.size a ≤ S128x1024.size a)
  (hw : ∀ a : Fin 2, (![0, o] : Fin 2 → ℕ) a + S64x128.size a ≤ S64x1024.size a)
  (ht : ∀ a : Fin 3, (![og, 0, 0] : Fin 3 → ℕ) a + S1x128x256.size a ≤ S16x128x256.size a)

include ho in
theorem row_lanes (R : Fin 4096 → Fin 1024 → ℝ) (x : Vec Ideal S128x1024 .bf16) (hx : ∀ r c, x (ix2 (n0 := 128) (n1 := 1024) r c) = (R (brow b r) c : EReal))
    (r e : Fin 128) : same (ldB x o hb) (ix2 (n0 := 128) (n1 := 128) r e) = (lanes R hp (brow b r) e : EReal) := by
  rw [same_apply, ldB_apply x hp o ho, hx]; rfl

include ho in
theorem win_lanes (R : Fin 4096 → Fin 1024 → ℝ) (p : Vec Ideal S64x1024 .bf16) (x : Vec Ideal S128x1024 .bf16) (n : Vec Ideal S64x1024 .bf16)
    (h0 : ∀ r c, p (ix2 (n0 := 64) (n1 := 1024) r c) = (R (prow b r) c : EReal))
    (h1 : ∀ r c, x (ix2 (n0 := 128) (n1 := 1024) r c) = (R (brow b r) c : EReal))
    (h2 : ∀ r c, n (ix2 (n0 := 64) (n1 := 1024) r c) = (R (nrow b r) c : EReal)) (w : Fin 256) (e : Fin 128) :
    win (ldH p o hw) (ldB x o hb) (ldH n o hw) (ix2 (n0 := 256) (n1 := 128) w e) = (lanes R hp (wrow b w) e : EReal) :=
  win_rows (fun i => lanes R hp i) b _ _ _ (fun r e => by rw [ldH_apply p hp o ho, h0]; rfl) (fun r e => by rw [ldB_apply x hp o ho, h1]; rfl)
    (fun r e => by rw [ldH_apply n hp o ho, h2]; rfl) w e

include hB hi hg hhalf hshalf ho hog in
theorem dq_head (c0 c16 : BitVec 32) (hc0 : c0 = BitVec.ofNat 32 g.val) (hc16 : c16 = BitVec.ofNat 32 (16 + g.val)) (r : Fin 128) (e : Fin 64) :
    gradH (k0_pay2 i) half shalf (colAt c0 (k0_pay8 x13)) (colAt c16 (k0_pay8 x13)) (same (ldB x1 o hb)) (same (ldB x10 o hb))
      (win (ldH x3 o hw) (ldB x4 o hb) (ldH x5 o hw)) (win (ldH x6 o hw) (ldB x7 o hb) (ldH x8 o hw)) (ldT x15 og ht)
      (ix2 (n0 := 128) (n1 := 128) r (lane hh e)) = ((A.head g).dq (brow b r) e : EReal) := by
  have e8 : k0_pay8 (F := Ideal) x13 = x13 := funext fun y => shapeCast_apply _ _ _ _ rfl
  rw [e8]
  refine (gradH_apply _ half shalf _ _ _ _ _ _ _ r (lane hh e)
    (lanes (fun i c => A.Q i (tcol 0 c)) hp (brow b r)) (lanes A.G hp (brow b r))
    (fun e => if e.val / 64 = hh.val then 0.125 else 0) (fun e => if e.val / 64 = hh.val then 1 else 0)
    (fun w => lanes (fun i c => A.Q i (tcol 1 c)) hp (wrow b w)) (fun w => lanes (fun i c => A.Q i (tcol 2 c)) hp (wrow b w))
    (fun w => -A.s g * (wdist r w : ℝ)) (fun _ => Real.log ((A.head g).T (brow b r))) (fun _ => (A.head g).delta (brow b r))
    (M b) (fun w => wdist r w ≤ 64)
    (fun e => row_lanes hp o ho hb _ x1 hB.b1 r e) (fun e => row_lanes hp o ho hb _ x10 hB.b10 r e) (hshalf r) (hhalf r)
    (fun w e => win_lanes hp o ho hb hw _ x3 x4 x5 hB.b3 hB.b4 hB.b5 w e) (fun w e => win_lanes hp o ho hb hw _ x6 x7 x8 hB.b6 hB.b7 hB.b8 w e)
    (fun w => (ldT_apply x15 g og hog ht r w).trans (hB.b15 g r w))
    (fun w => ((colAt_apply c0 x13 (stl 0 (by omega) g) (by rw [hc0]; simp [stl]) r w).trans (hB.b13 _ _)).trans (hB.lse _ g))
    (fun w => ((colAt_apply c16 x13 (stl 16 (by omega) g) hc16 r w).trans (hB.b13 _ _)).trans (hB.dlt _ g))
    (mask_eq i b hi r)).trans ?_
  refine congrArg (fun z : ℝ => (z : EReal)) ?_
  exact dq_sum (A.head g) b r hh _ _ _ _ _ _ _ _ _ (fun _ => rfl) (fun _ => rfl) (fun _ => rfl)
    (fun e => (lanes_head _ hp hh g hg _ e).trans (congrArg (A.Q _) (Fin.ext (Nat.zero_add _)))) (fun e => lanes_head _ hp hh g hg _ e)
    (fun w e => lanes_head _ hp hh g hg _ e) (fun w e => lanes_head _ hp hh g hg _ e) (fun _ => rfl) (fun _ => rfl) e

include hB hi hg hhalf hshalf ho hog in
theorem dk_head (h0 : S128x256.Slices ![og, 0] S1x256) (o16 : ℕ) (ho16 : o16 = 16 + g.val) (h16 : S128x256.Slices ![o16, 0] S1x256) (r : Fin 128) (e : Fin 64) :
    gradH (k0_pay2 i) half shalf (rowAt ![og, 0] (k0_pay9 x13 x12 x14) h0) (rowAt ![o16, 0] (k0_pay9 x13 x12 x14) h16) (same (ldB x4 o hb)) (same (ldB x7 o hb))
      (win (ldH x0 o hw) (ldB x1 o hb) (ldH x2 o hw)) (win (ldH x9 o hw) (ldB x10 o hb) (ldH x11 o hw)) (ldT x15 og ht)
      (ix2 (n0 := 128) (n1 := 128) r (lane hh e)) = ((A.head g).dk (brow b r) e : EReal) := by
  have hst := statsT_apply ST b x13 x12 x14 hB.b12 hB.b13 hB.b14
  refine (gradH_apply _ half shalf _ _ _ _ _ _ _ r (lane hh e)
    (lanes (fun i c => A.Q i (tcol 1 c)) hp (brow b r)) (lanes (fun i c => A.Q i (tcol 2 c)) hp (brow b r))
    (fun e => if e.val / 64 = hh.val then 0.125 else 0) (fun e => if e.val / 64 = hh.val then 1 else 0)
    (fun w => lanes (fun i c => A.Q i (tcol 0 c)) hp (wrow b w)) (fun w => lanes A.G hp (wrow b w))
    (fun w => -A.s g * (wdist r w : ℝ)) (fun w => Real.log ((A.head g).T (wrow b w))) (fun w => (A.head g).delta (wrow b w))
    (M b) (fun w => wdist r w ≤ 64)
    (fun e => row_lanes hp o ho hb _ x4 hB.b4 r e) (fun e => row_lanes hp o ho hb _ x7 hB.b7 r e) (hshalf r) (hhalf r)
    (fun w e => win_lanes hp o ho hb hw _ x0 x1 x2 hB.b0 hB.b1 hB.b2 w e) (fun w e => win_lanes hp o ho hb hw _ x9 x10 x11 hB.b9 hB.b10 hB.b11 w e)
    (fun w => (ldT_apply x15 g og hog ht r w).trans (hB.b15 g r w))
    (fun w => ((rowAt_apply ![og, 0] _ h0 (stl 0 (by omega) g) (by rw [hog]; simp [stl]) rfl r w).trans (hst _ _)).trans (hB.lse _ g))
    (fun w => ((rowAt_apply ![o16, 0] _ h16 (stl 16 (by omega) g) ho16 rfl r w).trans (hst _ _)).trans (hB.dlt _ g))
    (mask_eq i b hi r)).trans ?_
  refine congrArg (fun z : ℝ => (z : EReal)) ?_
  exact dk_sum (A.head g) b r hh _ _ _ _ _ _ _ _ _ (fun _ => rfl) (fun _ => rfl) (fun _ => rfl)
    (fun e => lanes_head _ hp hh g hg _ e) (fun e => lanes_head _ hp hh g hg _ e)
    (fun w e => (lanes_head _ hp hh g hg _ e).trans (congrArg (A.Q _) (Fin.ext (Nat.zero_add _)))) (fun w e => lanes_head _ hp hh g hg _ e) (fun _ => rfl) (fun _ => rfl) e

include hB hi hg hshalf ho hog in
theorem dv_head (h0 : S128x256.Slices ![og, 0] S1x256) (r : Fin 128) (e : Fin 64) :
    gradV (k0_pay2 i) shalf (rowAt ![og, 0] (k0_pay9 x13 x12 x14) h0) (same (ldB x4 o hb))
      (win (ldH x0 o hw) (ldB x1 o hb) (ldH x2 o hw)) (win (ldH x9 o hw) (ldB x10 o hb) (ldH x11 o hw)) (ldT x15 og ht)
      (ix2 (n0 := 128) (n1 := 128) r (lane hh e)) = ((A.head g).dv (brow b r) e : EReal) := by
  have hst := statsT_apply ST b x13 x12 x14 hB.b12 hB.b13 hB.b14
  refine (gradV_apply _ shalf _ _ _ _ _ r (lane hh e)
    (lanes (fun i c => A.Q i (tcol 1 c)) hp (brow b r))
    (fun e => if e.val / 64 = hh.val then 0.125 else 0)
    (fun w => lanes (fun i c => A.Q i (tcol 0 c)) hp (wrow b w)) (fun w => lanes A.G hp (wrow b w))
    (fun w => -A.s g * (wdist r w : ℝ)) (fun w => Real.log ((A.head g).T (wrow b w)))
    (M b) (fun w => wdist r w ≤ 64)
    (fun e => row_lanes hp o ho hb _ x4 hB.b4 r e) (hshalf r)
    (fun w e => win_lanes hp o ho hb hw _ x0 x1 x2 hB.b0 hB.b1 hB.b2 w e) (fun w e => win_lanes hp o ho hb hw _ x9 x10 x11 hB.b9 hB.b10 hB.b11 w e)
    (fun w => (ldT_apply x15 g og hog ht r w).trans (hB.b15 g r w))
    (fun w => ((rowAt_apply ![og, 0] _ h0 (stl 0 (by omega) g) (by rw [hog]; simp [stl]) rfl r w).trans (hst _ _)).trans (hB.lse _ g))
    (mask_eq i b hi r)).trans ?_
  refine congrArg (fun z : ℝ => (z : EReal)) ?_
  exact dv_sum (A.head g) b r hh _ _ _ _ _ _ (fun _ => rfl) (fun _ => rfl)
    (fun e => lanes_head _ hp hh g hg _ e)
    (fun w e => (lanes_head _ hp hh g hg _ e).trans (congrArg (A.Q _) (Fin.ext (Nat.zero_add _)))) (fun w e => lanes_head _ hp hh g hg _ e) (fun _ => rfl) e

end Heads

/-! ### The pieces -/

/-- Two heads' columns of a pair's lanes. -/
theorem pair_apply (x y : FVec Ideal S128x128 .f32) (hp : Fin 8) (f : Fin 16 → Fin 64 → ℝ) (r : Fin 128)
    (hx : ∀ e, x (ix2 (n0 := 128) (n1 := 128) r (lane 0 e)) = (f ⟨2 * hp.val, by omega⟩ e : EReal))
    (hy : ∀ e, y (ix2 (n0 := 128) (n1 := 128) r (lane 1 e)) = (f ⟨2 * hp.val + 1, by omega⟩ e : EReal)) (l : Fin 128) :
    pair x y (ix2 (n0 := 128) (n1 := 128) r l) = (f (hd (pcol hp l)) (ln (pcol hp l)) : EReal) := by
  show Scalar.select (k0_pay3 (ix2 (n0 := 128) (n1 := 128) r l)) (x (ix2 (n0 := 128) (n1 := 128) r l)) (y (ix2 (n0 := 128) (n1 := 128) r l)) = _
  rw [lower_eq]
  show Scalar.select (if l.val / 64 = 0 then 1 else 0) _ _ = _
  by_cases h : l.val / 64 = 0
  · rw [if_pos h]
    have hl : l = lane 0 ⟨l.val % 64, by omega⟩ := Fin.ext (by show l.val = 64 * 0 + l.val % 64; omega)
    show x (ix2 (n0 := 128) (n1 := 128) r l) = _
    conv_lhs => rw [hl]
    rw [hx]
    refine congrArg (fun z : ℝ => (z : EReal)) (congrArg₂ f (Fin.ext ?_) (Fin.ext ?_))
    · show 2 * hp.val = (128 * hp.val + l.val) / 64; omega
    · show l.val % 64 = (128 * hp.val + l.val) % 64; omega
  · rw [if_neg h]
    have hl : l = lane 1 ⟨l.val % 64, by omega⟩ := Fin.ext (by show l.val = 64 * 1 + l.val % 64; omega)
    show y (ix2 (n0 := 128) (n1 := 128) r l) = _
    conv_lhs => rw [hl]
    rw [hy]
    refine congrArg (fun z : ℝ => (z : EReal)) (congrArg₂ f (Fin.ext ?_) (Fin.ext ?_))
    · show 2 * hp.val + 1 = (128 * hp.val + l.val) / 64; omega
    · show l.val % 64 = (128 * hp.val + l.val) % 64; omega

theorem inB (n : Fin 8) : ∀ a : Fin 2, (![0, 128 * n.val] : Fin 2 → ℕ) a + S128x128.size a ≤ S128x1024.size a
  | ⟨0, _⟩ => by show 0 + 128 ≤ 128; omega
  | ⟨1, _⟩ => by show 128 * n.val + 128 ≤ 1024; omega

theorem inH (n : Fin 8) : ∀ a : Fin 2, (![0, 128 * n.val] : Fin 2 → ℕ) a + S64x128.size a ≤ S64x1024.size a
  | ⟨0, _⟩ => by show 0 + 64 ≤ 64; omega
  | ⟨1, _⟩ => by show 128 * n.val + 128 ≤ 1024; omega

theorem inT (g : ℕ) (hg : g < 16) : ∀ a : Fin 3, (![g, 0, 0] : Fin 3 → ℕ) a + S1x128x256.size a ≤ S16x128x256.size a
  | ⟨0, _⟩ => by show g + 1 ≤ 16; omega
  | ⟨1, _⟩ => by show 0 + 128 ≤ 128; omega
  | ⟨2, _⟩ => by show 0 + 256 ≤ 256; omega

theorem inS (g : ℕ) (hg : g < 128) : S128x256.Slices ![g, 0] S1x256 := by
  refine ⟨rfl, ?_⟩
  intro a
  match a with
  | ⟨0, _⟩ => show g + 1 ≤ 128; omega
  | ⟨1, _⟩ => show 0 + 256 ≤ 256; omega

section Pieces

variable (i : grid0.Coords)
  (x0 : Vec Ideal S64x1024 .bf16) (x1 : Vec Ideal S128x1024 .bf16) (x2 : Vec Ideal S64x1024 .bf16) (x3 : Vec Ideal S64x1024 .bf16)
  (x4 : Vec Ideal S128x1024 .bf16) (x5 : Vec Ideal S64x1024 .bf16) (x6 : Vec Ideal S64x1024 .bf16) (x7 : Vec Ideal S128x1024 .bf16)
  (x8 : Vec Ideal S64x1024 .bf16) (x9 : Vec Ideal S64x1024 .bf16) (x10 : Vec Ideal S128x1024 .bf16) (x11 : Vec Ideal S64x1024 .bf16)
  (x12 : Vec Ideal S64x128 .f32) (x13 : Vec Ideal S128x128 .f32) (x14 : Vec Ideal S64x128 .f32) (x15 : Vec Ideal S16x128x256 .f32)
  (n : Fin 8)

/-- The stored gradient of q of pair `n`. -/
def dqP : FVec Ideal S128x128 .bf16 :=
  pair
    (gradH (k0_pay2 i) k0_pay4 k0_pay6 (colAt (BitVec.ofNat 32 (2 * n.val)) (k0_pay8 x13)) (colAt (BitVec.ofNat 32 (16 + 2 * n.val)) (k0_pay8 x13))
      (same (ldB x1 _ (inB n))) (same (ldB x10 _ (inB n))) (win (ldH x3 _ (inH n)) (ldB x4 _ (inB n)) (ldH x5 _ (inH n)))
      (win (ldH x6 _ (inH n)) (ldB x7 _ (inB n)) (ldH x8 _ (inH n))) (ldT x15 _ (inT (2 * n.val) (by omega))))
    (gradH (k0_pay2 i) k0_pay5 k0_pay7 (colAt (BitVec.ofNat 32 (2 * n.val + 1)) (k0_pay8 x13)) (colAt (BitVec.ofNat 32 (16 + (2 * n.val + 1))) (k0_pay8 x13))
      (same (ldB x1 _ (inB n))) (same (ldB x10 _ (inB n))) (win (ldH x3 _ (inH n)) (ldB x4 _ (inB n)) (ldH x5 _ (inH n)))
      (win (ldH x6 _ (inH n)) (ldB x7 _ (inB n)) (ldH x8 _ (inH n))) (ldT x15 _ (inT (2 * n.val + 1) (by omega))))

/-- The stored gradient of k of pair `n`. -/
def dkP : FVec Ideal S128x128 .bf16 :=
  pair
    (gradH (k0_pay2 i) k0_pay4 k0_pay6 (rowAt _ (k0_pay9 x13 x12 x14) (inS (2 * n.val) (by omega))) (rowAt _ (k0_pay9 x13 x12 x14) (inS (16 + 2 * n.val) (by omega)))
      (same (ldB x4 _ (inB n))) (same (ldB x7 _ (inB n))) (win (ldH x0 _ (inH n)) (ldB x1 _ (inB n)) (ldH x2 _ (inH n)))
      (win (ldH x9 _ (inH n)) (ldB x10 _ (inB n)) (ldH x11 _ (inH n))) (ldT x15 _ (inT (2 * n.val) (by omega))))
    (gradH (k0_pay2 i) k0_pay5 k0_pay7 (rowAt _ (k0_pay9 x13 x12 x14) (inS (2 * n.val + 1) (by omega))) (rowAt _ (k0_pay9 x13 x12 x14) (inS (16 + (2 * n.val + 1)) (by omega)))
      (same (ldB x4 _ (inB n))) (same (ldB x7 _ (inB n))) (win (ldH x0 _ (inH n)) (ldB x1 _ (inB n)) (ldH x2 _ (inH n)))
      (win (ldH x9 _ (inH n)) (ldB x10 _ (inB n)) (ldH x11 _ (inH n))) (ldT x15 _ (inT (2 * n.val + 1) (by omega))))

/-- The stored gradient of v of pair `n`. -/
def dvP : FVec Ideal S128x128 .bf16 :=
  pair
    (gradV (k0_pay2 i) k0_pay6 (rowAt _ (k0_pay9 x13 x12 x14) (inS (2 * n.val) (by omega)))
      (same (ldB x4 _ (inB n))) (win (ldH x0 _ (inH n)) (ldB x1 _ (inB n)) (ldH x2 _ (inH n)))
      (win (ldH x9 _ (inH n)) (ldB x10 _ (inB n)) (ldH x11 _ (inH n))) (ldT x15 _ (inT (2 * n.val) (by omega))))
    (gradV (k0_pay2 i) k0_pay7 (rowAt _ (k0_pay9 x13 x12 x14) (inS (2 * n.val + 1) (by omega)))
      (same (ldB x4 _ (inB n))) (win (ldH x0 _ (inH n)) (ldB x1 _ (inB n)) (ldH x2 _ (inH n)))
      (win (ldH x9 _ (inH n)) (ldB x10 _ (inB n)) (ldH x11 _ (inH n))) (ldT x15 _ (inT (2 * n.val + 1) (by omega))))

variable (A : Args) (b : Fin 32) (ST : Fin 4096 → Fin 128 → EReal)
  (hB : Blk A b ST x0 x1 x2 x3 x4 x5 x6 x7 x8 x9 x10 x11 x12 x13 x14 x15) (hi : (i 1).val = b.val)

include hB hi in
theorem dqP_apply (r l : Fin 128) : dqP i x1 x3 x4 x5 x6 x7 x8 x10 x13 x15 n (ix2 (n0 := 128) (n1 := 128) r l)
    = (grad (A.head (hd (pcol n l))) 0 (brow b r) (ln (pcol n l)) : EReal) := by
  rw [grad_0]
  exact pair_apply _ _ n (fun h e => (A.head h).dq (brow b r) e) r
    (fun e => dq_head hB i hi n 0 ⟨2 * n.val, by omega⟩ rfl _ _ half0 shalf0 _ rfl _ rfl _ _ _ _ _ rfl rfl r e)
    (fun e => dq_head hB i hi n 1 ⟨2 * n.val + 1, by omega⟩ rfl _ _ half1 shalf1 _ rfl _ rfl _ _ _ _ _ rfl rfl r e) l

include hB hi in
theorem dkP_apply (r l : Fin 128) : dkP i x0 x1 x2 x4 x7 x9 x10 x11 x12 x13 x14 x15 n (ix2 (n0 := 128) (n1 := 128) r l)
    = (grad (A.head (hd (pcol n l))) 1 (brow b r) (ln (pcol n l)) : EReal) := by
  rw [grad_1]
  exact pair_apply _ _ n (fun h e => (A.head h).dk (brow b r) e) r
    (fun e => dk_head hB i hi n 0 ⟨2 * n.val, by omega⟩ rfl _ _ half0 shalf0 _ rfl _ rfl _ _ _ _ _ rfl _ r e)
    (fun e => dk_head hB i hi n 1 ⟨2 * n.val + 1, by omega⟩ rfl _ _ half1 shalf1 _ rfl _ rfl _ _ _ _ _ rfl _ r e) l

include hB hi in
theorem dvP_apply (r l : Fin 128) : dvP i x0 x1 x2 x4 x9 x10 x11 x12 x13 x14 x15 n (ix2 (n0 := 128) (n1 := 128) r l)
    = (grad (A.head (hd (pcol n l))) 2 (brow b r) (ln (pcol n l)) : EReal) := by
  rw [grad_2]
  exact pair_apply _ _ n (fun h e => (A.head h).dv (brow b r) e) r
    (fun e => dv_head hB i hi n 0 ⟨2 * n.val, by omega⟩ rfl _ shalf0 _ rfl _ rfl _ _ _ _ r e)
    (fun e => dv_head hB i hi n 1 ⟨2 * n.val + 1, by omega⟩ rfl _ shalf1 _ rfl _ rfl _ _ _ _ r e) l

end Pieces

end Cert.KOut

end
-- ==== Proof.KBlock.lean ====
/- The output block of a point of the grid, read at an index: the 24 stored pieces tile it. -/
module

public import proofs.«01_k».proof.Proof.KOut

@[expose] public section

set_option maxRecDepth 16384
set_option backward.isDefEq.respectTransparency false

noncomputable section

namespace Cert.KBlock

open Cert.KernelIdeal Cert.KernelIdeal.Gen Cert.Band Cert.KBody Cert.KMath Cert.KHost Cert.RefRead Cert.KPiece Cert.KOut
open Idealize.ShloMosaic Idealize.ShloMosaic.TcCoe
open scoped BigOperators

/-- The gradients at an index of the block. -/
def G (A : Args) (b : Fin 32) (y : S128x3072.Idx) : EReal :=
  (grad (A.head (hd ⟨(y 1).val % 1024, by omega⟩)) ⟨(y 1).val / 1024, by have := (y 1).isLt; change (y 1).val < 3072 at this; omega⟩ (brow b (y 0))
    (ln ⟨(y 1).val % 1024, by omega⟩) : EReal)

theorem tile (A : Args) (b : Fin 32) (y : S128x3072.Idx) (g : Fin 3) (n : Fin 8) (off : ℕ) (hoff : off = 1024 * g.val + 128 * n.val)
    (w w' : FVec Ideal S128x128 .bf16) (hw : w = w')
    (hw' : ∀ r l : Fin 128, w' (ix2 (n0 := 128) (n1 := 128) r l) = (grad (A.head (hd (pcol n l))) g (brow b r) (ln (pcol n l)) : EReal)) :
    View.TileAt (Val := Elt Ideal) (e := .bf16) y ![0, off] S128x128.size w (G A b y) := by
  intro x hx
  have h0 : (y 0).val = (x 0).val := (hx 0).trans (Nat.zero_add _)
  have h1 : (y 1).val = off + (x 1).val := hx 1
  have hx1 : (x 1).val < 128 := (x 1).isLt
  have ex : x = ix2 (n0 := 128) (n1 := 128) (x 0) (x 1) := by
    funext a
    match a with
    | ⟨0, _⟩ => rfl
    | ⟨1, _⟩ => rfl
  rw [hw, ex, hw']
  unfold G
  refine congrArg (fun z : ℝ => (z : EReal)) ?_
  have ec : pcol n (x 1) = ⟨(y 1).val % 1024, by omega⟩ := Fin.ext (by show 128 * n.val + (x 1).val = (y 1).val % 1024; omega)
  have eg : g = ⟨(y 1).val / 1024, by have := (y 1).isLt; change (y 1).val < 3072 at this; omega⟩ := Fin.ext (by show g.val = (y 1).val / 1024; omega)
  have er : brow b (x 0) = brow b (y 0) := Fin.ext (by show 128 * b.val + (x 0).val = 128 * b.val + (y 0).val; omega)
  rw [← ec, ← eg, ← er]

set_option maxHeartbeats 2000000 in
theorem out_apply (i : grid0.Coords)
    (x0 : Vec Ideal S64x1024 .bf16) (x1 : Vec Ideal S128x1024 .bf16) (x2 : Vec Ideal S64x1024 .bf16) (x3 : Vec Ideal S64x1024 .bf16)
    (x4 : Vec Ideal S128x1024 .bf16) (x5 : Vec Ideal S64x1024 .bf16) (x6 : Vec Ideal S64x1024 .bf16) (x7 : Vec Ideal S128x1024 .bf16)
    (x8 : Vec Ideal S64x1024 .bf16) (x9 : Vec Ideal S64x1024 .bf16) (x10 : Vec Ideal S128x1024 .bf16) (x11 : Vec Ideal S64x1024 .bf16)
    (x12 : Vec Ideal S64x128 .f32) (x13 : Vec Ideal S128x128 .f32) (x14 : Vec Ideal S64x128 .f32) (x15 : Vec Ideal S16x128x256 .f32)
    (A : Args) (b : Fin 32) (ST : Fin 4096 → Fin 128 → EReal) (hB : Blk A b ST x0 x1 x2 x3 x4 x5 x6 x7 x8 x9 x10 x11 x12 x13 x14 x15) (hi : (i 1).val = b.val) (y : S128x3072.Idx) :
    out0_16 (F := Ideal) i x0 x1 x2 x3 x4 x5 x6 x7 x8 x9 x10 x11 x12 x13 x14 x15 y = G A b y := by
  have e13 : View.ld x13 r0_0 = x13 := View.ld_unit_lit _ _ (by decide)
  have e12 : View.ld x12 r0_1 = x12 := View.ld_unit_lit _ _ (by decide)
  have e14 : View.ld x14 r0_1 = x14 := View.ld_unit_lit _ _ (by decide)
  have hB' : Blk A b ST x0 x1 x2 x3 x4 x5 x6 x7 x8 x9 x10 x11 (View.ld x12 r0_1) (View.ld x13 r0_0) (View.ld x14 r0_1) x15 := by rw [e12, e13, e14]; exact hB
  have hq := fun n => dqP_apply i x0 x1 x2 x3 x4 x5 x6 x7 x8 x9 x10 x11 (View.ld x12 r0_1) (View.ld x13 r0_0) (View.ld x14 r0_1) x15 n A b ST hB' hi
  have hk := fun n => dkP_apply i x0 x1 x2 x3 x4 x5 x6 x7 x8 x9 x10 x11 (View.ld x12 r0_1) (View.ld x13 r0_0) (View.ld x14 r0_1) x15 n A b ST hB' hi
  have hv := fun n => dvP_apply i x0 x1 x2 x3 x4 x5 x6 x7 x8 x9 x10 x11 (View.ld x12 r0_1) (View.ld x13 r0_0) (View.ld x14 r0_1) x15 n A b ST hB' hi
  unfold out0_16
  refine View.canon_eq_of_allAt _ y _ (cover0_16 _ _ _ _ _ _ _ _ _ _ _ _ _ _ _ _ _ _ _ _ _ _ _ _ y) ?_
  refine View.allAt_cons_unit _ _ _ _ _ (tile A b y 2 ⟨7, by decide⟩ 2944 rfl _ _ ?_ (hv _)) ?_
  · rfl
  refine View.allAt_cons_unit _ _ _ _ _ (tile A b y 1 ⟨7, by decide⟩ 1920 rfl _ _ ?_ (hk _)) ?_
  · rfl
  refine View.allAt_cons_unit _ _ _ _ _ (tile A b y 0 ⟨7, by decide⟩ 896 rfl _ _ ?_ (hq _)) ?_
  · rfl
  refine View.allAt_cons_unit _ _ _ _ _ (tile A b y 2 ⟨6, by decide⟩ 2816 rfl _ _ ?_ (hv _)) ?_
  · rfl
  refine View.allAt_cons_unit _ _ _ _ _ (tile A b y 1 ⟨6, by decide⟩ 1792 rfl _ _ ?_ (hk _)) ?_
  · rfl
  refine View.allAt_cons_unit _ _ _ _ _ (tile A b y 0 ⟨6, by decide⟩ 768 rfl _ _ ?_ (hq _)) ?_
  · rfl
  refine View.allAt_cons_unit _ _ _ _ _ (tile A b y 2 ⟨5, by decide⟩ 2688 rfl _ _ ?_ (hv _)) ?_
  · rfl
  refine View.allAt_cons_unit _ _ _ _ _ (tile A b y 1 ⟨5, by decide⟩ 1664 rfl _ _ ?_ (hk _)) ?_
  · rfl
  refine View.allAt_cons_unit _ _ _ _ _ (tile A b y 0 ⟨5, by decide⟩ 640 rfl _ _ ?_ (hq _)) ?_
  · rfl
  refine View.allAt_cons_unit _ _ _ _ _ (tile A b y 2 ⟨4, by decide⟩ 2560 rfl _ _ ?_ (hv _)) ?_
  · rfl
  refine View.allAt_cons_unit _ _ _ _ _ (tile A b y 1 ⟨4, by decide⟩ 1536 rfl _ _ ?_ (hk _)) ?_
  · rfl
  refine View.allAt_cons_unit _ _ _ _ _ (tile A b y 0 ⟨4, by decide⟩ 512 rfl _ _ ?_ (hq _)) ?_
  · rfl
  refine View.allAt_cons_unit _ _ _ _ _ (tile A b y 2 ⟨3, by decide⟩ 2432 rfl _ _ ?_ (hv _)) ?_
  · rfl
  refine View.allAt_cons_unit _ _ _ _ _ (tile A b y 1 ⟨3, by decide⟩ 1408 rfl _ _ ?_ (hk _)) ?_
  · rfl
  refine View.allAt_cons_unit _ _ _ _ _ (tile A b y 0 ⟨3, by decide⟩ 384 rfl _ _ ?_ (hq _)) ?_
  · rfl
  refine View.allAt_cons_unit _ _ _ _ _ (tile A b y 2 ⟨2, by decide⟩ 2304 rfl _ _ ?_ (hv _)) ?_
  · rfl
  refine View.allAt_cons_unit _ _ _ _ _ (tile A b y 1 ⟨2, by decide⟩ 1280 rfl _ _ ?_ (hk _)) ?_
  · rfl
  refine View.allAt_cons_unit _ _ _ _ _ (tile A b y 0 ⟨2, by decide⟩ 256 rfl _ _ ?_ (hq _)) ?_
  · rfl
  refine View.allAt_cons_unit _ _ _ _ _ (tile A b y 2 ⟨1, by decide⟩ 2176 rfl _ _ ?_ (hv _)) ?_
  · rfl
  refine View.allAt_cons_unit _ _ _ _ _ (tile A b y 1 ⟨1, by decide⟩ 1152 rfl _ _ ?_ (hk _)) ?_
  · rfl
  refine View.allAt_cons_unit _ _ _ _ _ (tile A b y 0 ⟨1, by decide⟩ 128 rfl _ _ ?_ (hq _)) ?_
  · rfl
  refine View.allAt_cons_unit _ _ _ _ _ (tile A b y 2 ⟨0, by decide⟩ 2048 rfl _ _ ?_ (hv _)) ?_
  · rfl
  refine View.allAt_cons_unit _ _ _ _ _ (tile A b y 1 ⟨0, by decide⟩ 1024 rfl _ _ ?_ (hk _)) ?_
  · rfl
  refine View.allAt_cons_unit _ _ _ _ _ (tile A b y 0 ⟨0, by decide⟩ 0 rfl _ _ ?_ (hq _)) ?_
  · rfl
  exact View.allAt_nil _ _

end Cert.KBlock

end
-- ==== Proof.KFinal.lean ====
/- From the blocks to the array: the kernel's result on finite arguments is the array of gradients. -/
module

public import proofs.«01_k».proof.Proof.KBlock
public import proofs.«01_k».proof.Proof.Gen.KernelIdeal.Value

@[expose] public section

set_option maxRecDepth 16384
set_option backward.isDefEq.respectTransparency false

noncomputable section

namespace Cert.KFinal

open Cert.KernelIdeal Cert.KernelIdeal.Gen Cert.Band Cert.KMath Cert.KHost Cert.RefRead Cert.KPiece Cert.KOut Cert.KBlock
open Cert.ReferenceIdeal.Read
open Idealize.ShloMosaic Idealize.ShloMosaic.StableHlo Idealize.ShloMosaic.TcCoe Idealize.SL.Sem
open scoped BigOperators

variable (m : (ℓ : Loc nD τ sig) → Buf (Elt Ideal) ℓ)

theorem idx : ∀ t : Fin cfg0.N, (win0_0.index t = ![2 * t.val - 1, 0] ∧ win0_1.index t = ![t.val, 0] ∧ win0_2.index t = ![min (2 * t.val + 2) 63, 0])
    ∧ (win0_3.index t = ![2 * t.val - 1, 1] ∧ win0_4.index t = ![t.val, 1] ∧ win0_5.index t = ![min (2 * t.val + 2) 63, 1])
    ∧ (win0_6.index t = ![2 * t.val - 1, 2] ∧ win0_7.index t = ![t.val, 2] ∧ win0_8.index t = ![min (2 * t.val + 2) 63, 2])
    ∧ (win0_9.index t = ![2 * t.val - 1, 0] ∧ win0_10.index t = ![t.val, 0] ∧ win0_11.index t = ![min (2 * t.val + 2) 63, 0])
    ∧ (win0_12.index t = ![2 * t.val - 1, 0] ∧ win0_13.index t = ![t.val, 0] ∧ win0_14.index t = ![min (2 * t.val + 2) 63, 0])
    ∧ win0_15.index t = ![0, 0, 0] ∧ win0_16.index t = ![t.val, 0] ∧ (grid0.coords t 1).val = t.val :=
  (by decide +kernel : ∀ t : Fin grid0.N, _)

/-- The point's number among 32. -/
def pt (t : Fin cfg0.N) : Fin 32 := ⟨t.val, lt_of_lt_of_eq t.isLt N_0⟩

variable (c : Dev nD) (t : Fin cfg0.N)

set_option maxHeartbeats 2000000 in
theorem blk (A : Args) (h106 : V m c main_v106 = A.x0) (h107 : V m c main_v107 = A.x5) (l d : S4096x16.Idx → EReal)
    (hl : ∀ x, l x = (Real.log ((A.head (x 1)).T (x 0)) : EReal)) (hd : ∀ x, d x = ((A.head (x 1)).delta (x 0) : EReal))
    (h105 : V m c main_v105 = stats l d) (h131 : V m c main_v131 = table A.x6) :
    Blk A (pt t) (fun i k => V m c main_v105 (ix2 (n0 := 4096) (n1 := 128) i k)) (iblk m c 0 t) (iblk m c 1 t) (iblk m c 2 t) (iblk m c 3 t)
      (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) := by
  obtain ⟨⟨i0, i1, i2⟩, ⟨i3, i4, i5⟩, ⟨i6, i7, i8⟩, ⟨i9, i10, i11⟩, ⟨i12, i13, i14⟩, i15, i16, _⟩ := idx t
  have ht := (pt t).isLt
  exact {
    b0 := fun r k => (show _ = V m c main_v106 (ix2 (n0 := 4096) (n1 := 3072) (prow (pt t) r) (tcol 0 k)) by unfold iblk; generalize V m c = W; blk_ext [i0, prow, pt, tcol]).trans (congrFun h106 _)
    b1 := fun r k => (show _ = V m c main_v106 (ix2 (n0 := 4096) (n1 := 3072) (brow (pt t) r) (tcol 0 k)) by unfold iblk; generalize V m c = W; blk_ext [i1, brow, pt, tcol]).trans (congrFun h106 _)
    b2 := fun r k => (show _ = V m c main_v106 (ix2 (n0 := 4096) (n1 := 3072) (nrow (pt t) r) (tcol 0 k)) by unfold iblk; generalize V m c = W; blk_ext [i2, nrow, pt, tcol]).trans (congrFun h106 _)
    b3 := fun r k => (show _ = V m c main_v106 (ix2 (n0 := 4096) (n1 := 3072) (prow (pt t) r) (tcol 1 k)) by unfold iblk; generalize V m c = W; blk_ext [i3, prow, pt, tcol]).trans (congrFun h106 _)
    b4 := fun r k => (show _ = V m c main_v106 (ix2 (n0 := 4096) (n1 := 3072) (brow (pt t) r) (tcol 1 k)) by unfold iblk; generalize V m c = W; blk_ext [i4, brow, pt, tcol]).trans (congrFun h106 _)
    b5 := fun r k => (show _ = V m c main_v106 (ix2 (n0 := 4096) (n1 := 3072) (nrow (pt t) r) (tcol 1 k)) by unfold iblk; generalize V m c = W; blk_ext [i5, nrow, pt, tcol]).trans (congrFun h106 _)
    b6 := fun r k => (show _ = V m c main_v106 (ix2 (n0 := 4096) (n1 := 3072) (prow (pt t) r) (tcol 2 k)) by unfold iblk; generalize V m c = W; blk_ext [i6, prow, pt, tcol]).trans (congrFun h106 _)
    b7 := fun r k => (show _ = V m c main_v106 (ix2 (n0 := 4096) (n1 := 3072) (brow (pt t) r) (tcol 2 k)) by unfold iblk; generalize V m c = W; blk_ext [i7, brow, pt, tcol]).trans (congrFun h106 _)
    b8 := fun r k => (show _ = V m c main_v106 (ix2 (n0 := 4096) (n1 := 3072) (nrow (pt t) r) (tcol 2 k)) by unfold iblk; generalize V m c = W; blk_ext [i8, nrow, pt, tcol]).trans (congrFun h106 _)
    b9 := fun r k => (show _ = V m c main_v107 (ix2 (n0 := 4096) (n1 := 1024) (prow (pt t) r) k) by unfold iblk; generalize V m c = W; blk_ext [i9, prow, pt]).trans (congrFun h107 _)
    b10 := fun r k => (show _ = V m c main_v107 (ix2 (n0 := 4096) (n1 := 1024) (brow (pt t) r) k) by unfold iblk; generalize V m c = W; blk_ext [i10, brow, pt]).trans (congrFun h107 _)
    b11 := fun r k => (show _ = V m c main_v107 (ix2 (n0 := 4096) (n1 := 1024) (nrow (pt t) r) k) by unfold iblk; generalize V m c = W; blk_ext [i11, nrow, pt]).trans (congrFun h107 _)
    b12 := fun r k => by unfold iblk; generalize V m c = W; blk_ext [i12, prow, pt]
    b13 := fun r k => by unfold iblk; generalize V m c = W; blk_ext [i13, brow, pt]
    b14 := fun r k => by unfold iblk; generalize V m c = W; blk_ext [i14, nrow, pt]
    b15 := fun g r w => (show _ = V m c main_v131 (ix3 (n0 := 16) (n1 := 128) (n2 := 256) g r w) by
      unfold iblk; generalize V m c = W; blk_ext [i15]).trans ((congrFun h131 _).trans (table_eq A _))
    lse := fun i g => ((congrFun h105 _).trans (stats_lse l d _ g (Nat.zero_add _))).trans (hl _)
    dlt := fun i g => ((congrFun h105 _).trans (stats_delta l d _ g rfl)).trans (hd _) }

/-- The array of gradients. -/
def GG (A : Args) (y : S4096x3072.Idx) : EReal :=
  (grad (A.head (RefRead.hd ⟨(y 1).val % 1024, by omega⟩)) ⟨(y 1).val / 1024, by have := (y 1).isLt; change (y 1).val < 3072 at this; omega⟩ (y 0)
    (ln ⟨(y 1).val % 1024, by omega⟩) : EReal)

theorem final (A : Args) (h106 : V m c main_v106 = A.x0) (h107 : V m c main_v107 = A.x5) (l d : S4096x16.Idx → EReal)
    (hl : ∀ x, l x = (Real.log ((A.head (x 1)).T (x 0)) : EReal)) (hd : ∀ x, d x = ((A.head (x 1)).delta (x 0) : EReal))
    (h105 : V m c main_v105 = stats l d) (h131 : V m c main_v131 = table A.x6) :
    (dats m 0 c).arrAt 16 cfg0.N = GG A := by
  refine (dats m 0 c).arrAt_eq_of_covers 16 _ (by decide +kernel) fun t hf y => ?_
  obtain ⟨_, _, _, _, _, _, i16, hi⟩ := idx t
  blk_simp
  rw [after0_16]
  refine (out_apply (grid0.coords t) _ _ _ _ _ _ _ _ _ _ _ _ _ _ _ _ A (pt t) _ (blk m c t A h106 h107 l d hl hd h105 h131) hi _).trans ?_
  unfold G GG
  have e0 : (((win0_16.blk t).view.emb y) 0).val = 128 * t.val + (y 0).val := by blk_simp [i16]; omega
  have e1 : (((win0_16.blk t).view.emb y) 1).val = (y 1).val := by blk_simp [i16]
  rw [show ((win0_16.blk t).view.emb y) 0 = brow (pt t) (y 0) from Fin.ext e0]
  simp only [e1]

/-- The reference computes the same array. -/
theorem reference (A : Args) : val_main_v170 (F := Ideal) A.x0 A.x1 A.x2 A.x3 A.x4 A.x5 A.x6 = GG A := by
  funext y
  have hy : (y 1).val < 3072 := (y 1).isLt
  exact result A y ⟨(y 1).val / 1024, by omega⟩ ⟨(y 1).val % 1024, by omega⟩ (by show (y 1).val = 1024 * ((y 1).val / 1024) + (y 1).val % 1024; omega)

/-- The launch's arguments being those of `A`, the kernel's result is the array of gradients. -/
theorem kernel (A : Args)
    (h0 : m ((c : Thread nD τ).loc main_arg0) = A.x0) (h1 : m ((c : Thread nD τ).loc main_arg1) = A.x1) (h2 : m ((c : Thread nD τ).loc main_arg2) = A.x2)
    (h3 : m ((c : Thread nD τ).loc main_arg3) = A.x3) (h4 : m ((c : Thread nD τ).loc main_arg4) = A.x4) (h5 : m ((c : Thread nD τ).loc main_arg5) = A.x5)
    (h6 : m ((c : Thread nD τ).loc main_arg6) = A.x6) : (dats m 0 c).arrAt 16 cfg0.N = GG A := by
  obtain ⟨e106, e107, e105, e131⟩ := host A (fun b => m (c, b)) h0 h1 h2 h3 h4 h5 h6
  exact final m c A e106 e107 _ _ (fun x => lse3_eq A x) (fun x => inner_eq A x) e105 e131

end Cert.KFinal

end
-- ==== Proof.Algebraic.lean ====
/- The value claim: on finite arguments the kernel's array of gradients is the reference's. -/
module

public import proofs.«01_k».proof.Proof.Finite
public import proofs.«01_k».proof.Proof.Frames
public import proofs.«01_k».proof.Proof.KFinal

@[expose] public section

noncomputable section

namespace Cert.Algebraic

open Idealize.ShloMosaic Idealize.SL.Sem Cert.Kernel.Gen Cert.KernelIdeal.Gen Cert.ReferenceIdeal.Gen Cert.RefRead
open Cert.ReferenceIdeal.Read Idealize.ShloMosaic.TcCoe

instance : Cert.Pre_finite.Facts := Cert.Finite.facts

/-- Under the precondition too the programs run to the end with their arguments unchanged. -/
theorem kernel_frame : Cert.quiescent_KernelIdeal_pre_finite := fun m ρ _ => Cert.KernelIdeal.Gen.frame m ρ

theorem reference_frame : Cert.quiescent_ReferenceIdeal_pre_finite := fun m ρ _ => Cert.Frames.referenceIdeal m ρ trivial

/-- The reference's result is the array of gradients. -/
theorem reference_value (V0 : Valuation Cert.ReferenceIdeal.τ Cert.ReferenceIdeal.sig (Elt Ideal)) (A : Args)
    (h0 : V0 (Proc.devRef .tc Cert.ReferenceIdeal.main_arg0) = A.x0) (h1 : V0 (Proc.devRef .tc Cert.ReferenceIdeal.main_arg1) = A.x1)
    (h2 : V0 (Proc.devRef .tc Cert.ReferenceIdeal.main_arg2) = A.x2) (h3 : V0 (Proc.devRef .tc Cert.ReferenceIdeal.main_arg3) = A.x3)
    (h4 : V0 (Proc.devRef .tc Cert.ReferenceIdeal.main_arg4) = A.x4) (h5 : V0 (Proc.devRef .tc Cert.ReferenceIdeal.main_arg5) = A.x5)
    (h6 : V0 (Proc.devRef .tc Cert.ReferenceIdeal.main_arg6) = A.x6) :
    val_main_v170 (F := Ideal) (V0 (Proc.devRef .tc Cert.ReferenceIdeal.main_arg0)) (V0 (Proc.devRef .tc Cert.ReferenceIdeal.main_arg1))
      (V0 (Proc.devRef .tc Cert.ReferenceIdeal.main_arg2)) (V0 (Proc.devRef .tc Cert.ReferenceIdeal.main_arg3))
      (V0 (Proc.devRef .tc Cert.ReferenceIdeal.main_arg4)) (V0 (Proc.devRef .tc Cert.ReferenceIdeal.main_arg5))
      (V0 (Proc.devRef .tc Cert.ReferenceIdeal.main_arg6)) = Cert.KFinal.GG A := by
  rw [h0, h1, h2, h3, h4, h5, h6]
  exact Cert.KFinal.reference A

theorem algebraic : Cert.algebraic_KernelIdeal_ReferenceIdeal_pre_finite := by
  intro m g m' g' hpre hargs
  have hA := fun c => Cert.Finite.args _ _ _ _ _ _ _ (fun j => congrFun (hpre c) j)
  choose A h0 h1 h2 h3 h4 h5 h6 using hA
  refine ⟨fun c => Cert.KFinal.GG (A c), ?_, ?_⟩
  · refine (θ_run Cert.KernelIdeal.defs _ _).mono (fun r h c => ?_) (Cert.KernelIdeal.Value.run_blocks m g)
    refine ⟨(h c).1.trans (Cert.KFinal.kernel m c (A c) (h0 c) (h1 c) (h2 c) (h3 c) (h4 c) (h5 c) (h6 c)), (h c).2⟩
  · refine (θ_run Cert.ReferenceIdeal.defs _ _).mono (fun r h c => ?_) (Cert.ReferenceIdeal.Value.run (F := Ideal) m' g')
    obtain ⟨e0, e1, e2, e3, e4, e5, e6⟩ := hargs c
    refine ⟨(h c).1.trans ((val_main_v170_eq (F := Ideal) (StableHlo.launchContents m' c)).trans
      (reference_value (StableHlo.launchContents m' c) (A c) (e0.trans (h0 c)) (e1.trans (h1 c)) (e2.trans (h2 c)) (e3.trans (h3 c)) (e4.trans (h4 c))
        (e5.trans (h5 c)) (e6.trans (h6 c)))), (h c).2⟩

end Cert.Algebraic

end
-- ==== Proof.FfnRun.lean ====
/- The run of the feed-forward sublayer's program: each core ends with every buffer at the contents the launches and the
   host operations between them leave. -/
module

public import proofs.«01_k».proof.Proof.Gen.Kernel2Ideal.Frame

@[expose] public section

set_option maxRecDepth 16384

noncomputable section

namespace Cert.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h _ => h)

end Cert.FfnRun

end
-- ==== Proof.NormMath.lean ====
/- The layer norm of the residual sum α·x + ½·h over the real numbers, row by row, its gradient as the kernel writes it and as
   differentiating the reference's lines writes it, and the two constants' values. -/
module

public import proofs.«01_k».proof.Proof.Scalars

@[expose] public section

noncomputable section

namespace Cert.Norm

open Idealize.ShloMosaic Cert.Band
open scoped BigOperators

/-- The residual's weight, √2 in single precision. -/
def al : ℝ := 11863283 / 8388608
/-- The number added to the variance, 1e-5 in single precision. -/
def ep : ℝ := 2748779 / 274877906944

theorem ep_pos : 0 < ep := by unfold ep; norm_num

theorem ofBits_al : Ideal.ofBits .f32 0x3FB504F3#32 = (al : EReal) := by
  simp [Ideal.ofBits, Ideal.ieee, al, -BitVec.toNat_ofNat] <;> norm_num
  rw [← EReal.coe_mul]; norm_num
theorem ofBits_ep : Ideal.ofBits .f32 0x3727C5AC#32 = (ep : EReal) := by
  simp [Ideal.ofBits, Ideal.ieee, ep, -BitVec.toNat_ofNat] <;> norm_num
  rw [← EReal.coe_mul]; norm_num
theorem ofBits_half : Ideal.ofBits .f32 0x3F000000#32 = ((2⁻¹ : ℝ) : EReal) := by
  simp [Ideal.ofBits, Ideal.ieee, -BitVec.toNat_ofNat] <;> norm_num
  rw [← EReal.coe_mul]; norm_num
theorem ofBits_neg_half : Ideal.ofBits .f32 0xBF000000#32 = ((-2⁻¹ : ℝ) : EReal) := by
  simp [Ideal.ofBits, Ideal.ieee, -BitVec.toNat_ofNat] <;> norm_num
  rw [← EReal.coe_mul]; norm_num
theorem ofBits_two : Ideal.ofBits .f32 0x40000000#32 = ((2 : ℝ) : EReal) := by
  simp [Ideal.ofBits, Ideal.ieee, -BitVec.toNat_ofNat] <;> norm_num
  rw [← EReal.coe_mul]; norm_num
theorem ofBits_width : Ideal.ofBits .f32 0x44800000#32 = ((1024 : ℝ) : EReal) := by
  simp [Ideal.ofBits, Ideal.ieee, -BitVec.toNat_ofNat] <;> norm_num
  rw [← EReal.coe_mul]; norm_num

/-! ### A row -/

/-- A row's mean. -/
def mean (z : Fin 1024 → ℝ) : ℝ := (∑ k, z k) / 1024
/-- The row less its mean. -/
def cen (z : Fin 1024 → ℝ) (k : Fin 1024) : ℝ := z k - mean z
def var (z : Fin 1024 → ℝ) : ℝ := mean fun k => cen z k * cen z k
/-- The reciprocal of the root of the variance. -/
def rs (z : Fin 1024 → ℝ) : ℝ := (Real.sqrt (var z + ep))⁻¹
/-- The normalised row. -/
def xh (z : Fin 1024 → ℝ) (k : Fin 1024) : ℝ := cen z k * rs z

/-- The residual sum. -/
def res (x h : Fin 1024 → ℝ) (k : Fin 1024) : ℝ := al * x k + 2⁻¹ * h k

/-- The layer norm of a row. -/
def out (z g b : Fin 1024 → ℝ) (k : Fin 1024) : ℝ := xh z k * g k + b k

/-- The gradient of the normalised row's input as the kernel has it: `q` is the cotangent times the gain. -/
def dz (z q : Fin 1024 → ℝ) (k : Fin 1024) : ℝ := rs z * (q k - mean q - xh z k * mean fun k => q k * xh z k)

/-- The part of the gradient that passes through the variance, as differentiating line by line has it. -/
def thru (z q : Fin 1024 → ℝ) (k : Fin 1024) : ℝ :=
  ((∑ k, cen z k * q k) * (-2⁻¹ * (rs z / (var z + ep)))) / 1024 * (2 * cen z k)

/-- The whole gradient, line by line. -/
def dzl (z q : Fin 1024 → ℝ) (k : Fin 1024) : ℝ :=
  (q k * rs z + thru z q k) + ((∑ k, -(q k * rs z)) + ∑ k, -thru z q k) / 1024

theorem var_nonneg (z : Fin 1024 → ℝ) : 0 ≤ var z :=
  div_nonneg (Finset.sum_nonneg fun k _ => mul_self_nonneg _) (by norm_num)

theorem var_ep_pos (z : Fin 1024 → ℝ) : 0 < var z + ep := add_pos_of_nonneg_of_pos (var_nonneg z) ep_pos

theorem sum_cen (z : Fin 1024 → ℝ) : ∑ k, cen z k = 0 := by
  unfold cen mean
  rw [Finset.sum_sub_distrib, Finset.sum_const, Finset.card_univ, Fintype.card_fin, nsmul_eq_mul]
  push_cast
  ring

theorem rs_cubed (z : Fin 1024 → ℝ) : rs z / (var z + ep) = rs z * rs z * rs z := by
  have h : rs z * rs z = (var z + ep)⁻¹ := by
    unfold rs
    rw [← mul_inv, Real.mul_self_sqrt (var_ep_pos z).le]
  rw [h, div_eq_mul_inv, mul_comm]

/-- The two gradients are one. -/
theorem dzl_eq (z q : Fin 1024 → ℝ) (k : Fin 1024) : dzl z q k = dz z q k := by
  have h0 : ∑ k, -thru z q k = 0 := by
    unfold thru
    rw [Finset.sum_neg_distrib, ← Finset.mul_sum, ← Finset.mul_sum, sum_cen, mul_zero, mul_zero, neg_zero]
  have h1 : ∑ k, -(q k * rs z) = -((∑ k, q k) * rs z) := by rw [Finset.sum_neg_distrib, ← Finset.sum_mul]
  have h2 : (mean fun k => q k * xh z k) = (∑ k, cen z k * q k) * rs z / 1024 := by
    unfold mean xh
    rw [Finset.sum_mul]
    exact congrArg (· / 1024) (Finset.sum_congr rfl fun k _ => by ring)
  unfold dzl dz
  rw [h0, h1, h2]
  unfold thru xh mean
  rw [rs_cubed]
  ring

/-! ### The extended reals -/

theorem mean_coe (z : Fin 1024 → EReal) (w : Fin 1024 → ℝ) (h : ∀ k, z k = (w k : EReal)) :
    Ideal.div (∑ k, z k) (Ideal.ofBits .f32 0x44800000#32) = (mean w : EReal) := by
  rw [sum_eq_coe h, ofBits_width]
  exact div_real (by norm_num)

theorem rsqrt_coe (z : Fin 1024 → ℝ) : Ideal.rsqrt (((var z + ep : ℝ) : EReal)) = (rs z : EReal) := by
  have h := var_ep_pos z
  rw [Ideal.rsqrt_coe, if_neg (not_lt.mpr h.le), if_neg h.ne']
  rfl

end Cert.Norm

end
-- ==== Proof.FfnMath.lean ====
/- The feed-forward sublayer (silu(x·w_gate)·(x·w_up))·w_down, the layer norm of its sum with the residual, and the sublayer's
   gradients over the real numbers, the layout that splits
   the 2816 hidden columns into eight slots of 352 and pads each to 384 with zeros, and what that padding does to sums. -/
module

public import proofs.«01_k».proof.Proof.NormMath

@[expose] public section

noncomputable section

namespace Cert.Ffn

open Idealize.ShloMosaic Cert.Band
open scoped BigOperators

/-- The sublayer's arrays: the input, the three weight matrices, the layer norm's gain and bias, the cotangent of the sublayer's
    output and the residual's gradient. -/
structure Net where
  X : Fin 4096 → Fin 1024 → ℝ
  Wg : Fin 1024 → Fin 2816 → ℝ
  Wu : Fin 1024 → Fin 2816 → ℝ
  Wd : Fin 2816 → Fin 1024 → ℝ
  G : Fin 1024 → ℝ
  B : Fin 1024 → ℝ
  H : Fin 4096 → Fin 1024 → ℝ
  R : Fin 4096 → Fin 1024 → ℝ

/-- The logistic function. -/
def sg (g : ℝ) : ℝ := (1 + Real.exp (-g))⁻¹

/-- The hidden value of a gate and a linear entry. -/
def hid (g u : ℝ) : ℝ := g * sg g * u
/-- Its derivative in the linear entry. -/
def hidU (g : ℝ) : ℝ := g * sg g
/-- Its derivative in the gate. -/
def hidG (g u : ℝ) : ℝ := sg g * (1 + g - g * sg g) * u

namespace Net
variable (n : Net) (t : Fin 4096) (f : Fin 2816) (d : Fin 1024)

def gate : ℝ := ∑ k, n.X t k * n.Wg k f
def up : ℝ := ∑ k, n.X t k * n.Wu k f
def act : ℝ := hid (n.gate t f) (n.up t f)
/-- The sublayer's output. -/
def down : ℝ := ∑ f, n.act t f * n.Wd f d
/-- Its sum with the residual. -/
def Z : Fin 1024 → ℝ := Norm.res (n.X t) (n.down t)
/-- The layer norm. -/
def Y : ℝ := Norm.out (n.Z t) n.G n.B d
/-- The cotangent of the hidden value. -/
def da : ℝ := ∑ k, n.H t k * n.Wd f k
def dgate : ℝ := n.da t f * hidG (n.gate t f) (n.up t f)
def dup : ℝ := n.da t f * hidU (n.gate t f)
def dWd : ℝ := ∑ t, n.H t d * n.act t f
def dWg : ℝ := ∑ t, n.X t d * n.dgate t f
def dWu : ℝ := ∑ t, n.X t d * n.dup t f
def dX : ℝ := n.R t d + (∑ f, n.dgate t f * n.Wg d f + ∑ f, n.dup t f * n.Wu d f)

end Net

/-- The logistic function by the hyperbolic tangent. -/
theorem half_tanh (g : ℝ) : 2⁻¹ * Real.tanh (2⁻¹ * g) + 2⁻¹ = sg g := by
  unfold sg
  rw [Real.tanh_eq_sinh_div_cosh, Real.sinh_eq, Real.cosh_eq]
  have e : Real.exp (-g) = Real.exp (-(2⁻¹ * g)) * Real.exp (-(2⁻¹ * g)) := by rw [← Real.exp_add]; congr 1; ring
  have e' : Real.exp (2⁻¹ * g) * Real.exp (-(2⁻¹ * g)) = 1 := by rw [← Real.exp_add, add_neg_cancel, Real.exp_zero]
  rw [e]
  generalize Real.exp (2⁻¹ * g) = a at *
  generalize hb : Real.exp (-(2⁻¹ * g)) = b at *
  have hb0 : 0 < b := hb ▸ Real.exp_pos _
  have ha : a = b⁻¹ := eq_inv_of_mul_eq_one_left e'
  subst ha
  have h1 : b⁻¹ + b ≠ 0 := by positivity
  have h2 : 1 + b * b ≠ 0 := by positivity
  field_simp
  ring

/-! ### The padded layout -/

/-- Slot `j`'s entry `c` of a vector over the hidden columns: the slot's 352 entries, then zeros. -/
def pad (w : Fin 2816 → ℝ) (j : Fin 8) (c : Fin 384) : ℝ :=
  if h : c.val < 352 then w ⟨352 * j.val + c.val, by have := j.isLt; omega⟩ else 0

/-- Two such rows side by side. -/
def pads (a b : Fin 2816 → ℝ) (j : Fin 8) (c : Fin 768) : ℝ :=
  if h : c.val < 384 then pad a j ⟨c.val, h⟩ else pad b j ⟨c.val - 384, by have := c.isLt; omega⟩

theorem pads_left (a b : Fin 2816 → ℝ) (j : Fin 8) (c : Fin 384) (h : c.val < 768) : pads a b j ⟨c.val, h⟩ = pad a j c := by
  unfold pads; rw [dif_pos c.isLt]

theorem pads_right (a b : Fin 2816 → ℝ) (j : Fin 8) (c : Fin 384) (h : 384 + c.val < 768) : pads a b j ⟨384 + c.val, h⟩ = pad b j c := by
  unfold pads
  rw [dif_neg (by show ¬ 384 + c.val < 384; omega)]
  exact congrArg (pad b j) (Fin.ext (by show 384 + c.val - 384 = c.val; omega))

theorem pad_map (f : ℝ → ℝ) (h0 : f 0 = 0) (w : Fin 2816 → ℝ) (j : Fin 8) (c : Fin 384) : pad (fun k => f (w k)) j c = f (pad w j c) := by
  unfold pad; split <;> simp [h0]

theorem pad_map2 (f : ℝ → ℝ → ℝ) (h0 : f 0 0 = 0) (a b : Fin 2816 → ℝ) (j : Fin 8) (c : Fin 384) :
    pad (fun k => f (a k) (b k)) j c = f (pad a j c) (pad b j c) := by
  unfold pad; split <;> simp [h0]

theorem pad_sum {ι : Type} [Fintype ι] (a : ι → ℝ) (w : ι → Fin 2816 → ℝ) (j : Fin 8) (c : Fin 384) :
    pad (fun k => ∑ i, a i * w i k) j c = ∑ i, a i * pad (w i) j c := by
  unfold pad; split <;> simp

theorem pads_sum {ι : Type} [Fintype ι] (x : ι → ℝ) (a b : ι → Fin 2816 → ℝ) (j : Fin 8) (c : Fin 768) :
    pads (fun k => ∑ i, x i * a i k) (fun k => ∑ i, x i * b i k) j c = ∑ i, x i * pads (a i) (b i) j c := by
  unfold pads; split <;> exact pad_sum _ _ _ _

/-- The padding adds nothing to a sum over the hidden columns. -/
theorem sum_pad (w : Fin 2816 → ℝ) : ∑ j, ∑ c, pad w j c = ∑ k, w k := by
  have e : ∀ j : Fin 8, ∑ c, pad w j c = ∑ c : Fin 352, w ⟨352 * j.val + c.val, by have := j.isLt; have := c.isLt; omega⟩ := by
    intro j
    have := Fin.sum_univ_add (a := 352) (b := 32) (f := fun c : Fin (352 + 32) => pad w j c)
    refine this.trans ?_
    have e2 : ∑ i : Fin 32, pad w j (Fin.natAdd 352 i) = 0 := by
      refine Finset.sum_eq_zero fun i _ => ?_
      unfold pad; rw [dif_neg (by show ¬ 352 + i.val < 352; omega)]
    rw [e2, add_zero]
    refine Finset.sum_congr rfl fun c _ => ?_
    unfold pad; rw [dif_pos (by exact c.isLt)]; rfl
  simp only [e]
  rw [← Fintype.sum_prod_type' (f := fun (j : Fin 8) (c : Fin 352) => w ⟨352 * j.val + c.val, by have := j.isLt; have := c.isLt; omega⟩)]
  refine (Finset.sum_congr rfl fun x _ => ?_).trans (Equiv.sum_comp (finProdFinEquiv (m := 8) (n := 352)) fun k : Fin (8 * 352) => w k)
  exact congrArg w (Fin.ext (by show 352 * x.1.val + x.2.val = x.2.val + 352 * x.1.val; omega))

/-- The product of two padded rows, summed over all the columns. -/
theorem sum_flat (a b : Fin 2816 → ℝ) :
    ∑ k : Fin 3072, pad a ⟨k.val / 384, by omega⟩ ⟨k.val % 384, by omega⟩ * pad b ⟨k.val / 384, by omega⟩ ⟨k.val % 384, by omega⟩ = ∑ k, a k * b k := by
  have e := Equiv.sum_comp (finProdFinEquiv (m := 8) (n := 384)).symm fun p => pad a p.1 p.2 * pad b p.1 p.2
  refine Eq.trans (show _ = ∑ k : Fin (8 * 384), pad a ((finProdFinEquiv (m := 8) (n := 384)).symm k).1 ((finProdFinEquiv (m := 8) (n := 384)).symm k).2
    * pad b ((finProdFinEquiv (m := 8) (n := 384)).symm k).1 ((finProdFinEquiv (m := 8) (n := 384)).symm k).2 from rfl) (e.trans ?_)
  rw [Fintype.sum_prod_type, ← sum_pad]
  exact Finset.sum_congr rfl fun j _ => Finset.sum_congr rfl fun c _ => (pad_map2 (fun x y => x * y) (zero_mul 0) a b j c).symm

theorem sum_pads (a b a' b' : Fin 2816 → ℝ) :
    ∑ j, ∑ c, pads a b j c * pads a' b' j c = ∑ k, a k * a' k + ∑ k, b k * b' k := by
  have e : ∀ j : Fin 8, ∑ c, pads a b j c * pads a' b' j c
      = ∑ c, pad (fun k => a k * a' k) j c + ∑ c, pad (fun k => b k * b' k) j c := by
    intro j
    refine (Fin.sum_univ_add (a := 384) (b := 384) (f := fun c : Fin (384 + 384) => pads a b j c * pads a' b' j c)).trans ?_
    refine congrArg₂ (· + ·) (Finset.sum_congr rfl fun c _ => ?_) (Finset.sum_congr rfl fun c _ => ?_)
    · rw [pad_map2 (fun x y => x * y) (zero_mul 0)]
      exact congrArg₂ (· * ·) (pads_left a b j c _) (pads_left a' b' j c _)
    · rw [pad_map2 (fun x y => x * y) (zero_mul 0)]
      exact congrArg₂ (· * ·) (pads_right a b j c _) (pads_right a' b' j c _)
  simp only [e]
  rw [Finset.sum_add_distrib, sum_pad, sum_pad]

end Cert.Ffn

end
-- ==== Proof.FfnArr.lean ====
/- The arrays that pass between the launches of the feed-forward sublayer. -/
module

public import proofs.«01_k».proof.Proof.Gen.Kernel2Ideal.Frame
public import proofs.«01_k».proof.Proof.FfnMath

@[expose] public section

noncomputable section

namespace Cert.Ffn

open Cert.Kernel2Ideal
open Idealize.ShloMosaic

/-- Columns numbered by slot and entry: 384 to a slot. -/
def fl (w : Fin 4096 → Fin 8 → Fin 384 → ℝ) (y : S4096x3072.Idx) : EReal :=
  (w (y 0) ⟨(y 1).val / 384, by have := (y 1).isLt; change (y 1).val < 3072 at this; omega⟩ ⟨(y 1).val % 384, by omega⟩ : EReal)

theorem fl_eq (w : Fin 4096 → Fin 8 → Fin 384 → ℝ) (y : S4096x3072.Idx) (t : Fin 4096) (s : Fin 8) (c : Fin 384)
    (h0 : (y 0).val = t.val) (h1 : (y 1).val = 384 * s.val + c.val) : fl w y = (w t s c : EReal) := by
  have hc := c.isLt
  unfold fl
  rw [show y 0 = t from Fin.ext h0]
  exact congrArg₂ (fun s c => ((w t s c : ℝ) : EReal)) (Fin.ext (by show (y 1).val / 384 = s.val; omega))
    (Fin.ext (by show (y 1).val % 384 = c.val; omega))

/-- The same with 768 columns to a slot. -/
def fl2 (w : Fin 4096 → Fin 8 → Fin 768 → ℝ) (y : S4096x6144.Idx) : EReal :=
  (w (y 0) ⟨(y 1).val / 768, by have := (y 1).isLt; change (y 1).val < 6144 at this; omega⟩ ⟨(y 1).val % 768, by omega⟩ : EReal)

theorem fl2_eq (w : Fin 4096 → Fin 8 → Fin 768 → ℝ) (y : S4096x6144.Idx) (t : Fin 4096) (s : Fin 8) (c : Fin 768)
    (h0 : (y 0).val = t.val) (h1 : (y 1).val = 768 * s.val + c.val) : fl2 w y = (w t s c : EReal) := by
  have hc := c.isLt
  unfold fl2
  rw [show y 0 = t from Fin.ext h0]
  exact congrArg₂ (fun s c => ((w t s c : ℝ) : EReal)) (Fin.ext (by show (y 1).val / 768 = s.val; omega))
    (Fin.ext (by show (y 1).val % 768 = c.val; omega))

variable (n : Net)

/-- A block of rows by columns of the model. -/
def rows (x : Fin 4096 → Fin 1024 → ℝ) (y : S4096x1024.Idx) : EReal := (x (y 0) (y 1) : EReal)
/-- Its transpose. -/
def cols (x : Fin 4096 → Fin 1024 → ℝ) (y : S1024x4096.Idx) : EReal := (x (y 1) (y 0) : EReal)
/-- The gate and linear weights, padded, side by side. -/
def wgu (y : S8x1024x768.Idx) : EReal := (pads (n.Wg (y 1)) (n.Wu (y 1)) (y 0) (y 2) : EReal)
/-- The down weights, padded. -/
def wd (y : S3072x1024.Idx) : EReal :=
  (pad (fun f => n.Wd f (y 1)) ⟨(y 0).val / 384, by have := (y 0).isLt; change (y 0).val < 3072 at this; omega⟩ ⟨(y 0).val % 384, by omega⟩ : EReal)

theorem wd_eq (y : S3072x1024.Idx) (s : Fin 8) (c : Fin 384) (k : Fin 1024)
    (h0 : (y 0).val = 384 * s.val + c.val) (h1 : (y 1).val = k.val) : wd n y = (pad (fun f => n.Wd f k) s c : EReal) := by
  have hc := c.isLt
  unfold wd
  rw [show y 1 = k from Fin.ext h1]
  exact congrArg₂ (fun s c => ((pad (fun f => n.Wd f k) s c : ℝ) : EReal)) (Fin.ext (by show (y 0).val / 384 = s.val; omega))
    (Fin.ext (by show (y 0).val % 384 = c.val; omega))

/-- The hidden value's derivative in the gate, per slot and entry. -/
def wG (t : Fin 4096) (s : Fin 8) (c : Fin 384) : ℝ := hidG (pad (n.gate t) s c) (pad (n.up t) s c)
/-- In the linear entry. -/
def wU (t : Fin 4096) (s : Fin 8) (c : Fin 384) : ℝ := hidU (pad (n.gate t) s c)
/-- The hidden value. -/
def wA (t : Fin 4096) (s : Fin 8) (c : Fin 384) : ℝ := pad (n.act t) s c
/-- The cotangents of the gate and the linear entry. -/
def wGU (t : Fin 4096) (s : Fin 8) (c : Fin 768) : ℝ := pads (n.dgate t) (n.dup t) s c

/-- The gradients: that of the down weights, of the gate and linear weights, and of the input. -/
def outD (y : S8x1024x384.Idx) : EReal := (pad (fun f => n.dWd f (y 1)) (y 0) (y 2) : EReal)
def outGU (y : S8x1024x768.Idx) : EReal := (pads (fun f => n.dWg f (y 1)) (fun f => n.dWu f (y 1)) (y 0) (y 2) : EReal)
def outX (y : S4096x1024.Idx) : EReal := (n.dX (y 0) (y 1) : EReal)

end Cert.Ffn

end
-- ==== Proof.FfnLayout.lean ====
/- The host's layout of the hidden columns: cut into eight slots, each padded with zeros to 384, read at an index. -/
module

public import proofs.«01_k».proof.Proof.FfnArr
public import proofs.«01_k».proof.Proof.Gen.Kernel2Ideal.Frame
public import Idealize.ShloMosaic.Lib.Pipeline.ValueKit
public import Idealize.ShloMosaic.Lib.Pointwise

@[expose] public section

set_option maxRecDepth 16384
set_option backward.isDefEq.respectTransparency false

noncomputable section

namespace Cert.FfnLayout

open Cert.Kernel2Ideal Cert.Kernel2Ideal.Gen Cert.Ffn Cert.Band
open Idealize.ShloMosaic Idealize.ShloMosaic.TcCoe
open scoped BigOperators

/-- A pad at the high ends, read inside the operand. -/
theorem pad_in {α : Type} {s t u : Shape} (lo hi it : Fin s.rank → ℕ) (x : s.Idx → α) (v : u.Idx → α) (h : s.Pads lo hi it t) (hu : 0 < u.numel)
    (j : t.Idx) (k : s.Idx) (hlo : ∀ a, lo a = 0) (hit : ∀ a, it a = 0) (hk : ∀ a, (k a).val = (j (a.cast h.1)).val) :
    Idealize.ShloMosaic.pad t lo hi it x v h hu j = x k := by
  unfold Idealize.ShloMosaic.pad
  rw [dif_pos (fun a => by
    have := (k a).isLt
    rw [hlo, hit, ← hk]
    exact ⟨Nat.zero_le _, Nat.mod_one _, by rw [Nat.sub_zero, Nat.zero_add, Nat.div_one]; exact this⟩)]
  refine congrArg x (funext fun a => Fin.ext ?_)
  show ((j (a.cast h.1)).val - lo a) / (it a + 1) = (k a).val
  rw [hlo, hit, ← hk, Nat.sub_zero, Nat.zero_add, Nat.div_one]

/-- A pad at the high ends, read past the operand. -/
theorem pad_out {α : Type} {s t u : Shape} (lo hi it : Fin s.rank → ℕ) (x : s.Idx → α) (v : u.Idx → α) (h : s.Pads lo hi it t) (hu : 0 < u.numel)
    (j : t.Idx) (hlo : ∀ a, lo a = 0) (hit : ∀ a, it a = 0) (a : Fin s.rank) (ha : s.size a ≤ (j (a.cast h.1)).val) :
    Idealize.ShloMosaic.pad t lo hi it x v h hu j = v (Shape.Idx.first hu) := by
  unfold Idealize.ShloMosaic.pad
  rw [dif_neg (fun hin => by
    have := (hin a).2.2
    rw [hlo, hit, Nat.sub_zero, Nat.zero_add, Nat.div_one] at this
    omega)]

/-- The padding value: the integer zero, converted. -/
theorem zero_conv (x : S_.Idx) : sitofp (F := Ideal) .f32 (constantI S_ 32 0#32) x = (0 : EReal) := by
  show (((0#32 : BitVec 32).toInt : ℝ) : EReal) = 0
  simp

/-- Columns 352·s + c of a matrix with 2816 columns, with the slot in front. -/
def cut (w : S1024x2816.Idx → EReal) : S8x1024x352.Idx → EReal :=
  transpose S8x1024x352 [1, 0, 2] (shapeCast S1024x8x352 w shapeCasts_S1024x2816_S1024x8x352) transposes_S1024x8x352_S8x1024x352_1_0_2

theorem cut_apply (w : S1024x2816.Idx → EReal) (s : Fin 8) (d : Fin 1024) (c : Fin 352) :
    cut w (ix3 (n0 := 8) (n1 := 1024) (n2 := 352) s d c)
      = w (ix2 (n0 := 1024) (n1 := 2816) d ⟨352 * s.val + c.val, by have := s.isLt; have := c.isLt; omega⟩) := by
  unfold cut
  refine (transpose_apply _ _ _ _ (ix3 (n0 := 1024) (n1 := 8) (n2 := 352) d s c) (by intro b; fin_cases b <;> rfl)).trans ?_
  refine shapeCast_apply _ _ _ _ ?_
  rewrite [Shape.rowMajor_val_three, Shape.rowMajor_val_two]
  show d.val * 2816 + (352 * s.val + c.val) = (d.val * 8 + s.val) * 352 + c.val
  omega

/-- The padded cut of a real matrix, given by its entries after the cut. -/
theorem padded (w : S8x1024x352.Idx → EReal) (a : Fin 1024 → Fin 2816 → ℝ)
    (hw : ∀ (s : Fin 8) (d : Fin 1024) (c : Fin 352), w (ix3 (n0 := 8) (n1 := 1024) (n2 := 352) s d c)
      = (a d ⟨352 * s.val + c.val, by have := s.isLt; have := c.isLt; omega⟩ : EReal)) (y : S8x1024x384.Idx) :
    Idealize.ShloMosaic.pad S8x1024x384 ![0, 0, 0] ![0, 0, 32] ![0, 0, 0] w (sitofp (F := Ideal) .f32 (constantI S_ 32 0#32))
        pads_S8x1024x352_S8x1024x384_000_000_0320 h_S_ y
      = (Ffn.pad (a (y 1)) (y 0) (y 2) : EReal) := by
  unfold Ffn.pad
  split
  · rename_i h
    refine (pad_in _ _ _ _ _ _ _ y (ix3 (n0 := 8) (n1 := 1024) (n2 := 352) (y 0) (y 1) ⟨(y 2).val, h⟩)
      (by intro b; fin_cases b <;> rfl) (by intro b; fin_cases b <;> rfl) (by intro b; fin_cases b <;> rfl)).trans (hw _ _ _)
  · rename_i h
    refine (pad_out _ _ _ _ _ _ _ y (by intro b; fin_cases b <;> rfl) (by intro b; fin_cases b <;> rfl) 2 (by
      show 352 ≤ (y 2).val; exact Nat.le_of_not_lt h)).trans ((zero_conv _).trans EReal.coe_zero.symm)

/-- The same for the down weights, whose hidden index is the row. -/
theorem padded_rows (w : S8x352x1024.Idx → EReal) (a : Fin 2816 → Fin 1024 → ℝ)
    (hw : ∀ (s : Fin 8) (c : Fin 352) (d : Fin 1024), w (ix3 (n0 := 8) (n1 := 352) (n2 := 1024) s c d)
      = (a ⟨352 * s.val + c.val, by have := s.isLt; have := c.isLt; omega⟩ d : EReal)) (y : S8x384x1024.Idx) :
    Idealize.ShloMosaic.pad S8x384x1024 ![0, 0, 0] ![0, 32, 0] ![0, 0, 0] w (sitofp (F := Ideal) .f32 (constantI S_ 32 0#32))
        pads_S8x352x1024_S8x384x1024_000_0320_000 h_S_ y
      = (Ffn.pad (fun f => a f (y 2)) (y 0) (y 1) : EReal) := by
  unfold Ffn.pad
  split
  · rename_i h
    refine (pad_in _ _ _ _ _ _ _ y (ix3 (n0 := 8) (n1 := 352) (n2 := 1024) (y 0) ⟨(y 1).val, h⟩ (y 2))
      (by intro b; fin_cases b <;> rfl) (by intro b; fin_cases b <;> rfl) (by intro b; fin_cases b <;> rfl)).trans (hw _ _ _)
  · rename_i h
    refine (pad_out _ _ _ _ _ _ _ y (by intro b; fin_cases b <;> rfl) (by intro b; fin_cases b <;> rfl) 1 (by
      show 352 ≤ (y 1).val; exact Nat.le_of_not_lt h)).trans ((zero_conv _).trans EReal.coe_zero.symm)

/-- Two padded cuts side by side. -/
theorem side (u v : S8x1024x384.Idx → EReal) (a b : Fin 1024 → Fin 2816 → ℝ)
    (hu : ∀ y, u y = (Ffn.pad (a (y 1)) (y 0) (y 2) : EReal)) (hv : ∀ y, v y = (Ffn.pad (b (y 1)) (y 0) (y 2) : EReal)) (y : S8x1024x768.Idx) :
    concatenate S8x1024x768 2 [⟨S8x1024x384, u⟩, ⟨S8x1024x384, v⟩] concatenates_S8x1024x384_S8x1024x384_S8x1024x768_d2 y
      = (pads (a (y 1)) (b (y 1)) (y 0) (y 2) : EReal) := by
  have hy : (y 2).val < 768 := (y 2).isLt
  unfold pads
  split
  · rename_i h
    exact (concatenate_pair_apply_left (t := S8x1024x768) (s₁ := S8x1024x384) (s₂ := S8x1024x384) 2 u v _ y rfl (ix3 (n0 := 8) (n1 := 1024) (n2 := 384) (y 0) (y 1) ⟨(y 2).val, h⟩)
      (by intro b; fin_cases b <;> rfl)).trans (hu _)
  · rename_i h
    exact (concatenate_pair_apply_right (t := S8x1024x768) (s₁ := S8x1024x384) (s₂ := S8x1024x384) 2 u v _ y rfl rfl (ix3 (n0 := 8) (n1 := 1024) (n2 := 384) (y 0) (y 1) ⟨(y 2).val - 384, by omega⟩)
      (by intro b hb; fin_cases b <;> first | rfl | exact absurd rfl hb) (by show (y 2).val - 384 + 384 = (y 2).val; omega)).trans (hv _)

/-- The arrays of the weights before padding. -/
def gmat (w : Fin 1024 → Fin 2816 → ℝ) (y : S1024x2816.Idx) : EReal := (w (y 0) (y 1) : EReal)
def dmat (w : Fin 2816 → Fin 1024 → ℝ) (y : S2816x1024.Idx) : EReal := (w (y 0) (y 1) : EReal)
/-- A vector of 1024 entries. -/
def vec (g : Fin 1024 → ℝ) (y : S1024.Idx) : EReal := (g (y 0) : EReal)

end Cert.FfnLayout

end
-- ==== Proof.FfnUp.lean ====
/- The first launch, one shard's payload at an index: the gate and linear products of a block of rows with a slot's padded
   columns, the hidden value and its two derivatives. -/
module

public import proofs.«01_k».proof.Proof.Gen.Kernel2Ideal.Frame
public import proofs.«01_k».proof.Proof.FfnMath
public import Idealize.ShloMosaic.Lib.Pointwise

@[expose] public section

set_option maxRecDepth 16384
set_option backward.isDefEq.respectTransparency false

noncomputable section

namespace Cert.FfnUp

open Cert.Kernel2Ideal Cert.Kernel2Ideal.Gen Cert.Ffn Cert.Band
open Idealize.ShloMosaic Idealize.ShloMosaic.TcCoe
open scoped BigOperators

/-- A shard of the weights at slot `s`, and rows of the input. -/
structure In (n : Net) (row : Fin 1024 → Fin 4096) (s : Fin 8) (x : Vec Ideal S1024x1024 .bf16) (w : Vec Ideal S1x1024x768 .bf16) : Prop where
  x : ∀ r k : Fin 1024, x (ix2 (n0 := 1024) (n1 := 1024) r k) = (n.X (row r) k : EReal)
  w : ∀ (k : Fin 1024) (q : Fin 768), w (ix3 (n0 := 1) (n1 := 1024) (n2 := 768) 0 k q) = (pads (n.Wg k) (n.Wu k) s q : EReal)

theorem mm_apply (x : Vec Ideal S1024x1024 .bf16) (w : Vec Ideal S1x1024x768 .bf16) (r : Fin 1024) (q : Fin 768) :
    k1_pay7 x w (ix2 (n0 := 1024) (n1 := 768) r q)
      = ∑ k : Fin 1024, (x (ix2 (n0 := 1024) (n1 := 1024) r k) * w (ix3 (n0 := 1) (n1 := 1024) (n2 := 768) 0 k q) : EReal) := by
  pointwise [k1_pay7, k1_pay6]

variable {n : Net} {row : Fin 1024 → Fin 4096} {s : Fin 8} {x : Vec Ideal S1024x1024 .bf16} {w : Vec Ideal S1x1024x768 .bf16}

theorem mm_real (h : In n row s x w) (r : Fin 1024) (q : Fin 768) :
    k1_pay7 x w (ix2 (n0 := 1024) (n1 := 768) r q) = (pads (n.gate (row r)) (n.up (row r)) s q : EReal) := by
  rw [mm_apply]
  have e := pads_sum (n.X (row r)) n.Wg n.Wu s q
  refine Eq.trans ?_ (congrArg (fun z : ℝ => (z : EReal)) e.symm)
  refine sum_eq_coe fun k => ?_
  rw [h.x, h.w, EReal.coe_mul]

theorem gate_real (h : In n row s x w) (r : Fin 1024) (c : Fin 384) :
    k1_pay8 x w (ix2 (n0 := 1024) (n1 := 384) r c) = (pad (n.gate (row r)) s c : EReal) := by
  refine Eq.trans ?_ ((mm_real h r ⟨c.val, by omega⟩).trans (congrArg (fun z : ℝ => (z : EReal)) (pads_left _ _ s c _)))
  pointwise [k1_pay8]

theorem up_real (h : In n row s x w) (r : Fin 1024) (c : Fin 384) :
    k1_pay9 x w (ix2 (n0 := 1024) (n1 := 384) r c) = (pad (n.up (row r)) s c : EReal) := by
  refine Eq.trans ?_ ((mm_real h r ⟨384 + c.val, by omega⟩).trans (congrArg (fun z : ℝ => (z : EReal)) (pads_right _ _ s c _)))
  pointwise [k1_pay9]

theorem ofBits_half : Ideal.ofBits .f32 0x3F000000#32 = ((2⁻¹ : ℝ) : EReal) := by
  simp [Ideal.ofBits, Ideal.ieee, -BitVec.toNat_ofNat] <;> norm_num
  rw [← EReal.coe_mul]; norm_num

theorem sig_real (h : In n row s x w) (r : Fin 1024) (c : Fin 384) :
    k1_pay10 x w (ix2 (n0 := 1024) (n1 := 384) r c) = (sg (pad (n.gate (row r)) s c) : EReal) := by
  have e : k1_pay10 x w (ix2 (n0 := 1024) (n1 := 384) r c)
      = Ideal.ofBits .f32 0x3F000000#32 * Ideal.tanh (Ideal.ofBits .f32 0x3F000000#32 * k1_pay8 x w (ix2 (n0 := 1024) (n1 := 384) r c))
        + Ideal.ofBits .f32 0x3F000000#32 := rfl
  rw [e, gate_real h, ofBits_half, ← EReal.coe_mul, Ideal.tanh_coe, ← EReal.coe_mul, ← EReal.coe_add, half_tanh]

theorem hidU_real (h : In n row s x w) (r : Fin 1024) (c : Fin 384) :
    k1_pay13 x w (ix2 (n0 := 1024) (n1 := 384) r c) = (hidU (pad (n.gate (row r)) s c) : EReal) := by
  have e : k1_pay13 x w (ix2 (n0 := 1024) (n1 := 384) r c)
      = k1_pay8 x w (ix2 (n0 := 1024) (n1 := 384) r c) * k1_pay10 x w (ix2 (n0 := 1024) (n1 := 384) r c) := rfl
  rw [e, gate_real h, sig_real h, ← EReal.coe_mul]; rfl

theorem hid_real (h : In n row s x w) (r : Fin 1024) (c : Fin 384) :
    k1_pay14 x w (ix2 (n0 := 1024) (n1 := 384) r c) = (pad (n.act (row r)) s c : EReal) := by
  have e : k1_pay14 x w (ix2 (n0 := 1024) (n1 := 384) r c)
      = k1_pay13 x w (ix2 (n0 := 1024) (n1 := 384) r c) * k1_pay9 x w (ix2 (n0 := 1024) (n1 := 384) r c) := rfl
  rw [e, hidU_real h, up_real h, ← EReal.coe_mul]
  exact congrArg (fun z : ℝ => (z : EReal)) (pad_map2 hid (by simp [hid]) (n.gate (row r)) (n.up (row r)) s c).symm

theorem hidG_real (h : In n row s x w) (r : Fin 1024) (c : Fin 384) :
    k1_pay12 x w (ix2 (n0 := 1024) (n1 := 384) r c) = (hidG (pad (n.gate (row r)) s c) (pad (n.up (row r)) s c) : EReal) := by
  have e : k1_pay12 x w (ix2 (n0 := 1024) (n1 := 384) r c)
      = k1_pay10 x w (ix2 (n0 := 1024) (n1 := 384) r c) * (Ideal.ofBits .f32 0x3F800000#32 + k1_pay8 x w (ix2 (n0 := 1024) (n1 := 384) r c)
        - k1_pay13 x w (ix2 (n0 := 1024) (n1 := 384) r c)) * k1_pay9 x w (ix2 (n0 := 1024) (n1 := 384) r c) := rfl
  rw [e, gate_real h, sig_real h, hidU_real h, up_real h, Ideal.ofBits_one_f32, ← EReal.coe_one, ← EReal.coe_add, ← EReal.coe_sub,
    ← EReal.coe_mul, ← EReal.coe_mul]; rfl

/-! ### The second shard's payloads are the first's on its weights -/

theorem pay3_eq : k1_pay3 (F := Ideal) (k1_pay16 x w) (k1_pay17 x w) (k1_pay18 x w) = k1_pay12 x w := rfl
theorem pay4_eq : k1_pay4 (F := Ideal) (k1_pay16 x w) (k1_pay18 x w) = k1_pay13 x w := rfl
theorem pay5_eq : k1_pay5 (F := Ideal) (k1_pay16 x w) (k1_pay17 x w) (k1_pay18 x w) = k1_pay14 x w := rfl

end Cert.FfnUp

end
-- ==== Proof.FfnUpArr.lean ====
/- The first launch's three arrays: the hidden values and their derivatives, row by row and slot by slot. -/
module

public import proofs.«01_k».proof.Proof.FfnUp
public import proofs.«01_k».proof.Proof.FfnArr
public import Idealize.ShloMosaic.Lib.Pipeline.ValueKit

@[expose] public section

set_option maxRecDepth 16384
set_option backward.isDefEq.respectTransparency false

noncomputable section

namespace Cert.FfnUp

open Cert.Kernel2Ideal Cert.Kernel2Ideal.Gen Cert.Ffn Cert.Band
open Idealize.ShloMosaic Idealize.ShloMosaic.TcCoe Idealize.SL.Sem
open scoped BigOperators

/-- Row `r` of block `i`. -/
def row (i : Fin 4) (r : Fin 1024) : Fin 4096 := ⟨1024 * i.val + r.val, by have := i.isLt; have := r.isLt; omega⟩
/-- Slot `p` of pair `j`. -/
def slot (j : Fin 4) (p : Fin 2) : Fin 8 := ⟨2 * j.val + p.val, by have := j.isLt; have := p.isLt; omega⟩

/-- The block's input rows and its two slots of weights. -/
structure Blk (n : Net) (i j : Fin 4) (x0 : Vec Ideal S1024x1024 .bf16) (x1 : Vec Ideal S2x1024x768 .bf16) : Prop where
  x : ∀ r k : Fin 1024, x0 (ix2 (n0 := 1024) (n1 := 1024) r k) = (n.X (row i r) k : EReal)
  w : ∀ (p : Fin 2) (k : Fin 1024) (q : Fin 768), x1 (ix3 (n0 := 2) (n1 := 1024) (n2 := 768) p k q) = (pads (n.Wg k) (n.Wu k) (slot j p) q : EReal)

variable {n : Net} {i j : Fin 4} {x0 : Vec Ideal S1024x1024 .bf16} {x1 : Vec Ideal S2x1024x768 .bf16}

theorem in0 (h : Blk n i j x0 x1) : In n (row i) (slot j 0) (View.ld x0 r1_0) (View.ld x1 r1_1) where
  x r k := (congrFun (View.ld_unit_lit (Val := Elt Ideal) (e := .bf16) _ x0 (by decide)) _).trans (h.x r k)
  w k q := (View.ld_unit_apply_of x1 _ _ _ _ (ix3 (n0 := 2) (n1 := 1024) (n2 := 768) 0 k q) fun a => by
    fin_cases a <;> first | rfl | exact (Nat.zero_add _).symm).trans (h.w 0 k q)

theorem in1 (h : Blk n i j x0 x1) : In n (row i) (slot j 1) (View.ld x0 r1_0) (View.ld x1 r1_3) where
  x r k := (congrFun (View.ld_unit_lit (Val := Elt Ideal) (e := .bf16) _ x0 (by decide)) _).trans (h.x r k)
  w k q := (View.ld_unit_apply_of x1 _ _ _ _ (ix3 (n0 := 2) (n1 := 1024) (n2 := 768) 1 k q) fun a => by
    fin_cases a <;> first | rfl | exact (Nat.zero_add _).symm).trans (h.w 1 k q)

theorem tile (g : Fin 4096 → Fin 8 → Fin 384 → ℝ) (p : Fin 2) (off : ℕ) (hoff : off = 384 * p.val) (z : S4096x3072.Idx) (y : S1024x768.Idx)
    (h0 : (z 0).val = 1024 * i.val + (y 0).val) (h1 : (z 1).val = 768 * j.val + (y 1).val) (w : FVec Ideal S1024x384 .bf16)
    (hw : ∀ (r : Fin 1024) (c : Fin 384), w (ix2 (n0 := 1024) (n1 := 384) r c) = (g (row i r) (slot j p) c : EReal)) :
    View.TileAt (Val := Elt Ideal) (e := .bf16) y ![0, off] S1024x384.size w (fl g z) := by
  intro x hx
  have e0 : (y 0).val = (x 0).val := (hx 0).trans (Nat.zero_add _)
  have e1 : (y 1).val = off + (x 1).val := hx 1
  refine (congrArg w (eq_ix2 (n0 := 1024) (n1 := 384) x)).trans ((hw (x 0) (x 1)).trans (fl_eq g z _ _ _ ?_ ?_).symm)
  · show _ = 1024 * i.val + (x 0).val; omega
  · show _ = 384 * (2 * j.val + p.val) + (x 1).val; omega

variable (h : Blk n i j x0 x1) (z : S4096x3072.Idx) (y : S1024x768.Idx)
    (h0 : (z 0).val = 1024 * i.val + (y 0).val) (h1 : (z 1).val = 768 * j.val + (y 1).val)
include h h0 h1

theorem out2 : out1_2 (F := Ideal) x0 x1 y = fl (wG n) z := by
  unfold out1_2
  refine View.canon_eq_of_allAt _ y _ (cover1_2 _ _ y) ?_
  refine View.allAt_cons_unit _ _ _ _ _ (tile (wG n) 1 384 rfl z y h0 h1 _ (hidG_real (in1 h))) ?_
  refine View.allAt_cons_unit _ _ _ _ _ (tile (wG n) 0 0 rfl z y h0 h1 _ (hidG_real (in0 h))) ?_
  exact View.allAt_nil _ _

theorem out3 : out1_3 (F := Ideal) x0 x1 y = fl (wU n) z := by
  unfold out1_3
  refine View.canon_eq_of_allAt _ y _ (cover1_3 _ _ y) ?_
  refine View.allAt_cons_unit _ _ _ _ _ (tile (wU n) 1 384 rfl z y h0 h1 _ (hidU_real (in1 h))) ?_
  refine View.allAt_cons_unit _ _ _ _ _ (tile (wU n) 0 0 rfl z y h0 h1 _ (hidU_real (in0 h))) ?_
  exact View.allAt_nil _ _

theorem out4 : out1_4 (F := Ideal) x0 x1 y = fl (wA n) z := by
  unfold out1_4
  refine View.canon_eq_of_allAt _ y _ (cover1_4 _ _ y) ?_
  refine View.allAt_cons_unit _ _ _ _ _ (tile (wA n) 1 384 rfl z y h0 h1 _ (hid_real (in1 h))) ?_
  refine View.allAt_cons_unit _ _ _ _ _ (tile (wA n) 0 0 rfl z y h0 h1 _ (hid_real (in0 h))) ?_
  exact View.allAt_nil _ _

end Cert.FfnUp

namespace Cert.FfnUp

open Cert.Kernel2Ideal Cert.Kernel2Ideal.Gen Cert.Ffn Cert.Band
open Idealize.ShloMosaic Idealize.ShloMosaic.TcCoe Idealize.SL.Sem

theorem idx : ∀ t : Fin cfg1.N, win1_0.index t = ![t.val / 4, 0] ∧ win1_1.index t = ![t.val % 4, 0, 0]
    ∧ win1_2.index t = ![t.val / 4, t.val % 4] ∧ win1_3.index t = ![t.val / 4, t.val % 4] ∧ win1_4.index t = ![t.val / 4, t.val % 4] :=
  (by decide +kernel : ∀ t : Fin grid1.N, _)

/-- The point's block of rows and pair of slots. -/
def pi (t : Fin cfg1.N) : Fin 4 := ⟨t.val / 4, by have := lt_of_lt_of_eq t.isLt N_1; omega⟩
def pj (t : Fin cfg1.N) : Fin 4 := ⟨t.val % 4, by omega⟩

variable (V : (c : Dev nD) → (b : Ref sig .tc) → Buf (Elt Ideal) ((c : Thread nD τ).loc b)) (c : Dev nD) (n : Net)
  (hx : V c main_v14_0 = rows n.X) (hw : V c main_v7 = wgu n)
include hx hw

theorem blk (t : Fin cfg1.N) : Blk n (pi t) (pj t) (iblk1 V c 0 t) (iblk1 V c 1 t) := by
  obtain ⟨i0, i1, _⟩ := idx t
  exact {
    x := fun r k => (show _ = V c main_v14_0 (ix2 (n0 := 4096) (n1 := 1024) (row (pi t) r) k) by
      unfold iblk1; generalize V c = W; blk_ext [i0, row, pi]).trans (congrFun hx _)
    w := fun p k q => (show _ = V c main_v7 (ix3 (n0 := 8) (n1 := 1024) (n2 := 768) (slot (pj t) p) k q) by
      unfold iblk1; generalize V c = W; blk_ext [i1, slot, pj]).trans (congrFun hw _) }

theorem arr2 : (dat1 V c).arrAt 2 cfg1.N = fl (wG n) := by
  refine (dat1 V c).arrAt_eq_of_covers 2 _ (by decide +kernel) fun t hf y => ?_
  obtain ⟨_, _, i2, i3, i4⟩ := idx t
  blk_simp
  rw [after1_2]
  refine out2 (blk V c n hx hw t) _ _ ?_ ?_
  · blk_simp [i2]; exact congrArg (· + (y 0).val) (Nat.mul_comm _ _)
  · blk_simp [i2]; exact congrArg (· + (y 1).val) (Nat.mul_comm _ _)

theorem arr3 : (dat1 V c).arrAt 3 cfg1.N = fl (wU n) := by
  refine (dat1 V c).arrAt_eq_of_covers 3 _ (by decide +kernel) fun t hf y => ?_
  obtain ⟨_, _, i2, i3, i4⟩ := idx t
  blk_simp
  rw [after1_3]
  refine out3 (blk V c n hx hw t) _ _ ?_ ?_
  · blk_simp [i3]; exact congrArg (· + (y 0).val) (Nat.mul_comm _ _)
  · blk_simp [i3]; exact congrArg (· + (y 1).val) (Nat.mul_comm _ _)

theorem arr4 : (dat1 V c).arrAt 4 cfg1.N = fl (wA n) := by
  refine (dat1 V c).arrAt_eq_of_covers 4 _ (by decide +kernel) fun t hf y => ?_
  obtain ⟨_, _, i2, i3, i4⟩ := idx t
  blk_simp
  rw [after1_4]
  refine out4 (blk V c n hx hw t) _ _ ?_ ?_
  · blk_simp [i4]; exact congrArg (· + (y 0).val) (Nat.mul_comm _ _)
  · blk_simp [i4]; exact congrArg (· + (y 1).val) (Nat.mul_comm _ _)

end Cert.FfnUp

end
-- ==== Proof.FfnAct.lean ====
/- The second launch: the cotangent of the hidden values times their derivatives, gate and linear entry side by side. -/
module

public import proofs.«01_k».proof.Proof.FfnUpArr

@[expose] public section

set_option maxRecDepth 16384
set_option backward.isDefEq.respectTransparency false

noncomputable section

namespace Cert.FfnAct

open Cert.Kernel2Ideal Cert.Kernel2Ideal.Gen Cert.Ffn Cert.Band Cert.FfnUp
open Idealize.ShloMosaic Idealize.ShloMosaic.TcCoe Idealize.SL.Sem
open scoped BigOperators

/-- The block's rows of the output's cotangent, its two slots of down weights, and the two derivatives. -/
structure Blk (n : Net) (i j : Fin 4) (x0 : Vec Ideal S1024x1024 .bf16) (x1 : Vec Ideal S768x1024 .bf16)
    (x2 x3 : Vec Ideal S1024x768 .bf16) : Prop where
  h : ∀ r k : Fin 1024, x0 (ix2 (n0 := 1024) (n1 := 1024) r k) = (n.H (row i r) k : EReal)
  w : ∀ (p : Fin 2) (c : Fin 384) (k : Fin 1024) (q : Fin 768), q.val = 384 * p.val + c.val →
    x1 (ix2 (n0 := 768) (n1 := 1024) q k) = (pad (fun f => n.Wd f k) (slot j p) c : EReal)
  g : ∀ (r : Fin 1024) (p : Fin 2) (c : Fin 384) (q : Fin 768), q.val = 384 * p.val + c.val →
    x2 (ix2 (n0 := 1024) (n1 := 768) r q) = (wG n (row i r) (slot j p) c : EReal)
  u : ∀ (r : Fin 1024) (p : Fin 2) (c : Fin 384) (q : Fin 768), q.val = 384 * p.val + c.val →
    x3 (ix2 (n0 := 1024) (n1 := 768) r q) = (wU n (row i r) (slot j p) c : EReal)

theorem mm_apply (x : Vec Ideal S1024x1024 .bf16) (w : Vec Ideal S768x1024 .bf16) (r : Fin 1024) (q : Fin 768) :
    k3_pay1 x w (ix2 (n0 := 1024) (n1 := 768) r q)
      = ∑ k : Fin 1024, (x (ix2 (n0 := 1024) (n1 := 1024) r k) * w (ix2 (n0 := 768) (n1 := 1024) q k) : EReal) := by
  pointwise [k3_pay1]

variable {n : Net} {i j : Fin 4} {x0 : Vec Ideal S1024x1024 .bf16} {x1 : Vec Ideal S768x1024 .bf16} {x2 x3 : Vec Ideal S1024x768 .bf16}

theorem da_real (h : Blk n i j x0 x1 x2 x3) (r : Fin 1024) (p : Fin 2) (c : Fin 384) (q : Fin 768) (hq : q.val = 384 * p.val + c.val) :
    k3_pay1 x0 x1 (ix2 (n0 := 1024) (n1 := 768) r q) = (pad (n.da (row i r)) (slot j p) c : EReal) := by
  rw [mm_apply]
  refine Eq.trans ?_ (congrArg (fun z : ℝ => (z : EReal)) (pad_sum (n.H (row i r)) (fun k f => n.Wd f k) (slot j p) c).symm)
  refine sum_eq_coe fun k => ?_
  rw [h.h, h.w p c k q hq, EReal.coe_mul]

theorem dgate_eq (t : Fin 4096) (s : Fin 8) (c : Fin 384) : pad (n.da t) s c * wG n t s c = pad (n.dgate t) s c := by
  unfold wG Ffn.pad; split
  · rfl
  · exact zero_mul _

theorem dup_eq (t : Fin 4096) (s : Fin 8) (c : Fin 384) : pad (n.da t) s c * wU n t s c = pad (n.dup t) s c := by
  unfold wU Ffn.pad; split
  · rfl
  · exact zero_mul _

/-- The two products before they are cut into slots. -/
theorem gate_real (h : Blk n i j x0 x1 x2 x3) (r : Fin 1024) (p : Fin 2) (c : Fin 384) (q : Fin 768) (hq : q.val = 384 * p.val + c.val) :
    k3_pay2 x0 x1 x2 (ix2 (n0 := 1024) (n1 := 768) r q) = (pad (n.dgate (row i r)) (slot j p) c : EReal) := by
  have e : k3_pay2 x0 x1 x2 (ix2 (n0 := 1024) (n1 := 768) r q)
      = k3_pay1 x0 x1 (ix2 (n0 := 1024) (n1 := 768) r q) * x2 (ix2 (n0 := 1024) (n1 := 768) r q) := by
    pointwise [k3_pay2]
  rw [e, da_real h r p c q hq, h.g r p c q hq, ← EReal.coe_mul, dgate_eq]

theorem up_real (h : Blk n i j x0 x1 x2 x3) (r : Fin 1024) (p : Fin 2) (c : Fin 384) (q : Fin 768) (hq : q.val = 384 * p.val + c.val) :
    k3_pay3 x0 x1 x3 (ix2 (n0 := 1024) (n1 := 768) r q) = (pad (n.dup (row i r)) (slot j p) c : EReal) := by
  have e : k3_pay3 x0 x1 x3 (ix2 (n0 := 1024) (n1 := 768) r q)
      = k3_pay1 x0 x1 (ix2 (n0 := 1024) (n1 := 768) r q) * x3 (ix2 (n0 := 1024) (n1 := 768) r q) := by
    pointwise [k3_pay3]
  rw [e, da_real h r p c q hq, h.u r p c q hq, ← EReal.coe_mul, dup_eq]

theorem ld0 (h : Blk n i j x0 x1 x2 x3) : Blk n i j (View.ld x0 r3_0) (View.ld x1 r3_1) (View.ld x2 r3_2) (View.ld x3 r3_2) := by
  rw [show View.ld x0 r3_0 = x0 from View.ld_unit_lit (Val := Elt Ideal) (e := .bf16) _ x0 (by decide),
    show View.ld x1 r3_1 = x1 from View.ld_unit_lit (Val := Elt Ideal) (e := .bf16) _ x1 (by decide),
    show View.ld x2 r3_2 = x2 from View.ld_unit_lit (Val := Elt Ideal) (e := .bf16) _ x2 (by decide),
    show View.ld x3 r3_2 = x3 from View.ld_unit_lit (Val := Elt Ideal) (e := .bf16) _ x3 (by decide)]
  exact h

theorem p4 (h : Blk n i j x0 x1 x2 x3) (r : Fin 1024) (c : Fin 384) :
    k3_pay4 x0 x1 x2 (ix2 (n0 := 1024) (n1 := 384) r c) = (pad (n.dgate (row i r)) (slot j 0) c : EReal) := by
  refine Eq.trans ?_ (gate_real h r 0 c ⟨c.val, by omega⟩ (by show c.val = 384 * 0 + c.val; omega))
  pointwise [k3_pay4]
theorem p5 (h : Blk n i j x0 x1 x2 x3) (r : Fin 1024) (c : Fin 384) :
    k3_pay5 x0 x1 x3 (ix2 (n0 := 1024) (n1 := 384) r c) = (pad (n.dup (row i r)) (slot j 0) c : EReal) := by
  refine Eq.trans ?_ (up_real h r 0 c ⟨c.val, by omega⟩ (by show c.val = 384 * 0 + c.val; omega))
  pointwise [k3_pay5]
theorem p6 (h : Blk n i j x0 x1 x2 x3) (r : Fin 1024) (c : Fin 384) :
    k3_pay6 x0 x1 x2 (ix2 (n0 := 1024) (n1 := 384) r c) = (pad (n.dgate (row i r)) (slot j 1) c : EReal) := by
  refine Eq.trans ?_ (gate_real h r 1 c ⟨384 + c.val, by omega⟩ (by show 384 + c.val = 384 * 1 + c.val; omega))
  pointwise [k3_pay6]
theorem p7 (h : Blk n i j x0 x1 x2 x3) (r : Fin 1024) (c : Fin 384) :
    k3_pay7 x0 x1 x3 (ix2 (n0 := 1024) (n1 := 384) r c) = (pad (n.dup (row i r)) (slot j 1) c : EReal) := by
  refine Eq.trans ?_ (up_real h r 1 c ⟨384 + c.val, by omega⟩ (by show 384 + c.val = 384 * 1 + c.val; omega))
  pointwise [k3_pay7]

theorem tile (g : Fin 4096 → Fin 8 → Fin 384 → ℝ) (p : Fin 2) (k off : ℕ) (hk : k = 0 ∨ k = 384) (hoff : off = 768 * p.val + k)
    (hg : ∀ t s (c : Fin 384) (h : k + c.val < 768), wGU n t s ⟨k + c.val, h⟩ = g t s c)
    (z : S4096x6144.Idx) (y : S1024x1536.Idx)
    (h0 : (z 0).val = 1024 * i.val + (y 0).val) (h1 : (z 1).val = 1536 * j.val + (y 1).val) (w : FVec Ideal S1024x384 .bf16)
    (hw : ∀ (r : Fin 1024) (c : Fin 384), w (ix2 (n0 := 1024) (n1 := 384) r c) = (g (row i r) (slot j p) c : EReal)) :
    View.TileAt (Val := Elt Ideal) (e := .bf16) y ![0, off] S1024x384.size w (fl2 (wGU n) z) := by
  intro x hx
  have e0 : (y 0).val = (x 0).val := (hx 0).trans (Nat.zero_add _)
  have e1 : (y 1).val = off + (x 1).val := hx 1
  have hx1 : (x 1).val < 384 := (x 1).isLt
  refine (congrArg w (eq_ix2 (n0 := 1024) (n1 := 384) x)).trans ((hw (x 0) (x 1)).trans
    ((congrArg (fun z : ℝ => (z : EReal)) (hg (row i (x 0)) (slot j p) (x 1) (by omega)).symm).trans (fl2_eq (wGU n) z _ _ _ ?_ ?_).symm))
  · show _ = 1024 * i.val + (x 0).val; omega
  · show _ = 768 * (2 * j.val + p.val) + (k + (x 1).val); omega

theorem gate_col (t : Fin 4096) (s : Fin 8) (c : Fin 384) (h : 0 + c.val < 768) : wGU n t s ⟨0 + c.val, h⟩ = pad (n.dgate t) s c := by
  refine Eq.trans ?_ (pads_left (n.dgate t) (n.dup t) s c (by omega))
  exact congrArg (wGU n t s) (Fin.ext (Nat.zero_add _))
theorem up_col (t : Fin 4096) (s : Fin 8) (c : Fin 384) (h : 384 + c.val < 768) : wGU n t s ⟨384 + c.val, h⟩ = pad (n.dup t) s c :=
  pads_right _ _ _ _ _

theorem out4 (h : Blk n i j x0 x1 x2 x3) (z : S4096x6144.Idx) (y : S1024x1536.Idx)
    (h0 : (z 0).val = 1024 * i.val + (y 0).val) (h1 : (z 1).val = 1536 * j.val + (y 1).val) :
    out3_4 (F := Ideal) x0 x1 x2 x3 y = fl2 (wGU n) z := by
  unfold out3_4
  refine View.canon_eq_of_allAt _ y _ (cover3_4 _ _ _ _ y) ?_
  refine View.allAt_cons_unit _ _ _ _ _ (tile (fun t => pad (n.dup t)) 1 384 1152 (.inr rfl) rfl up_col z y h0 h1 _ (p7 (ld0 h))) ?_
  refine View.allAt_cons_unit _ _ _ _ _ (tile (fun t => pad (n.dgate t)) 1 0 768 (.inl rfl) rfl gate_col z y h0 h1 _ (p6 (ld0 h))) ?_
  refine View.allAt_cons_unit _ _ _ _ _ (tile (fun t => pad (n.dup t)) 0 384 384 (.inr rfl) rfl up_col z y h0 h1 _ (p5 (ld0 h))) ?_
  refine View.allAt_cons_unit _ _ _ _ _ (tile (fun t => pad (n.dgate t)) 0 0 0 (.inl rfl) rfl gate_col z y h0 h1 _ (p4 (ld0 h))) ?_
  exact View.allAt_nil _ _

theorem idx : ∀ t : Fin cfg3.N, win3_0.index t = ![t.val / 4, 0] ∧ win3_1.index t = ![t.val % 4, 0]
    ∧ win3_2.index t = ![t.val / 4, t.val % 4] ∧ win3_3.index t = ![t.val / 4, t.val % 4] ∧ win3_4.index t = ![t.val / 4, t.val % 4] :=
  (by decide +kernel : ∀ t : Fin grid3.N, _)

def pi (t : Fin cfg3.N) : Fin 4 := ⟨t.val / 4, by have := lt_of_lt_of_eq t.isLt N_3; omega⟩
def pj (t : Fin cfg3.N) : Fin 4 := ⟨t.val % 4, by omega⟩

variable (V : (c : Dev nD) → (b : Ref sig .tc) → Buf (Elt Ideal) ((c : Thread nD τ).loc b)) (c : Dev nD) (n)
  (hh : V c main_v17 = rows n.H) (hw : V c main_v11 = wd n) (hg : V c main_v15_0 = fl (wG n)) (hu : V c main_v15_1 = fl (wU n))
include hh hw hg hu

theorem blk (t : Fin cfg3.N) : Blk n (pi t) (pj t) (iblk3 V c 0 t) (iblk3 V c 1 t) (iblk3 V c 2 t) (iblk3 V c 3 t) := by
  obtain ⟨i0, i1, i2, i3, _⟩ := idx t
  have hj := (pj t).isLt
  exact {
    h := fun r k => (show _ = V c main_v17 (ix2 (n0 := 4096) (n1 := 1024) (row (pi t) r) k) by
      unfold iblk3; generalize V c = W; blk_ext [i0, row, pi]).trans (congrFun hh _)
    w := fun p a k q hq => (show _ = V c main_v11 (ix2 (n0 := 3072) (n1 := 1024) ⟨768 * (pj t).val + q.val, by omega⟩ k) by
      unfold iblk3; generalize V c = W; blk_ext [i1, pj]).trans ((congrFun hw _).trans
        (wd_eq n _ (slot (pj t) p) a k (by show 768 * (pj t).val + q.val = 384 * (2 * (pj t).val + p.val) + a.val; omega) rfl))
    g := fun r p a q hq => (show _ = V c main_v15_0 (ix2 (n0 := 4096) (n1 := 3072) (row (pi t) r) ⟨768 * (pj t).val + q.val, by omega⟩) by
      unfold iblk3; generalize V c = W; blk_ext [i2, row, pi, pj]).trans ((congrFun hg _).trans
        (fl_eq (wG n) _ (row (pi t) r) (slot (pj t) p) a rfl (by show 768 * (pj t).val + q.val = 384 * (2 * (pj t).val + p.val) + a.val; omega)))
    u := fun r p a q hq => (show _ = V c main_v15_1 (ix2 (n0 := 4096) (n1 := 3072) (row (pi t) r) ⟨768 * (pj t).val + q.val, by omega⟩) by
      unfold iblk3; generalize V c = W; blk_ext [i3, row, pi, pj]).trans ((congrFun hu _).trans
        (fl_eq (wU n) _ (row (pi t) r) (slot (pj t) p) a rfl (by show 768 * (pj t).val + q.val = 384 * (2 * (pj t).val + p.val) + a.val; omega))) }

theorem arr : (dat3 V c).arrAt 4 cfg3.N = fl2 (wGU n) := by
  refine (dat3 V c).arrAt_eq_of_covers 4 _ (by decide +kernel) fun t hf y => ?_
  obtain ⟨_, _, _, _, i4⟩ := idx t
  blk_simp
  rw [after3_4]
  refine out4 (blk n V c hh hw hg hu t) _ _ ?_ ?_
  · blk_simp [i4]; exact congrArg (· + (y 0).val) (Nat.mul_comm _ _)
  · blk_simp [i4]; exact congrArg (· + (y 1).val) (Nat.mul_comm _ _)

end Cert.FfnAct

end
-- ==== Proof.FfnDw.lean ====
/- The third and fourth launches: the weights' gradients, as products of transposed rows with a pair of slots of the hidden
   values and with a slot of the two cotangents. -/
module

public import proofs.«01_k».proof.Proof.FfnUpArr

@[expose] public section

set_option maxRecDepth 16384
set_option backward.isDefEq.respectTransparency false

noncomputable section

namespace Cert.FfnDw

open Cert.Kernel2Ideal Cert.Kernel2Ideal.Gen Cert.Ffn Cert.Band Cert.FfnUp
open Idealize.ShloMosaic Idealize.ShloMosaic.TcCoe Idealize.SL.Sem
open scoped BigOperators

/-- Row `r` of block `i` of 512. -/
def mrow (i : Fin 2) (r : Fin 512) : Fin 1024 := ⟨512 * i.val + r.val, by have := i.isLt; have := r.isLt; omega⟩

theorem mm_apply (x : Vec Ideal S512x4096 .bf16) (w : Vec Ideal S4096x768 .bf16) (r : Fin 512) (q : Fin 768) :
    k4_pay1 x w (ix2 (n0 := 512) (n1 := 768) r q)
      = ∑ t : Fin 4096, (x (ix2 (n0 := 512) (n1 := 4096) r t) * w (ix2 (n0 := 4096) (n1 := 768) t q) : EReal) := by
  pointwise [k4_pay1]

variable {n : Net}

/-! ### The down weights -/

structure BlkD (n : Net) (i : Fin 2) (j : Fin 4) (x0 : Vec Ideal S512x4096 .bf16) (x1 : Vec Ideal S4096x768 .bf16) : Prop where
  h : ∀ (r : Fin 512) (t : Fin 4096), x0 (ix2 (n0 := 512) (n1 := 4096) r t) = (n.H t (mrow i r) : EReal)
  a : ∀ (t : Fin 4096) (p : Fin 2) (c : Fin 384) (q : Fin 768), q.val = 384 * p.val + c.val →
    x1 (ix2 (n0 := 4096) (n1 := 768) t q) = (pad (n.act t) (slot j p) c : EReal)

theorem mmD {i : Fin 2} {j : Fin 4} {x0 : Vec Ideal S512x4096 .bf16} {x1 : Vec Ideal S4096x768 .bf16} (h : BlkD n i j x0 x1)
    (r : Fin 512) (p : Fin 2) (c : Fin 384) (q : Fin 768) (hq : q.val = 384 * p.val + c.val) :
    k4_pay1 x0 x1 (ix2 (n0 := 512) (n1 := 768) r q) = (pad (fun f => n.dWd f (mrow i r)) (slot j p) c : EReal) := by
  rw [mm_apply]
  refine Eq.trans ?_ (congrArg (fun z : ℝ => (z : EReal)) (pad_sum (fun t => n.H t (mrow i r)) n.act (slot j p) c).symm)
  refine sum_eq_coe fun t => ?_
  rw [h.h, h.a t p c q hq, EReal.coe_mul]

theorem payD0 {i : Fin 2} {j : Fin 4} {x0 : Vec Ideal S512x4096 .bf16} {x1 : Vec Ideal S4096x768 .bf16} (h : BlkD n i j x0 x1)
    (a : Fin 1) (r : Fin 512) (c : Fin 384) :
    k4_pay2 x0 x1 (ix3 (n0 := 1) (n1 := 512) (n2 := 384) a r c) = (pad (fun f => n.dWd f (mrow i r)) (slot j 0) c : EReal) := by
  refine Eq.trans ?_ (mmD h r 0 c ⟨c.val, by omega⟩ (by show c.val = 384 * 0 + c.val; omega))
  pointwise [k4_pay2]

theorem payD1 {i : Fin 2} {j : Fin 4} {x0 : Vec Ideal S512x4096 .bf16} {x1 : Vec Ideal S4096x768 .bf16} (h : BlkD n i j x0 x1)
    (a : Fin 1) (r : Fin 512) (c : Fin 384) :
    k4_pay3 x0 x1 (ix3 (n0 := 1) (n1 := 512) (n2 := 384) a r c) = (pad (fun f => n.dWd f (mrow i r)) (slot j 1) c : EReal) := by
  refine Eq.trans ?_ (mmD h r 1 c ⟨384 + c.val, by omega⟩ (by show 384 + c.val = 384 * 1 + c.val; omega))
  pointwise [k4_pay3]

theorem tileD {i : Fin 2} {j : Fin 4} (p : Fin 2) (off : ℕ) (hoff : off = p.val) (z : S8x1024x384.Idx) (y : S2x512x384.Idx)
    (h0 : (z 0).val = 2 * j.val + (y 0).val) (h1 : (z 1).val = 512 * i.val + (y 1).val) (h2 : (z 2).val = (y 2).val)
    (w : FVec Ideal S1x512x384 .bf16)
    (hw : ∀ (a : Fin 1) (r : Fin 512) (c : Fin 384), w (ix3 (n0 := 1) (n1 := 512) (n2 := 384) a r c)
      = (pad (fun f => n.dWd f (mrow i r)) (slot j p) c : EReal)) :
    View.TileAt (Val := Elt Ideal) (e := .bf16) y ![off, 0, 0] S1x512x384.size w (outD n z) := by
  intro x hx
  have e0 : (y 0).val = off + (x 0).val := hx 0
  have e1 : (y 1).val = (x 1).val := (hx 1).trans (Nat.zero_add _)
  have e2 : (y 2).val = (x 2).val := (hx 2).trans (Nat.zero_add _)
  have hx0 : (x 0).val < 1 := (x 0).isLt
  refine (congrArg w (eq_ix3 (n0 := 1) (n1 := 512) (n2 := 384) x)).trans ((hw (x 0) (x 1) (x 2)).trans ?_)
  unfold outD
  rw [show z 0 = slot j p from Fin.ext (by show (z 0).val = 2 * j.val + p.val; omega),
    show z 1 = mrow i (x 1) from Fin.ext (by show (z 1).val = 512 * i.val + (x 1).val; omega),
    show z 2 = x 2 from Fin.ext (by omega)]

theorem outD2 {i : Fin 2} {j : Fin 4} {x0 : Vec Ideal S512x4096 .bf16} {x1 : Vec Ideal S4096x768 .bf16} (h : BlkD n i j x0 x1)
    (z : S8x1024x384.Idx) (y : S2x512x384.Idx)
    (h0 : (z 0).val = 2 * j.val + (y 0).val) (h1 : (z 1).val = 512 * i.val + (y 1).val) (h2 : (z 2).val = (y 2).val) :
    out4_2 (F := Ideal) x0 x1 y = outD n z := by
  have h' : BlkD n i j (View.ld x0 r4_0) (View.ld x1 r4_1) := by
    rw [show View.ld x0 r4_0 = x0 from View.ld_unit_lit (Val := Elt Ideal) (e := .bf16) _ x0 (by decide),
      show View.ld x1 r4_1 = x1 from View.ld_unit_lit (Val := Elt Ideal) (e := .bf16) _ x1 (by decide)]
    exact h
  unfold out4_2
  refine View.canon_eq_of_allAt _ y _ (cover4_2 _ _ y) ?_
  refine View.allAt_cons_unit _ _ _ _ _ (tileD (i := i) (j := j) 1 1 rfl z y h0 h1 h2 _ (payD1 h')) ?_
  refine View.allAt_cons_unit _ _ _ _ _ (tileD (i := i) (j := j) 0 0 rfl z y h0 h1 h2 _ (payD0 h')) ?_
  exact View.allAt_nil _ _

theorem idx2 : ∀ t : Fin cfg4.N, win4_0.index t = ![t.val / 4, 0] ∧ win4_1.index t = ![0, t.val % 4]
    ∧ win4_2.index t = ![t.val % 4, t.val / 4, 0] :=
  (by decide +kernel : ∀ t : Fin grid4.N, _)

def pi2 (t : Fin cfg4.N) : Fin 2 := ⟨t.val / 4, by have := lt_of_lt_of_eq t.isLt N_4; omega⟩
def pj2 (t : Fin cfg4.N) : Fin 4 := ⟨t.val % 4, by omega⟩

theorem arrD (V : (c : Dev nD) → (b : Ref sig .tc) → Buf (Elt Ideal) ((c : Thread nD τ).loc b)) (c : Dev nD)
    (hh : V c main_v19 = cols n.H) (ha : V c main_v15_2 = fl (wA n)) : (dat4 V c).arrAt 2 cfg4.N = outD n := by
  refine (dat4 V c).arrAt_eq_of_covers 2 _ (by decide +kernel) fun t hf y => ?_
  obtain ⟨i0, i1, i2⟩ := idx2 t
  have hj := (pj2 t).isLt
  have hb : BlkD n (pi2 t) (pj2 t) (iblk4 V c 0 t) (iblk4 V c 1 t) := {
    h := fun r k => (show _ = V c main_v19 (ix2 (n0 := 1024) (n1 := 4096) (mrow (pi2 t) r) k) by
      unfold iblk4; generalize V c = W; blk_ext [i0, mrow, pi2]).trans (congrFun hh _)
    a := fun k p a q hq => (show _ = V c main_v15_2 (ix2 (n0 := 4096) (n1 := 3072) k ⟨768 * (pj2 t).val + q.val, by omega⟩) by
      unfold iblk4; generalize V c = W; blk_ext [i1, pj2]).trans ((congrFun ha _).trans
        (fl_eq (wA n) _ k (slot (pj2 t) p) a rfl (by show 768 * (pj2 t).val + q.val = 384 * (2 * (pj2 t).val + p.val) + a.val; omega))) }
  blk_simp
  rw [after4_2]
  refine outD2 hb _ _ ?_ ?_ ?_
  · blk_simp [i2]; exact congrArg (· + (y 0).val) (Nat.mul_comm _ _)
  · blk_simp [i2]; exact congrArg (· + (y 1).val) (Nat.mul_comm _ _)
  · blk_simp [i2]

/-! ### The gate and linear weights -/

theorem pay3_apply (x : Vec Ideal S512x4096 .bf16) (w : Vec Ideal S4096x768 .bf16) (a : Fin 1) (r : Fin 512) (q : Fin 768) :
    k5_pay1 x w (ix3 (n0 := 1) (n1 := 512) (n2 := 768) a r q)
      = ∑ t : Fin 4096, (x (ix2 (n0 := 512) (n1 := 4096) r t) * w (ix2 (n0 := 4096) (n1 := 768) t q) : EReal) := by
  pointwise [k5_pay1]

theorem outGU3 (i : Fin 2) (s : Fin 8) (x0 : Vec Ideal S512x4096 .bf16) (x1 : Vec Ideal S4096x768 .bf16)
    (hx : ∀ (r : Fin 512) (t : Fin 4096), x0 (ix2 (n0 := 512) (n1 := 4096) r t) = (n.X t (mrow i r) : EReal))
    (hg : ∀ (t : Fin 4096) (q : Fin 768), x1 (ix2 (n0 := 4096) (n1 := 768) t q) = (wGU n t s q : EReal))
    (z : S8x1024x768.Idx) (y : S1x512x768.Idx)
    (h0 : (z 0).val = s.val) (h1 : (z 1).val = 512 * i.val + (y 1).val) (h2 : (z 2).val = (y 2).val) :
    out5_2 (F := Ideal) x0 x1 y = outGU n z := by
  have e : out5_2 (F := Ideal) x0 x1 = k5_pay1 (View.ld x0 r5_0) (View.ld x1 r5_1) := View.canon_cons_unit_lit _ _ _ (by decide)
  rw [e, show View.ld x0 r5_0 = x0 from View.ld_unit_lit (Val := Elt Ideal) (e := .bf16) _ x0 (by decide),
    show View.ld x1 r5_1 = x1 from View.ld_unit_lit (Val := Elt Ideal) (e := .bf16) _ x1 (by decide)]
  refine (congrArg (k5_pay1 x0 x1) (eq_ix3 (n0 := 1) (n1 := 512) (n2 := 768) y)).trans ((pay3_apply _ _ _ _ _).trans ?_)
  unfold outGU
  rw [show z 0 = s from Fin.ext h0, show z 1 = mrow i (y 1) from Fin.ext h1, show z 2 = y 2 from Fin.ext h2]
  refine Eq.trans ?_ (congrArg (fun z : ℝ => (z : EReal)) (pads_sum (fun t => n.X t (mrow i (y 1))) n.dgate n.dup s (y 2)).symm)
  refine sum_eq_coe fun t => ?_
  rw [hx, hg, EReal.coe_mul]; rfl

theorem idx3 : ∀ t : Fin cfg5.N, win5_0.index t = ![t.val / 8, 0] ∧ win5_1.index t = ![0, t.val % 8]
    ∧ win5_2.index t = ![t.val % 8, t.val / 8, 0] :=
  (by decide +kernel : ∀ t : Fin grid5.N, _)

def pi3 (t : Fin cfg5.N) : Fin 2 := ⟨t.val / 8, by have := lt_of_lt_of_eq t.isLt N_5; omega⟩
def ps3 (t : Fin cfg5.N) : Fin 8 := ⟨t.val % 8, by omega⟩

theorem arrGU (V : (c : Dev nD) → (b : Ref sig .tc) → Buf (Elt Ideal) ((c : Thread nD τ).loc b)) (c : Dev nD)
    (hx : V c main_v14_1 = cols n.X) (hg : V c main_v18 = fl2 (wGU n)) : (dat5 V c).arrAt 2 cfg5.N = outGU n := by
  refine (dat5 V c).arrAt_eq_of_covers 2 _ (by decide +kernel) fun t hf y => ?_
  obtain ⟨i0, i1, i2⟩ := idx3 t
  have hs := (ps3 t).isLt
  have hy0 : (y 0).val < 1 := (y 0).isLt
  blk_simp
  rw [after5_2]
  refine outGU3 (pi3 t) (ps3 t) _ _
    (fun r k => (show _ = V c main_v14_1 (ix2 (n0 := 1024) (n1 := 4096) (mrow (pi3 t) r) k) by
      unfold iblk5; generalize V c = W; blk_ext [i0, mrow, pi3]).trans (congrFun hx _))
    (fun k q => (show _ = V c main_v18 (ix2 (n0 := 4096) (n1 := 6144) k ⟨768 * (ps3 t).val + q.val, by omega⟩) by
      unfold iblk5; generalize V c = W; blk_ext [i1, ps3]).trans ((congrFun hg _).trans (fl2_eq (wGU n) _ k (ps3 t) q rfl rfl))) _ _ ?_ ?_ ?_
  · blk_simp [i2]; rfl
  · blk_simp [i2]; exact congrArg (· + (y 1).val) (Nat.mul_comm _ _)
  · blk_simp [i2]

end Cert.FfnDw

end
-- ==== Proof.FfnDx.lean ====
/- The fifth launch: the gradient of the input, a sum over the eight slots added to the residual's gradient. -/
module

public import proofs.«01_k».proof.Proof.FfnArr
public import Idealize.ShloMosaic.Lib.Pipeline.ValueKit
public import Idealize.ShloMosaic.Lib.Pointwise
public import proofs.«01_k».proof.Proof.Gen.Kernel2Ideal.Frame
public import proofs.«01_k».proof.Proof.Band

@[expose] public section

set_option maxRecDepth 16384
set_option backward.isDefEq.respectTransparency false

noncomputable section

namespace Cert.FfnDx

open Cert.Kernel2Ideal Cert.Kernel2Ideal.Gen Cert.Ffn Cert.Band
open Idealize.ShloMosaic Idealize.ShloMosaic.TcCoe Idealize.SL.Sem
open scoped BigOperators

/-- Row `r` of block `t` of 512. -/
def xrow (i : Fin 8) (r : Fin 512) : Fin 4096 := ⟨512 * i.val + r.val, by have := i.isLt; have := r.isLt; omega⟩

/-- One slot's product, both operands read along their columns. -/
def dot (a : Vec Ideal S512x768 .bf16) (b : Vec Ideal S1x1024x768 .bf16) (r : Fin 512) (d : Fin 1024) : EReal :=
  ∑ q : Fin 768, (a (ix2 (n0 := 512) (n1 := 768) r q) * b (ix3 (n0 := 1) (n1 := 1024) (n2 := 768) 0 d q) : EReal)

theorem first_apply (v0 : Vec Ideal S512x1024 .f32) (a0 a1 a2 a3 : Vec Ideal S512x768 .bf16) (b0 b1 b2 b3 : Vec Ideal S1x1024x768 .bf16)
    (r : Fin 512) (d : Fin 1024) :
    k6_pay2 v0 a0 b0 a1 b1 a2 b2 a3 b3 (ix2 (n0 := 512) (n1 := 1024) r d)
      = v0 (ix2 (n0 := 512) (n1 := 1024) r d) + dot a0 b0 r d + dot a1 b1 r d + dot a2 b2 r d + dot a3 b3 r d := by
  unfold dot; pointwise [k6_pay2]

theorem second_apply (v : Vec Ideal S512x1024 .f32) (a0 : Vec Ideal S512x768 .bf16) (a1 a2 a3 : Vec Ideal S512x768 .bf16) (b0 b1 b2 b3 : Vec Ideal S1x1024x768 .bf16)
    (r : Fin 512) (d : Fin 1024) :
    k6_pay1 v (k6_pay3 a0) b0 a1 b1 a2 b2 a3 b3 (ix2 (n0 := 512) (n1 := 1024) r d)
      = v (ix2 (n0 := 512) (n1 := 1024) r d) + dot a0 b0 r d + dot a1 b1 r d + dot a2 b2 r d + dot a3 b3 r d := by
  unfold dot; pointwise [k6_pay1, k6_pay3]

variable {n : Net}

theorem dot_real (t : Fin 4096) (s : Fin 8) (r : Fin 512) (d : Fin 1024) (a : Vec Ideal S512x768 .bf16) (b : Vec Ideal S1x1024x768 .bf16)
    (ha : ∀ q : Fin 768, a (ix2 (n0 := 512) (n1 := 768) r q) = (wGU n t s q : EReal))
    (hb : ∀ q : Fin 768, b (ix3 (n0 := 1) (n1 := 1024) (n2 := 768) 0 d q) = (pads (n.Wg d) (n.Wu d) s q : EReal)) :
    dot a b r d = ((∑ q : Fin 768, wGU n t s q * pads (n.Wg d) (n.Wu d) s q : ℝ) : EReal) := by
  refine sum_eq_coe fun q => ?_
  rw [ha, hb, EReal.coe_mul]

structure Blk (n : Net) (i : Fin 8) (x0 : Vec Ideal S512x6144 .bf16) (x1 : Vec Ideal S8x1024x768 .bf16) (x2 : Vec Ideal S512x1024 .f32) : Prop where
  g : ∀ (r : Fin 512) (s : Fin 8) (q : Fin 768) (k : Fin 6144), k.val = 768 * s.val + q.val →
    x0 (ix2 (n0 := 512) (n1 := 6144) r k) = (wGU n (xrow i r) s q : EReal)
  w : ∀ (s : Fin 8) (d : Fin 1024) (q : Fin 768), x1 (ix3 (n0 := 8) (n1 := 1024) (n2 := 768) s d q) = (pads (n.Wg d) (n.Wu d) s q : EReal)
  r : ∀ (r : Fin 512) (d : Fin 1024), x2 (ix2 (n0 := 512) (n1 := 1024) r d) = (n.R (xrow i r) d : EReal)

variable {i : Fin 8} {x0 : Vec Ideal S512x6144 .bf16} {x1 : Vec Ideal S8x1024x768 .bf16} {x2 : Vec Ideal S512x1024 .f32}

theorem slot_real (h : Blk n i x0 x1 x2) (s : Fin 8) (r : Fin 512) (d : Fin 1024) (a : Vec Ideal S512x768 .bf16) (b : Vec Ideal S1x1024x768 .bf16)
    (ha : ∀ q : Fin 768, a (ix2 (n0 := 512) (n1 := 768) r q) = x0 (ix2 (n0 := 512) (n1 := 6144) r ⟨768 * s.val + q.val, by have := s.isLt; have := q.isLt; omega⟩))
    (hb : ∀ q : Fin 768, b (ix3 (n0 := 1) (n1 := 1024) (n2 := 768) 0 d q) = x1 (ix3 (n0 := 8) (n1 := 1024) (n2 := 768) s d q)) :
    dot a b r d = ((∑ q : Fin 768, wGU n (xrow i r) s q * pads (n.Wg d) (n.Wu d) s q : ℝ) : EReal) :=
  dot_real _ s r d a b (fun q => (ha q).trans (h.g _ _ _ _ rfl)) (fun q => (hb q).trans (h.w _ _ _))

theorem dX_eq (t : Fin 4096) (d : Fin 1024) :
    n.dX t d = n.R t d + ∑ s : Fin 8, ∑ q : Fin 768, wGU n t s q * pads (n.Wg d) (n.Wu d) s q := by
  unfold Net.dX wGU
  rw [sum_pads]

/-- A load of 768 columns, and a load of one slot. -/
theorem ldA (x : Vec Ideal S512x6144 .bf16) (off : ℕ) (s : Fin 8) (hoff : off = 768 * s.val)
    (inb : ∀ k, (![0, off] : Fin 2 → ℕ) k + S512x768.size k ≤ S512x6144.size k) (r : Fin 512) (q : Fin 768) :
    View.ld (Val := Elt Ideal) (e' := .bf16) x (Rect.unit (s := S512x6144) ![0, off] S512x768.size inb) (ix2 (n0 := 512) (n1 := 768) r q)
      = x (ix2 (n0 := 512) (n1 := 6144) r ⟨768 * s.val + q.val, by have := s.isLt; have := q.isLt; omega⟩) := by
  subst hoff
  exact View.ld_unit_apply_of x _ _ _ _ (ix2 (n0 := 512) (n1 := 6144) r ⟨768 * s.val + q.val, by have := s.isLt; have := q.isLt; omega⟩) fun a => by
    fin_cases a <;> first | rfl | exact (Nat.zero_add _).symm

theorem ldB (x : Vec Ideal S8x1024x768 .bf16) (off : ℕ) (s : Fin 8) (hoff : off = s.val)
    (inb : ∀ k, (![off, 0, 0] : Fin 3 → ℕ) k + S1x1024x768.size k ≤ S8x1024x768.size k) (d : Fin 1024) (q : Fin 768) :
    View.ld (Val := Elt Ideal) (e' := .bf16) x (Rect.unit (s := S8x1024x768) ![off, 0, 0] S1x1024x768.size inb) (ix3 (n0 := 1) (n1 := 1024) (n2 := 768) 0 d q)
      = x (ix3 (n0 := 8) (n1 := 1024) (n2 := 768) s d q) := by
  subst hoff
  exact View.ld_unit_apply_of x _ _ _ _ (ix3 (n0 := 8) (n1 := 1024) (n2 := 768) s d q) fun a => by
    fin_cases a <;> first | rfl | exact (Nat.zero_add _).symm

theorem out3 (h : Blk n i x0 x1 x2) (z : S4096x1024.Idx) (y : S512x1024.Idx)
    (h0 : (z 0).val = 512 * i.val + (y 0).val) (h1 : (z 1).val = (y 1).val) : out6_3 (F := Ideal) x0 x1 x2 y = outX n z := by
  unfold out6_3
  refine (congrFun (View.canon_cons_unit_lit (Val := Elt Ideal) (e := .f32) _ _ _ (by decide)) y).trans ?_
  refine (congrArg _ (eq_ix2 (n0 := 512) (n1 := 1024) y)).trans ((second_apply _ _ _ _ _ _ _ _ _ _ _).trans ?_)
  rw [first_apply, show View.ld x2 r6_0 = x2 from View.ld_unit_lit (Val := Elt Ideal) (e := .f32) _ x2 (by decide), h.r,
    slot_real h 0 _ _ _ _ (fun q => ldA x0 0 0 rfl _ _ q) (fun q => ldB x1 0 0 rfl _ _ q),
    slot_real h 1 _ _ _ _ (fun q => ldA x0 768 1 rfl _ _ q) (fun q => ldB x1 1 1 rfl _ _ q),
    slot_real h 2 _ _ _ _ (fun q => ldA x0 1536 2 rfl _ _ q) (fun q => ldB x1 2 2 rfl _ _ q),
    slot_real h 3 _ _ _ _ (fun q => ldA x0 2304 3 rfl _ _ q) (fun q => ldB x1 3 3 rfl _ _ q),
    slot_real h 4 _ _ _ _ (fun q => ldA x0 3072 4 rfl _ _ q) (fun q => ldB x1 4 4 rfl _ _ q),
    slot_real h 5 _ _ _ _ (fun q => ldA x0 3840 5 rfl _ _ q) (fun q => ldB x1 5 5 rfl _ _ q),
    slot_real h 6 _ _ _ _ (fun q => ldA x0 4608 6 rfl _ _ q) (fun q => ldB x1 6 6 rfl _ _ q),
    slot_real h 7 _ _ _ _ (fun q => ldA x0 5376 7 rfl _ _ q) (fun q => ldB x1 7 7 rfl _ _ q)]
  unfold outX
  rw [show z 0 = xrow i (y 0) from Fin.ext h0, show z 1 = y 1 from Fin.ext h1, dX_eq, Fin.sum_univ_eight]
  simp only [← EReal.coe_add, add_assoc]

theorem idx : ∀ t : Fin cfg6.N, win6_0.index t = ![t.val, 0] ∧ win6_1.index t = ![0, 0, 0]
    ∧ win6_2.index t = ![t.val, 0] ∧ win6_3.index t = ![t.val, 0] :=
  (by decide +kernel : ∀ t : Fin grid6.N, _)

def pt (t : Fin cfg6.N) : Fin 8 := ⟨t.val, lt_of_lt_of_eq t.isLt N_6⟩

theorem arr (V : (c : Dev nD) → (b : Ref sig .tc) → Buf (Elt Ideal) ((c : Thread nD τ).loc b)) (c : Dev nD)
    (hg : V c main_v18 = fl2 (wGU n)) (hw : V c main_v7 = wgu n) (hr : V c main_arg7 = rows n.R) :
    (dat6 V c).arrAt 3 cfg6.N = outX n := by
  refine (dat6 V c).arrAt_eq_of_covers 3 _ (by decide +kernel) fun t hf y => ?_
  obtain ⟨i0, i1, i2, i3⟩ := idx t
  have hb : Blk n (pt t) (iblk6 V c 0 t) (iblk6 V c 1 t) (iblk6 V c 2 t) := {
    g := fun r s q k hk => (show _ = V c main_v18 (ix2 (n0 := 4096) (n1 := 6144) (xrow (pt t) r) k) by
      unfold iblk6; generalize V c = W; blk_ext [i0, xrow, pt]).trans ((congrFun hg _).trans (fl2_eq (wGU n) _ (xrow (pt t) r) s q rfl hk))
    w := fun s d q => (show _ = V c main_v7 (ix3 (n0 := 8) (n1 := 1024) (n2 := 768) s d q) by
      unfold iblk6; generalize V c = W; blk_ext [i1]).trans (congrFun hw _)
    r := fun r d => (show _ = V c main_arg7 (ix2 (n0 := 4096) (n1 := 1024) (xrow (pt t) r) d) by
      unfold iblk6; generalize V c = W; blk_ext [i2, xrow, pt]).trans (congrFun hr _) }
  blk_simp
  rw [after6_3]
  refine out3 hb _ _ ?_ ?_
  · blk_simp [i3]; exact congrArg (· + (y 0).val) (Nat.mul_comm _ _)
  · blk_simp [i3]

end Cert.FfnDx

end
-- ==== Proof.FfnCast.lean ====
/- The launch that copies the input, as it is and transposed. -/
module

public import proofs.«01_k».proof.Proof.FfnArr
public import Idealize.ShloMosaic.Lib.Pipeline.ValueKit
public import Idealize.ShloMosaic.Lib.Pointwise
public import proofs.«01_k».proof.Proof.Gen.Kernel2Ideal.Frame

@[expose] public section

set_option maxRecDepth 16384
set_option backward.isDefEq.respectTransparency false

noncomputable section

namespace Cert.FfnCast

open Cert.Kernel2Ideal Cert.Kernel2Ideal.Gen Cert.Ffn Cert.Band
open Idealize.ShloMosaic Idealize.ShloMosaic.TcCoe Idealize.SL.Sem

theorem turned_apply (x : Vec Ideal S512x1024 .f32) (d : Fin 1024) (r : Fin 512) :
    k0_pay2 (F := Ideal) x (ix2 (n0 := 1024) (n1 := 512) d r) = x (ix2 (n0 := 512) (n1 := 1024) r d) := by
  pointwise [k0_pay2]

theorem whole (x : Vec Ideal S512x1024 .f32) : View.ld x r0_0 = x := View.ld_unit_lit (Val := Elt Ideal) (e := .f32) _ x (by decide)

theorem out1 (x : Vec Ideal S512x1024 .f32) (y : S512x1024.Idx) : out0_1 (F := Ideal) x y = x y := by
  unfold out0_1
  refine (congrFun (View.canon_cons_unit_lit (Val := Elt Ideal) (e := .bf16) _ _ _ (by decide)) y).trans ?_
  exact congrFun (whole x) y

theorem out2 (x : Vec Ideal S512x1024 .f32) (y : S1024x512.Idx) : out0_2 (F := Ideal) x y = x (ix2 (n0 := 512) (n1 := 1024) (y 1) (y 0)) := by
  unfold out0_2
  refine (congrFun (View.canon_cons_unit_lit (Val := Elt Ideal) (e := .bf16) _ _ _ (by decide)) y).trans ?_
  rw [whole]
  exact (congrArg _ (eq_ix2 (n0 := 1024) (n1 := 512) y)).trans (turned_apply x _ _)

theorem idx : ∀ t : Fin cfg0.N, win0_0.index t = ![t.val, 0] ∧ win0_1.index t = ![t.val, 0] ∧ win0_2.index t = ![0, t.val] :=
  (by decide +kernel : ∀ t : Fin grid0.N, _)

variable (V : (c : Dev nD) → (b : Ref sig .tc) → Buf (Elt Ideal) ((c : Thread nD τ).loc b)) (c : Dev nD) (x : Fin 4096 → Fin 1024 → ℝ)
  (hx : V c main_arg0 = rows x)
include hx

theorem blk (t : Fin cfg0.N) (r : Fin 512) (d : Fin 1024) (z : S4096x1024.Idx) (h0 : (z 0).val = 512 * t.val + r.val) (h1 : (z 1).val = d.val) :
    iblk0 V c 0 t (ix2 (n0 := 512) (n1 := 1024) r d) = rows x z := by
  obtain ⟨i0, _, _⟩ := idx t
  refine (show _ = V c main_arg0 z by
    unfold iblk0; generalize V c = W; blk_ext [i0, h0, h1]).trans (congrFun hx z)

theorem arr1 : (dat0 V c).arrAt 1 cfg0.N = rows x := by
  refine (dat0 V c).arrAt_eq_of_covers 1 _ (by decide +kernel) fun t hf y => ?_
  obtain ⟨_, i1, _⟩ := idx t
  blk_simp
  rw [after0_1, out1]
  refine (congrArg _ (eq_ix2 (n0 := 512) (n1 := 1024) y)).trans (blk V c x hx t _ _ _ ?_ ?_)
  · blk_simp [i1]; exact congrArg (· + (y 0).val) (Nat.mul_comm _ _)
  · blk_simp [i1]

theorem arr2 : (dat0 V c).arrAt 2 cfg0.N = cols x := by
  refine (dat0 V c).arrAt_eq_of_covers 2 _ (by decide +kernel) fun t hf y => ?_
  obtain ⟨_, _, i2⟩ := idx t
  blk_simp
  rw [after0_2, out2]
  refine (blk V c x hx t _ _ (ix2 (n0 := 4096) (n1 := 1024) _ _) ?_ ?_)
  · blk_simp [i2]; exact congrArg (· + (y 1).val) (Nat.mul_comm _ _)
  · blk_simp [i2]

end Cert.FfnCast

end
-- ==== Proof.FfnNorm.lean ====
/- The launch of the down product and the layer norm: a block of rows of the hidden values times the padded weights, halved and
   added to the weighted residual, normalised row by row. -/
module

public import proofs.«01_k».proof.Proof.FfnArr
public import Idealize.ShloMosaic.Lib.Pipeline.ValueKit
public import Idealize.ShloMosaic.Lib.Pointwise
public import proofs.«01_k».proof.Proof.Gen.Kernel2Ideal.Frame

@[expose] public section

set_option maxRecDepth 16384
set_option backward.isDefEq.respectTransparency false

noncomputable section

namespace Cert.FfnNorm

open Cert.Kernel2Ideal Cert.Kernel2Ideal.Gen Cert.Ffn Cert.Band
open Idealize.ShloMosaic Idealize.ShloMosaic.TcCoe Idealize.SL.Sem
open scoped BigOperators

/-- Row `r` of block `i` of 512. -/
def xrow (i : Fin 8) (r : Fin 512) : Fin 4096 := ⟨512 * i.val + r.val, by have := i.isLt; have := r.isLt; omega⟩

/-- An entry of the residual sum, before its mean is taken away. -/
def zin (a : Vec Ideal S512x3072 .bf16) (w : Vec Ideal S3072x1024 .bf16) (x : Vec Ideal S512x1024 .f32) (r : Fin 512) (d : Fin 1024) : EReal :=
  Ideal.ofBits .f32 0x3FB504F3#32 * x (ix2 (n0 := 512) (n1 := 1024) r d)
    + Ideal.ofBits .f32 0x3F000000#32 * ∑ k : Fin 3072, (a (ix2 (n0 := 512) (n1 := 3072) r k) * w (ix2 (n0 := 3072) (n1 := 1024) k d) : EReal)

theorem cen_apply (a : Vec Ideal S512x3072 .bf16) (w : Vec Ideal S3072x1024 .bf16) (x : Vec Ideal S512x1024 .f32) (r : Fin 512) (d : Fin 1024) :
    k2_pay2 a w x (ix2 (n0 := 512) (n1 := 1024) r d)
      = zin a w x r d - Ideal.div (∑ k : Fin 1024, zin a w x r k) (Ideal.ofBits .f32 0x44800000#32) := by
  unfold zin; pointwise [k2_pay2]

theorem rs_apply (a : Vec Ideal S512x3072 .bf16) (w : Vec Ideal S3072x1024 .bf16) (x : Vec Ideal S512x1024 .f32) (r : Fin 512) :
    k2_pay3 a w x (ix2 (n0 := 512) (n1 := 1) r 0)
      = Ideal.rsqrt (Ideal.div (∑ k : Fin 1024, (k2_pay2 a w x (ix2 (n0 := 512) (n1 := 1024) r k) * k2_pay2 a w x (ix2 (n0 := 512) (n1 := 1024) r k) : EReal))
          (Ideal.ofBits .f32 0x44800000#32) + Ideal.ofBits .f32 0x3727C5AC#32) := by
  pointwise [k2_pay3]

theorem y_apply (a : Vec Ideal S512x3072 .bf16) (w : Vec Ideal S3072x1024 .bf16) (x : Vec Ideal S512x1024 .f32) (g b : Vec Ideal S1x1024 .f32)
    (r : Fin 512) (d : Fin 1024) :
    k2_pay5 a w x g b (ix2 (n0 := 512) (n1 := 1024) r d)
      = k2_pay2 a w x (ix2 (n0 := 512) (n1 := 1024) r d) * k2_pay3 a w x (ix2 (n0 := 512) (n1 := 1) r 0) * g (ix2 (n0 := 1) (n1 := 1024) 0 d)
        + b (ix2 (n0 := 1) (n1 := 1024) 0 d) := by
  pointwise [k2_pay5, k2_pay4]

theorem turned_apply (v : FVec Ideal S512x1024 .f32) (d : Fin 1024) (r : Fin 512) :
    k2_pay1 (F := Ideal) v (ix2 (n0 := 1024) (n1 := 512) d r) = v (ix2 (n0 := 512) (n1 := 1024) r d) := by
  pointwise [k2_pay1]

/-- A block's hidden values, weights, residual, gain and bias. -/
structure Blk (n : Net) (i : Fin 8) (a : Vec Ideal S512x3072 .bf16) (w : Vec Ideal S3072x1024 .bf16) (x : Vec Ideal S512x1024 .f32)
    (g b : Vec Ideal S1x1024 .f32) : Prop where
  a : ∀ (r : Fin 512) (k : Fin 3072), a (ix2 (n0 := 512) (n1 := 3072) r k)
    = (pad (n.act (xrow i r)) ⟨k.val / 384, by omega⟩ ⟨k.val % 384, by omega⟩ : EReal)
  w : ∀ (k : Fin 3072) (d : Fin 1024), w (ix2 (n0 := 3072) (n1 := 1024) k d)
    = (pad (fun f => n.Wd f d) ⟨k.val / 384, by omega⟩ ⟨k.val % 384, by omega⟩ : EReal)
  x : ∀ (r : Fin 512) (d : Fin 1024), x (ix2 (n0 := 512) (n1 := 1024) r d) = (n.X (xrow i r) d : EReal)
  g : ∀ d : Fin 1024, g (ix2 (n0 := 1) (n1 := 1024) 0 d) = (n.G d : EReal)
  b : ∀ d : Fin 1024, b (ix2 (n0 := 1) (n1 := 1024) 0 d) = (n.B d : EReal)

variable {n : Net} {i : Fin 8} {a : Vec Ideal S512x3072 .bf16} {w : Vec Ideal S3072x1024 .bf16} {x : Vec Ideal S512x1024 .f32}
  {g b : Vec Ideal S1x1024 .f32} (h : Blk n i a w x g b)
include h

theorem zin_real (r : Fin 512) (d : Fin 1024) : zin a w x r d = (n.Z (xrow i r) d : EReal) := by
  unfold zin
  have e : ∑ k : Fin 3072, (a (ix2 (n0 := 512) (n1 := 3072) r k) * w (ix2 (n0 := 3072) (n1 := 1024) k d) : EReal) = (n.down (xrow i r) d : EReal) := by
    refine (sum_eq_coe fun k => ?_).trans (congrArg (fun z : ℝ => (z : EReal)) (sum_flat (n.act (xrow i r)) fun f => n.Wd f d))
    rw [h.a, h.w]; exact (EReal.coe_mul _ _).symm
  rw [e, h.x, Norm.ofBits_al, Norm.ofBits_half, ← EReal.coe_mul, ← EReal.coe_mul, ← EReal.coe_add]; rfl

theorem cen_real (r : Fin 512) (d : Fin 1024) : k2_pay2 a w x (ix2 (n0 := 512) (n1 := 1024) r d) = (Norm.cen (n.Z (xrow i r)) d : EReal) := by
  rw [cen_apply, Norm.mean_coe _ _ (zin_real h r), zin_real h, ← EReal.coe_sub]; rfl

theorem rs_real (r : Fin 512) : k2_pay3 a w x (ix2 (n0 := 512) (n1 := 1) r 0) = (Norm.rs (n.Z (xrow i r)) : EReal) := by
  rw [rs_apply, Norm.mean_coe _ (fun k => Norm.cen (n.Z (xrow i r)) k * Norm.cen (n.Z (xrow i r)) k) (fun k => by
    rw [cen_real h, EReal.coe_mul]), Norm.ofBits_ep, ← EReal.coe_add]
  exact Norm.rsqrt_coe _

theorem y_real (r : Fin 512) (d : Fin 1024) : k2_pay5 a w x g b (ix2 (n0 := 512) (n1 := 1024) r d) = (n.Y (xrow i r) d : EReal) := by
  rw [y_apply, cen_real h, rs_real h, h.g, h.b, ← EReal.coe_mul, ← EReal.coe_mul, ← EReal.coe_add]; rfl

omit h in
theorem loads : View.ld a r2_0 = a ∧ View.ld w r2_1 = w ∧ View.ld x r2_2 = x ∧ View.ld g r2_3 = g :=
  ⟨View.ld_unit_lit (Val := Elt Ideal) (e := .bf16) _ a (by decide), View.ld_unit_lit (Val := Elt Ideal) (e := .bf16) _ w (by decide),
    View.ld_unit_lit (Val := Elt Ideal) (e := .f32) _ x (by decide), View.ld_unit_lit (Val := Elt Ideal) (e := .f32) _ g (by decide)⟩

theorem out5 (z : S4096x1024.Idx) (y : S512x1024.Idx) (h0 : (z 0).val = 512 * i.val + (y 0).val) (h1 : (z 1).val = (y 1).val) :
    out2_5 (F := Ideal) a w x g b y = rows n.Y z := by
  unfold out2_5
  refine (congrFun (View.canon_cons_unit_lit (Val := Elt Ideal) (e := .f32) _ _ _ (by decide)) y).trans ?_
  obtain ⟨e0, e1, e2, e3⟩ := loads (a := a) (w := w) (x := x) (g := g)
  obtain ⟨_, _, _, e4⟩ := loads (a := a) (w := w) (x := x) (g := b)
  rw [e0, e1, e2, e3, e4]
  refine (congrArg _ (eq_ix2 (n0 := 512) (n1 := 1024) y)).trans ((y_real h _ _).trans ?_)
  unfold rows
  rw [show z 0 = xrow i (y 0) from Fin.ext h0, show z 1 = y 1 from Fin.ext h1]

theorem out6 (z : S4096x1024.Idx) (y : S512x1024.Idx) (h0 : (z 0).val = 512 * i.val + (y 0).val) (h1 : (z 1).val = (y 1).val) :
    out2_6 (F := Ideal) a w x g b y = rows n.Y z := by
  refine Eq.trans ?_ (out5 h z y h0 h1)
  unfold out2_5 out2_6
  exact (congrFun (View.canon_cons_unit_lit (Val := Elt Ideal) (e := .bf16) _ _ _ (by decide)) y).trans
    (congrFun (View.canon_cons_unit_lit (Val := Elt Ideal) (e := .f32) _ _ _ (by decide)) y).symm

theorem out7 (z : S1024x4096.Idx) (y : S1024x512.Idx) (h0 : (z 0).val = (y 0).val) (h1 : (z 1).val = 512 * i.val + (y 1).val) :
    out2_7 (F := Ideal) a w x g b y = cols n.Y z := by
  unfold out2_7
  refine (congrFun (View.canon_cons_unit_lit (Val := Elt Ideal) (e := .bf16) _ _ _ (by decide)) y).trans ?_
  obtain ⟨e0, e1, e2, e3⟩ := loads (a := a) (w := w) (x := x) (g := g)
  obtain ⟨_, _, _, e4⟩ := loads (a := a) (w := w) (x := x) (g := b)
  rw [e0, e1, e2, e3, e4]
  refine (congrArg _ (eq_ix2 (n0 := 1024) (n1 := 512) y)).trans ((turned_apply _ _ _).trans ((y_real h _ _).trans ?_))
  unfold cols
  rw [show z 1 = xrow i (y 1) from Fin.ext h1, show z 0 = y 0 from Fin.ext h0]

end Cert.FfnNorm

namespace Cert.FfnNorm

open Cert.Kernel2Ideal Cert.Kernel2Ideal.Gen Cert.Ffn Cert.Band
open Idealize.ShloMosaic Idealize.ShloMosaic.TcCoe Idealize.SL.Sem

theorem idx : ∀ t : Fin cfg2.N, win2_0.index t = ![t.val, 0] ∧ win2_1.index t = ![0, 0] ∧ win2_2.index t = ![t.val, 0]
    ∧ win2_3.index t = ![0, 0] ∧ win2_4.index t = ![0, 0] ∧ win2_5.index t = ![t.val, 0] ∧ win2_6.index t = ![t.val, 0] ∧ win2_7.index t = ![0, t.val] :=
  (by decide +kernel : ∀ t : Fin grid2.N, _)

def pt (t : Fin cfg2.N) : Fin 8 := ⟨t.val, lt_of_lt_of_eq t.isLt N_2⟩

/-- A row of 1024 entries as an array of one row. -/
def one (g : Fin 1024 → ℝ) (y : S1x1024.Idx) : EReal := (g (y 1) : EReal)

variable (V : (c : Dev nD) → (b : Ref sig .tc) → Buf (Elt Ideal) ((c : Thread nD τ).loc b)) (c : Dev nD) (n : Net)
  (ha : V c main_v15_2 = fl (wA n)) (hw : V c main_v11 = wd n) (hx : V c main_arg0 = rows n.X)
  (hg : V c main_v12 = one n.G) (hb : V c main_v13 = one n.B)
include ha hw hx hg hb

theorem blk (t : Fin cfg2.N) : Blk n (pt t) (iblk2 V c 0 t) (iblk2 V c 1 t) (iblk2 V c 2 t) (iblk2 V c 3 t) (iblk2 V c 4 t) := by
  obtain ⟨i0, i1, i2, i3, i4, _⟩ := idx t
  exact {
    a := fun r k => (show _ = V c main_v15_2 (ix2 (n0 := 4096) (n1 := 3072) (xrow (pt t) r) k) by
      unfold iblk2; generalize V c = W; blk_ext [i0, xrow, pt]).trans (congrFun ha _)
    w := fun k d => (show _ = V c main_v11 (ix2 (n0 := 3072) (n1 := 1024) k d) by
      unfold iblk2; generalize V c = W; blk_ext [i1]).trans (congrFun hw _)
    x := fun r d => (show _ = V c main_arg0 (ix2 (n0 := 4096) (n1 := 1024) (xrow (pt t) r) d) by
      unfold iblk2; generalize V c = W; blk_ext [i2, xrow, pt]).trans (congrFun hx _)
    g := fun d => (show _ = V c main_v12 (ix2 (n0 := 1) (n1 := 1024) 0 d) by
      unfold iblk2; generalize V c = W; blk_ext [i3]).trans (congrFun hg _)
    b := fun d => (show _ = V c main_v13 (ix2 (n0 := 1) (n1 := 1024) 0 d) by
      unfold iblk2; generalize V c = W; blk_ext [i4]).trans (congrFun hb _) }

theorem arr5 : (dat2 V c).arrAt 5 cfg2.N = rows n.Y := by
  refine (dat2 V c).arrAt_eq_of_covers 5 _ (by decide +kernel) fun t hf y => ?_
  obtain ⟨_, _, _, _, _, i5, i6, i7⟩ := idx t
  blk_simp
  rw [after2_5]
  refine out5 (blk V c n ha hw hx hg hb t) _ _ ?_ ?_
  · blk_simp [i5]; exact congrArg (· + (y 0).val) (Nat.mul_comm _ _)
  · blk_simp [i5]

theorem arr6 : (dat2 V c).arrAt 6 cfg2.N = rows n.Y := by
  refine (dat2 V c).arrAt_eq_of_covers 6 _ (by decide +kernel) fun t hf y => ?_
  obtain ⟨_, _, _, _, _, i5, i6, i7⟩ := idx t
  blk_simp
  rw [after2_6]
  refine out6 (blk V c n ha hw hx hg hb t) _ _ ?_ ?_
  · blk_simp [i6]; exact congrArg (· + (y 0).val) (Nat.mul_comm _ _)
  · blk_simp [i6]

theorem arr7 : (dat2 V c).arrAt 7 cfg2.N = cols n.Y := by
  refine (dat2 V c).arrAt_eq_of_covers 7 _ (by decide +kernel) fun t hf y => ?_
  obtain ⟨_, _, _, _, _, i5, i6, i7⟩ := idx t
  blk_simp
  rw [after2_7]
  refine out7 (blk V c n ha hw hx hg hb t) _ _ ?_ ?_
  · blk_simp [i7]
  · blk_simp [i7]; exact congrArg (· + (y 1).val) (Nat.mul_comm _ _)

end Cert.FfnNorm

end
-- ==== Proof.FfnHost.lean ====
/- What the launches find in their operands and what they leave: the padded weights, the rows and their transposes, and then,
   launch by launch, the arrays down to the six results. -/
module

public import proofs.«01_k».proof.Proof.FfnLayout
public import proofs.«01_k».proof.Proof.FfnUpArr
public import proofs.«01_k».proof.Proof.FfnAct
public import proofs.«01_k».proof.Proof.FfnDw
public import proofs.«01_k».proof.Proof.FfnDx
public import proofs.«01_k».proof.Proof.FfnCast
public import proofs.«01_k».proof.Proof.FfnNorm
public import Idealize.ShloMosaic.Lib.StableHlo.RunRead

@[expose] public section

set_option maxRecDepth 16384
set_option backward.isDefEq.respectTransparency false

noncomputable section

namespace Cert.FfnHost

open Cert.Kernel2Ideal Cert.Kernel2Ideal.Gen Cert.Ffn Cert.FfnLayout Cert.Band Idealize.ShloMosaic.StableHlo
open Idealize.ShloMosaic Idealize.ShloMosaic.TcCoe Idealize.SL.Sem
open scoped BigOperators

abbrev Vals : Type := Valuation τ sig (Elt Ideal)

/-! ### The host operations, over any contents before them -/

theorem s0 (W : Vals) : after hostOps0 W (Proc.devRef .tc main_v1) = cut (W (Proc.devRef .tc main_arg1)) := by
  after_reads_simp; rfl
theorem s0c (W : Vals) : after hostOps0 W (Proc.devRef .tc main_c) = constantI S_ 32 0#32 := by
  after_reads_simp
theorem s1 (W : Vals) : after hostOps0_1 W (Proc.devRef .tc main_v2)
    = Idealize.ShloMosaic.pad S8x1024x384 ![0, 0, 0] ![0, 0, 32] ![0, 0, 0] (W (Proc.devRef .tc main_v1)) (sitofp (F := Ideal) .f32 (W (Proc.devRef .tc main_c)))
        pads_S8x1024x352_S8x1024x384_000_000_0320 h_S_ := by
  simp only [hostOps0_1, TRef.unary, TRef.binary, TRef.toBuf, TRef.ofBuf, cast_eq]
  after_results_simp
  try rfl
theorem s2 (W : Vals) : after hostOps0_2 W (Proc.devRef .tc main_v4) = cut (W (Proc.devRef .tc main_arg2)) := by
  after_reads_simp; rfl
theorem s2c (W : Vals) : after hostOps0_2 W (Proc.devRef .tc main_c_0) = constantI S_ 32 0#32 := by
  after_reads_simp
theorem s3 (W : Vals) : after hostOps0_3 W (Proc.devRef .tc main_v5)
    = Idealize.ShloMosaic.pad S8x1024x384 ![0, 0, 0] ![0, 0, 32] ![0, 0, 0] (W (Proc.devRef .tc main_v4)) (sitofp (F := Ideal) .f32 (W (Proc.devRef .tc main_c_0)))
        pads_S8x1024x352_S8x1024x384_000_000_0320 h_S_ := by
  simp only [hostOps0_3, TRef.unary, TRef.binary, TRef.toBuf, TRef.ofBuf, cast_eq]
  after_results_simp
  try rfl
theorem s4 (W : Vals) : after hostOps0_4 W (Proc.devRef .tc main_v7)
    = concatenate S8x1024x768 2 [⟨S8x1024x384, W (Proc.devRef .tc main_v2)⟩, ⟨S8x1024x384, W (Proc.devRef .tc main_v5)⟩] concatenates_S8x1024x384_S8x1024x384_S8x1024x768_d2 := by
  after_reads_simp; rfl
theorem s4d (W : Vals) : after hostOps0_4 W (Proc.devRef .tc main_v8)
    = shapeCast S8x352x1024 (W (Proc.devRef .tc main_arg3)) shapeCasts_S2816x1024_S8x352x1024 := by
  after_reads_simp; rfl
theorem s4c (W : Vals) : after hostOps0_4 W (Proc.devRef .tc main_c_1) = constantI S_ 32 0#32 := by
  after_reads_simp
theorem s5 (W : Vals) : after hostOps0_5 W (Proc.devRef .tc main_v9)
    = Idealize.ShloMosaic.pad S8x384x1024 ![0, 0, 0] ![0, 32, 0] ![0, 0, 0] (W (Proc.devRef .tc main_v8)) (sitofp (F := Ideal) .f32 (W (Proc.devRef .tc main_c_1)))
        pads_S8x352x1024_S8x384x1024_000_0320_000 h_S_ := by
  simp only [hostOps0_5, TRef.unary, TRef.binary, TRef.toBuf, TRef.ofBuf, cast_eq]
  after_results_simp
  try rfl
theorem s6 (W : Vals) : after hostOps0_6 W (Proc.devRef .tc main_v11)
    = shapeCast S3072x1024 (W (Proc.devRef .tc main_v9)) shapeCasts_S8x384x1024_S3072x1024 := by
  after_reads_simp; rfl
theorem s6g (W : Vals) : after hostOps0_6 W (Proc.devRef .tc main_v12)
    = broadcastInDim S1x1024 ![1] bcast_S1024_S1x1024_1 (W (Proc.devRef .tc main_arg4)) := by
  after_reads_simp
theorem s6b (W : Vals) : after hostOps0_6 W (Proc.devRef .tc main_v13)
    = broadcastInDim S1x1024 ![1] bcast_S1024_S1x1024_1 (W (Proc.devRef .tc main_arg5)) := by
  after_reads_simp
theorem s11 (W : Vals) : after hostOps3 W (Proc.devRef .tc main_v17) = W (Proc.devRef .tc main_arg6) := by
  after_reads_simp; rfl
theorem s13 (W : Vals) : after hostOps4 W (Proc.devRef .tc main_v19)
    = transpose S1024x4096 [1, 0] (W (Proc.devRef .tc main_v17)) transposes_S4096x1024_S1024x4096_1_0 := by
  after_reads_simp

theorem row_of (w : S1024.Idx → EReal) (g : Fin 1024 → ℝ) (hw : w = vec g) :
    broadcastInDim S1x1024 ![1] bcast_S1024_S1x1024_1 w = FfnNorm.one g := by
  subst hw
  funext y
  exact broadcastInDim_apply _ bcast_S1024_S1x1024_1 _ y (ix1 (n0 := 1024) (y 1)) fun a => match a with
    | ⟨0, _⟩ => by show (y 1).val = if (1024 : Nat) = 1 then 0 else (y 1).val; rw [if_neg (by decide)]

theorem transposed (w : S4096x1024.Idx → EReal) (x : Fin 4096 → Fin 1024 → ℝ) (hw : w = rows x) :
    transpose S1024x4096 [1, 0] w transposes_S4096x1024_S1024x4096_1_0 = cols x := by
  subst hw
  funext y
  exact transpose_apply _ _ _ _ (ix2 (n0 := 4096) (n1 := 1024) (y 1) (y 0)) (by intro b; fin_cases b <;> rfl)

/-! ### On a net's arrays -/

variable {n : Net} (m : (ℓ : Loc nD τ sig) → Buf (Elt Ideal) ℓ) (ρ : Dev nD → PrngReg) (c : Dev nD)

/-- The arguments hold the net's arrays. -/
structure Holds (n : Net) (m : (ℓ : Loc nD τ sig) → Buf (Elt Ideal) ℓ) (c : Dev nD) : Prop where
  x : m ((c : Thread nD τ).loc main_arg0) = rows n.X
  wg : m ((c : Thread nD τ).loc main_arg1) = gmat n.Wg
  wu : m ((c : Thread nD τ).loc main_arg2) = gmat n.Wu
  wd : m ((c : Thread nD τ).loc main_arg3) = dmat n.Wd
  g : m ((c : Thread nD τ).loc main_arg4) = vec n.G
  b : m ((c : Thread nD τ).loc main_arg5) = vec n.B
  h : m ((c : Thread nD τ).loc main_arg6) = rows n.H
  r : m ((c : Thread nD τ).loc main_arg7) = rows n.R

variable (hm : Holds n m c)
include hm

theorem w2 (y : S8x1024x384.Idx) : W2 m ρ c (Proc.devRef .tc main_v2) y = (Ffn.pad (n.Wg (y 1)) (y 0) (y 2) : EReal) := by
  refine (congrFun (s1 (W1 m ρ c)) y).trans ?_
  rw [show W1 m ρ c (Proc.devRef .tc main_c) = constantI S_ 32 0#32 from s0c _,
    show W1 m ρ c (Proc.devRef .tc main_v1) = cut (gmat n.Wg) from (s0 _).trans (congrArg cut hm.wg)]
  exact padded _ n.Wg (fun s d k => cut_apply _ s d k) y

theorem w4 (y : S8x1024x384.Idx) : W4 m ρ c (Proc.devRef .tc main_v5) y = (Ffn.pad (n.Wu (y 1)) (y 0) (y 2) : EReal) := by
  refine (congrFun (s3 (W3 m ρ c)) y).trans ?_
  rw [show W3 m ρ c (Proc.devRef .tc main_c_0) = constantI S_ 32 0#32 from s2c _,
    show W3 m ρ c (Proc.devRef .tc main_v4) = cut (gmat n.Wu) from
      (s2 _).trans (congrArg cut ((W2_args m ρ c main_arg2 (by decide)).trans hm.wu))]
  exact padded _ n.Wu (fun s d k => cut_apply _ s d k) y

theorem w5 : W5 m ρ c (Proc.devRef .tc main_v7) = wgu n := by
  funext y
  refine (congrFun (s4 (W4 m ρ c)) y).trans ?_
  refine side _ _ n.Wg n.Wu (fun y => ?_) (w4 m ρ c hm) y
  refine (congrFun ((W4_of m ρ c main_v2 (by decide)).trans (W3_of m ρ c main_v2 (by decide))) y).trans (w2 m ρ c hm y)

theorem w6 (y : S8x384x1024.Idx) : W6 m ρ c (Proc.devRef .tc main_v9) y = (Ffn.pad (fun f => n.Wd f (y 2)) (y 0) (y 1) : EReal) := by
  refine (congrFun (s5 (W5 m ρ c)) y).trans ?_
  rw [show W5 m ρ c (Proc.devRef .tc main_c_1) = constantI S_ 32 0#32 from s4c _,
    show W5 m ρ c (Proc.devRef .tc main_v8) = shapeCast S8x352x1024 (dmat n.Wd) shapeCasts_S2816x1024_S8x352x1024 from
      (s4d _).trans (congrArg (fun z => shapeCast S8x352x1024 z shapeCasts_S2816x1024_S8x352x1024) ((W4_args m ρ c main_arg3 (by decide)).trans hm.wd))]
  refine padded_rows _ n.Wd (fun s k d => ?_) y
  refine shapeCast_apply _ _ _ (ix2 (n0 := 2816) (n1 := 1024) ⟨352 * s.val + k.val, by have := s.isLt; have := k.isLt; omega⟩ d) ?_
  rewrite [Shape.rowMajor_val_three, Shape.rowMajor_val_two]
  show (352 * s.val + k.val) * 1024 + d.val = (s.val * 352 + k.val) * 1024 + d.val
  omega

theorem w7w : W7 m ρ c (Proc.devRef .tc main_v7) = wgu n :=
  (W7_of m ρ c main_v7 (by decide)).trans ((W6_of m ρ c main_v7 (by decide)).trans (w5 m ρ c hm))

theorem w7d : W7 m ρ c (Proc.devRef .tc main_v11) = wd n := by
  funext y
  have hy : (y 0).val < 3072 := (y 0).isLt
  refine (congrFun (s6 (W6 m ρ c)) y).trans ?_
  refine (shapeCast_apply _ _ _ (ix3 (n0 := 8) (n1 := 384) (n2 := 1024) ⟨(y 0).val / 384, by omega⟩ ⟨(y 0).val % 384, by omega⟩ (y 1)) ?_).trans (w6 m ρ c hm _)
  rewrite [Shape.rowMajor_val_three, Shape.rowMajor_val_two]
  show ((y 0).val / 384 * 384 + (y 0).val % 384) * 1024 + (y 1).val = (y 0).val * 1024 + (y 1).val
  omega

theorem w7g : W7 m ρ c (Proc.devRef .tc main_v12) = FfnNorm.one n.G :=
  (s6g _).trans (row_of _ _ ((W6_args m ρ c main_arg4 (by decide)).trans hm.g))
theorem w7b : W7 m ρ c (Proc.devRef .tc main_v13) = FfnNorm.one n.B :=
  (s6b _).trans (row_of _ _ ((W6_args m ρ c main_arg5 (by decide)).trans hm.b))

/-! ### Launch by launch: the copies, the hidden values, the down product with the layer norm -/

theorem w8x : W8 m ρ c (Proc.devRef .tc main_v14_0) = rows n.X :=
  (W8_arr m ρ c 1).trans (FfnCast.arr1 (V7 m ρ) c n.X ((W7_args m ρ c main_arg0 (by decide)).trans hm.x))
theorem w8t : W8 m ρ c (Proc.devRef .tc main_v14_1) = cols n.X :=
  (W8_arr m ρ c 2).trans (FfnCast.arr2 (V7 m ρ) c n.X ((W7_args m ρ c main_arg0 (by decide)).trans hm.x))
theorem w8w : W8 m ρ c (Proc.devRef .tc main_v7) = wgu n := (W8_of m ρ c main_v7 (by decide)).trans (w7w m ρ c hm)
theorem w8d : W8 m ρ c (Proc.devRef .tc main_v11) = wd n := (W8_of m ρ c main_v11 (by decide)).trans (w7d m ρ c hm)

theorem w9g : W9 m ρ c (Proc.devRef .tc main_v15_0) = fl (wG n) :=
  (W9_arr m ρ c 2).trans (FfnUp.arr2 (V8 m ρ) c n (w8x m ρ c hm) (w8w m ρ c hm))
theorem w9u : W9 m ρ c (Proc.devRef .tc main_v15_1) = fl (wU n) :=
  (W9_arr m ρ c 3).trans (FfnUp.arr3 (V8 m ρ) c n (w8x m ρ c hm) (w8w m ρ c hm))
theorem w9a : W9 m ρ c (Proc.devRef .tc main_v15_2) = fl (wA n) :=
  (W9_arr m ρ c 4).trans (FfnUp.arr4 (V8 m ρ) c n (w8x m ρ c hm) (w8w m ρ c hm))
theorem w9w : W9 m ρ c (Proc.devRef .tc main_v7) = wgu n := (W9_of m ρ c main_v7 (by decide)).trans (w8w m ρ c hm)
theorem w9d : W9 m ρ c (Proc.devRef .tc main_v11) = wd n := (W9_of m ρ c main_v11 (by decide)).trans (w8d m ρ c hm)
theorem w9t : W9 m ρ c (Proc.devRef .tc main_v14_1) = cols n.X := (W9_of m ρ c main_v14_1 (by decide)).trans (w8t m ρ c hm)
theorem w9n : W9 m ρ c (Proc.devRef .tc main_v12) = FfnNorm.one n.G :=
  (W9_of m ρ c main_v12 (by decide)).trans ((W8_of m ρ c main_v12 (by decide)).trans (w7g m ρ c hm))
theorem w9b : W9 m ρ c (Proc.devRef .tc main_v13) = FfnNorm.one n.B :=
  (W9_of m ρ c main_v13 (by decide)).trans ((W8_of m ρ c main_v13 (by decide)).trans (w7b m ρ c hm))

theorem w10y : W10 m ρ c (Proc.devRef .tc main_v16_0) = rows n.Y :=
  (W10_arr m ρ c 5).trans (FfnNorm.arr5 (V9 m ρ) c n (w9a m ρ c hm) (w9d m ρ c hm) ((W9_args m ρ c main_arg0 (by decide)).trans hm.x)
    (w9n m ρ c hm) (w9b m ρ c hm))
theorem w10yb : W10 m ρ c (Proc.devRef .tc main_v16_1) = rows n.Y :=
  (W10_arr m ρ c 6).trans (FfnNorm.arr6 (V9 m ρ) c n (w9a m ρ c hm) (w9d m ρ c hm) ((W9_args m ρ c main_arg0 (by decide)).trans hm.x)
    (w9n m ρ c hm) (w9b m ρ c hm))
theorem w10yt : W10 m ρ c (Proc.devRef .tc main_v16_2) = cols n.Y :=
  (W10_arr m ρ c 7).trans (FfnNorm.arr7 (V9 m ρ) c n (w9a m ρ c hm) (w9d m ρ c hm) ((W9_args m ρ c main_arg0 (by decide)).trans hm.x)
    (w9n m ρ c hm) (w9b m ρ c hm))

/-! ### The gradients -/

theorem w11h : W11 m ρ c (Proc.devRef .tc main_v17) = rows n.H := (s11 _).trans ((W10_args m ρ c main_arg6 (by decide)).trans hm.h)
theorem w11g : W11 m ρ c (Proc.devRef .tc main_v15_0) = fl (wG n) :=
  (W11_of m ρ c main_v15_0 (by decide)).trans ((W10_of m ρ c main_v15_0 (by decide)).trans (w9g m ρ c hm))
theorem w11u : W11 m ρ c (Proc.devRef .tc main_v15_1) = fl (wU n) :=
  (W11_of m ρ c main_v15_1 (by decide)).trans ((W10_of m ρ c main_v15_1 (by decide)).trans (w9u m ρ c hm))
theorem w11a : W11 m ρ c (Proc.devRef .tc main_v15_2) = fl (wA n) :=
  (W11_of m ρ c main_v15_2 (by decide)).trans ((W10_of m ρ c main_v15_2 (by decide)).trans (w9a m ρ c hm))
theorem w11d : W11 m ρ c (Proc.devRef .tc main_v11) = wd n :=
  (W11_of m ρ c main_v11 (by decide)).trans ((W10_of m ρ c main_v11 (by decide)).trans (w9d m ρ c hm))
theorem w11w : W11 m ρ c (Proc.devRef .tc main_v7) = wgu n :=
  (W11_of m ρ c main_v7 (by decide)).trans ((W10_of m ρ c main_v7 (by decide)).trans (w9w m ρ c hm))
theorem w11t : W11 m ρ c (Proc.devRef .tc main_v14_1) = cols n.X :=
  (W11_of m ρ c main_v14_1 (by decide)).trans ((W10_of m ρ c main_v14_1 (by decide)).trans (w9t m ρ c hm))

theorem w12 : W12 m ρ c (Proc.devRef .tc main_v18) = fl2 (wGU n) :=
  (W12_arr m ρ c 4).trans (FfnAct.arr n (V11 m ρ) c (w11h m ρ c hm) (w11d m ρ c hm) (w11g m ρ c hm) (w11u m ρ c hm))
theorem w12h : W12 m ρ c (Proc.devRef .tc main_v17) = rows n.H := (W12_of m ρ c main_v17 (by decide)).trans (w11h m ρ c hm)

theorem w13h : W13 m ρ c (Proc.devRef .tc main_v19) = cols n.H := (s13 _).trans (transposed _ _ (w12h m ρ c hm))
theorem w13a : W13 m ρ c (Proc.devRef .tc main_v15_2) = fl (wA n) :=
  (W13_of m ρ c main_v15_2 (by decide)).trans ((W12_of m ρ c main_v15_2 (by decide)).trans (w11a m ρ c hm))
theorem w14 : W14 m ρ c (Proc.devRef .tc main_v20) = outD n :=
  (W14_arr m ρ c 2).trans (FfnDw.arrD (V13 m ρ) c (w13h m ρ c hm) (w13a m ρ c hm))

theorem w14t : W14 m ρ c (Proc.devRef .tc main_v14_1) = cols n.X :=
  (W14_of m ρ c main_v14_1 (by decide)).trans ((W13_of m ρ c main_v14_1 (by decide)).trans ((W12_of m ρ c main_v14_1 (by decide)).trans (w11t m ρ c hm)))
theorem w14g : W14 m ρ c (Proc.devRef .tc main_v18) = fl2 (wGU n) :=
  (W14_of m ρ c main_v18 (by decide)).trans ((W13_of m ρ c main_v18 (by decide)).trans (w12 m ρ c hm))
theorem w15 : W15 m ρ c (Proc.devRef .tc main_v21) = outGU n :=
  (W15_arr m ρ c 2).trans (FfnDw.arrGU (V14 m ρ) c (w14t m ρ c hm) (w14g m ρ c hm))
theorem w15g : W15 m ρ c (Proc.devRef .tc main_v18) = fl2 (wGU n) := (W15_of m ρ c main_v18 (by decide)).trans (w14g m ρ c hm)
theorem w15w : W15 m ρ c (Proc.devRef .tc main_v7) = wgu n :=
  (W15_of m ρ c main_v7 (by decide)).trans ((W14_of m ρ c main_v7 (by decide)).trans ((W13_of m ρ c main_v7 (by decide)).trans
    ((W12_of m ρ c main_v7 (by decide)).trans (w11w m ρ c hm))))

/-! ### The results -/

omit hm in
/-- What the third launch leaves and no later one writes is still there at the end. -/
theorem keep16 (b : Ref sig .tc) (h16 : W16 m ρ c (Proc.devRef .tc b) = W15 m ρ c (Proc.devRef .tc b))
    (h15 : W15 m ρ c (Proc.devRef .tc b) = W14 m ρ c (Proc.devRef .tc b)) (h14 : W14 m ρ c (Proc.devRef .tc b) = W13 m ρ c (Proc.devRef .tc b))
    (h13 : W13 m ρ c (Proc.devRef .tc b) = W12 m ρ c (Proc.devRef .tc b)) (h12 : W12 m ρ c (Proc.devRef .tc b) = W11 m ρ c (Proc.devRef .tc b))
    (h11 : W11 m ρ c (Proc.devRef .tc b) = W10 m ρ c (Proc.devRef .tc b)) : W16 m ρ c (Proc.devRef .tc b) = W10 m ρ c (Proc.devRef .tc b) :=
  h16.trans (h15.trans (h14.trans (h13.trans (h12.trans h11))))

theorem result_norm : W16 m ρ c (Proc.devRef .tc main_v16_0) = rows n.Y :=
  (keep16 m ρ c main_v16_0 (W16_of m ρ c _ (by decide)) (W15_of m ρ c _ (by decide)) (W14_of m ρ c _ (by decide)) (W13_of m ρ c _ (by decide))
    (W12_of m ρ c _ (by decide)) (W11_of m ρ c _ (by decide))).trans (w10y m ρ c hm)
theorem result_copy : W16 m ρ c (Proc.devRef .tc main_v16_1) = rows n.Y :=
  (keep16 m ρ c main_v16_1 (W16_of m ρ c _ (by decide)) (W15_of m ρ c _ (by decide)) (W14_of m ρ c _ (by decide)) (W13_of m ρ c _ (by decide))
    (W12_of m ρ c _ (by decide)) (W11_of m ρ c _ (by decide))).trans (w10yb m ρ c hm)
theorem result_transpose : W16 m ρ c (Proc.devRef .tc main_v16_2) = cols n.Y :=
  (keep16 m ρ c main_v16_2 (W16_of m ρ c _ (by decide)) (W15_of m ρ c _ (by decide)) (W14_of m ρ c _ (by decide)) (W13_of m ρ c _ (by decide))
    (W12_of m ρ c _ (by decide)) (W11_of m ρ c _ (by decide))).trans (w10yt m ρ c hm)
theorem result_down : W16 m ρ c (Proc.devRef .tc main_v20) = outD n :=
  (W16_of m ρ c main_v20 (by decide)).trans ((W15_of m ρ c main_v20 (by decide)).trans (w14 m ρ c hm))
theorem result_gate_up : W16 m ρ c (Proc.devRef .tc main_v21) = outGU n := (W16_of m ρ c main_v21 (by decide)).trans (w15 m ρ c hm)
theorem result_input : W16 m ρ c (Proc.devRef .tc main_v22) = outX n :=
  (W16_arr m ρ c 3).trans (FfnDx.arr (V15 m ρ) c (w15g m ρ c hm) (w15w m ρ c hm) ((W15_args m ρ c main_arg7 (by decide)).trans hm.r))

end Cert.FfnHost

end
-- ==== Proof.FfnRef.lean ====
/- The reference's results on finite arguments: the real layer norm, and the real gradients in the slots' layout. -/
module

public import proofs.«01_k».proof.Proof.FfnLayout
public import proofs.«01_k».proof.Proof.Gen.Reference2Ideal.Read

@[expose] public section

set_option maxRecDepth 16384
set_option backward.isDefEq.respectTransparency false

noncomputable section

namespace Cert.FfnRef

open Cert.Reference2Ideal Cert.Reference2Ideal.Read Cert.Ffn Cert.FfnLayout Cert.Band
open Idealize.ShloMosaic Idealize.ShloMosaic.TcCoe
open scoped BigOperators

variable (n : Net)

/-- The reference's arguments. -/
abbrev a0 : S4096x1024.Idx → EReal := rows n.X
abbrev a1 : S1024x2816.Idx → EReal := gmat n.Wg
abbrev a2 : S1024x2816.Idx → EReal := gmat n.Wu
abbrev a3 : S2816x1024.Idx → EReal := dmat n.Wd
abbrev a4 : S1024.Idx → EReal := vec n.G
abbrev a5 : S1024.Idx → EReal := vec n.B
abbrev a6 : S4096x1024.Idx → EReal := rows n.H
abbrev a7 : S4096x1024.Idx → EReal := rows n.R

theorem r0 (i : S4096x2816.Idx) : val_main_v0 (F := Ideal) (a0 n) (a1 n) i = (n.gate (i 0) (i 1) : EReal) := by
  rw [val_main_v0_apply]
  exact sum_eq_coe fun k => (EReal.coe_mul _ _).symm

theorem r2 (i : S4096x2816.Idx) : val_main_v2 (F := Ideal) (a0 n) (a2 n) i = (n.up (i 0) (i 1) : EReal) := by
  rw [val_main_v2_apply]
  exact sum_eq_coe fun k => (EReal.coe_mul _ _).symm

theorem one (i : S_.Idx) : val_main_call0_cst (F := Ideal) i = ((1 : ℝ) : EReal) := Ideal.ofBits_one_f32.trans EReal.coe_one.symm

/-- The logistic function of the gate. -/
theorem r1_2 (i : S4096x2816.Idx) : val_main_v1_2 (F := Ideal) (a0 n) (a1 n) i = (sg (n.gate (i 0) (i 1)) : EReal) := by
  have e3 : val_main_call0_v3 (F := Ideal) (a0 n) (a1 n) i = ((1 + Real.exp (-(n.gate (i 0) (i 1))) : ℝ) : EReal) := by
    rw [val_main_call0_v3_apply, val_main_call0_v2_apply, one, val_main_call0_v1_apply, val_main_call0_v0_apply, r0, EReal.coe_add]
    show ((1 : ℝ) : EReal) + Ideal.exp (-(n.gate (i 0) (i 1) : EReal)) = _
    rw [← EReal.coe_neg, Ideal.exp_coe]
  have e4 : val_main_call0_v4 (F := Ideal) i = ((1 : ℝ) : EReal) := by
    rw [val_main_call0_v4_apply]; exact one _
  rw [val_main_v1_2_apply, e3, e4]
  refine (div_real (by have := Real.exp_pos (-(n.gate (i 0) (i 1))); linarith)).trans ?_
  rw [one_div]; rfl

theorem r1_1 (i : S4096x2816.Idx) : val_main_v1_1 (F := Ideal) (a0 n) (a1 n) i
    = ((sg (n.gate (i 0) (i 1)) * (1 - sg (n.gate (i 0) (i 1))) : ℝ) : EReal) := by
  rw [val_main_v1_1_apply, val_main_call0_v7_apply, val_main_call0_v6_apply, r1_2, EReal.coe_mul, EReal.coe_sub]
  exact congrArg (fun z : EReal => (sg (n.gate (i 0) (i 1)) : EReal) * (z - (sg (n.gate (i 0) (i 1)) : EReal))) (one _)

theorem r1_0 (i : S4096x2816.Idx) : val_main_v1_0 (F := Ideal) (a0 n) (a1 n) i = (hidU (n.gate (i 0) (i 1)) : EReal) := by
  rw [val_main_v1_0_apply, r0, r1_2]; exact (EReal.coe_mul _ _).symm

theorem r3 (i : S4096x2816.Idx) : val_main_v3 (F := Ideal) (a0 n) (a1 n) (a2 n) i = (n.act (i 0) (i 1) : EReal) := by
  rw [val_main_v3_apply, r1_0, r2]; exact (EReal.coe_mul _ _).symm

theorem r36 (i : S4096x2816.Idx) : val_main_v36 (F := Ideal) (a3 n) (a6 n) i = (n.da (i 0) (i 1) : EReal) := by
  rw [val_main_v36_apply]
  exact sum_eq_coe fun k => (EReal.coe_mul _ _).symm

theorem r37 (i : S4096x2816.Idx) : val_main_v37 (F := Ideal) (a0 n) (a1 n) (a3 n) (a6 n) i = (n.dup (i 0) (i 1) : EReal) := by
  rw [val_main_v37_apply, r1_0, r36]
  exact (EReal.coe_mul _ _).symm.trans (congrArg (fun z : ℝ => (z : EReal)) (mul_comm _ _))

theorem r42 (i : S4096x2816.Idx) : val_main_v42 (F := Ideal) (a0 n) (a1 n) (a2 n) (a3 n) (a6 n) i = (n.dgate (i 0) (i 1) : EReal) := by
  have e9 : val_main_v38 (F := Ideal) (a0 n) (a2 n) (a3 n) (a6 n) i = ((n.da (i 0) (i 1) * n.up (i 0) (i 1) : ℝ) : EReal) := by
    rw [val_main_v38_apply, r36, r2]; exact (EReal.coe_mul _ _).symm
  rw [val_main_v42_apply, val_main_call1_v1_apply, val_main_call1_v2_apply, val_main_call1_v0_apply, e9, r0, r1_1, r1_2]
  show ((_ : EReal) * _ + _ * _ * _) = _
  rw [← EReal.coe_mul, ← EReal.coe_mul, ← EReal.coe_mul, ← EReal.coe_add]
  refine congrArg (fun z : ℝ => (z : EReal)) ?_
  unfold Net.dgate hidG
  ring

/-! ### The layer norm -/

theorem r4 (i : S4096x1024.Idx) : val_main_v4 (F := Ideal) (a0 n) (a1 n) (a2 n) (a3 n) i = (n.down (i 0) (i 1) : EReal) := by
  rw [val_main_v4_apply]
  refine sum_eq_coe fun k => ?_
  rw [r3]
  exact (EReal.coe_mul _ _).symm

theorem r9 (i : S4096x1024.Idx) : val_main_v9 (F := Ideal) (a0 n) (a1 n) (a2 n) (a3 n) i = (n.Z (i 0) (i 1) : EReal) := by
  have e5 : val_main_v5 (F := Ideal) i = (Norm.al : EReal) := by rw [val_main_v5_apply]; exact Norm.ofBits_al
  have e7 : val_main_v7 (F := Ideal) i = ((2⁻¹ : ℝ) : EReal) := by rw [val_main_v7_apply]; exact Norm.ofBits_half
  rw [val_main_v9_apply, val_main_v6_apply, val_main_v8_apply, e5, e7, r4]
  show (Norm.al : EReal) * (n.X (i 0) (i 1) : EReal) + _ * _ = _
  rw [← EReal.coe_mul, ← EReal.coe_mul, ← EReal.coe_add]; rfl

theorem width (i : S4096x1.Idx) : val_main_v12 (F := Ideal) i = Ideal.ofBits .f32 0x44800000#32 := by
  rw [val_main_v12_apply]; rfl

theorem r13 (i : S4096x1.Idx) : val_main_v13 (F := Ideal) (a0 n) (a1 n) (a2 n) (a3 n) i = (Norm.mean (n.Z (i 0)) : EReal) := by
  rw [val_main_v13_apply, val_main_v11_apply, val_main_v10_apply, width]
  refine (congrArg (fun z => Ideal.div z _) (Eq.trans (congrArg (· + _) Ideal.ofBits_zero_f32) (zero_add _))).trans ?_
  exact Norm.mean_coe _ _ fun k => r9 n _

theorem r15 (i : S4096x1024.Idx) : val_main_v15 (F := Ideal) (a0 n) (a1 n) (a2 n) (a3 n) i = (Norm.cen (n.Z (i 0)) (i 1) : EReal) := by
  rw [val_main_v15_apply, val_main_v14_apply, r9, r13]
  exact (EReal.coe_sub _ _).symm

theorem r22 (i : S4096x1024.Idx) : val_main_v22 (F := Ideal) (a0 n) (a1 n) (a2 n) (a3 n) i = (Norm.cen (n.Z (i 0)) (i 1) : EReal) := by
  rw [val_main_v22_apply, val_main_v21_apply, r9, r13]
  exact (EReal.coe_sub _ _).symm

theorem r20 (i : S4096x1.Idx) : val_main_v20 (F := Ideal) (a0 n) (a1 n) (a2 n) (a3 n) i = (Norm.var (n.Z (i 0)) : EReal) := by
  have e : val_main_v19 (F := Ideal) i = Ideal.ofBits .f32 0x44800000#32 := by rw [val_main_v19_apply]; rfl
  rw [val_main_v20_apply, val_main_v18_apply, val_main_v17_apply, e]
  refine (congrArg (fun z => Ideal.div z _) (Eq.trans (congrArg (· + _) Ideal.ofBits_zero_f32) (zero_add _))).trans ?_
  refine Norm.mean_coe _ _ fun k => ?_
  rw [val_main_v16_apply, r15]
  exact (EReal.coe_mul _ _).symm

theorem r25 (i : S4096x1.Idx) : val_main_v25 (F := Ideal) (a0 n) (a1 n) (a2 n) (a3 n) i = (Norm.rs (n.Z (i 0)) : EReal) := by
  have e : val_main_v23 (F := Ideal) i = (Norm.ep : EReal) := by rw [val_main_v23_apply]; exact Norm.ofBits_ep
  rw [val_main_v25_apply, val_main_v24_apply, r20, e]
  refine (congrArg Ideal.rsqrt (EReal.coe_add _ _).symm).trans (Norm.rsqrt_coe _)

theorem r33 : val_main_v33 (F := Ideal) (a0 n) (a1 n) (a2 n) (a3 n) (a4 n) (a5 n) = rows n.Y := by
  funext i
  have e29 : val_main_v29 (F := Ideal) (a4 n) i = (n.G (i 1) : EReal) := by rw [val_main_v29_apply, val_main_v28_apply]; rfl
  have e32 : val_main_v32 (F := Ideal) (a5 n) i = (n.B (i 1) : EReal) := by rw [val_main_v32_apply, val_main_v31_apply]; rfl
  rw [val_main_v33_apply, val_main_v30_apply, val_main_v27_apply, val_main_v26_apply, r22, r25, e29, e32]
  show (_ : EReal) * _ * _ + _ = _
  rw [← EReal.coe_mul, ← EReal.coe_mul, ← EReal.coe_add]; rfl

theorem r57 : val_main_v57 (F := Ideal) (a0 n) (a1 n) (a2 n) (a3 n) (a4 n) (a5 n) = rows n.Y := by
  funext i
  rw [val_main_v57_apply, r33]; rfl

theorem r59 : val_main_v59 (F := Ideal) (a0 n) (a1 n) (a2 n) (a3 n) (a4 n) (a5 n) = cols n.Y := by
  funext i
  rw [val_main_v59_apply, val_main_v58_apply, r33]; rfl

/-! ### The weights' gradients -/

theorem r35 (i : S2816x1024.Idx) : val_main_v35 (F := Ideal) (a0 n) (a1 n) (a2 n) (a6 n) i = (n.dWd (i 0) (i 1) : EReal) := by
  rw [val_main_v35_apply, val_main_v34_apply]
  refine sum_eq_coe fun k => ?_
  rw [r3]
  exact (EReal.coe_mul _ _).symm

theorem r40 (i : S1024x2816.Idx) : val_main_v40 (F := Ideal) (a0 n) (a1 n) (a3 n) (a6 n) i = (n.dWu (i 1) (i 0) : EReal) := by
  rw [val_main_v40_apply, val_main_v39_apply]
  refine sum_eq_coe fun k => ?_
  rw [r37]
  exact (EReal.coe_mul _ _).symm.trans (congrArg (fun z : ℝ => (z : EReal)) (mul_comm _ _))

theorem r44 (i : S1024x2816.Idx) : val_main_v44 (F := Ideal) (a0 n) (a1 n) (a2 n) (a3 n) (a6 n) i = (n.dWg (i 1) (i 0) : EReal) := by
  rw [val_main_v44_apply, val_main_v43_apply]
  refine sum_eq_coe fun k => ?_
  rw [r42]
  exact (EReal.coe_mul _ _).symm.trans (congrArg (fun z : ℝ => (z : EReal)) (mul_comm _ _))

/-! ### The input's gradient -/

theorem r41 (i : S4096x1024.Idx) : val_main_v41 (F := Ideal) (a0 n) (a1 n) (a2 n) (a3 n) (a6 n) i
    = ((∑ f, n.dup (i 0) f * n.Wu (i 1) f : ℝ) : EReal) := by
  rw [val_main_v41_apply]
  refine sum_eq_coe fun k => ?_
  rw [r37]
  exact (EReal.coe_mul _ _).symm

theorem r45 (i : S4096x1024.Idx) : val_main_v45 (F := Ideal) (a0 n) (a1 n) (a2 n) (a3 n) (a6 n) i
    = ((∑ f, n.dgate (i 0) f * n.Wg (i 1) f : ℝ) : EReal) := by
  rw [val_main_v45_apply]
  refine sum_eq_coe fun k => ?_
  rw [r42]
  exact (EReal.coe_mul _ _).symm

theorem r62 : val_main_v62 (F := Ideal) (a0 n) (a1 n) (a2 n) (a3 n) (a6 n) (a7 n) = outX n := by
  funext i
  rw [val_main_v62_apply, val_main_v46_apply, r41, r45]
  show (n.R (i 0) (i 1) : EReal) + (_ + _) = _
  rw [← EReal.coe_add, ← EReal.coe_add]
  refine congrArg (fun z : ℝ => (z : EReal)) ?_
  unfold Net.dX
  rw [add_comm (∑ f, n.dup (i 0) f * n.Wu (i 1) f)]

/-! ### The layout -/

theorem r60 : val_main_v60 (F := Ideal) (a0 n) (a1 n) (a2 n) (a6 n) = outD n := by
  funext y
  rw [val_main_v60_apply]
  refine (padded _ (fun d f => n.dWd f d) (fun s d c => ?_) y)
  refine (val_main_v48_apply (F := Ideal) (a0 n) (a1 n) (a2 n) (a6 n) _).trans ((val_main_v47_apply (F := Ideal) (a0 n) (a1 n) (a2 n) (a6 n) _).trans ((r35 n _).trans ?_))
  refine congrArg₂ (fun f d => ((n.dWd f d : ℝ) : EReal)) (Fin.ext ?_) (Fin.ext ?_)
  · have := d.isLt; show ((s.val * 352 + c.val) * 1024 + d.val) / 1024 = 352 * s.val + c.val; omega
  · have := d.isLt; show ((s.val * 352 + c.val) * 1024 + d.val) % 1024 = d.val; omega

theorem r52 (y : S8x1024x384.Idx) : val_main_v52 (F := Ideal) (a0 n) (a1 n) (a2 n) (a3 n) (a6 n) y = (Ffn.pad (fun f => n.dWg f (y 1)) (y 0) (y 2) : EReal) := by
  refine (padded _ (fun d f => n.dWg f d) (fun s d c => ?_) y)
  refine (cut_apply (val_main_v44 (F := Ideal) (a0 n) (a1 n) (a2 n) (a3 n) (a6 n)) s d c).trans ((r44 n _).trans rfl)

theorem r55 (y : S8x1024x384.Idx) : val_main_v55 (F := Ideal) (a0 n) (a1 n) (a3 n) (a6 n) y = (Ffn.pad (fun f => n.dWu f (y 1)) (y 0) (y 2) : EReal) := by
  refine (padded _ (fun d f => n.dWu f d) (fun s d c => ?_) y)
  refine (cut_apply (val_main_v40 (F := Ideal) (a0 n) (a1 n) (a3 n) (a6 n)) s d c).trans ((r40 n _).trans rfl)

theorem r61 : val_main_v61 (F := Ideal) (a0 n) (a1 n) (a2 n) (a3 n) (a6 n) = outGU n := by
  funext y
  rw [val_main_v61_apply]
  exact side _ _ (fun d f => n.dWg f d) (fun d f => n.dWu f d) (r52 n) (r55 n) y

end Cert.FfnRef

end
-- ==== Proof.FfnAlgebraic.lean ====
/- The feed-forward claims: its programs run to the end with their arguments unchanged, and on finite arguments the launches
   leave the reference's layer norm and gradients. -/
module

public import proofs.«01_k».proof.Proof.Finite
public import proofs.«01_k».proof.Proof.FfnRun
public import proofs.«01_k».proof.Proof.FfnHost
public import proofs.«01_k».proof.Proof.FfnRef
public import proofs.«01_k».proof.Proof.Gen.Kernel2.Frame
public import proofs.«01_k».proof.Proof.Gen.Reference2Ideal.Run

@[expose] public section

noncomputable section

namespace Cert.FfnAlgebraic

open Idealize.ShloMosaic Idealize.SL.Sem Cert.Kernel2Ideal.Gen Cert.Reference2Ideal.Gen Cert.Ffn Cert.FfnLayout
open Cert.Reference2Ideal.Read Idealize.ShloMosaic.TcCoe Cert.Pre_ffn_finite

theorem facts : Cert.Pre_ffn_finite.Facts := ⟨by decide, by decide, by decide, by decide, by decide, by decide, by decide, by decide, by decide⟩

instance : Cert.Pre_ffn_finite.Facts := facts

/-! ### Frames -/

theorem kernel : Cert.quiescent_Kernel2 := fun m ρ _ => Cert.Kernel2.Gen.frame m ρ

theorem kernelIdeal : Cert.quiescent_Kernel2Ideal := fun m ρ _ => Cert.Kernel2Ideal.Gen.frame m ρ

theorem kernel_frame : Cert.quiescent_Kernel2Ideal_pre_ffn_finite := fun m ρ _ => Cert.Kernel2Ideal.Gen.frame m ρ

theorem referenceIdeal : Cert.quiescent_Reference2Ideal := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run (F := Ideal) m ρ)

theorem reference_frame : Cert.quiescent_Reference2Ideal_pre_ffn_finite := fun m ρ _ => referenceIdeal m ρ trivial

theorem preserves : Cert.preserves_Kernel2_Kernel2Ideal := trivial

/-! ### Values -/

/-- The net behind arguments that satisfy the precondition. -/
theorem args (a0 : FVec Ideal S4096x1024 .f32) (a1 a2 : FVec Ideal S1024x2816 .f32) (a3 : FVec Ideal S2816x1024 .f32)
    (a4 a5 : FVec Ideal S1024 .f32) (a6 a7 : FVec Ideal S4096x1024 .f32) (h : ∀ j, fn (F := Ideal) a0 a1 a2 a3 a4 a5 a6 a7 j = 1#1) :
    ∃ n : Net, a0 = rows n.X ∧ a1 = gmat n.Wg ∧ a2 = gmat n.Wu ∧ a3 = dmat n.Wd ∧ a4 = vec n.G ∧ a5 = vec n.B ∧ a6 = rows n.H ∧ a7 = rows n.R := by
  let j : S_.Idx := fun k => k.elim0
  obtain ⟨h, h7⟩ := Cert.Band.and1 _ _ (h j)
  obtain ⟨h, h6⟩ := Cert.Band.and1 _ _ h
  obtain ⟨h, h5⟩ := Cert.Band.and1 _ _ h
  obtain ⟨h, h4⟩ := Cert.Band.and1 _ _ h
  obtain ⟨h, h3⟩ := Cert.Band.and1 _ _ h
  obtain ⟨h, h2⟩ := Cert.Band.and1 _ _ h
  obtain ⟨h0, h1⟩ := Cert.Band.and1 _ _ h
  refine ⟨⟨fun a b => (a0 (ix2 (n0 := 4096) (n1 := 1024) a b) : EReal).toReal, fun a b => (a1 (ix2 (n0 := 1024) (n1 := 2816) a b) : EReal).toReal,
    fun a b => (a2 (ix2 (n0 := 1024) (n1 := 2816) a b) : EReal).toReal, fun a b => (a3 (ix2 (n0 := 2816) (n1 := 1024) a b) : EReal).toReal,
    fun a => (a4 (ix1 (n0 := 1024) a) : EReal).toReal, fun a => (a5 (ix1 (n0 := 1024) a) : EReal).toReal,
    fun a b => (a6 (ix2 (n0 := 4096) (n1 := 1024) a b) : EReal).toReal, fun a b => (a7 (ix2 (n0 := 4096) (n1 := 1024) a b) : EReal).toReal⟩,
    ?_, ?_, ?_, ?_, ?_, ?_, ?_, ?_⟩
  · funext i; exact (Cert.Finite.all_real a0 _ _ _ j h0 i).symm.trans (by rw [eq_ix2 i]; rfl)
  · funext i; exact (Cert.Finite.all_real a1 _ _ _ j h1 i).symm.trans (by rw [eq_ix2 i]; rfl)
  · funext i; exact (Cert.Finite.all_real a2 _ _ _ j h2 i).symm.trans (by rw [eq_ix2 i]; rfl)
  · funext i; exact (Cert.Finite.all_real a3 _ _ _ j h3 i).symm.trans (by rw [eq_ix2 i]; rfl)
  · funext i; exact (Cert.Finite.all_real a4 _ _ _ j h4 i).symm.trans (by rw [eq_ix1 i]; rfl)
  · funext i; exact (Cert.Finite.all_real a5 _ _ _ j h5 i).symm.trans (by rw [eq_ix1 i]; rfl)
  · funext i; exact (Cert.Finite.all_real a6 _ _ _ j h6 i).symm.trans (by rw [eq_ix2 i]; rfl)
  · funext i; exact (Cert.Finite.all_real a7 _ _ _ j h7 i).symm.trans (by rw [eq_ix2 i]; rfl)

section reference
variable (V : Valuation Cert.Reference2Ideal.τ Cert.Reference2Ideal.sig (Elt Ideal)) (n : Net)
  (h0 : V (Proc.devRef .tc Cert.Reference2Ideal.main_arg0) = rows n.X) (h1 : V (Proc.devRef .tc Cert.Reference2Ideal.main_arg1) = gmat n.Wg)
  (h2 : V (Proc.devRef .tc Cert.Reference2Ideal.main_arg2) = gmat n.Wu) (h3 : V (Proc.devRef .tc Cert.Reference2Ideal.main_arg3) = dmat n.Wd)
  (h4 : V (Proc.devRef .tc Cert.Reference2Ideal.main_arg4) = vec n.G) (h5 : V (Proc.devRef .tc Cert.Reference2Ideal.main_arg5) = vec n.B)
  (h6 : V (Proc.devRef .tc Cert.Reference2Ideal.main_arg6) = rows n.H) (h7 : V (Proc.devRef .tc Cert.Reference2Ideal.main_arg7) = rows n.R)

section norm
include h0 h1 h2 h3 h4 h5

theorem reference_norm : val_main_v33 (F := Ideal) (V (Proc.devRef .tc Cert.Reference2Ideal.main_arg0)) (V (Proc.devRef .tc Cert.Reference2Ideal.main_arg1))
    (V (Proc.devRef .tc Cert.Reference2Ideal.main_arg2)) (V (Proc.devRef .tc Cert.Reference2Ideal.main_arg3)) (V (Proc.devRef .tc Cert.Reference2Ideal.main_arg4))
    (V (Proc.devRef .tc Cert.Reference2Ideal.main_arg5)) = rows n.Y := by
  rw [h0, h1, h2, h3, h4, h5]; exact Cert.FfnRef.r33 n

theorem reference_copy : val_main_v57 (F := Ideal) (V (Proc.devRef .tc Cert.Reference2Ideal.main_arg0)) (V (Proc.devRef .tc Cert.Reference2Ideal.main_arg1))
    (V (Proc.devRef .tc Cert.Reference2Ideal.main_arg2)) (V (Proc.devRef .tc Cert.Reference2Ideal.main_arg3)) (V (Proc.devRef .tc Cert.Reference2Ideal.main_arg4))
    (V (Proc.devRef .tc Cert.Reference2Ideal.main_arg5)) = rows n.Y := by
  rw [h0, h1, h2, h3, h4, h5]; exact Cert.FfnRef.r57 n

theorem reference_transpose : val_main_v59 (F := Ideal) (V (Proc.devRef .tc Cert.Reference2Ideal.main_arg0)) (V (Proc.devRef .tc Cert.Reference2Ideal.main_arg1))
    (V (Proc.devRef .tc Cert.Reference2Ideal.main_arg2)) (V (Proc.devRef .tc Cert.Reference2Ideal.main_arg3)) (V (Proc.devRef .tc Cert.Reference2Ideal.main_arg4))
    (V (Proc.devRef .tc Cert.Reference2Ideal.main_arg5)) = cols n.Y := by
  rw [h0, h1, h2, h3, h4, h5]; exact Cert.FfnRef.r59 n

end norm

include h0 h1 h2 h6

theorem reference_down : val_main_v60 (F := Ideal) (V (Proc.devRef .tc Cert.Reference2Ideal.main_arg0)) (V (Proc.devRef .tc Cert.Reference2Ideal.main_arg1))
    (V (Proc.devRef .tc Cert.Reference2Ideal.main_arg2)) (V (Proc.devRef .tc Cert.Reference2Ideal.main_arg6)) = outD n := by
  rw [h0, h1, h2, h6]; exact Cert.FfnRef.r60 n

include h3
theorem reference_gate_up : val_main_v61 (F := Ideal) (V (Proc.devRef .tc Cert.Reference2Ideal.main_arg0)) (V (Proc.devRef .tc Cert.Reference2Ideal.main_arg1))
    (V (Proc.devRef .tc Cert.Reference2Ideal.main_arg2)) (V (Proc.devRef .tc Cert.Reference2Ideal.main_arg3)) (V (Proc.devRef .tc Cert.Reference2Ideal.main_arg6)) = outGU n := by
  rw [h0, h1, h2, h3, h6]; exact Cert.FfnRef.r61 n

include h7
theorem reference_input : val_main_v62 (F := Ideal) (V (Proc.devRef .tc Cert.Reference2Ideal.main_arg0)) (V (Proc.devRef .tc Cert.Reference2Ideal.main_arg1))
    (V (Proc.devRef .tc Cert.Reference2Ideal.main_arg2)) (V (Proc.devRef .tc Cert.Reference2Ideal.main_arg3)) (V (Proc.devRef .tc Cert.Reference2Ideal.main_arg6))
    (V (Proc.devRef .tc Cert.Reference2Ideal.main_arg7)) = outX n := by
  rw [h0, h1, h2, h3, h6, h7]; exact Cert.FfnRef.r62 n

end reference

theorem algebraic : Cert.algebraic_Kernel2Ideal_Reference2Ideal_pre_ffn_finite := by
  intro m g m' g' hpre hargs
  have hn := fun c => args _ _ _ _ _ _ _ _ (fun j => congrFun (hpre c) j)
  choose n h0 h1 h2 h3 h4 h5 h6 h7 using hn
  refine ⟨fun c => rows (n c).Y, fun c => rows (n c).Y, fun c => cols (n c).Y, fun c => outD (n c), fun c => outGU (n c), fun c => outX (n c), ?_, ?_⟩
  · refine (θ_run Cert.Kernel2Ideal.defs _ _).mono (fun r h c => ?_) (Cert.FfnRun.run m g)
    have hm : Cert.FfnHost.Holds (n c) m c := ⟨h0 c, h1 c, h2 c, h3 c, h4 c, h5 c, h6 c, h7 c⟩
    refine ⟨(h c _ (mem_uc Cert.Kernel2Ideal.main_v16_0 (by decide))).trans (Cert.FfnHost.result_norm m g c hm),
      (h c _ (mem_uc Cert.Kernel2Ideal.main_v16_1 (by decide))).trans (Cert.FfnHost.result_copy m g c hm),
      (h c _ (mem_uc Cert.Kernel2Ideal.main_v16_2 (by decide))).trans (Cert.FfnHost.result_transpose m g c hm),
      (h c _ (mem_uc Cert.Kernel2Ideal.main_v20 (by decide))).trans (Cert.FfnHost.result_down m g c hm),
      (h c _ (mem_uc Cert.Kernel2Ideal.main_v21 (by decide))).trans (Cert.FfnHost.result_gate_up m g c hm),
      (h c _ (mem_uc Cert.Kernel2Ideal.main_v22 (by decide))).trans (Cert.FfnHost.result_input m g c hm),
      (h c _ (mem_uc Cert.Kernel2Ideal.main_arg0 (by decide))).trans (W16_main_arg0 m g c),
      (h c _ (mem_uc Cert.Kernel2Ideal.main_arg1 (by decide))).trans (W16_main_arg1 m g c),
      (h c _ (mem_uc Cert.Kernel2Ideal.main_arg2 (by decide))).trans (W16_main_arg2 m g c),
      (h c _ (mem_uc Cert.Kernel2Ideal.main_arg3 (by decide))).trans (W16_main_arg3 m g c),
      (h c _ (mem_uc Cert.Kernel2Ideal.main_arg4 (by decide))).trans (W16_main_arg4 m g c),
      (h c _ (mem_uc Cert.Kernel2Ideal.main_arg5 (by decide))).trans (W16_main_arg5 m g c),
      (h c _ (mem_uc Cert.Kernel2Ideal.main_arg6 (by decide))).trans (W16_main_arg6 m g c),
      (h c _ (mem_uc Cert.Kernel2Ideal.main_arg7 (by decide))).trans (W16_main_arg7 m g c)⟩
  · refine (θ_run Cert.Reference2Ideal.defs _ _).mono (fun r h c => ?_) (Cert.Reference2Ideal.Value.run (F := Ideal) m' g')
    obtain ⟨e0, e1, e2, e3, e4, e5, e6, e7⟩ := hargs c
    obtain ⟨k0, k1, k2, k3, k4, k5, hk⟩ := h c
    refine ⟨k0.trans ((val_main_v33_eq (F := Ideal) m' c).trans
        (reference_norm (StableHlo.launchContents m' c) (n c) (e0.trans (h0 c)) (e1.trans (h1 c)) (e2.trans (h2 c)) (e3.trans (h3 c)) (e4.trans (h4 c)) (e5.trans (h5 c)))),
      k1.trans ((val_main_v57_eq (F := Ideal) m' c).trans
        (reference_copy (StableHlo.launchContents m' c) (n c) (e0.trans (h0 c)) (e1.trans (h1 c)) (e2.trans (h2 c)) (e3.trans (h3 c)) (e4.trans (h4 c)) (e5.trans (h5 c)))),
      k2.trans ((val_main_v59_eq (F := Ideal) m' c).trans
        (reference_transpose (StableHlo.launchContents m' c) (n c) (e0.trans (h0 c)) (e1.trans (h1 c)) (e2.trans (h2 c)) (e3.trans (h3 c)) (e4.trans (h4 c)) (e5.trans (h5 c)))),
      k3.trans ((val_main_v60_eq (F := Ideal) _ _ _ _).trans
        (reference_down (StableHlo.launchContents m' c) (n c) (e0.trans (h0 c)) (e1.trans (h1 c)) (e2.trans (h2 c)) (e6.trans (h6 c)))),
      k4.trans ((val_main_v61_eq (F := Ideal) _ _ _ _ _).trans
        (reference_gate_up (StableHlo.launchContents m' c) (n c) (e0.trans (h0 c)) (e1.trans (h1 c)) (e2.trans (h2 c)) (e3.trans (h3 c)) (e6.trans (h6 c)))),
      k5.trans ((val_main_v62_eq (F := Ideal) _ _ _ _ _ _).trans
        (reference_input (StableHlo.launchContents m' c) (n c) (e0.trans (h0 c)) (e1.trans (h1 c)) (e2.trans (h2 c)) (e3.trans (h3 c)) (e6.trans (h6 c)) (e7.trans (h7 c)))),
      hk⟩

end Cert.FfnAlgebraic

end
-- ==== Proof.NormBlock.lean ====
/- The launch of the layer norm's gradient: the blocks of 512 rows it reads and writes, and the two sums it keeps over the blocks. -/
module

public import proofs.«01_k».proof.Proof.NormMath
public import Idealize.ShloMosaic.Lib.Pipeline.ValueKit
public import Idealize.ShloMosaic.Lib.Pointwise
public import proofs.«01_k».proof.Proof.Gen.Kernel3Ideal.Frame

@[expose] public section

set_option maxRecDepth 16384
set_option backward.isDefEq.respectTransparency false

noncomputable section

namespace Cert.NormBlock

open Cert.Kernel3Ideal Cert.Kernel3Ideal.Gen Cert.Band
open Idealize.ShloMosaic Idealize.ShloMosaic.TcCoe Idealize.SL.Sem
open scoped BigOperators

/-- The arguments over the real numbers: the layer's input, what the residual adds to it, the gain, the cotangent. -/
structure In where
  X : Fin 4096 → Fin 1024 → ℝ
  H : Fin 4096 → Fin 1024 → ℝ
  G : Fin 1024 → ℝ
  D : Fin 4096 → Fin 1024 → ℝ

namespace In
variable (n : In)

/-- The residual sum that is normalised. -/
def Z (t : Fin 4096) : Fin 1024 → ℝ := Norm.res (n.X t) (n.H t)
/-- The cotangent times the gain. -/
def Q (t : Fin 4096) (k : Fin 1024) : ℝ := n.D t k * n.G k
/-- The gradient of the residual sum. -/
def dZ (t : Fin 4096) : Fin 1024 → ℝ := Norm.dz (n.Z t) (n.Q t)
def dX (t : Fin 4096) (k : Fin 1024) : ℝ := Norm.al * n.dZ t k
def dH (t : Fin 4096) (k : Fin 1024) : ℝ := 2⁻¹ * n.dZ t k
def dG (k : Fin 1024) : ℝ := ∑ t, n.D t k * Norm.xh (n.Z t) k
def dB (k : Fin 1024) : ℝ := ∑ t, n.D t k
end In

def rows (x : Fin 4096 → Fin 1024 → ℝ) (y : S4096x1024.Idx) : EReal := (x (y 0) (y 1) : EReal)
/-- The same array transposed. -/
def cols (x : Fin 4096 → Fin 1024 → ℝ) (y : S1024x4096.Idx) : EReal := (x (y 1) (y 0) : EReal)
def col (x : Fin 4096 → ℝ) (y : S4096x1.Idx) : EReal := (x (y 0) : EReal)
def one (x : Fin 1024 → ℝ) (y : S1x1024.Idx) : EReal := (x (y 1) : EReal)
def vec (x : Fin 1024 → ℝ) (y : S1024.Idx) : EReal := (x (y 0) : EReal)

/-- Row `r` of block `i` of 512. -/
def xrow (i : Fin 8) (r : Fin 512) : Fin 4096 := ⟨512 * i.val + r.val, by have := i.isLt; have := r.isLt; omega⟩

/-! ### The stored values at an index -/

theorem dz_apply (dy xh : Vec Ideal S512x1024 .f32) (g : Vec Ideal S1x1024 .f32) (rs : Vec Ideal S512x1 .f32) (r : Fin 512) (d : Fin 1024) :
    k0_pay6 dy xh g rs (ix2 (n0 := 512) (n1 := 1024) r d)
      = rs (ix2 (n0 := 512) (n1 := 1) r 0)
        * (dy (ix2 (n0 := 512) (n1 := 1024) r d) * g (ix2 (n0 := 1) (n1 := 1024) 0 d)
            - Ideal.div (∑ k : Fin 1024, (dy (ix2 (n0 := 512) (n1 := 1024) r k) * g (ix2 (n0 := 1) (n1 := 1024) 0 k) : EReal)) (Ideal.ofBits .f32 0x44800000#32)
            - xh (ix2 (n0 := 512) (n1 := 1024) r d)
              * Ideal.div (∑ k : Fin 1024, (dy (ix2 (n0 := 512) (n1 := 1024) r k) * g (ix2 (n0 := 1) (n1 := 1024) 0 k) * xh (ix2 (n0 := 512) (n1 := 1024) r k) : EReal))
                  (Ideal.ofBits .f32 0x44800000#32)) := by
  pointwise [k0_pay6, k0_pay5]

theorem dx_apply (dy xh : Vec Ideal S512x1024 .f32) (g : Vec Ideal S1x1024 .f32) (rs : Vec Ideal S512x1 .f32) (y : S512x1024.Idx) :
    k0_pay7 dy xh g rs y = Ideal.ofBits .f32 0x3FB504F3#32 * k0_pay6 dy xh g rs y := by
  pointwise [k0_pay7]

theorem dh_apply (dy xh : Vec Ideal S512x1024 .f32) (g : Vec Ideal S1x1024 .f32) (rs : Vec Ideal S512x1 .f32) (y : S512x1024.Idx) :
    k0_pay9 dy xh g rs y = Ideal.ofBits .f32 0x3F000000#32 * k0_pay6 dy xh g rs y := by
  pointwise [k0_pay9, k0_pay8]

theorem dht_apply (dy xh : Vec Ideal S512x1024 .f32) (g : Vec Ideal S1x1024 .f32) (rs : Vec Ideal S512x1 .f32) (d : Fin 1024) (r : Fin 512) :
    k0_pay10 dy xh g rs (ix2 (n0 := 1024) (n1 := 512) d r) = Ideal.ofBits .f32 0x3F000000#32 * k0_pay6 dy xh g rs (ix2 (n0 := 512) (n1 := 1024) r d) := by
  pointwise [k0_pay10, k0_pay8]

theorem dg_apply (dy xh : Vec Ideal S512x1024 .f32) (y : S1x1024.Idx) :
    k0_pay1 (k0_pay11 (F := Ideal) dy xh) y
      = ∑ r : Fin 512, (dy (ix2 (n0 := 512) (n1 := 1024) r (y 1)) * xh (ix2 (n0 := 512) (n1 := 1024) r (y 1)) : EReal) := by
  pointwise [k0_pay1, k0_pay11, k0_pay5]

theorem dg_step (v : FVec Ideal S512x1024 .f32) (p : Vec Ideal S1x1024 .f32) (y : S1x1024.Idx) :
    k0_pay3 (F := Ideal) v p y = p y + k0_pay1 (F := Ideal) v y := by
  pointwise [k0_pay3]

theorem db_apply (dy : Vec Ideal S512x1024 .f32) (y : S1x1024.Idx) :
    k0_pay2 (F := Ideal) dy y = ∑ r : Fin 512, (dy (ix2 (n0 := 512) (n1 := 1024) r (y 1)) : EReal) := by
  pointwise [k0_pay2]

theorem db_step (v : Vec Ideal S512x1024 .f32) (p : Vec Ideal S1x1024 .f32) (y : S1x1024.Idx) :
    k0_pay4 (F := Ideal) v p y = p y + k0_pay2 (F := Ideal) v y := by
  pointwise [k0_pay4]

/-- A block's cotangent, normalised rows, reciprocal deviations and gain. -/
structure Blk (n : In) (i : Fin 8) (dy xh : Vec Ideal S512x1024 .f32) (g : Vec Ideal S1x1024 .f32) (rs : Vec Ideal S512x1 .f32) : Prop where
  dy : ∀ (r : Fin 512) (d : Fin 1024), dy (ix2 (n0 := 512) (n1 := 1024) r d) = (n.D (xrow i r) d : EReal)
  xh : ∀ (r : Fin 512) (d : Fin 1024), xh (ix2 (n0 := 512) (n1 := 1024) r d) = (Norm.xh (n.Z (xrow i r)) d : EReal)
  g : ∀ d : Fin 1024, g (ix2 (n0 := 1) (n1 := 1024) 0 d) = (n.G d : EReal)
  rs : ∀ r : Fin 512, rs (ix2 (n0 := 512) (n1 := 1) r 0) = (Norm.rs (n.Z (xrow i r)) : EReal)

section
variable {n : In} {i : Fin 8} {dy xh : Vec Ideal S512x1024 .f32} {g : Vec Ideal S1x1024 .f32} {rs : Vec Ideal S512x1 .f32} (h : Blk n i dy xh g rs)
include h

theorem dz_real (r : Fin 512) (d : Fin 1024) : k0_pay6 dy xh g rs (ix2 (n0 := 512) (n1 := 1024) r d) = (n.dZ (xrow i r) d : EReal) := by
  have q : ∀ k : Fin 1024, (dy (ix2 (n0 := 512) (n1 := 1024) r k) * g (ix2 (n0 := 1) (n1 := 1024) 0 k) : EReal) = (n.Q (xrow i r) k : EReal) := fun k => by
    rw [h.dy, h.g]; exact (EReal.coe_mul _ _).symm
  rw [dz_apply, Norm.mean_coe _ _ q, q, Norm.mean_coe _ (fun k => n.Q (xrow i r) k * Norm.xh (n.Z (xrow i r)) k) (fun k => by
    rw [q, h.xh]; exact (EReal.coe_mul _ _).symm), h.xh, h.rs, ← EReal.coe_sub, ← EReal.coe_mul, ← EReal.coe_sub, ← EReal.coe_mul]
  rfl

theorem dx_real (z : S4096x1024.Idx) (y : S512x1024.Idx) (h0 : (z 0).val = 512 * i.val + (y 0).val) (h1 : (z 1).val = (y 1).val) :
    k0_pay7 dy xh g rs y = rows n.dX z := by
  rw [dx_apply, eq_ix2 (n0 := 512) (n1 := 1024) y, dz_real h, Norm.ofBits_al, ← EReal.coe_mul]
  unfold rows
  rw [show z 0 = xrow i (y 0) from Fin.ext h0, show z 1 = y 1 from Fin.ext h1]
  rfl

theorem dh_real (z : S4096x1024.Idx) (y : S512x1024.Idx) (h0 : (z 0).val = 512 * i.val + (y 0).val) (h1 : (z 1).val = (y 1).val) :
    k0_pay9 dy xh g rs y = rows n.dH z := by
  rw [dh_apply, eq_ix2 (n0 := 512) (n1 := 1024) y, dz_real h, Norm.ofBits_half, ← EReal.coe_mul]
  unfold rows
  rw [show z 0 = xrow i (y 0) from Fin.ext h0, show z 1 = y 1 from Fin.ext h1]
  rfl

theorem dht_real (z : S1024x4096.Idx) (y : S1024x512.Idx) (h0 : (z 0).val = (y 0).val) (h1 : (z 1).val = 512 * i.val + (y 1).val) :
    k0_pay10 dy xh g rs y = cols n.dH z := by
  rw [eq_ix2 (n0 := 1024) (n1 := 512) y, dht_apply, dz_real h, Norm.ofBits_half, ← EReal.coe_mul]
  unfold cols
  rw [show z 1 = xrow i (y 1) from Fin.ext h1, show z 0 = y 0 from Fin.ext h0]
  rfl

end

/-! ### The arrays the launch leaves -/

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, t.val]
    ∧ win0_7.index t = ![0, 0] ∧ win0_8.index t = ![0, 0] :=
  (by decide +kernel : ∀ t : Fin grid0.N, _)

def pt (t : Fin cfg0.N) : Fin 8 := ⟨t.val, lt_of_lt_of_eq t.isLt N_0⟩

variable (m : (ℓ : Loc nD τ sig) → Buf (Elt Ideal) ℓ) (c : Dev nD) (n : In)
  (hd : V m c main_arg3 = rows n.D) (hx : V m c main_v20 = rows fun t => Norm.xh (n.Z t)) (hr : V m c main_v18 = col fun t => Norm.rs (n.Z t))
  (hg : V m c main_v21 = one n.G)
include hd hx hr hg

theorem blk (t : Fin cfg0.N) : Blk n (pt t) (iblk m c 0 t) (iblk m c 1 t) (iblk m c 3 t) (iblk m c 2 t) := by
  obtain ⟨i0, i1, i2, i3, _⟩ := idx t
  exact {
    dy := fun r d => (show _ = V m c main_arg3 (ix2 (n0 := 4096) (n1 := 1024) (xrow (pt t) r) d) by
      unfold iblk; generalize V m c = W; blk_ext [i0, xrow, pt]).trans (congrFun hd _)
    xh := fun r d => (show _ = V m c main_v20 (ix2 (n0 := 4096) (n1 := 1024) (xrow (pt t) r) d) by
      unfold iblk; generalize V m c = W; blk_ext [i1, xrow, pt]).trans (congrFun hx _)
    g := fun d => (show _ = V m c main_v21 (ix2 (n0 := 1) (n1 := 1024) 0 d) by
      unfold iblk; generalize V m c = W; blk_ext [i3]).trans (congrFun hg _)
    rs := fun r => (show _ = V m c main_v18 (ix2 (n0 := 4096) (n1 := 1) (xrow (pt t) r) 0) by
      unfold iblk; generalize V m c = W; blk_ext [i2, xrow, pt]).trans (congrFun hr _) }

theorem arr4 : (dats m 0 c).arrAt 4 cfg0.N = rows n.dX := by
  refine (dats m 0 c).arrAt_eq_of_covers 4 _ (by decide +kernel) fun t hf y => ?_
  obtain ⟨_, _, _, _, i4, i5, i6, _⟩ := idx t
  have hN : t.val < 8 := (pt t).isLt
  have hb := blk m c n hd hx hr hg t
  blk_simp
  rw [after0_4]
  by_cases h0 : t.val % 8 = 0
  · rw [outsAt0_A m c t h0 (by omega)]
    frame_out
    refine dx_real hb _ _ ?_ ?_
    · blk_simp [i4]; exact congrArg (· + (y 0).val) (Nat.mul_comm _ _)
    · blk_simp [i4]
  · rw [outsAt0_B m c t h0 (by omega)]
    frame_out
    refine dx_real hb _ _ ?_ ?_
    · blk_simp [i4]; exact congrArg (· + (y 0).val) (Nat.mul_comm _ _)
    · blk_simp [i4]

theorem arr5 : (dats m 0 c).arrAt 5 cfg0.N = rows n.dH := by
  refine (dats m 0 c).arrAt_eq_of_covers 5 _ (by decide +kernel) fun t hf y => ?_
  obtain ⟨_, _, _, _, i4, i5, i6, _⟩ := idx t
  have hN : t.val < 8 := (pt t).isLt
  have hb := blk m c n hd hx hr hg t
  blk_simp
  rw [after0_5]
  by_cases h0 : t.val % 8 = 0
  · rw [outsAt0_A m c t h0 (by omega)]
    frame_out
    refine dh_real hb _ _ ?_ ?_
    · blk_simp [i5]; exact congrArg (· + (y 0).val) (Nat.mul_comm _ _)
    · blk_simp [i5]
  · rw [outsAt0_B m c t h0 (by omega)]
    frame_out
    refine dh_real hb _ _ ?_ ?_
    · blk_simp [i5]; exact congrArg (· + (y 0).val) (Nat.mul_comm _ _)
    · blk_simp [i5]

theorem arr6 : (dats m 0 c).arrAt 6 cfg0.N = cols n.dH := by
  refine (dats m 0 c).arrAt_eq_of_covers 6 _ (by decide +kernel) fun t hf y => ?_
  obtain ⟨_, _, _, _, i4, i5, i6, _⟩ := idx t
  have hN : t.val < 8 := (pt t).isLt
  have hb := blk m c n hd hx hr hg t
  blk_simp
  rw [after0_6]
  by_cases h0 : t.val % 8 = 0
  · rw [outsAt0_A m c t h0 (by omega)]
    frame_out
    refine dht_real hb _ _ ?_ ?_
    · blk_simp [i6]
    · blk_simp [i6]; exact congrArg (· + (y 1).val) (Nat.mul_comm _ _)
  · rw [outsAt0_B m c t h0 (by omega)]
    frame_out
    refine dht_real hb _ _ ?_ ?_
    · blk_simp [i6]
    · blk_simp [i6]; exact congrArg (· + (y 1).val) (Nat.mul_comm _ _)

/-- The sum over the blocks of the cotangent times the normalised rows: the gain's gradient. -/
theorem arr7 : (dats m 0 c).arrAt 7 cfg0.N = one n.dG := by
  refine (dats m 0 c).arrAt_eq_of_covers 7 _ (by decide +kernel) fun t hf y => ?_
  obtain ⟨_, _, _, _, _, _, _, i7, i8⟩ := idx t
  blk_simp
  rw [after0_7, Pipeline.eq_sum_fin_of_reset_step_apply_of_flush (fun n h => (outsAt0 m c n h).2.2.2.1) 8 (fun _ => 0)
    (fun p j => ∑ r : Fin 512, ((show FVec Ideal S512x1024 .f32 from iblk m c 0 p) (ix2 (n0 := 512) (n1 := 1024) r (j 1))
        * (show FVec Ideal S512x1024 .f32 from iblk m c 1 p) (ix2 (n0 := 512) (n1 := 1024) r (j 1)) : EReal))
    (fun t h j => by
      have hN : t.val < 8 := (pt t).isLt
      rw [outsAt0_A m c t h (by omega)]; frame_out; exact (dg_apply _ _ j).trans (zero_add _).symm)
    (fun t h j => by
      have hN : t.val < 8 := (pt t).isLt
      rw [outsAt0_B m c t h (by omega)]; frame_out; exact (dg_step _ _ j).trans (congrArg _ (dg_apply _ _ j)))
    t ((flush0_7 t).mp hf) _, zero_add]
  have e : one n.dG ((win0_7.blk t).view.emb y) = ∑ l : Fin 4096, ((n.D l (y 1) * Norm.xh (n.Z l) (y 1) : ℝ) : EReal) := by
    have e1 : ((win0_7.blk t).view.emb y) 1 = y 1 := Fin.ext (by blk_simp [i7])
    unfold one; rw [e1]; exact (sum_eq_coe fun _ => rfl).symm
  rw [e]
  refine Fin.sum_mul_add_congr fun s k hl => ?_
  have hb := blk m c n hd hx hr hg ⟨_, Pipeline.run_point_lt_of_flush t ((flush0_7 t).mp hf) s⟩
  refine (congrArg₂ (fun a b : EReal => a * b) (hb.dy k (y 1)) (hb.xh k (y 1))).trans ?_
  rw [← EReal.coe_mul]
  have hN : t.val < 8 := (pt t).isLt
  rw [show xrow (pt ⟨_, Pipeline.run_point_lt_of_flush t ((flush0_7 t).mp hf) s⟩) k = ⟨s.val * 512 + k.val, hl⟩ from Fin.ext (by
    show 512 * (8 * (t.val / 8) + s.val) + k.val = s.val * 512 + k.val; omega)]

/-- The sum over the blocks of the cotangent: the bias's gradient. -/
theorem arr8 : (dats m 0 c).arrAt 8 cfg0.N = one n.dB := by
  refine (dats m 0 c).arrAt_eq_of_covers 8 _ (by decide +kernel) fun t hf y => ?_
  obtain ⟨_, _, _, _, _, _, _, i7, i8⟩ := idx t
  blk_simp
  rw [after0_8, Pipeline.eq_sum_fin_of_reset_step_apply_of_flush (fun n h => (outsAt0 m c n h).2.2.2.2) 8 (fun _ => 0)
    (fun p j => ∑ r : Fin 512, ((show FVec Ideal S512x1024 .f32 from iblk m c 0 p) (ix2 (n0 := 512) (n1 := 1024) r (j 1)) : EReal))
    (fun t h j => by
      have hN : t.val < 8 := (pt t).isLt
      rw [outsAt0_A m c t h (by omega)]; frame_out; exact (db_apply _ j).trans (zero_add _).symm)
    (fun t h j => by
      have hN : t.val < 8 := (pt t).isLt
      rw [outsAt0_B m c t h (by omega)]; frame_out; exact (db_step _ _ j).trans (congrArg _ (db_apply _ j)))
    t ((flush0_8 t).mp hf) _, zero_add]
  have e : one n.dB ((win0_8.blk t).view.emb y) = ∑ l : Fin 4096, ((n.D l (y 1) : ℝ) : EReal) := by
    have e1 : ((win0_8.blk t).view.emb y) 1 = y 1 := Fin.ext (by blk_simp [i8])
    unfold one; rw [e1]; exact (sum_eq_coe fun _ => rfl).symm
  rw [e]
  refine Fin.sum_mul_add_congr fun s k hl => ?_
  have hb := blk m c n hd hx hr hg ⟨_, Pipeline.run_point_lt_of_flush t ((flush0_8 t).mp hf) s⟩
  refine (hb.dy k (y 1)).trans ?_
  have hN : t.val < 8 := (pt t).isLt
  rw [show xrow (pt ⟨_, Pipeline.run_point_lt_of_flush t ((flush0_8 t).mp hf) s⟩) k = ⟨s.val * 512 + k.val, hl⟩ from Fin.ext (by
    show 512 * (8 * (t.val / 8) + s.val) + k.val = s.val * 512 + k.val; omega)]

end Cert.NormBlock

end
-- ==== Proof.NormRef.lean ====
/- The reference's gradient of the layer norm on finite arguments: line by line over the real numbers, and then the kernel's form. -/
module

public import proofs.«01_k».proof.Proof.NormBlock
public import proofs.«01_k».proof.Proof.Gen.Reference3Ideal.Read

@[expose] public section

set_option maxRecDepth 16384
set_option backward.isDefEq.respectTransparency false

noncomputable section

namespace Cert.NormRef

open Cert.Reference3Ideal Cert.Reference3Ideal.Read Cert.NormBlock Cert.Band
open Idealize.ShloMosaic Idealize.ShloMosaic.TcCoe
open scoped BigOperators

variable (n : In)

/-- The reference's arguments. -/
abbrev a0 : S4096x1024.Idx → EReal := rows n.X
abbrev a1 : S4096x1024.Idx → EReal := rows n.H
abbrev a2 : S1024.Idx → EReal := vec n.G
abbrev a3 : S4096x1024.Idx → EReal := rows n.D

/-- A sum over an axis of one entry is that entry. -/
theorem sum_one (f : Fin 1 → EReal) : ∑ k, f k = f 0 := Fin.sum_univ_one f

/-- A host sum's initial zero drops out. -/
theorem zeroed (z : EReal) : Ideal.ofBits .f32 0x00000000#32 + z = z := (congrArg (· + z) Ideal.ofBits_zero_f32).trans (zero_add z)

theorem coe_congr {a b : ℝ} (h : a = b) : (a : EReal) = (b : EReal) := congrArg (fun z : ℝ => (z : EReal)) h

/-! ### The forward lines -/

theorem r5 (i : S4096x1024.Idx) : val_main_v5 (F := Ideal) (a0 n) (a1 n) i = (n.Z (i 0) (i 1) : EReal) := by
  have e1 : val_main_v1 (F := Ideal) i = (Norm.al : EReal) := by rw [val_main_v1_apply]; exact Norm.ofBits_al
  have e3 : val_main_v3 (F := Ideal) i = ((2⁻¹ : ℝ) : EReal) := by rw [val_main_v3_apply]; exact Norm.ofBits_half
  rw [val_main_v5_apply, val_main_v2_apply, val_main_v4_apply, e1, e3]
  show (Norm.al : EReal) * (n.X (i 0) (i 1) : EReal) + ((2⁻¹ : ℝ) : EReal) * (n.H (i 0) (i 1) : EReal) = _
  rw [← EReal.coe_mul, ← EReal.coe_mul, ← EReal.coe_add]; rfl

theorem r9 (i : S4096x1.Idx) : val_main_v9 (F := Ideal) (a0 n) (a1 n) i = (Norm.mean (n.Z (i 0)) : EReal) := by
  have e : val_main_v8 (F := Ideal) i = Ideal.ofBits .f32 0x44800000#32 := by rw [val_main_v8_apply]; rfl
  rw [val_main_v9_apply, val_main_v7_apply, val_main_v6_apply, e]
  exact (congrArg (fun z => Ideal.div z _) (zeroed _)).trans (Norm.mean_coe _ _ fun k => r5 n _)

theorem r11 (i : S4096x1024.Idx) : val_main_v11 (F := Ideal) (a0 n) (a1 n) i = (Norm.cen (n.Z (i 0)) (i 1) : EReal) := by
  rw [val_main_v11_apply, val_main_v10_apply, r5, r9]
  exact (EReal.coe_sub _ _).symm

theorem r20 (i : S4096x1024.Idx) : val_main_v20 (F := Ideal) (a0 n) (a1 n) i = (Norm.cen (n.Z (i 0)) (i 1) : EReal) := by
  rw [val_main_v20_apply, val_main_v19_apply, r5, r9]
  exact (EReal.coe_sub _ _).symm

theorem r22 (i : S4096x1.Idx) : val_main_v22 (F := Ideal) (a0 n) (a1 n) i = ((Norm.var (n.Z (i 0)) + Norm.ep : ℝ) : EReal) := by
  have e : val_main_v17 (F := Ideal) i = Ideal.ofBits .f32 0x44800000#32 := by rw [val_main_v17_apply]; rfl
  have e' : val_main_v21 (F := Ideal) i = (Norm.ep : EReal) := by rw [val_main_v21_apply]; exact Norm.ofBits_ep
  have e18 : val_main_v18 (F := Ideal) (a0 n) (a1 n) i = (Norm.var (n.Z (i 0)) : EReal) := by
    rw [val_main_v18_apply, val_main_v16_apply, val_main_v15_apply, e]
    refine (congrArg (fun z => Ideal.div z _) (zeroed _)).trans (Norm.mean_coe _ _ fun k => ?_)
    rw [val_main_v12_apply, r11]
    exact (EReal.coe_mul _ _).symm
  rw [val_main_v22_apply, e18, e']
  exact (EReal.coe_add _ _).symm

theorem r23 (i : S4096x1.Idx) : val_main_v23 (F := Ideal) (a0 n) (a1 n) i = (Norm.rs (n.Z (i 0)) : EReal) := by
  rw [val_main_v23_apply, r22]
  exact Norm.rsqrt_coe _

theorem r28 (i : S4096x1024.Idx) : val_main_v28 (F := Ideal) (a0 n) (a1 n) i = (Norm.xh (n.Z (i 0)) (i 1) : EReal) := by
  rw [val_main_v28_apply, val_main_v27_apply, r20, r23]
  exact (EReal.coe_mul _ _).symm

theorem r29 (i : S1x1024.Idx) : val_main_v29 (F := Ideal) (a2 n) i = (n.G (i 1) : EReal) := by
  rw [val_main_v29_apply]; rfl

/-! ### The backward lines -/

theorem r35 (i : S4096x1024.Idx) : val_main_v35 (F := Ideal) (a3 n) i = (n.D (i 0) (i 1) : EReal) := by
  rw [val_main_v35_apply]
  refine congrArg (rows n.D) (funext fun a => Fin.ext ?_)
  have h1 : (i 1).val < 1024 := (i 1).isLt
  match a with
  | ⟨0, _⟩ => show ((i 0).val * 1024 + (i 1).val) / 1024 = (i 0).val; omega
  | ⟨1, _⟩ => show ((i 0).val * 1024 + (i 1).val) % 1024 = (i 1).val; omega

theorem r43 (i : S4096x1024.Idx) : val_main_v43 (F := Ideal) (a2 n) (a3 n) i = (n.Q (i 0) (i 1) : EReal) := by
  rw [val_main_v43_apply, val_main_v42_apply, r35, r29]
  exact (EReal.coe_mul _ _).symm

/-- The cotangent through the scaling by the reciprocal deviation. -/
theorem r49 (i : S4096x1024.Idx) : val_main_v49 (F := Ideal) (a0 n) (a1 n) (a2 n) (a3 n) i
    = ((n.Q (i 0) (i 1) * Norm.rs (n.Z (i 0)) : ℝ) : EReal) := by
  rw [val_main_v49_apply, val_main_v48_apply, r43, r23]
  exact (EReal.coe_mul _ _).symm

theorem r26 (i : S4096x1.Idx) : val_main_v26 (F := Ideal) (a0 n) (a1 n) i
    = ((-2⁻¹ * (Norm.rs (n.Z (i 0)) / (Norm.var (n.Z (i 0)) + Norm.ep)) : ℝ) : EReal) := by
  have e : val_main_v25 (F := Ideal) i = ((-2⁻¹ : ℝ) : EReal) := by rw [val_main_v25_apply]; exact Norm.ofBits_neg_half
  rw [val_main_v26_apply, val_main_v24_apply, r22, r23, e]
  refine (congrArg (fun z : EReal => ((-2⁻¹ : ℝ) : EReal) * z) (div_real (Norm.var_ep_pos (n.Z (i 0))))).trans ?_
  exact (EReal.coe_mul _ _).symm

theorem r47 (i : S4096x1.Idx) : val_main_v47 (F := Ideal) (a0 n) (a1 n) (a2 n) (a3 n) i
    = ((∑ k, Norm.cen (n.Z (i 0)) k * n.Q (i 0) k : ℝ) : EReal) := by
  rw [val_main_v47_apply, val_main_v46_apply]
  refine (zeroed _).trans ?_
  refine sum_eq_coe fun k => ?_
  rw [val_main_v45_apply, r20, r43]
  have e : idx_main_v46 (idx_main_v47 i) k 0 = i 0 := Fin.ext (by
    have h : (i 1).val < 1 := (i 1).isLt
    show (i 0).val * 1 + (i 1).val = (i 0).val; omega)
  rw [e]
  exact (EReal.coe_mul _ _).symm

/-- The part that passes through the variance. -/
theorem r58 (i : S4096x1024.Idx) : val_main_v58 (F := Ideal) (a0 n) (a1 n) (a2 n) (a3 n) i
    = (Norm.thru (n.Z (i 0)) (n.Q (i 0)) (i 1) : EReal) := by
  have e54 : ∀ i, val_main_v54 (F := Ideal) i = ((1024 : ℝ) : EReal) := fun i => by rw [val_main_v54_apply]; exact Norm.ofBits_width
  have e13 : val_main_v13 (F := Ideal) i = ((2 : ℝ) : EReal) := by rw [val_main_v13_apply]; exact Norm.ofBits_two
  have e14 : val_main_v14 (F := Ideal) (a0 n) (a1 n) i = ((2 * Norm.cen (n.Z (i 0)) (i 1) : ℝ) : EReal) := by
    rw [val_main_v14_apply, e13, r11]; exact (EReal.coe_mul _ _).symm
  have e55 : ∀ i, val_main_v55 (F := Ideal) (a0 n) (a1 n) (a2 n) (a3 n) i
      = (((∑ k, Norm.cen (n.Z (i 0)) k * n.Q (i 0) k) * (-2⁻¹ * (Norm.rs (n.Z (i 0)) / (Norm.var (n.Z (i 0)) + Norm.ep))) / 1024 : ℝ) : EReal) := fun i => by
    rw [val_main_v55_apply, val_main_v50_apply, r47, r26, e54]
    exact (congrArg (fun z => Ideal.div z _) (EReal.coe_mul _ _).symm).trans (div_real (by norm_num))
  rw [val_main_v58_apply, val_main_v57_apply, val_main_v56_apply, sum_one, e55, e14]
  exact (congrArg (fun z : EReal => z * _) (zeroed _)).trans (EReal.coe_mul _ _).symm

/-- The gradient of the residual sum. -/
theorem r68 (i : S4096x1024.Idx) : val_main_v68 (F := Ideal) (a0 n) (a1 n) (a2 n) (a3 n) i = (n.dZ (i 0) (i 1) : EReal) := by
  have e64 : ∀ i, val_main_v64 (F := Ideal) i = ((1024 : ℝ) : EReal) := fun i => by rw [val_main_v64_apply]; exact Norm.ofBits_width
  have e53 : ∀ i, val_main_v53 (F := Ideal) (a0 n) (a1 n) (a2 n) (a3 n) i = ((∑ k, -(n.Q (i 0) k * Norm.rs (n.Z (i 0))) : ℝ) : EReal) := fun i => by
    rw [val_main_v53_apply, val_main_v52_apply]
    refine (zeroed _).trans (sum_eq_coe fun k => ?_)
    rw [val_main_v51_apply, r49]
    have e : idx_main_v52 (idx_main_v53 i) k 0 = i 0 := Fin.ext (by
      have h : (i 1).val < 1 := (i 1).isLt
      show (i 0).val * 1 + (i 1).val = (i 0).val; omega)
    rw [e]
    exact (EReal.coe_neg _).symm
  have e61 : ∀ i, val_main_v61 (F := Ideal) (a0 n) (a1 n) (a2 n) (a3 n) i = ((∑ k, -Norm.thru (n.Z (i 0)) (n.Q (i 0)) k : ℝ) : EReal) := fun i => by
    rw [val_main_v61_apply, val_main_v60_apply]
    refine (zeroed _).trans (sum_eq_coe fun k => ?_)
    rw [val_main_v59_apply, r58]
    have e : idx_main_v60 (idx_main_v61 i) k 0 = i 0 := Fin.ext (by
      have h : (i 1).val < 1 := (i 1).isLt
      show (i 0).val * 1 + (i 1).val = (i 0).val; omega)
    rw [e]
    exact (EReal.coe_neg _).symm
  have e65 : ∀ i, val_main_v65 (F := Ideal) (a0 n) (a1 n) (a2 n) (a3 n) i
      = ((((∑ k, -(n.Q (i 0) k * Norm.rs (n.Z (i 0)))) + ∑ k, -Norm.thru (n.Z (i 0)) (n.Q (i 0)) k) / 1024 : ℝ) : EReal) := fun i => by
    rw [val_main_v65_apply, val_main_v63_apply, e53, e61, e64]
    exact (congrArg (fun z => Ideal.div z _) (EReal.coe_add _ _).symm).trans (div_real (by norm_num))
  rw [val_main_v68_apply, val_main_v62_apply, r49, r58, val_main_v67_apply, val_main_v66_apply, sum_one, e65]
  refine (congrArg₂ (fun a b : EReal => a + b) (EReal.coe_add _ _).symm (zeroed _)).trans ?_
  exact (EReal.coe_add _ _).symm.trans (coe_congr (Norm.dzl_eq (n.Z (i 0)) (n.Q (i 0)) (i 1)))

/-! ### The results -/

theorem r72 : val_main_v72 (F := Ideal) (a0 n) (a1 n) (a2 n) (a3 n) = rows n.dX := by
  funext i
  have e : val_main_v71 (F := Ideal) i = (Norm.al : EReal) := by rw [val_main_v71_apply]; exact Norm.ofBits_al
  rw [val_main_v72_apply, r68, e]
  exact (EReal.coe_mul _ _).symm

theorem r70 (i : S4096x1024.Idx) : val_main_v70 (F := Ideal) (a0 n) (a1 n) (a2 n) (a3 n) i = (n.dH (i 0) (i 1) : EReal) := by
  have e : val_main_v69 (F := Ideal) i = ((2⁻¹ : ℝ) : EReal) := by rw [val_main_v69_apply]; exact Norm.ofBits_half
  rw [val_main_v70_apply, r68, e]
  exact (EReal.coe_mul _ _).symm

theorem r73 : val_main_v73 (F := Ideal) (a0 n) (a1 n) (a2 n) (a3 n) = rows n.dH := by
  funext i
  rw [val_main_v73_apply, r70]; rfl

theorem r75 : val_main_v75 (F := Ideal) (a0 n) (a1 n) (a2 n) (a3 n) = cols n.dH := by
  funext i
  rw [val_main_v75_apply, val_main_v74_apply, r70]; rfl

theorem r76 : val_main_v76 (F := Ideal) (a0 n) (a1 n) (a3 n) = one n.dG := by
  funext i
  rw [val_main_v76_apply, val_main_v44_apply, sum_one]
  refine (zeroed _).trans ?_
  rw [val_main_v41_apply, val_main_v40_apply]
  refine (zeroed _).trans (sum_eq_coe fun t => ?_)
  rw [val_main_v39_apply, r28, r35]
  have e : idx_main_v40 (idx_main_v41 (idx_main_v44 (idx_main_v76 i) 0)) t 1 = i 1 := Fin.ext (by
    show 0 * 1024 + (i 1).val = (i 1).val; omega)
  rw [e]
  exact (EReal.coe_mul _ _).symm.trans (coe_congr (mul_comm _ _))

theorem r77 : val_main_v77 (F := Ideal) (a3 n) = one n.dB := by
  funext i
  rw [val_main_v77_apply, val_main_v38_apply, sum_one]
  refine (zeroed _).trans ?_
  rw [val_main_v37_apply, val_main_v36_apply]
  refine (zeroed _).trans (sum_eq_coe fun t => ?_)
  have e : idx_main_v36 (idx_main_v37 (idx_main_v38 (idx_main_v77 i) 0)) t 1 = i 1 := Fin.ext (by
    show 0 * 1024 + (i 1).val = (i 1).val; omega)
  exact coe_congr (congrArg (n.D t) e)

end Cert.NormRef

end
-- ==== Proof.NormAlgebraic.lean ====
/- The claims on the layer norm's gradient: its programs run to the end with their arguments unchanged, and on finite arguments
   the launch leaves the reference's gradients. -/
module

public import proofs.«01_k».proof.Proof.Finite
public import proofs.«01_k».proof.Proof.NormRef
public import proofs.«01_k».proof.Proof.Gen.Kernel3.Frame
public import proofs.«01_k».proof.Proof.Gen.Kernel3Ideal.Value
public import proofs.«01_k».proof.Proof.Gen.Reference3Ideal.Run
public import Idealize.ShloMosaic.Lib.StableHlo.RunRead

@[expose] public section

set_option maxRecDepth 16384

noncomputable section

namespace Cert.NormAlgebraic

open Idealize.ShloMosaic Idealize.SL.Sem Cert.Kernel3Ideal.Gen Cert.Reference3Ideal.Gen Cert.NormBlock
open Cert.Reference3Ideal.Read Idealize.ShloMosaic.TcCoe Cert.Pre_norm_finite Idealize.ShloMosaic.StableHlo

theorem facts : Cert.Pre_norm_finite.Facts := ⟨by decide, by decide, by decide, by decide, by decide⟩

instance : Cert.Pre_norm_finite.Facts := facts

/-! ### Frames -/

theorem kernel : Cert.quiescent_Kernel3 := fun m ρ _ => Cert.Kernel3.Gen.frame m ρ

theorem kernelIdeal : Cert.quiescent_Kernel3Ideal := fun m ρ _ => Cert.Kernel3Ideal.Gen.frame m ρ

theorem kernel_frame : Cert.quiescent_Kernel3Ideal_pre_norm_finite := fun m ρ _ => Cert.Kernel3Ideal.Gen.frame m ρ

theorem referenceIdeal : Cert.quiescent_Reference3Ideal := fun m ρ _ =>
  (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

theorem reference_frame : Cert.quiescent_Reference3Ideal_pre_norm_finite := fun m ρ _ => referenceIdeal m ρ trivial

theorem preserves : Cert.preserves_Kernel3_Kernel3Ideal := trivial

/-! ### Values -/

/-- The real arrays behind arguments that satisfy the precondition. -/
theorem args (a0 a1 : FVec Ideal S4096x1024 .f32) (a2 : FVec Ideal S1024 .f32) (a3 : FVec Ideal S4096x1024 .f32)
    (h : ∀ j, fn (F := Ideal) a0 a1 a2 a3 j = 1#1) :
    ∃ n : In, a0 = rows n.X ∧ a1 = rows n.H ∧ a2 = vec n.G ∧ a3 = rows n.D := by
  let j : S_.Idx := fun k => k.elim0
  obtain ⟨h, h3⟩ := Cert.Band.and1 _ _ (h j)
  obtain ⟨h, h2⟩ := Cert.Band.and1 _ _ h
  obtain ⟨h0, h1⟩ := Cert.Band.and1 _ _ h
  refine ⟨⟨fun a b => (a0 (ix2 (n0 := 4096) (n1 := 1024) a b) : EReal).toReal, fun a b => (a1 (ix2 (n0 := 4096) (n1 := 1024) a b) : EReal).toReal,
    fun a => (a2 (ix1 (n0 := 1024) a) : EReal).toReal, fun a b => (a3 (ix2 (n0 := 4096) (n1 := 1024) a b) : EReal).toReal⟩, ?_, ?_, ?_, ?_⟩
  · funext i; exact (Cert.Finite.all_real a0 _ _ _ j h0 i).symm.trans (by rw [eq_ix2 i]; rfl)
  · funext i; exact (Cert.Finite.all_real a1 _ _ _ j h1 i).symm.trans (by rw [eq_ix2 i]; rfl)
  · funext i; exact (Cert.Finite.all_real a2 _ _ _ j h2 i).symm.trans (by rw [eq_ix1 i]; rfl)
  · funext i; exact (Cert.Finite.all_real a3 _ _ _ j h3 i).symm.trans (by rw [eq_ix2 i]; rfl)

section host
variable (W : Valuation Cert.Kernel3Ideal.τ Cert.Kernel3Ideal.sig (Elt Ideal))

/-- The host's normalised rows are the reference's, -/
theorem host_rows : after hostOps0 W (Proc.devRef .tc Cert.Kernel3Ideal.main_v20)
    = val_main_v28 (F := Ideal) (W (Proc.devRef .tc Cert.Kernel3Ideal.main_arg0)) (W (Proc.devRef .tc Cert.Kernel3Ideal.main_arg1)) := by
  after_reads_simp; rfl

/-- and so are its reciprocal deviations. -/
theorem host_rs : after hostOps0 W (Proc.devRef .tc Cert.Kernel3Ideal.main_v18)
    = val_main_v23 (F := Ideal) (W (Proc.devRef .tc Cert.Kernel3Ideal.main_arg0)) (W (Proc.devRef .tc Cert.Kernel3Ideal.main_arg1)) := by
  after_reads_simp; rfl

theorem host_gain : after hostOps0 W (Proc.devRef .tc Cert.Kernel3Ideal.main_v21)
    = val_main_v29 (F := Ideal) (W (Proc.devRef .tc Cert.Kernel3Ideal.main_arg2)) := by
  after_reads_simp; rfl

theorem host_dy : after (hostOps0 (F := Ideal)) W (Proc.devRef .tc Cert.Kernel3Ideal.main_arg3) = W (Proc.devRef .tc Cert.Kernel3Ideal.main_arg3) := by
  after_reads_simp

end host

section launch
variable (m : (ℓ : Loc Cert.Kernel3Ideal.nD Cert.Kernel3Ideal.τ Cert.Kernel3Ideal.sig) → Buf (Elt Ideal) ℓ) (c : Dev Cert.Kernel3Ideal.nD) (n : In)
  (h0 : m ((c : Thread Cert.Kernel3Ideal.nD Cert.Kernel3Ideal.τ).loc Cert.Kernel3Ideal.main_arg0) = rows n.X)
  (h1 : m ((c : Thread Cert.Kernel3Ideal.nD Cert.Kernel3Ideal.τ).loc Cert.Kernel3Ideal.main_arg1) = rows n.H)
  (h2 : m ((c : Thread Cert.Kernel3Ideal.nD Cert.Kernel3Ideal.τ).loc Cert.Kernel3Ideal.main_arg2) = vec n.G)
  (h3 : m ((c : Thread Cert.Kernel3Ideal.nD Cert.Kernel3Ideal.τ).loc Cert.Kernel3Ideal.main_arg3) = rows n.D)
include h0 h1 h2 h3

/-- What the launch finds in its operands. -/
theorem found : V m c Cert.Kernel3Ideal.main_arg3 = rows n.D ∧ V m c Cert.Kernel3Ideal.main_v20 = (rows fun t => Norm.xh (n.Z t))
    ∧ V m c Cert.Kernel3Ideal.main_v18 = (col fun t => Norm.rs (n.Z t)) ∧ V m c Cert.Kernel3Ideal.main_v21 = one n.G := by
  refine ⟨(V_main_arg3 m c).trans h3, (host_rows fun b => m (c, b)).trans ?_, (host_rs fun b => m (c, b)).trans ?_, (host_gain fun b => m (c, b)).trans ?_⟩
  · refine (congrArg₂ (val_main_v28 (F := Ideal)) h0 h1).trans (funext fun i => Cert.NormRef.r28 n i)
  · refine (congrArg₂ (val_main_v23 (F := Ideal)) h0 h1).trans (funext fun i => Cert.NormRef.r23 n i)
  · refine (congrArg (val_main_v29 (F := Ideal)) h2).trans (funext fun i => Cert.NormRef.r29 n i)

theorem results : (dats m 0 c).arrAt 4 Cert.Kernel3Ideal.cfg0.N = rows n.dX ∧ (dats m 0 c).arrAt 5 Cert.Kernel3Ideal.cfg0.N = rows n.dH ∧ (dats m 0 c).arrAt 6 Cert.Kernel3Ideal.cfg0.N = cols n.dH
    ∧ (dats m 0 c).arrAt 7 Cert.Kernel3Ideal.cfg0.N = one n.dG ∧ (dats m 0 c).arrAt 8 Cert.Kernel3Ideal.cfg0.N = one n.dB := by
  obtain ⟨f3, f20, f18, f21⟩ := found m c n h0 h1 h2 h3
  exact ⟨arr4 m c n f3 f20 f18 f21, arr5 m c n f3 f20 f18 f21, arr6 m c n f3 f20 f18 f21, arr7 m c n f3 f20 f18 f21, arr8 m c n f3 f20 f18 f21⟩

end launch

section reference
variable (V0 : Valuation Cert.Reference3Ideal.τ Cert.Reference3Ideal.sig (Elt Ideal)) (n : In)
  (h0 : V0 (Proc.devRef .tc Cert.Reference3Ideal.main_arg0) = rows n.X) (h1 : V0 (Proc.devRef .tc Cert.Reference3Ideal.main_arg1) = rows n.H)
  (h2 : V0 (Proc.devRef .tc Cert.Reference3Ideal.main_arg2) = vec n.G) (h3 : V0 (Proc.devRef .tc Cert.Reference3Ideal.main_arg3) = rows n.D)

include h3 in
theorem reference_bias : val_main_v77 (F := Ideal) (V0 (Proc.devRef .tc Cert.Reference3Ideal.main_arg3)) = one n.dB := by
  rw [h3]; exact Cert.NormRef.r77 n

include h0 h1 h3 in
theorem reference_gain : val_main_v76 (F := Ideal) (V0 (Proc.devRef .tc Cert.Reference3Ideal.main_arg0)) (V0 (Proc.devRef .tc Cert.Reference3Ideal.main_arg1))
    (V0 (Proc.devRef .tc Cert.Reference3Ideal.main_arg3)) = one n.dG := by
  rw [h0, h1, h3]; exact Cert.NormRef.r76 n

include h0 h1 h2 h3

theorem reference_input : val_main_v72 (F := Ideal) (V0 (Proc.devRef .tc Cert.Reference3Ideal.main_arg0)) (V0 (Proc.devRef .tc Cert.Reference3Ideal.main_arg1))
    (V0 (Proc.devRef .tc Cert.Reference3Ideal.main_arg2)) (V0 (Proc.devRef .tc Cert.Reference3Ideal.main_arg3)) = rows n.dX := by
  rw [h0, h1, h2, h3]; exact Cert.NormRef.r72 n

theorem reference_added : val_main_v73 (F := Ideal) (V0 (Proc.devRef .tc Cert.Reference3Ideal.main_arg0)) (V0 (Proc.devRef .tc Cert.Reference3Ideal.main_arg1))
    (V0 (Proc.devRef .tc Cert.Reference3Ideal.main_arg2)) (V0 (Proc.devRef .tc Cert.Reference3Ideal.main_arg3)) = rows n.dH := by
  rw [h0, h1, h2, h3]; exact Cert.NormRef.r73 n

theorem reference_transpose : val_main_v75 (F := Ideal) (V0 (Proc.devRef .tc Cert.Reference3Ideal.main_arg0)) (V0 (Proc.devRef .tc Cert.Reference3Ideal.main_arg1))
    (V0 (Proc.devRef .tc Cert.Reference3Ideal.main_arg2)) (V0 (Proc.devRef .tc Cert.Reference3Ideal.main_arg3)) = cols n.dH := by
  rw [h0, h1, h2, h3]; exact Cert.NormRef.r75 n

end reference

theorem algebraic : Cert.algebraic_Kernel3Ideal_Reference3Ideal_pre_norm_finite := by
  intro m g m' g' hpre hargs
  have hn := fun c => args _ _ _ _ (fun j => congrFun (hpre c) j)
  choose n h0 h1 h2 h3 using hn
  refine ⟨fun c => rows (n c).dX, fun c => rows (n c).dH, fun c => cols (n c).dH, fun c => one (n c).dG, fun c => one (n c).dB, ?_, ?_⟩
  · refine (θ_run Cert.Kernel3Ideal.defs _ _).mono (fun r h c => ?_) (Cert.Kernel3Ideal.Value.run_blocks m g)
    obtain ⟨k0, k1, k2, k3, k4, hk⟩ := h c
    obtain ⟨e0, e1, e2, e3, e4⟩ := results m c (n c) (h0 c) (h1 c) (h2 c) (h3 c)
    exact ⟨k0.trans e0, k1.trans e1, k2.trans e2, k3.trans e3, k4.trans e4, hk⟩
  · refine (θ_run Cert.Reference3Ideal.defs _ _).mono (fun r h c => ?_) (Cert.Reference3Ideal.Value.run (F := Ideal) m' g')
    obtain ⟨e0, e1, e2, e3⟩ := hargs c
    obtain ⟨k0, k1, k2, k3, k4, hk⟩ := h c
    exact ⟨k0.trans ((val_main_v72_eq (F := Ideal) m' c).trans
        (reference_input (StableHlo.launchContents m' c) (n c) (e0.trans (h0 c)) (e1.trans (h1 c)) (e2.trans (h2 c)) (e3.trans (h3 c)))),
      k1.trans ((val_main_v73_eq (F := Ideal) m' c).trans
        (reference_added (StableHlo.launchContents m' c) (n c) (e0.trans (h0 c)) (e1.trans (h1 c)) (e2.trans (h2 c)) (e3.trans (h3 c)))),
      k2.trans ((val_main_v75_eq (F := Ideal) m' c).trans
        (reference_transpose (StableHlo.launchContents m' c) (n c) (e0.trans (h0 c)) (e1.trans (h1 c)) (e2.trans (h2 c)) (e3.trans (h3 c)))),
      k3.trans ((val_main_v76_eq (F := Ideal) _ _ _).trans
        (reference_gain (StableHlo.launchContents m' c) (n c) (e0.trans (h0 c)) (e1.trans (h1 c)) (e3.trans (h3 c)))),
      k4.trans ((val_main_v77_eq (F := Ideal) _).trans (reference_bias (StableHlo.launchContents m' c) (n c) (e3.trans (h3 c)))),
      hk⟩

end Cert.NormAlgebraic

end
-- ==== Proof.QkvRun.lean ====
/- The run of the projection's program: each core ends with every buffer at the contents the launches and the
   host operations between them leave. -/
module

public import proofs.«01_k».proof.Proof.Gen.Kernel4Ideal.Frame

@[expose] public section

set_option maxRecDepth 16384

noncomputable section

namespace Cert.QkvRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.QkvRun

end
-- ==== Proof.QkvBlock.lean ====
/- The three launches of a group's projection: the projected rows, the weights' gradient and the input's gradient, each as the
   array of sums its blocks make up. -/
module

public import proofs.«01_k».proof.Proof.Gen.Kernel4Ideal.Frame
public import proofs.«01_k».proof.Proof.Band
public import Idealize.ShloMosaic.Lib.Pipeline.ValueKit
public import Idealize.ShloMosaic.Lib.Pipeline.ValueKit.Partial
public import Idealize.ShloMosaic.Lib.Pointwise

@[expose] public section

set_option maxRecDepth 16384
set_option backward.isDefEq.respectTransparency false

noncomputable section

namespace Cert.QkvBlock

open Cert.Kernel4Ideal Cert.Kernel4Ideal.Gen
open Idealize.ShloMosaic Idealize.ShloMosaic.TcCoe Idealize.SL.Sem
open scoped BigOperators

/-! ### The three results, of rows `x`, weights `w` and the cotangent `q` -/

/-- A column of the group, among the columns of all groups. -/
def wcol (f : Fin 3072) : Fin 9216 := ⟨f.val, by omega⟩

/-- The rows times the group's columns. -/
def qkv (x : S4096x1024.Idx → EReal) (w : S1024x9216.Idx → EReal) : S4096x3072.Idx → EReal := fun i =>
  ∑ k : Fin 1024, x (ix2 (n0 := 4096) (n1 := 1024) (i 0) k) * w (ix2 (n0 := 1024) (n1 := 9216) k (wcol (i 1)))

/-- The weights' gradient at a row and a column. -/
def dw (x : S4096x1024.Idx → EReal) (q : S4096x3072.Idx → EReal) (k : Fin 1024) (f : Fin 3072) : EReal :=
  ∑ t : Fin 4096, x (ix2 (n0 := 4096) (n1 := 1024) t k) * q (ix2 (n0 := 4096) (n1 := 3072) t f)

/-- The input's gradient. -/
def dx (w : S1024x9216.Idx → EReal) (q : S4096x3072.Idx → EReal) : S4096x1024.Idx → EReal := fun i =>
  ∑ f : Fin 3072, q (ix2 (n0 := 4096) (n1 := 3072) (i 0) f) * w (ix2 (n0 := 1024) (n1 := 9216) (i 1) (wcol f))

/-- The device whose columns a slot holds: the even devices' slots come first. -/
def dev (s : ℕ) : ℕ := 2 * (s % 4) + s / 4

/-- The gradient in its slots, where they hold the group's columns. -/
def slots (x : S4096x1024.Idx → EReal) (q : S4096x3072.Idx → EReal) : S8x1024x1152.Idx → EReal := fun i =>
  if h : 1152 * dev (i 0).val + (i 2).val < 3072 then dw x q (i 1) ⟨1152 * dev (i 0).val + (i 2).val, h⟩ else 0

/-- Rows, turned. -/
def turned (x : S4096x1024.Idx → EReal) : S1024x4096.Idx → EReal := fun i => x (ix2 (n0 := 4096) (n1 := 1024) (i 1) (i 0))

variable {x : S4096x1024.Idx → EReal} {w : S1024x9216.Idx → EReal} {q : S4096x3072.Idx → EReal}
variable (V : (c : Dev nD) → (b : Ref sig .tc) → Buf (Elt Ideal) ((c : Thread nD τ).loc b)) (c : Dev nD)

/-! ### The projected rows -/

theorem pay1 (a : Vec Ideal S1024x1024 .bf16) (b : Vec Ideal S1024x768 .bf16) (r : Fin 1024) (f : Fin 768) :
    k1_pay1 a b (ix2 (n0 := 1024) (n1 := 768) r f)
      = ∑ k : Fin 1024, (a (ix2 (n0 := 1024) (n1 := 1024) r k) * b (ix2 (n0 := 1024) (n1 := 768) k f) : EReal) := by
  pointwise [k1_pay1]

theorem idx1 : ∀ t : Fin cfg1.N, win1_0.index t = ![t.val % 4, 0] ∧ win1_1.index t = ![0, t.val / 4]
    ∧ win1_2.index t = ![t.val % 4, t.val / 4] :=
  (by decide +kernel : ∀ t : Fin grid1.N, _)

/-- Row `r` of block `i` of 1024, and column `f` of block `j` of 768. -/
def row1 (t : Fin cfg1.N) (r : Fin 1024) : Fin 4096 := ⟨1024 * (t.val % 4) + r.val, by omega⟩
def col1 (t : Fin cfg1.N) (f : Fin 768) : Fin 3072 := ⟨768 * (t.val / 4) + f.val, by have := lt_of_lt_of_eq t.isLt N_1; omega⟩

theorem block1 (t : Fin cfg1.N) (a : Vec Ideal S1024x1024 .bf16) (b : Vec Ideal S1024x768 .bf16)
    (ha : ∀ r k : Fin 1024, a (ix2 (n0 := 1024) (n1 := 1024) r k) = x (ix2 (n0 := 4096) (n1 := 1024) (row1 t r) k))
    (hb : ∀ (k : Fin 1024) (f : Fin 768), b (ix2 (n0 := 1024) (n1 := 768) k f) = w (ix2 (n0 := 1024) (n1 := 9216) k (wcol (col1 t f))))
    (z : S4096x3072.Idx) (y : S1024x768.Idx) (h0 : (z 0).val = 1024 * (t.val % 4) + (y 0).val)
    (h1 : (z 1).val = 768 * (t.val / 4) + (y 1).val) : out1_2 (F := Ideal) a b y = qkv x w z := by
  have e : out1_2 (F := Ideal) a b = k1_pay1 (View.ld a r1_0) (View.ld b r1_1) := View.canon_cons_unit_lit _ _ _ (by decide)
  rw [e, show View.ld a r1_0 = a from View.ld_unit_lit (Val := Elt Ideal) (e := .bf16) _ a (by decide),
    show View.ld b r1_1 = b from View.ld_unit_lit (Val := Elt Ideal) (e := .bf16) _ b (by decide)]
  refine (congrArg (k1_pay1 a b) (eq_ix2 (n0 := 1024) (n1 := 768) y)).trans ((pay1 _ _ _ _).trans ?_)
  unfold qkv
  rw [show z 0 = row1 t (y 0) from Fin.ext h0, show z 1 = col1 t (y 1) from Fin.ext h1]
  refine Finset.sum_congr rfl fun k _ => ?_
  rw [ha, hb]

theorem arr1 (hx : V c main_v11 = x) (hw : V c main_v0 = w) : (dat1 V c).arrAt 2 cfg1.N = qkv x w := by
  refine (dat1 V c).arrAt_eq_of_covers 2 _ (by decide +kernel) fun t hf y => ?_
  obtain ⟨i0, i1, i2⟩ := idx1 t
  have ha : ∀ r k : Fin 1024, iblk1 V c 0 t (ix2 (n0 := 1024) (n1 := 1024) r k) = x (ix2 (n0 := 4096) (n1 := 1024) (row1 t r) k) := fun r k =>
    (show _ = V c main_v11 (ix2 (n0 := 4096) (n1 := 1024) (row1 t r) k) by
      unfold iblk1; generalize V c = W; blk_ext [i0, row1]).trans (congrFun hx _)
  have hb : ∀ (k : Fin 1024) (f : Fin 768), iblk1 V c 1 t (ix2 (n0 := 1024) (n1 := 768) k f)
      = w (ix2 (n0 := 1024) (n1 := 9216) k (wcol (col1 t f))) := fun k f =>
    (show _ = V c main_v0 (ix2 (n0 := 1024) (n1 := 9216) k (wcol (col1 t f))) by
      unfold iblk1; generalize V c = W; blk_ext [i1, wcol, col1]).trans (congrFun hw _)
  blk_simp
  rw [after1_2]
  refine block1 t _ _ ha hb _ _ ?_ ?_
  · blk_simp [i2]; exact congrArg (· + (y 0).val) (Nat.mul_comm _ _)
  · blk_simp [i2]; exact congrArg (· + (y 1).val) (Nat.mul_comm _ _)

/-! ### The input's gradient -/

theorem pay2 (a : Vec Ideal S512x3072 .bf16) (b : Vec Ideal S1024x3072 .bf16) (r : Fin 512) (d : Fin 1024) :
    k2_pay1 a b (ix2 (n0 := 512) (n1 := 1024) r d)
      = ∑ f : Fin 3072, (a (ix2 (n0 := 512) (n1 := 3072) r f) * b (ix2 (n0 := 1024) (n1 := 3072) d f) : EReal) := by
  pointwise [k2_pay1]

theorem idx2 : ∀ t : Fin cfg2.N, win2_0.index t = ![t.val, 0] ∧ win2_1.index t = ![0, 0] ∧ win2_2.index t = ![t.val, 0] :=
  (by decide +kernel : ∀ t : Fin grid2.N, _)

def row2 (t : Fin cfg2.N) (r : Fin 512) : Fin 4096 := ⟨512 * t.val + r.val, by have := lt_of_lt_of_eq t.isLt N_2; omega⟩

theorem block2 (t : Fin cfg2.N) (a : Vec Ideal S512x3072 .bf16) (b : Vec Ideal S1024x3072 .bf16)
    (ha : ∀ (r : Fin 512) (f : Fin 3072), a (ix2 (n0 := 512) (n1 := 3072) r f) = q (ix2 (n0 := 4096) (n1 := 3072) (row2 t r) f))
    (hb : ∀ (d : Fin 1024) (f : Fin 3072), b (ix2 (n0 := 1024) (n1 := 3072) d f) = w (ix2 (n0 := 1024) (n1 := 9216) d (wcol f)))
    (z : S4096x1024.Idx) (y : S512x1024.Idx) (h0 : (z 0).val = 512 * t.val + (y 0).val)
    (h1 : (z 1).val = (y 1).val) : out2_2 (F := Ideal) a b y = dx w q z := by
  have e : out2_2 (F := Ideal) a b = k2_pay1 (View.ld a r2_0) (View.ld b r2_1) := View.canon_cons_unit_lit _ _ _ (by decide)
  rw [e, show View.ld a r2_0 = a from View.ld_unit_lit (Val := Elt Ideal) (e := .bf16) _ a (by decide),
    show View.ld b r2_1 = b from View.ld_unit_lit (Val := Elt Ideal) (e := .bf16) _ b (by decide)]
  refine (congrArg (k2_pay1 a b) (eq_ix2 (n0 := 512) (n1 := 1024) y)).trans ((pay2 _ _ _ _).trans ?_)
  unfold dx
  rw [show z 0 = row2 t (y 0) from Fin.ext h0, show z 1 = y 1 from Fin.ext h1]
  refine Finset.sum_congr rfl fun k _ => ?_
  rw [ha, hb]

theorem arr2 (hq : V c main_v1 = q) (hw : V c main_v0 = w) : (dat2 V c).arrAt 2 cfg2.N = dx w q := by
  refine (dat2 V c).arrAt_eq_of_covers 2 _ (by decide +kernel) fun t hf y => ?_
  obtain ⟨i0, i1, i2⟩ := idx2 t
  have ha : ∀ (r : Fin 512) (f : Fin 3072), iblk2 V c 0 t (ix2 (n0 := 512) (n1 := 3072) r f) = q (ix2 (n0 := 4096) (n1 := 3072) (row2 t r) f) := fun r f =>
    (show _ = V c main_v1 (ix2 (n0 := 4096) (n1 := 3072) (row2 t r) f) by
      unfold iblk2; generalize V c = W; blk_ext [i0, row2]).trans (congrFun hq _)
  have hb : ∀ (d : Fin 1024) (f : Fin 3072), iblk2 V c 1 t (ix2 (n0 := 1024) (n1 := 3072) d f) = w (ix2 (n0 := 1024) (n1 := 9216) d (wcol f)) := fun d f =>
    (show _ = V c main_v0 (ix2 (n0 := 1024) (n1 := 9216) d (wcol f)) by
      unfold iblk2; generalize V c = W; blk_ext [i1, wcol]).trans (congrFun hw _)
  blk_simp
  rw [after2_2]
  refine block2 t _ _ ha hb _ _ ?_ ?_
  · blk_simp [i2]; exact congrArg (· + (y 0).val) (Nat.mul_comm _ _)
  · blk_simp [i2]

/-! ### The weights' gradient -/

theorem pay0 (a : Vec Ideal S512x4096 .bf16) (b : Vec Ideal S4096x384 .bf16) (o : Fin 1) (r : Fin 512) (f : Fin 384) :
    k0_pay1 a b (ix3 (n0 := 1) (n1 := 512) (n2 := 384) o r f)
      = ∑ t : Fin 4096, (a (ix2 (n0 := 512) (n1 := 4096) r t) * b (ix2 (n0 := 4096) (n1 := 384) t f) : EReal) := by
  pointwise [k0_pay1]

/-- The slot of a device, and its inverse on the columns. -/
def slot (d : ℕ) : ℕ := 4 * (d % 2) + d / 2

theorem idx0 : ∀ t : Fin cfg0.N, win0_0.index t = ![t.val / 8, 0] ∧ win0_1.index t = ![0, t.val % 8]
    ∧ win0_2.index t = ![slot (t.val % 8 / 3), t.val / 8, t.val % 8 % 3] :=
  (by decide +kernel : ∀ t : Fin grid0.N, _)

def row0 (t : Fin cfg0.N) (r : Fin 512) : Fin 1024 := ⟨512 * (t.val / 8) + r.val, by have := lt_of_lt_of_eq t.isLt N_0; omega⟩
def col0 (t : Fin cfg0.N) (f : Fin 384) : Fin 3072 := ⟨384 * (t.val % 8) + f.val, by omega⟩

theorem block0 (t : Fin cfg0.N) (a : Vec Ideal S512x4096 .bf16) (b : Vec Ideal S4096x384 .bf16)
    (ha : ∀ (r : Fin 512) (k : Fin 4096), a (ix2 (n0 := 512) (n1 := 4096) r k) = x (ix2 (n0 := 4096) (n1 := 1024) k (row0 t r)))
    (hb : ∀ (k : Fin 4096) (f : Fin 384), b (ix2 (n0 := 4096) (n1 := 384) k f) = q (ix2 (n0 := 4096) (n1 := 3072) k (col0 t f)))
    (z : S8x1024x1152.Idx) (y : S1x512x384.Idx) (h0 : (z 0).val = slot (t.val % 8 / 3) + (y 0).val) (h1 : (z 1).val = 512 * (t.val / 8) + (y 1).val)
    (h2 : (z 2).val = 384 * (t.val % 8 % 3) + (y 2).val) : k0_pay1 (F := Ideal) a b y = slots x q z := by
  refine (congrArg (k0_pay1 a b) (eq_ix3 (n0 := 1) (n1 := 512) (n2 := 384) y)).trans ((pay0 _ _ _ _ _).trans ?_)
  have hy0 : (y 0).val < 1 := (y 0).isLt
  have hy2 : (y 2).val < 384 := (y 2).isLt
  have hz : 1152 * dev (z 0).val + (z 2).val = 384 * (t.val % 8) + (y 2).val := by
    unfold dev; unfold slot at h0; omega
  have hlt : 1152 * dev (z 0).val + (z 2).val < 3072 := by omega
  unfold slots dw
  rw [dif_pos hlt, show z 1 = row0 t (y 1) from Fin.ext h1, show (⟨_, hlt⟩ : Fin 3072) = col0 t (y 2) from Fin.ext hz]
  refine Finset.sum_congr rfl fun k _ => ?_
  rw [ha, hb]

theorem arr0 (hx : V c main_v3 = turned x) (hq : V c main_v1 = q) (i : S8x1024x1152.Idx) (hi : 1152 * dev (i 0).val + (i 2).val < 3072) :
    (dat0 V c).arrAt 2 cfg0.N i = slots x q i := by
  have hdev : 3 * dev (i 0).val + (i 2).val / 384 < 8 := by omega
  refine ((dat0 V c).arrAt_apply_of_coversWhere 2 (slots x q) (P := fun i : S8x1024x1152.Idx => 3 * dev (i 0).val + (i 2).val / 384 < 8)
    (fun β => 3 * dev (β (0 : Fin 3)) + β (2 : Fin 3) < 8) (by decide +kernel) (fun t hf y => ?_) (fun j => ?_) i).trans (if_pos hdev)
  · obtain ⟨i0, i1, i2⟩ := idx0 t
    have ha : ∀ (r : Fin 512) (k : Fin 4096), iblk0 V c 0 t (ix2 (n0 := 512) (n1 := 4096) r k) = x (ix2 (n0 := 4096) (n1 := 1024) k (row0 t r)) := fun r k =>
      (show _ = V c main_v3 (ix2 (n0 := 1024) (n1 := 4096) (row0 t r) k) by
        unfold iblk0; generalize V c = W; blk_ext [i0, row0]).trans (congrFun hx _)
    have hb : ∀ (k : Fin 4096) (f : Fin 384), iblk0 V c 1 t (ix2 (n0 := 4096) (n1 := 384) k f) = q (ix2 (n0 := 4096) (n1 := 3072) k (col0 t f)) := fun k f =>
      (show _ = V c main_v1 (ix2 (n0 := 4096) (n1 := 3072) k (col0 t f)) by
        unfold iblk0; generalize V c = W; blk_ext [i1, col0]).trans (congrFun hq _)
    blk_simp
    rw [after0_2]
    unfold outsAt0
    frame_out
    refine block0 t _ _ ha hb _ _ ?_ ?_ ?_
    · blk_simp [i2]
    · blk_simp [i2]; exact congrArg (· + (y 1).val) (Nat.mul_comm _ _)
    · blk_simp [i2]; exact congrArg (· + (y 2).val) (Nat.mul_comm _ _)
  · blk_simp [Pipeline.Window.cell_apply]; rw [Nat.div_one]

end Cert.QkvBlock

end
-- ==== Proof.QkvHost.lean ====
/- What the projection's launches find in their operands and what they leave, down to the three results. -/
module

public import proofs.«01_k».proof.Proof.QkvBlock
public import Idealize.ShloMosaic.Lib.StableHlo.RunRead

@[expose] public section

set_option maxRecDepth 16384
set_option backward.isDefEq.respectTransparency false

noncomputable section

namespace Cert.QkvHost

open Cert.Kernel4Ideal Cert.Kernel4Ideal.Gen Cert.QkvBlock Idealize.ShloMosaic.StableHlo
open Idealize.ShloMosaic Idealize.ShloMosaic.TcCoe Idealize.SL.Sem
open scoped BigOperators

abbrev Vals : Type := Valuation τ sig (Elt Ideal)

/-! ### The host operations, over any contents before them -/

theorem s0w (W : Vals) : after hostOps0 W (Proc.devRef .tc main_v0) = W (Proc.devRef .tc main_arg1) := by
  after_reads_simp; rfl
theorem s0q (W : Vals) : after hostOps0 W (Proc.devRef .tc main_v1) = W (Proc.devRef .tc main_arg2) := by
  after_reads_simp; rfl
theorem s0x (W : Vals) : after hostOps0 W (Proc.devRef .tc main_v3)
    = transpose S1024x4096 [1, 0] (W (Proc.devRef .tc main_arg0)) transposes_S4096x1024_S1024x4096_1_0 := by
  after_reads_simp; rfl

/-- Out of the slots: the devices' columns in their order, side by side, and of these the group's. -/
def unslot (g : S8x1024x1152.Idx → EReal) : S1024x3072.Idx → EReal :=
  extractStridedSlice S1024x3072 ![0, 0]
    (shapeCast S1024x9216
      (transpose S1024x8x1152 [1, 0, 2]
        (shapeCast S8x1024x1152
          (transpose S4x2x1024x1152 [1, 0, 2, 3] (shapeCast S2x4x1024x1152 g shapeCasts_S8x1024x1152_S2x4x1024x1152)
            transposes_S2x4x1024x1152_S4x2x1024x1152_1_0_2_3)
          shapeCasts_S4x2x1024x1152_S8x1024x1152)
        transposes_S8x1024x1152_S1024x8x1152_1_0_2)
      shapeCasts_S1024x8x1152_S1024x9216)
    slices_S1024x9216_S1024x3072_0_0

theorem s1g (W : Vals) : after hostOps1 W (Proc.devRef .tc main_v10) = unslot (W (Proc.devRef .tc main_v4)) := by
  after_reads_simp; rfl
theorem s1x (W : Vals) : after hostOps1 W (Proc.devRef .tc main_v11) = W (Proc.devRef .tc main_arg0) := by
  after_reads_simp; rfl

/-- Column `1152 * d + f` is device `d`'s column `f`, read in the device's slot. -/
theorem unslot_apply (g : S8x1024x1152.Idx → EReal) (i : S1024x3072.Idx) (a : Fin 2) (b : Fin 4) (f : Fin 1152)
    (s : Fin 8) (hs : s.val = 4 * a.val + b.val) (hf : (i 1).val = 1152 * (2 * b.val + a.val) + f.val) :
    unslot g i = g (ix3 (n0 := 8) (n1 := 1024) (n2 := 1152) s (i 0) f) := by
  have ha := a.isLt
  have hb := b.isLt
  have hf' := f.isLt
  have hi : (i 1).val < 3072 := (i 1).isLt
  have hr : (i 0).val < 1024 := (i 0).isLt
  unfold unslot
  refine (extractStridedSlice_apply _ _ _ _ (ix2 (n0 := 1024) (n1 := 9216) (i 0) (wcol (i 1))) (by
    intro k; fin_cases k <;> exact (Nat.zero_add _).symm)).trans ?_
  refine (shapeCast_apply _ _ _ (ix3 (n0 := 1024) (n1 := 8) (n2 := 1152) (i 0) ⟨2 * b.val + a.val, by omega⟩ f) (by
    rewrite [Shape.rowMajor_val_three, Shape.rowMajor_val_two]
    show ((i 0).val * 8 + (2 * b.val + a.val)) * 1152 + f.val = (i 0).val * 9216 + (i 1).val
    omega)).trans ?_
  refine (transpose_apply _ _ _ _ (ix3 (n0 := 8) (n1 := 1024) (n2 := 1152) ⟨2 * b.val + a.val, by omega⟩ (i 0) f) (by
    intro k; fin_cases k <;> rfl)).trans ?_
  refine (shapeCast_apply _ _ _ (ix4 (n0 := 4) (n1 := 2) (n2 := 1024) (n3 := 1152) b a (i 0) f) (by
    rewrite [Shape.rowMajor_val_four, Shape.rowMajor_val_three]
    show ((b.val * 2 + a.val) * 1024 + (i 0).val) * 1152 + f.val = ((2 * b.val + a.val) * 1024 + (i 0).val) * 1152 + f.val
    omega)).trans ?_
  refine (transpose_apply _ _ _ _ (ix4 (n0 := 2) (n1 := 4) (n2 := 1024) (n3 := 1152) a b (i 0) f) (by
    intro k; fin_cases k <;> rfl)).trans ?_
  exact shapeCast_apply _ _ _ (ix3 (n0 := 8) (n1 := 1024) (n2 := 1152) s (i 0) f) (by
    rewrite [Shape.rowMajor_val_four, Shape.rowMajor_val_three]
    show (s.val * 1024 + (i 0).val) * 1152 + f.val = ((a.val * 4 + b.val) * 1024 + (i 0).val) * 1152 + f.val
    omega)

/-! ### Launch by launch -/

variable (m : (ℓ : Loc nD τ sig) → Buf (Elt Ideal) ℓ) (ρ : Dev nD → PrngReg) (c : Dev nD)

abbrev X : S4096x1024.Idx → EReal := m ((c : Thread nD τ).loc main_arg0)
abbrev Wt : S1024x9216.Idx → EReal := m ((c : Thread nD τ).loc main_arg1)
abbrev Q : S4096x3072.Idx → EReal := m ((c : Thread nD τ).loc main_arg2)

theorem w1w : W1 m ρ c (Proc.devRef .tc main_v0) = Wt m c := s0w _
theorem w1q : W1 m ρ c (Proc.devRef .tc main_v1) = Q m c := s0q _
theorem w1x : W1 m ρ c (Proc.devRef .tc main_v3) = turned (X m c) := (s0x _).trans (funext fun y =>
  transpose_apply _ _ _ _ (ix2 (n0 := 4096) (n1 := 1024) (y 1) (y 0)) (by intro b; fin_cases b <;> rfl))

theorem w2 (i : S8x1024x1152.Idx) (hi : 1152 * dev (i 0).val + (i 2).val < 3072) :
    W2 m ρ c (Proc.devRef .tc main_v4) i = slots (X m c) (Q m c) i :=
  (congrFun (W2_arr m ρ c 2) i).trans (arr0 (V1 m ρ) c (w1x m ρ c) (w1q m ρ c) i hi)
theorem w2w : W2 m ρ c (Proc.devRef .tc main_v0) = Wt m c := (W2_of m ρ c main_v0 (by decide)).trans (w1w m ρ c)
theorem w2q : W2 m ρ c (Proc.devRef .tc main_v1) = Q m c := (W2_of m ρ c main_v1 (by decide)).trans (w1q m ρ c)

theorem w3x : W3 m ρ c (Proc.devRef .tc main_v11) = X m c :=
  (s1x _).trans (W2_args m ρ c main_arg0 (by decide))
theorem w3w : W3 m ρ c (Proc.devRef .tc main_v0) = Wt m c := (W3_of m ρ c main_v0 (by decide)).trans (w2w m ρ c)
theorem w3q : W3 m ρ c (Proc.devRef .tc main_v1) = Q m c := (W3_of m ρ c main_v1 (by decide)).trans (w2q m ρ c)
theorem w3g (i : S1024x3072.Idx) : W3 m ρ c (Proc.devRef .tc main_v10) i = dw (X m c) (Q m c) (i 0) (i 1) := by
  have hi : (i 1).val < 3072 := (i 1).isLt
  refine (congrFun (s1g _) i).trans ?_
  refine (unslot_apply _ i ⟨(i 1).val / 1152 % 2, by omega⟩ ⟨(i 1).val / 1152 / 2, by omega⟩ ⟨(i 1).val % 1152, by omega⟩
    ⟨4 * ((i 1).val / 1152 % 2) + (i 1).val / 1152 / 2, by omega⟩ rfl
    (by show (i 1).val = 1152 * (2 * ((i 1).val / 1152 / 2) + (i 1).val / 1152 % 2) + (i 1).val % 1152; omega)).trans ?_
  have e : 1152 * dev (4 * ((i 1).val / 1152 % 2) + (i 1).val / 1152 / 2) + (i 1).val % 1152 = (i 1).val := by unfold dev; omega
  refine (w2 m ρ c _ (lt_of_eq_of_lt e hi)).trans ?_
  unfold slots
  refine (dif_pos (lt_of_eq_of_lt e hi)).trans ?_
  exact congrArg (dw (X m c) (Q m c) (i 0)) (Fin.ext e)

theorem result_qkv : W5 m ρ c (Proc.devRef .tc main_v12) = qkv (X m c) (Wt m c) :=
  (W5_of m ρ c main_v12 (by decide)).trans ((W4_arr m ρ c 2).trans (arr1 (V3 m ρ) c (w3x m ρ c) (w3w m ρ c)))
theorem result_weights (i : S1024x3072.Idx) : W5 m ρ c (Proc.devRef .tc main_v10) i = dw (X m c) (Q m c) (i 0) (i 1) :=
  (congrFun ((W5_of m ρ c main_v10 (by decide)).trans (W4_of m ρ c main_v10 (by decide))) i).trans (w3g m ρ c i)
theorem result_input : W5 m ρ c (Proc.devRef .tc main_v13) = dx (Wt m c) (Q m c) :=
  (W5_arr m ρ c 2).trans (arr2 (V4 m ρ) c ((W4_of m ρ c main_v1 (by decide)).trans (w3q m ρ c))
    ((W4_of m ρ c main_v0 (by decide)).trans (w3w m ρ c)))

end Cert.QkvHost

end
-- ==== Proof.QkvAlgebraic.lean ====
/- The projection's claims: its programs run to the end with their arguments unchanged, and the launches leave the reference's
   projected rows and gradients. -/
module

public import proofs.«01_k».proof.Proof.QkvRun
public import proofs.«01_k».proof.Proof.QkvHost
public import proofs.«01_k».proof.Proof.Gen.Kernel4.Frame
public import proofs.«01_k».proof.Proof.Gen.Reference4Ideal.Run
public import proofs.«01_k».proof.Proof.Gen.Reference4Ideal.Read
public import proofs.«01_k».proof.Defs

@[expose] public section

noncomputable section

namespace Cert.QkvAlgebraic

open Idealize.ShloMosaic Idealize.SL.Sem Cert.Kernel4Ideal.Gen Cert.Reference4Ideal.Gen Cert.QkvBlock
open Cert.Reference4Ideal.Read Idealize.ShloMosaic.TcCoe
open scoped BigOperators

/-! ### Frames -/

theorem kernel : Cert.quiescent_Kernel4 := fun m ρ _ => Cert.Kernel4.Gen.frame m ρ

theorem kernelIdeal : Cert.quiescent_Kernel4Ideal := fun m ρ _ => Cert.Kernel4Ideal.Gen.frame m ρ

theorem referenceIdeal : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem preserves : Cert.preserves_Kernel4_Kernel4Ideal := trivial

/-! ### The reference's results -/

section reference
variable (x : Cert.Kernel4Ideal.S4096x1024.Idx → EReal) (w : Cert.Kernel4Ideal.S1024x9216.Idx → EReal) (q : Cert.Kernel4Ideal.S4096x3072.Idx → EReal)

/-- The group's columns of the weights. -/
theorem columns (k : Fin 1024) (f : Fin 3072) (j : Cert.Reference4Ideal.S1024x3072.Idx) (h0 : (j 0).val = k.val) (h1 : (j 1).val = f.val) :
    val_main_v0 (F := Ideal) w j = w (ix2 (n0 := 1024) (n1 := 9216) k (wcol f)) := by
  unfold val_main_v0
  exact extractStridedSlice_apply _ _ _ _ (ix2 (n0 := 1024) (n1 := 9216) k (wcol f)) (by
    intro a; fin_cases a
    · exact h0.symm.trans (Nat.zero_add _).symm
    · exact h1.symm.trans (Nat.zero_add _).symm)

theorem reference_qkv : val_main_v5 (F := Ideal) x w = qkv x w := by
  funext i
  refine (val_main_v1_apply x w i).trans ?_
  unfold qkv
  refine Finset.sum_congr rfl fun k _ => ?_
  exact congrArg₂ (fun a b : EReal => a * b) (congrArg x (eq_ix2 (n0 := 4096) (n1 := 1024) _)) (columns w k (i 1) _ rfl rfl)

theorem reference_weights (i : Cert.Kernel4Ideal.S1024x3072.Idx) : val_main_v6 (F := Ideal) x q i = dw x q (i 0) (i 1) := by
  have e : val_main_v6 (F := Ideal) x q i = val_main_v2 (F := Ideal) x q (ix2 (n0 := 3072) (n1 := 1024) (i 1) (i 0)) := by
    refine (val_main_v6_apply (F := Ideal) x q i).trans ?_
    unfold val_main_v3
    exact transpose_apply _ _ _ _ (ix2 (n0 := 3072) (n1 := 1024) (i 1) (i 0)) (by intro b; fin_cases b <;> rfl)
  refine e.trans ((val_main_v2_apply x q _).trans ?_)
  unfold dw
  refine Finset.sum_congr rfl fun t _ => ?_
  refine Eq.trans ?_ (mul_comm _ _)
  exact congrArg₂ (fun a b : EReal => a * b) (congrArg q (eq_ix2 (n0 := 4096) (n1 := 3072) _)) (congrArg x (eq_ix2 (n0 := 4096) (n1 := 1024) _))

theorem reference_input : val_main_v4 (F := Ideal) w q = dx w q := by
  funext i
  refine (val_main_v4_apply w q i).trans ?_
  unfold dx
  refine Finset.sum_congr rfl fun k _ => ?_
  exact congrArg₂ (fun a b : EReal => a * b) (congrArg q (eq_ix2 (n0 := 4096) (n1 := 3072) _)) (columns w (i 1) k _ rfl rfl)

end reference

theorem algebraic : Cert.algebraic_Kernel4Ideal_Reference4Ideal := by
  intro m g m' g' _ hargs
  refine ⟨fun c => qkv (Cert.QkvHost.X m c) (Cert.QkvHost.Wt m c), fun c i => dw (Cert.QkvHost.X m c) (Cert.QkvHost.Q m c) (i 0) (i 1),
    fun c => dx (Cert.QkvHost.Wt m c) (Cert.QkvHost.Q m c), ?_, ?_⟩
  · refine (θ_run Cert.Kernel4Ideal.defs _ _).mono (fun r h c => ?_) (Cert.QkvRun.run m g)
    refine ⟨(h c _ (mem_uc Cert.Kernel4Ideal.main_v12 (by decide))).trans (Cert.QkvHost.result_qkv m g c),
      (h c _ (mem_uc Cert.Kernel4Ideal.main_v10 (by decide))).trans (funext fun i => Cert.QkvHost.result_weights m g c i),
      (h c _ (mem_uc Cert.Kernel4Ideal.main_v13 (by decide))).trans (Cert.QkvHost.result_input m g c),
      (h c _ (mem_uc Cert.Kernel4Ideal.main_arg0 (by decide))).trans (W5_main_arg0 m g c),
      (h c _ (mem_uc Cert.Kernel4Ideal.main_arg1 (by decide))).trans (W5_main_arg1 m g c),
      (h c _ (mem_uc Cert.Kernel4Ideal.main_arg2 (by decide))).trans (W5_main_arg2 m g c)⟩
  · refine (θ_run Cert.Reference4Ideal.defs _ _).mono (fun r h c => ?_) (Cert.Reference4Ideal.Value.run (F := Ideal) m' g')
    obtain ⟨e0, e1, e2⟩ := hargs c
    obtain ⟨k0, k1, k2, hk⟩ := h c
    refine ⟨k0.trans ((val_main_v5_eq (F := Ideal) _ _).trans ?_), k1.trans ((val_main_v6_eq (F := Ideal) _ _).trans ?_),
      k2.trans ((val_main_v4_eq (F := Ideal) _ _).trans ?_), hk⟩
    · exact (congrArg₂ (val_main_v5 (F := Ideal)) e0 e1).trans (reference_qkv _ _)
    · exact (congrArg₂ (val_main_v6 (F := Ideal)) e0 e2).trans (funext fun i => reference_weights _ _ i)
    · exact (congrArg₂ (val_main_v4 (F := Ideal)) e1 e2).trans (reference_input _ _)

end Cert.QkvAlgebraic

end
-- ==== Proof.SubRun.lean ====
/- The run of the program that projects into subsequences: each core ends with every buffer at the contents the launches and the
   host operations between them leave. -/
module

public import proofs.«01_k».proof.Proof.Gen.Kernel5Ideal.Frame

@[expose] public section

set_option maxRecDepth 16384

noncomputable section

namespace Cert.SubRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.SubRun

end
-- ==== Proof.Strided.lean ====
/- Rows sorted into subsequences, and back, by a scratch buffer of 128-column chunks with strided stores or loads, and subsequences copied
   side by side: what the stores leave is one function of what was stored, for any number of subsequences. -/
module

public import Idealize.ShloMosaic.Lib.Pipeline.ValueKit
public import Idealize.ShloMosaic.Lib.Pointwise

@[expose] public section

set_option maxRecDepth 16384
set_option backward.isDefEq.respectTransparency false

noncomputable section

namespace Cert.Strided

open Idealize.ShloMosaic Idealize.ShloMosaic.TcCoe Idealize.SL.Sem

/-! ### Loads of what stores of one function leave -/

/-- A load after stores that all hold `G`, and that hold all of the buffer, holds `G`. -/
theorem read_of {s : Shape} {e : EltTy} {sig : RefSig} {κ : Kind} {sp : Space} (v : View sig κ sp s e) (G : s.Idx → Elt Ideal e)
    (L : List (View.Piece (Elt Ideal) s e)) (hL : ∀ p ∈ L, ∀ x : p.1.shape.Idx, p.2 x = G (p.1.emb x))
    (hc : ∀ y, ∃ p ∈ L, y ∈ p.1.set) (B : LoadRect s) : v.readCov L B = fun j => G (B.idx j) := by
  rw [View.readCov_eq_canon']
  funext j
  exact View.canon_apply_of_pieces G L hL _ (hc _)

/-- Where a store's rectangle lies, in three axes. -/
def place {n0 n1 n2 : ℕ} {e : EltTy} (p : View.Piece (Elt Ideal) ⟨3, ![n0, n1, n2]⟩ e) :
    (ℕ × ℕ × ℕ) × (ℕ × ℕ × ℕ) × (ℕ × ℕ × ℕ) :=
  ((p.1.off 0, p.1.off 1, p.1.off 2), (p.1.size 0, p.1.size 1, p.1.size 2), (p.1.stride 0, p.1.stride 1, p.1.stride 2))

/-- A store at `(j, s, 0)`, of one row of every `d`, holds the indices `(j, s + d n, l)`. -/
theorem mem_place {n0 n1 n2 : ℕ} {e : EltTy} (L : List (View.Piece (Elt Ideal) ⟨3, ![n0, n1, n2]⟩ e)) (j s m d : ℕ)
    (h : ((j, s, 0), (1, m, n2), (1, d, 1)) ∈ L.map place) (y : (⟨3, ![n0, n1, n2]⟩ : Shape).Idx) (h0 : (y 0).val = j)
    (n : ℕ) (hn : n < m) (h1 : (y 1).val = s + d * n) : ∃ p ∈ L, y ∈ p.1.set := by
  obtain ⟨p, hp, e⟩ := List.mem_map.1 h
  refine ⟨p, hp, (LoadRect.mem_set p.1.toLoadRect).2 fun a => ?_⟩
  unfold place at e
  simp only [Prod.mk.injEq] at e
  obtain ⟨⟨o0, o1, o2⟩, ⟨z0, z1, z2⟩, t0, t1, t2⟩ := e
  have h2 : (y 2).val < n2 := (y 2).isLt
  match a with
  | ⟨0, _⟩ => exact ⟨0, by show 0 < p.1.size 0; omega, by show (y 0).val = p.1.off 0 + p.1.stride 0 * 0; omega⟩
  | ⟨1, _⟩ => exact ⟨n, by show n < p.1.size 1; omega, by show (y 1).val = p.1.off 1 + p.1.stride 1 * n; rw [o1, t1, h1]⟩
  | ⟨2, _⟩ => exact ⟨(y 2).val, by show (y 2).val < p.1.size 2; omega, by show (y 2).val = p.1.off 2 + p.1.stride 2 * (y 2).val; rw [o2, t2]; omega⟩

/-- Pieces of 128 columns, side by side. -/
theorem cat {N m M : ℕ} (hM : M = 128 * N) (Q : Fin m → Fin M → EReal) (v : Fin N → Vec Ideal ⟨3, ![1, m, 128]⟩ .f32)
    (hv : ∀ (j : Fin N) (r : Fin m) (l : Fin 128), v j (ix3 (n0 := 1) (n1 := m) (n2 := 128) 0 r l) = Q r ⟨128 * j.val + l.val, by omega⟩)
    (h1 h2) (x : (⟨2, ![m, M]⟩ : Shape).Idx) :
    concatenate ⟨2, ![m, M]⟩ 1 (List.ofFn fun j : Fin N => ⟨⟨2, ![m, 128]⟩, shapeCast ⟨2, ![m, 128]⟩ (v j) h1⟩) h2 x = Q (x 0) (x 1) := by
  have hx1 : (x 1).val < M := (x 1).isLt
  refine (concatenate_ofFn_apply (t := ⟨2, ![m, M]⟩) (s₁ := ⟨2, ![m, 128]⟩) 1
    (fun j : Fin N => shapeCast ⟨2, ![m, 128]⟩ (v j) h1) _ rfl 128 rfl _ ⟨(x 1).val / 128, by omega⟩ rfl
    (ix2 (n0 := m) (n1 := 128) (x 0) ⟨(x 1).val % 128, by omega⟩) rfl (fun b hb => ?_)).trans ?_
  · match b with
    | ⟨0, _⟩ => rfl
    | ⟨1, _⟩ => exact absurd rfl hb
  · rw [shapeCast_apply _ _ _ (ix3 (n0 := 1) (n1 := m) (n2 := 128) 0 (x 0) ⟨(x 1).val % 128, by omega⟩) (by
      rewrite [Shape.rowMajor_val_three, Shape.rowMajor_val_two]
      show (0 * m + (x 0).val) * 128 + (x 1).val % 128 = (x 0).val * 128 + (x 1).val % 128
      omega), hv]
    exact congrArg (Q (x 0)) (Fin.ext (by show 128 * ((x 1).val / 128) + (x 1).val % 128 = (x 1).val; omega))

/-- Row `n` of the subsequence `s`, among all rows. -/
theorem row_lt {d m n s T : ℕ} (hT : d * m = T) (hn : n < m) (hs : s < d) : d * n + s < T :=
  calc d * n + s < d * n + d := by omega
    _ = d * (n + 1) := by ring
    _ ≤ d * m := Nat.mul_le_mul_left d hn
    _ = T := hT

/-! ### Rows to their subsequences -/

/-- A product's columns in chunks of 128. -/
def chunks {N T M : ℕ} (hM : M = 128 * N) (P : (⟨2, ![T, M]⟩ : Shape).Idx → EReal) : (⟨3, ![N, T, 128]⟩ : Shape).Idx → EReal := fun i =>
  P (ix2 (n0 := T) (n1 := M) (i 1) ⟨128 * (i 0).val + (i 2).val, by
    have : (i 0).val < N := (i 0).isLt; have : (i 2).val < 128 := (i 2).isLt; omega⟩)

theorem chunk_store {N T M : ℕ} (hM : M = 128 * N) (P : (⟨2, ![T, M]⟩ : Shape).Idx → EReal) (j o : ℕ) (ho : o = 128 * j) (h1 h2 h3)
    (x : (⟨3, ![1, T, 128]⟩ : Shape).Idx) :
    shapeCast ⟨3, ![1, T, 128]⟩ (extractStridedSlice ⟨2, ![T, 128]⟩ ![0, o] P h1) h2 x
      = chunks hM P ((Rect.unit (s := ⟨3, ![N, T, 128]⟩) ![j, 0, 0] ![1, T, 128] h3).emb x) := by
  have hx : (x 0).val < 1 := (x 0).isLt
  rw [shapeCast_apply _ _ _ (ix2 (n0 := T) (n1 := 128) (x 1) (x 2)) (by
    rewrite [Shape.rowMajor_val_three, Shape.rowMajor_val_two]
    show (x 1).val * 128 + (x 2).val = ((x 0).val * T + (x 1).val) * 128 + (x 2).val
    rw [Nat.lt_one_iff.1 hx]; omega)]
  refine extractStridedSlice_apply _ _ _ _ _ fun a => ?_
  match a with
  | ⟨0, _⟩ => show 0 + 1 * (x 1).val = 0 + (x 1).val; omega
  | ⟨1, _⟩ => show 128 * (j + 1 * (x 0).val) + (0 + 1 * (x 2).val) = o + (x 2).val; omega

/-- A load of every `d`-th row of a chunk. -/
theorem chunk_load {N T M d m : ℕ} (hM : M = 128 * N) (hT : d * m = T) (P : (⟨2, ![T, M]⟩ : Shape).Idx → EReal) {sig : RefSig}
    (v : View sig .tc .vmem ⟨3, ![N, T, 128]⟩ .f32) (L : List (View.Piece (Elt Ideal) ⟨3, ![N, T, 128]⟩ .f32))
    (hL : ∀ p ∈ L, ∀ x : p.1.shape.Idx, p.2 x = chunks hM P (p.1.emb x)) (hc : ∀ y, ∃ p ∈ L, y ∈ p.1.set) (r : ℕ) (hr : r < d)
    (j : Fin N) (n : Fin m) (l : Fin 128) (h) :
    v.readCov L ⟨![j.val, r, 0], ![1, m, 128], ![1, d, 1], h⟩ (ix3 (n0 := 1) (n1 := m) (n2 := 128) 0 n l)
      = P (ix2 (n0 := T) (n1 := M) ⟨d * n.val + r, row_lt hT n.isLt hr⟩ ⟨128 * j.val + l.val, by omega⟩) := by
  refine (congrFun (read_of v _ L hL hc ⟨![j.val, r, 0], ![1, m, 128], ![1, d, 1], h⟩) _).trans ?_
  unfold chunks
  refine congrArg P (funext fun a => Fin.ext ?_)
  match a with
  | ⟨0, _⟩ => show r + d * n.val = d * n.val + r; omega
  | ⟨1, _⟩ => show 128 * (j.val + 1 * 0) + (0 + 1 * l.val) = 128 * j.val + l.val; omega

/-- Six loads of every `d`-th row from the row `r` on, side by side: a product's rows of one subsequence. -/
theorem gathered {T d m : ℕ} (hT : d * m = T) (P : (⟨2, ![T, 768]⟩ : Shape).Idx → EReal) {sig : RefSig}
    (v : View sig .tc .vmem ⟨3, ![6, T, 128]⟩ .f32) (L : List (View.Piece (Elt Ideal) ⟨3, ![6, T, 128]⟩ .f32))
    (hL : ∀ p ∈ L, ∀ x : p.1.shape.Idx, p.2 x = chunks (N := 6) rfl P (p.1.emb x)) (hc : ∀ y, ∃ p ∈ L, y ∈ p.1.set) (r : ℕ) (hr : r < d)
    (hj : ∀ (j : Fin 6) (a : Fin 3), (![1, m, 128] : Fin 3 → ℕ) a = 0
      ∨ (![j.val, r, 0] : Fin 3 → ℕ) a + (![1, d, 1] : Fin 3 → ℕ) a * ((![1, m, 128] : Fin 3 → ℕ) a - 1) < (![6, T, 128] : Fin 3 → ℕ) a)
    (h1) (h2 : Shape.Concatenates (List.replicate 6 ⟨2, ![m, 128]⟩) ⟨2, ![m, 768]⟩ 1) (h3 h4 h5) (x : (⟨3, ![1, m, 768]⟩ : Shape).Idx) :
    shapeCast ⟨3, ![1, m, 768]⟩ (truncf (F := Ideal) .bf16 (concatenate (α := Ideal .f32) ⟨2, ![m, 768]⟩ 1
      [⟨⟨2, ![m, 128]⟩, shapeCast ⟨2, ![m, 128]⟩ (v.readCov L ⟨![0, r, 0], ![1, m, 128], ![1, d, 1], hj 0⟩) h1⟩,
        ⟨⟨2, ![m, 128]⟩, shapeCast ⟨2, ![m, 128]⟩ (v.readCov L ⟨![1, r, 0], ![1, m, 128], ![1, d, 1], hj 1⟩) h1⟩,
        ⟨⟨2, ![m, 128]⟩, shapeCast ⟨2, ![m, 128]⟩ (v.readCov L ⟨![2, r, 0], ![1, m, 128], ![1, d, 1], hj 2⟩) h1⟩,
        ⟨⟨2, ![m, 128]⟩, shapeCast ⟨2, ![m, 128]⟩ (v.readCov L ⟨![3, r, 0], ![1, m, 128], ![1, d, 1], hj 3⟩) h1⟩,
        ⟨⟨2, ![m, 128]⟩, shapeCast ⟨2, ![m, 128]⟩ (v.readCov L ⟨![4, r, 0], ![1, m, 128], ![1, d, 1], hj 4⟩) h1⟩,
        ⟨⟨2, ![m, 128]⟩, shapeCast ⟨2, ![m, 128]⟩ (v.readCov L ⟨![5, r, 0], ![1, m, 128], ![1, d, 1], hj 5⟩) h1⟩] h2 : FVec Ideal ⟨2, ![m, 768]⟩ .f32) h3) h4 x
      = (fun i : (⟨3, ![d, m, 768]⟩ : Shape).Idx => P (ix2 (n0 := T) (n1 := 768) ⟨d * (i 1).val + (i 0).val, row_lt hT (i 1).isLt (i 0).isLt⟩ (i 2)))
        ((Rect.unit (s := ⟨3, ![d, m, 768]⟩) ![r, 0, 0] ![1, m, 768] h5).emb x) := by
  have hx : (x 0).val < 1 := (x 0).isLt
  refine (shapeCast_apply _ _ _ (ix2 (n0 := m) (n1 := 768) (x 1) (x 2)) (by
    rewrite [Shape.rowMajor_val_three, Shape.rowMajor_val_two]
    show (x 1).val * 768 + (x 2).val = ((x 0).val * m + (x 1).val) * 768 + (x 2).val
    rw [Nat.lt_one_iff.1 hx]; omega)).trans ?_
  refine (cat (N := 6) rfl (fun (n : Fin m) f => P (ix2 (n0 := T) (n1 := 768) ⟨d * n.val + r, row_lt hT n.isLt hr⟩ f))
    (fun j : Fin 6 => v.readCov L ⟨![j.val, r, 0], ![1, m, 128], ![1, d, 1], hj j⟩)
    (fun j n l => chunk_load (N := 6) rfl hT P v L hL hc r hr j n l _) h1 h2 (ix2 (n0 := m) (n1 := 768) (x 1) (x 2))).trans ?_
  refine congrArg P (funext fun a => Fin.ext ?_)
  match a with
  | ⟨0, _⟩ => show d * (x 1).val + r = d * (0 + 1 * (x 1).val) + (r + 1 * (x 0).val); rw [Nat.lt_one_iff.1 hx]; simp
  | ⟨1, _⟩ => show (x 2).val = 0 + 1 * (x 2).val; omega

/-! ### Rows back from their subsequences -/

/-- Where a row is among the subsequences, one after another. -/
theorem sub_lt {d m t T : ℕ} (hT : d * m = T) (hd : 0 < d) (ht : t < T) : m * (t % d) + t / d < T := by
  have h1 : t / d < m := (Nat.div_lt_iff_lt_mul hd).2 (by rw [Nat.mul_comm]; omega)
  have h2 := row_lt (d := m) (m := d) (T := T) (by rw [Nat.mul_comm]; exact hT) (Nat.mod_lt t hd) h1
  exact h2

/-- A product's columns in chunks of 128, its rows `m s + n` of subsequence `s` at the rows `d n + s`. -/
def scattered {N T M d m : ℕ} (hM : M = 128 * N) (hT : d * m = T) (hd : 0 < d) (P : (⟨2, ![T, M]⟩ : Shape).Idx → EReal) :
    (⟨3, ![N, T, 128]⟩ : Shape).Idx → EReal := fun i =>
  P (ix2 (n0 := T) (n1 := M) ⟨m * ((i 1).val % d) + (i 1).val / d, sub_lt hT hd (i 1).isLt⟩
    ⟨128 * (i 0).val + (i 2).val, by have : (i 0).val < N := (i 0).isLt; have : (i 2).val < 128 := (i 2).isLt; omega⟩)

theorem scatter_store {N T M d m : ℕ} (hM : M = 128 * N) (hT : d * m = T) (hd : 0 < d) (P : (⟨2, ![T, M]⟩ : Shape).Idx → EReal)
    (j s q o : ℕ) (hs : s < d) (hq : q = m * s) (ho : o = 128 * j) (h0 h1 h2 h3 h4) (x : (⟨3, ![1, m, 128]⟩ : Shape).Idx) :
    shapeCast ⟨3, ![1, m, 128]⟩ (extractStridedSlice ⟨2, ![m, 128]⟩ ![0, o] (extractStridedSlice ⟨2, ![m, M]⟩ ![q, 0] P h0) h1) h2 x
      = scattered hM hT hd P (({ off := ![j, s, 0], size := ![1, m, 128], stride := ![1, d, 1], inb := h3, stride_pos := h4 } :
          Rect ⟨3, ![N, T, 128]⟩).emb x) := by
  have hx : (x 0).val < 1 := (x 0).isLt
  have hx2 : (x 2).val < 128 := (x 2).isLt
  have e1 : (s + d * (x 1).val) % d = s := by rw [Nat.add_mul_mod_self_left]; exact Nat.mod_eq_of_lt hs
  have e2 : (s + d * (x 1).val) / d = (x 1).val := by rw [Nat.add_mul_div_left _ _ hd, Nat.div_eq_of_lt hs]; omega
  have ho' : o + 128 ≤ M := h1.2 1
  rw [shapeCast_apply _ _ _ (ix2 (n0 := m) (n1 := 128) (x 1) (x 2)) (by
    rewrite [Shape.rowMajor_val_three, Shape.rowMajor_val_two]
    show (x 1).val * 128 + (x 2).val = ((x 0).val * m + (x 1).val) * 128 + (x 2).val
    rw [Nat.lt_one_iff.1 hx]; omega)]
  refine (extractStridedSlice_apply _ _ _ _ (ix2 (n0 := m) (n1 := M) (x 1) ⟨o + (x 2).val, by omega⟩) fun a => ?_).trans
    (extractStridedSlice_apply _ _ _ _ _ fun a => ?_)
  · match a with
    | ⟨0, _⟩ => show (x 1).val = 0 + (x 1).val; omega
    | ⟨1, _⟩ => rfl
  · match a with
    | ⟨0, _⟩ => show m * ((s + d * (x 1).val) % d) + (s + d * (x 1).val) / d = q + (x 1).val; rw [e1, e2, hq]
    | ⟨1, _⟩ => show 128 * (j + 1 * (x 0).val) + (0 + 1 * (x 2).val) = 0 + (o + (x 2).val); omega

/-- A load of all rows of a chunk. -/
theorem scatter_load {N T M d m : ℕ} (hM : M = 128 * N) (hT : d * m = T) (hd : 0 < d) (P : (⟨2, ![T, M]⟩ : Shape).Idx → EReal) {sig : RefSig}
    (v : View sig .tc .vmem ⟨3, ![N, T, 128]⟩ .f32) (L : List (View.Piece (Elt Ideal) ⟨3, ![N, T, 128]⟩ .f32))
    (hL : ∀ p ∈ L, ∀ x : p.1.shape.Idx, p.2 x = scattered hM hT hd P (p.1.emb x)) (hc : ∀ y, ∃ p ∈ L, y ∈ p.1.set)
    (j : Fin N) (n : Fin T) (l : Fin 128) (h) :
    v.readCov L (Rect.unit (s := ⟨3, ![N, T, 128]⟩) ![j.val, 0, 0] ![1, T, 128] h).toLoadRect (ix3 (n0 := 1) (n1 := T) (n2 := 128) 0 n l)
      = P (ix2 (n0 := T) (n1 := M) ⟨m * (n.val % d) + n.val / d, sub_lt hT hd n.isLt⟩ ⟨128 * j.val + l.val, by omega⟩) := by
  refine (congrFun (read_of v _ L hL hc (Rect.unit (s := ⟨3, ![N, T, 128]⟩) ![j.val, 0, 0] ![1, T, 128] h).toLoadRect) _).trans ?_
  unfold scattered
  have e : 0 + 1 * n.val = n.val := by omega
  refine congrArg P (funext fun a => Fin.ext ?_)
  match a with
  | ⟨0, _⟩ => show m * ((0 + 1 * n.val) % d) + (0 + 1 * n.val) / d = m * (n.val % d) + n.val / d; rw [e]
  | ⟨1, _⟩ => show 128 * (j.val + 1 * 0) + (0 + 1 * l.val) = 128 * j.val + l.val; omega

/-- Eight loads of all rows of a chunk, side by side: a product's rows in their order. -/
theorem ordered {T d m : ℕ} (hT : d * m = T) (hd : 0 < d) (P : (⟨2, ![T, 1024]⟩ : Shape).Idx → EReal) {sig : RefSig}
    (v : View sig .tc .vmem ⟨3, ![8, T, 128]⟩ .f32) (L : List (View.Piece (Elt Ideal) ⟨3, ![8, T, 128]⟩ .f32))
    (hL : ∀ p ∈ L, ∀ x : p.1.shape.Idx, p.2 x = scattered (N := 8) rfl hT hd P (p.1.emb x)) (hc : ∀ y, ∃ p ∈ L, y ∈ p.1.set)
    (hj : ∀ (j : Fin 8) (a : Fin 3), (![j.val, 0, 0] : Fin 3 → ℕ) a + (![1, T, 128] : Fin 3 → ℕ) a ≤ (![8, T, 128] : Fin 3 → ℕ) a)
    (h1) (h2 : Shape.Concatenates (List.replicate 8 ⟨2, ![T, 128]⟩) ⟨2, ![T, 1024]⟩ 1) (x : (⟨2, ![T, 1024]⟩ : Shape).Idx) :
    concatenate ⟨2, ![T, 1024]⟩ 1
      [⟨⟨2, ![T, 128]⟩, shapeCast ⟨2, ![T, 128]⟩ (v.readCov L (Rect.unit ![0, 0, 0] ![1, T, 128] (hj 0)).toLoadRect) h1⟩,
        ⟨⟨2, ![T, 128]⟩, shapeCast ⟨2, ![T, 128]⟩ (v.readCov L (Rect.unit ![1, 0, 0] ![1, T, 128] (hj 1)).toLoadRect) h1⟩,
        ⟨⟨2, ![T, 128]⟩, shapeCast ⟨2, ![T, 128]⟩ (v.readCov L (Rect.unit ![2, 0, 0] ![1, T, 128] (hj 2)).toLoadRect) h1⟩,
        ⟨⟨2, ![T, 128]⟩, shapeCast ⟨2, ![T, 128]⟩ (v.readCov L (Rect.unit ![3, 0, 0] ![1, T, 128] (hj 3)).toLoadRect) h1⟩,
        ⟨⟨2, ![T, 128]⟩, shapeCast ⟨2, ![T, 128]⟩ (v.readCov L (Rect.unit ![4, 0, 0] ![1, T, 128] (hj 4)).toLoadRect) h1⟩,
        ⟨⟨2, ![T, 128]⟩, shapeCast ⟨2, ![T, 128]⟩ (v.readCov L (Rect.unit ![5, 0, 0] ![1, T, 128] (hj 5)).toLoadRect) h1⟩,
        ⟨⟨2, ![T, 128]⟩, shapeCast ⟨2, ![T, 128]⟩ (v.readCov L (Rect.unit ![6, 0, 0] ![1, T, 128] (hj 6)).toLoadRect) h1⟩,
        ⟨⟨2, ![T, 128]⟩, shapeCast ⟨2, ![T, 128]⟩ (v.readCov L (Rect.unit ![7, 0, 0] ![1, T, 128] (hj 7)).toLoadRect) h1⟩] h2 x
      = P (ix2 (n0 := T) (n1 := 1024) ⟨m * ((x 0).val % d) + (x 0).val / d, sub_lt hT hd (x 0).isLt⟩ (x 1)) :=
  cat (N := 8) rfl (fun (n : Fin T) f => P (ix2 (n0 := T) (n1 := 1024) ⟨m * (n.val % d) + n.val / d, sub_lt hT hd n.isLt⟩ f))
    (fun j : Fin 8 => v.readCov L (Rect.unit (s := ⟨3, ![8, T, 128]⟩) ![j.val, 0, 0] ![1, T, 128] (hj j)).toLoadRect)
    (fun j n l => scatter_load (N := 8) rfl hT hd P v L hL hc j n l _) h1 h2 x

/-! ### Subsequences side by side -/

/-- A load of all of the buffer. -/
theorem read_all {n0 n1 : ℕ} {e : EltTy} {sig : RefSig} (v : View sig .tc .vmem ⟨2, ![n0, n1]⟩ e) (G : (⟨2, ![n0, n1]⟩ : Shape).Idx → Elt Ideal e)
    (L : List (View.Piece (Elt Ideal) ⟨2, ![n0, n1]⟩ e)) (hL : ∀ p ∈ L, ∀ x : p.1.shape.Idx, p.2 x = G (p.1.emb x))
    (hc : ∀ y, ∃ p ∈ L, y ∈ p.1.set) (h) : v.readCov L (Rect.unit (s := ⟨2, ![n0, n1]⟩) ![0, 0] ![n0, n1] h).toLoadRect = G := by
  refine (read_of v G L hL hc _).trans (funext fun j => congrArg G (funext fun k => Fin.ext ?_))
  match k with
  | ⟨0, _⟩ => show 0 + 1 * (j 0).val = (j 0).val; omega
  | ⟨1, _⟩ => show 0 + 1 * (j 1).val = (j 1).val; omega

/-- The columns of `d` arrays, side by side. -/
def beside {d n R T : ℕ} (hT : d * n = T) (hn : 0 < n) (a : (⟨3, ![d, R, n]⟩ : Shape).Idx → EReal) : (⟨2, ![R, T]⟩ : Shape).Idx → EReal := fun i =>
  a (ix3 (n0 := d) (n1 := R) (n2 := n) ⟨(i 1).val / n, (Nat.div_lt_iff_lt_mul hn).2 (lt_of_lt_of_eq (i 1).isLt hT.symm)⟩ (i 0)
    ⟨(i 1).val % n, Nat.mod_lt _ hn⟩)

theorem beside_store {d n R T : ℕ} (hT : d * n = T) (hn : 0 < n) (a : Vec Ideal ⟨3, ![d, R, n]⟩ .bf16) (s o : ℕ) (ho : o = n * s) (h0 h1 h2 h3)
    (x : (⟨2, ![R, n]⟩ : Shape).Idx) :
    shapeCast ⟨2, ![R, n]⟩ (shapeCast ⟨2, ![R, n]⟩ (View.ld a (Rect.unit (s := ⟨3, ![d, R, n]⟩) ![s, 0, 0] ![1, R, n] h0)) h1) h2 x
      = beside hT hn a ((Rect.unit (s := ⟨2, ![R, T]⟩) ![0, o] ![R, n] h3).emb x) := by
  have hx1 : (x 1).val < n := (x 1).isLt
  have e1 : (n * s + 1 * (x 1).val) / n = s := by rw [Nat.one_mul, Nat.mul_add_div hn, Nat.div_eq_of_lt hx1]; rfl
  have e2 : (n * s + 1 * (x 1).val) % n = (x 1).val := by rw [Nat.one_mul, Nat.mul_add_mod, Nat.mod_eq_of_lt hx1]
  subst ho
  rw [shapeCast_apply _ _ _ x rfl, shapeCast_apply _ _ _ (ix3 (n0 := 1) (n1 := R) (n2 := n) 0 (x 0) (x 1)) (by
    rewrite [Shape.rowMajor_val_three, Shape.rowMajor_val_two]
    show (0 * R + (x 0).val) * n + (x 1).val = (x 0).val * n + (x 1).val
    rw [Nat.zero_mul, Nat.zero_add])]
  unfold beside View.ld
  refine congrArg a (funext fun k => Fin.ext ?_)
  match k with
  | ⟨0, _⟩ => show s + 1 * 0 = (n * s + 1 * (x 1).val) / n; rw [e1]; rfl
  | ⟨1, _⟩ => rfl
  | ⟨2, _⟩ => show 0 + 1 * (x 1).val = (n * s + 1 * (x 1).val) % n; rw [e2]; omega

/-- Where a store's rectangle lies, in two axes. -/
def place2 {n0 n1 : ℕ} {e : EltTy} (p : View.Piece (Elt Ideal) ⟨2, ![n0, n1]⟩ e) : (ℕ × ℕ) × (ℕ × ℕ) × (ℕ × ℕ) :=
  ((p.1.off 0, p.1.off 1), (p.1.size 0, p.1.size 1), (p.1.stride 0, p.1.stride 1))

/-- A store of `n` whole columns, from the column `o` on, holds these columns. -/
theorem mem_strip {n0 n1 : ℕ} {e : EltTy} (L : List (View.Piece (Elt Ideal) ⟨2, ![n0, n1]⟩ e)) (o n : ℕ)
    (h : ((0, o), (n0, n), (1, 1)) ∈ L.map place2) (y : (⟨2, ![n0, n1]⟩ : Shape).Idx) (h0 : o ≤ (y 1).val) (h1 : (y 1).val < o + n) :
    ∃ p ∈ L, y ∈ p.1.set := by
  obtain ⟨p, hp, e⟩ := List.mem_map.1 h
  refine ⟨p, hp, (LoadRect.mem_set p.1.toLoadRect).2 fun a => ?_⟩
  unfold place2 at e
  simp only [Prod.mk.injEq] at e
  obtain ⟨⟨o0, o1⟩, ⟨z0, z1⟩, t0, t1⟩ := e
  have hy : (y 0).val < n0 := (y 0).isLt
  match a with
  | ⟨0, _⟩ => exact ⟨(y 0).val, by show (y 0).val < p.1.size 0; omega, by show (y 0).val = p.1.off 0 + p.1.stride 0 * (y 0).val; rw [o0, t0]; omega⟩
  | ⟨1, _⟩ => exact ⟨(y 1).val - o, by show (y 1).val - o < p.1.size 1; omega,
      by show (y 1).val = p.1.off 1 + p.1.stride 1 * ((y 1).val - o); rw [o1, t1]; omega⟩

end Cert.Strided

end
-- ==== Proof.SubBlock.lean ====
/- A group's projection where the rows go to their subsequences and back: what the two launches' stores and strided loads make of a
   product. -/
module

public import proofs.«01_k».proof.Proof.Gen.Kernel5Ideal.Frame
public import proofs.«01_k».proof.Proof.Strided
public import Idealize.ShloMosaic.Lib.Pipeline.ValueKit
public import Idealize.ShloMosaic.Lib.Pointwise

@[expose] public section

set_option maxRecDepth 16384
set_option backward.isDefEq.respectTransparency false

noncomputable section

namespace Cert.SubBlock

open Cert.Kernel5Ideal Cert.Kernel5Ideal.Gen Cert.Strided
open Idealize.ShloMosaic Idealize.ShloMosaic.TcCoe Idealize.SL.Sem
open scoped BigOperators

variable (V : (c : Dev nD) → (b : Ref sig .tc) → Buf (Elt Ideal) ((c : Thread nD τ).loc b)) (c : Dev nD)

/-- The chunks of a product, as the first launch stores them. -/
def stored (a : Vec Ideal S1024x1024 .bf16) (b : Vec Ideal S1024x768 .bf16) : List (View.Piece (Elt Ideal) S6x1024x128 .f32) :=
  [⟨Rect.unit ![5, 0, 0] ![1, 1024, 128] inb_S6x1024x128_S1x1024x128_5_0_0, k0_pay8 a b⟩,
    ⟨Rect.unit ![4, 0, 0] ![1, 1024, 128] inb_S6x1024x128_S1x1024x128_4_0_0, k0_pay7 a b⟩,
    ⟨Rect.unit ![3, 0, 0] ![1, 1024, 128] inb_S6x1024x128_S1x1024x128_3_0_0, k0_pay6 a b⟩,
    ⟨Rect.unit ![2, 0, 0] ![1, 1024, 128] inb_S6x1024x128_S1x1024x128_2_0_0, k0_pay5 a b⟩,
    ⟨Rect.unit ![1, 0, 0] ![1, 1024, 128] inb_S6x1024x128_S1x1024x128_1_0_0, k0_pay4 a b⟩,
    ⟨Rect.unit ![0, 0, 0] ![1, 1024, 128] inb_S6x1024x128_S1x1024x128_0_0_0, k0_pay3 a b⟩]

theorem stored_hold (a : Vec Ideal S1024x1024 .bf16) (b : Vec Ideal S1024x768 .bf16) :
    ∀ p ∈ stored a b, ∀ x : p.1.shape.Idx, p.2 x = chunks (N := 6) rfl (k0_pay2 a b) (p.1.emb x) := by
  unfold stored
  repeat refine List.forall_mem_cons.2 ⟨fun x => chunk_store (N := 6) rfl (k0_pay2 a b) _ _ (by rfl) (by decide) (by decide) (by decide) x, ?_⟩
  exact fun p hp => absurd hp List.not_mem_nil

theorem stored_cover (a : Vec Ideal S1024x1024 .bf16) (b : Vec Ideal S1024x768 .bf16) (y : S6x1024x128.Idx) : ∃ p ∈ stored a b, y ∈ p.1.set := by
  refine mem_place _ (y 0).val 0 1024 1 ?_ y rfl (y 1).val (y 1).isLt (by omega)
  exact (by decide : ∀ j : Fin 6, ((j.val, 0, 0), (1, 1024, 128), (1, 1, 1)) ∈ List.ofFn fun n : Fin 6 => ((5 - n.val, 0, 0), (1, 1024, 128), (1, 1, 1))) (y 0)

theorem block0 (t : Fin cfg0.N) (y : S4x256x768.Idx) : outsAt0 V c t y = k0_pay2 (iblk0 V c 0 t) (iblk0 V c 1 t)
    (ix2 (n0 := 1024) (n1 := 768)
      ⟨4 * (y 1).val + (y 0).val, by have : (y 0).val < 4 := (y 0).isLt; have : (y 1).val < 256 := (y 1).isLt; omega⟩ (y 2)) := by
  unfold outsAt0
  generalize iblk0 V c 0 t = a
  generalize iblk0 V c 1 t = b
  frame_out
  refine View.canon_apply_of_pieces (Val := Elt Ideal) (e := .bf16) (fun i : S4x256x768.Idx => k0_pay2 a b (ix2 (n0 := 1024) (n1 := 768)
      ⟨4 * (i 1).val + (i 0).val, by have : (i 0).val < 4 := (i 0).isLt; have : (i 1).val < 256 := (i 1).isLt; omega⟩ (i 2))) _ ?_ y ?_
  · repeat refine List.forall_mem_cons.2 ⟨fun x => gathered (d := 4) (m := 256) rfl (k0_pay2 a b) _ (stored a b) (stored_hold a b) (stored_cover a b) _
      (by decide) (by decide) (by decide) (by decide) (by decide) (by decide) (by decide) x, ?_⟩
    exact fun p hp => absurd hp List.not_mem_nil
  · refine mem_place _ (y 0).val 0 256 1 ?_ y rfl (y 1).val (y 1).isLt (by omega)
    exact (by decide : ∀ j : Fin 4, ((j.val, 0, 0), (1, 256, 768), (1, 1, 1)) ∈ List.ofFn fun n : Fin 4 => ((3 - n.val, 0, 0), (1, 256, 768), (1, 1, 1))) (y 0)

theorem block1 (t : Fin cfg1.N) (y : S512x1024.Idx) : outsAt1 V c t y = k1_pay2 (iblk1 V c 0 t) (iblk1 V c 1 t)
    (ix2 (n0 := 512) (n1 := 1024) ⟨128 * ((y 0).val % 4) + (y 0).val / 4, by have : (y 0).val < 512 := (y 0).isLt; omega⟩ (y 1)) := by
  unfold outsAt1
  generalize iblk1 V c 0 t = a
  generalize iblk1 V c 1 t = b
  frame_out
  refine ordered (d := 4) (m := 128) rfl (by decide) (k1_pay2 a b) _ _ ?_ (fun i => ?_) (by decide) (by decide) (by decide) y
  · repeat refine List.forall_mem_cons.2 ⟨fun x => scatter_store (N := 8) (d := 4) (m := 128) rfl rfl (by decide) (k1_pay2 a b) _ _ _ _ (by decide) (by rfl) (by rfl)
      (by decide) (by decide) (by decide) (by decide) (by decide) x, ?_⟩
    exact fun p hp => absurd hp List.not_mem_nil
  · have hi : (i 1).val < 512 := (i 1).isLt
    refine mem_place _ (i 0).val ((i 1).val % 4) 128 4 ?_ i rfl ((i 1).val / 4) (by omega) (by omega)
    exact (by decide : ∀ (j : Fin 8) (s : Fin 4), ((j.val, s.val, 0), (1, 128, 128), (1, 4, 1)) ∈
      List.ofFn fun n : Fin 32 => ((7 - n.val % 8, 3 - n.val / 8, 0), (1, 128, 128), (1, 4, 1))) (i 0) ⟨(i 1).val % 4, by omega⟩

end Cert.SubBlock

end
-- ==== Proof.SubArray.lean ====
/- The projection with its rows in four subsequences: the arrays the two launches make up, as sums. -/
module

public import proofs.«01_k».proof.Proof.SubBlock

@[expose] public section

set_option maxRecDepth 16384
set_option backward.isDefEq.respectTransparency false

noncomputable section

namespace Cert.SubArray

open Cert.Kernel5Ideal Cert.Kernel5Ideal.Gen
open Idealize.ShloMosaic Idealize.ShloMosaic.TcCoe Idealize.SL.Sem
open scoped BigOperators

/-! ### The two results, of rows `x`, weights `w` and the cotangent `q` by subsequence -/

/-- A column of the group, among the columns of all groups. -/
def wcol (f : Fin 3072) : Fin 9216 := ⟨3072 + f.val, by omega⟩

/-- Row `n` of subsequence `s`. -/
def srow (s : Fin 4) (n : Fin 1024) : Fin 4096 := ⟨4 * n.val + s.val, by omega⟩

/-- The rows times the group's columns, by subsequence. -/
def qkv (x : S4096x1024.Idx → EReal) (w : S1024x9216.Idx → EReal) : S4x1024x3072.Idx → EReal := fun i =>
  ∑ k : Fin 1024, x (ix2 (n0 := 4096) (n1 := 1024) (srow (i 0) (i 1)) k) * w (ix2 (n0 := 1024) (n1 := 9216) k (wcol (i 2)))

/-- The input's gradient. -/
def dx (w : S1024x9216.Idx → EReal) (q : S4x1024x3072.Idx → EReal) : S4096x1024.Idx → EReal := fun i =>
  ∑ f : Fin 3072, q (ix3 (n0 := 4) (n1 := 1024) (n2 := 3072) ⟨(i 0).val % 4, by omega⟩
    ⟨(i 0).val / 4, by have : (i 0).val < 4096 := (i 0).isLt; omega⟩ f) * w (ix2 (n0 := 1024) (n1 := 9216) (i 1) (wcol f))

variable {x : S4096x1024.Idx → EReal} {w : S1024x9216.Idx → EReal} {q : S4x1024x3072.Idx → EReal}
variable (V : (c : Dev nD) → (b : Ref sig .tc) → Buf (Elt Ideal) ((c : Thread nD τ).loc b)) (c : Dev nD)

/-! ### The projected rows -/

theorem pay0 (a : Vec Ideal S1024x1024 .bf16) (b : Vec Ideal S1024x768 .bf16) (r : Fin 1024) (f : Fin 768) :
    k0_pay2 a b (ix2 (n0 := 1024) (n1 := 768) r f)
      = ∑ k : Fin 1024, (a (ix2 (n0 := 1024) (n1 := 1024) r k) * b (ix2 (n0 := 1024) (n1 := 768) k f) : EReal) := by
  pointwise [k0_pay2]

theorem idx0 : ∀ t : Fin cfg0.N, win0_0.index t = ![t.val % 4, 0] ∧ win0_1.index t = ![0, 4 + t.val / 4]
    ∧ win0_2.index t = ![0, t.val % 4, t.val / 4] :=
  (by decide +kernel : ∀ t : Fin grid0.N, _)

def row0 (t : Fin cfg0.N) (r : Fin 1024) : Fin 4096 := ⟨1024 * (t.val % 4) + r.val, by omega⟩
def col0 (t : Fin cfg0.N) (f : Fin 768) : Fin 3072 := ⟨768 * (t.val / 4) + f.val, by have := lt_of_lt_of_eq t.isLt N_0; omega⟩

theorem block0 (t : Fin cfg0.N) (a : Vec Ideal S1024x1024 .bf16) (b : Vec Ideal S1024x768 .bf16)
    (ha : ∀ r k : Fin 1024, a (ix2 (n0 := 1024) (n1 := 1024) r k) = x (ix2 (n0 := 4096) (n1 := 1024) (row0 t r) k))
    (hb : ∀ (k : Fin 1024) (f : Fin 768), b (ix2 (n0 := 1024) (n1 := 768) k f) = w (ix2 (n0 := 1024) (n1 := 9216) k (wcol (col0 t f))))
    (z : S4x1024x3072.Idx) (y : S4x256x768.Idx) (h0 : (z 0).val = (y 0).val) (h1 : (z 1).val = 256 * (t.val % 4) + (y 1).val)
    (h2 : (z 2).val = 768 * (t.val / 4) + (y 2).val) (r : Fin 1024) (hr : r.val = 4 * (y 1).val + (y 0).val) :
    k0_pay2 (F := Ideal) a b (ix2 (n0 := 1024) (n1 := 768) r (y 2)) = qkv x w z := by
  refine (pay0 _ _ _ _).trans ?_
  unfold qkv
  rw [show srow (z 0) (z 1) = row0 t r from Fin.ext (by
    show 4 * (z 1).val + (z 0).val = 1024 * (t.val % 4) + r.val; omega), show z 2 = col0 t (y 2) from Fin.ext h2]
  refine Finset.sum_congr rfl fun k _ => ?_
  rw [ha, hb]

theorem arr0 (hx : V c main_v1 = x) (hw : V c main_v0 = w) : (dat0 V c).arrAt 2 cfg0.N = qkv x w := by
  refine (dat0 V c).arrAt_eq_of_covers 2 _ (by decide +kernel) fun t hf y => ?_
  obtain ⟨i0, i1, i2⟩ := idx0 t
  have ha : ∀ r k : Fin 1024, iblk0 V c 0 t (ix2 (n0 := 1024) (n1 := 1024) r k) = x (ix2 (n0 := 4096) (n1 := 1024) (row0 t r) k) := fun r k =>
    (show _ = V c main_v1 (ix2 (n0 := 4096) (n1 := 1024) (row0 t r) k) by
      unfold iblk0; generalize V c = W; blk_ext [i0, row0]).trans (congrFun hx _)
  have hb : ∀ (k : Fin 1024) (f : Fin 768), iblk0 V c 1 t (ix2 (n0 := 1024) (n1 := 768) k f)
      = w (ix2 (n0 := 1024) (n1 := 9216) k (wcol (col0 t f))) := fun k f =>
    (show _ = V c main_v0 (ix2 (n0 := 1024) (n1 := 9216) k (wcol (col0 t f))) by
      unfold iblk0; generalize V c = W; blk_ext [i1, wcol, col0]).trans (congrFun hw _)
  blk_simp
  rw [after0_2]
  refine (SubBlock.block0 V c t y).trans (block0 t _ _ ha hb _ _ ?_ ?_ ?_ _ rfl)
  · blk_simp [i2]
  · blk_simp [i2]; exact congrArg (· + (y 1).val) (Nat.mul_comm _ _)
  · blk_simp [i2]; exact congrArg (· + (y 2).val) (Nat.mul_comm _ _)

/-! ### The input's gradient -/

theorem pay1 (a : Vec Ideal S4x128x3072 .bf16) (b : Vec Ideal S1024x3072 .bf16) (s : Fin 4) (n : Fin 128) (r : Fin 512)
    (hr : r.val = 128 * s.val + n.val) (d : Fin 1024) :
    k1_pay2 a b (ix2 (n0 := 512) (n1 := 1024) r d)
      = ∑ f : Fin 3072, (a (ix3 (n0 := 4) (n1 := 128) (n2 := 3072) s n f) * b (ix2 (n0 := 1024) (n1 := 3072) d f) : EReal) := by
  have e : k1_pay2 a b (ix2 (n0 := 512) (n1 := 1024) r d)
      = ∑ f : Fin 3072, (shapeCast S512x3072 a shapeCasts_S4x128x3072_S512x3072 (ix2 (n0 := 512) (n1 := 3072) r f)
          * b (ix2 (n0 := 1024) (n1 := 3072) d f) : EReal) := by
    generalize hg : shapeCast S512x3072 a shapeCasts_S4x128x3072_S512x3072 = g
    unfold k1_pay2
    rw [shapeCast_self, hg]
    pointwise
  rw [e]
  refine Finset.sum_congr rfl fun f _ => ?_
  refine congrArg (· * b (ix2 (n0 := 1024) (n1 := 3072) d f)) (shapeCast_apply _ _ _ _ ?_)
  rewrite [Shape.rowMajor_val_three, Shape.rowMajor_val_two]
  show (s.val * 128 + n.val) * 3072 + f.val = r.val * 3072 + f.val
  omega

theorem idx1 : ∀ t : Fin cfg1.N, win1_0.index t = ![0, t.val, 0] ∧ win1_1.index t = ![0, 1] ∧ win1_2.index t = ![t.val, 0] :=
  (by decide +kernel : ∀ t : Fin grid1.N, _)

def row1 (t : Fin cfg1.N) (n : Fin 128) : Fin 1024 := ⟨128 * t.val + n.val, by have := lt_of_lt_of_eq t.isLt N_1; omega⟩

theorem block1 (t : Fin cfg1.N) (a : Vec Ideal S4x128x3072 .bf16) (b : Vec Ideal S1024x3072 .bf16)
    (ha : ∀ (s : Fin 4) (n : Fin 128) (f : Fin 3072), a (ix3 (n0 := 4) (n1 := 128) (n2 := 3072) s n f)
      = q (ix3 (n0 := 4) (n1 := 1024) (n2 := 3072) s (row1 t n) f))
    (hb : ∀ (d : Fin 1024) (f : Fin 3072), b (ix2 (n0 := 1024) (n1 := 3072) d f) = w (ix2 (n0 := 1024) (n1 := 9216) d (wcol f)))
    (z : S4096x1024.Idx) (y : S512x1024.Idx) (h0 : (z 0).val = 512 * t.val + (y 0).val) (h1 : (z 1).val = (y 1).val)
    (r : Fin 512) (hr : r.val = 128 * ((y 0).val % 4) + (y 0).val / 4) :
    k1_pay2 (F := Ideal) a b (ix2 (n0 := 512) (n1 := 1024) r (y 1)) = dx w q z := by
  have hy : (y 0).val < 512 := (y 0).isLt
  refine (pay1 _ _ ⟨(y 0).val % 4, by omega⟩ ⟨(y 0).val / 4, by omega⟩ _ hr _).trans ?_
  unfold dx
  refine Finset.sum_congr rfl fun f _ => ?_
  rw [ha, hb]
  refine congrArg₂ (fun a b : EReal => a * b) (congrArg q ?_) (congrArg w ?_)
  · refine congrArg₂ (fun s n => ix3 (n0 := 4) (n1 := 1024) (n2 := 3072) s n f) (Fin.ext ?_) (Fin.ext ?_)
    · show (y 0).val % 4 = (z 0).val % 4; omega
    · show 128 * t.val + (y 0).val / 4 = (z 0).val / 4; omega
  · exact congrArg (fun d => ix2 (n0 := 1024) (n1 := 9216) d (wcol f)) (Fin.ext h1.symm)

theorem arr1 (hq : V c main_v5 = q) (hw : V c main_v0 = w) : (dat1 V c).arrAt 2 cfg1.N = dx w q := by
  refine (dat1 V c).arrAt_eq_of_covers 2 _ (by decide +kernel) fun t hf y => ?_
  obtain ⟨i0, i1, i2⟩ := idx1 t
  have ha : ∀ (s : Fin 4) (n : Fin 128) (f : Fin 3072), iblk1 V c 0 t (ix3 (n0 := 4) (n1 := 128) (n2 := 3072) s n f)
      = q (ix3 (n0 := 4) (n1 := 1024) (n2 := 3072) s (row1 t n) f) := fun s n f =>
    (show _ = V c main_v5 (ix3 (n0 := 4) (n1 := 1024) (n2 := 3072) s (row1 t n) f) by
      unfold iblk1; generalize V c = W; blk_ext [i0, row1]).trans (congrFun hq _)
  have hb : ∀ (d : Fin 1024) (f : Fin 3072), iblk1 V c 1 t (ix2 (n0 := 1024) (n1 := 3072) d f) = w (ix2 (n0 := 1024) (n1 := 9216) d (wcol f)) := fun d f =>
    (show _ = V c main_v0 (ix2 (n0 := 1024) (n1 := 9216) d (wcol f)) by
      unfold iblk1; generalize V c = W; blk_ext [i1, wcol]).trans (congrFun hw _)
  blk_simp
  rw [after1_2]
  refine (SubBlock.block1 V c t y).trans (block1 t _ _ ha hb _ _ ?_ ?_ _ rfl)
  · blk_simp [i2]; exact congrArg (· + (y 0).val) (Nat.mul_comm _ _)
  · blk_simp [i2]

end Cert.SubArray

end
-- ==== Proof.SubHost.lean ====
/- What the launches that project into four subsequences find in their operands and what they leave, down to the two results. -/
module

public import proofs.«01_k».proof.Proof.SubArray
public import Idealize.ShloMosaic.Lib.StableHlo.RunRead

@[expose] public section

set_option maxRecDepth 16384
set_option backward.isDefEq.respectTransparency false

noncomputable section

namespace Cert.SubHost

open Cert.Kernel5Ideal Cert.Kernel5Ideal.Gen Cert.SubArray Idealize.ShloMosaic.StableHlo
open Idealize.ShloMosaic Idealize.ShloMosaic.TcCoe Idealize.SL.Sem
open scoped BigOperators

abbrev Vals : Type := Valuation τ sig (Elt Ideal)

/-! ### The host operations, over any contents before them -/

/-- The rows of four subsequences, one after another. -/
def rows (g : S4x1024x3072.Idx → EReal) : S4096x3072.Idx → EReal := shapeCast S4096x3072 g shapeCasts_S4x1024x3072_S4096x3072

/-- Rows, cut into four subsequences. -/
def cut (q : S4096x3072.Idx → EReal) : S4x1024x3072.Idx → EReal := shapeCast S4x1024x3072 q shapeCasts_S4096x3072_S4x1024x3072

theorem s0w (W : Vals) : after hostOps0 W (Proc.devRef .tc main_v0) = W (Proc.devRef .tc main_arg1) := by
  after_reads_simp; rfl
theorem s0x (W : Vals) : after hostOps0 W (Proc.devRef .tc main_v1) = W (Proc.devRef .tc main_arg0) := by
  after_reads_simp; rfl
theorem s1y (W : Vals) : after hostOps1 W (Proc.devRef .tc main_v3) = rows (W (Proc.devRef .tc main_v2)) := by
  after_reads_simp; rfl
theorem s1q (W : Vals) : after hostOps1 W (Proc.devRef .tc main_v5) = cut (W (Proc.devRef .tc main_arg2)) := by
  after_reads_simp; rfl

/-! ### Launch by launch -/

variable (m : (ℓ : Loc nD τ sig) → Buf (Elt Ideal) ℓ) (ρ : Dev nD → PrngReg) (c : Dev nD)

abbrev X : S4096x1024.Idx → EReal := m ((c : Thread nD τ).loc main_arg0)
abbrev Wt : S1024x9216.Idx → EReal := m ((c : Thread nD τ).loc main_arg1)
abbrev Q : S4096x3072.Idx → EReal := m ((c : Thread nD τ).loc main_arg2)

theorem w1w : W1 m ρ c (Proc.devRef .tc main_v0) = Wt m c := s0w _
theorem w1x : W1 m ρ c (Proc.devRef .tc main_v1) = X m c := s0x _

theorem w2y : W2 m ρ c (Proc.devRef .tc main_v2) = qkv (X m c) (Wt m c) :=
  (W2_arr m ρ c 2).trans (arr0 (V1 m ρ) c (w1x m ρ c) (w1w m ρ c))

theorem w3w : W3 m ρ c (Proc.devRef .tc main_v0) = Wt m c :=
  (W3_of m ρ c main_v0 (by decide)).trans ((W2_of m ρ c main_v0 (by decide)).trans (w1w m ρ c))
theorem w3q : W3 m ρ c (Proc.devRef .tc main_v5) = cut (Q m c) :=
  (s1q _).trans (congrArg cut (W2_args m ρ c main_arg2 (by decide)))
theorem w3y : W3 m ρ c (Proc.devRef .tc main_v3) = rows (qkv (X m c) (Wt m c)) := (s1y _).trans (congrArg rows (w2y m ρ c))

theorem result_qkv : W4 m ρ c (Proc.devRef .tc main_v3) = rows (qkv (X m c) (Wt m c)) :=
  (W4_of m ρ c main_v3 (by decide)).trans (w3y m ρ c)
theorem result_input : W4 m ρ c (Proc.devRef .tc main_v6) = dx (Wt m c) (cut (Q m c)) :=
  (W4_arr m ρ c 2).trans (arr1 (V3 m ρ) c (w3q m ρ c) (w3w m ρ c))

end Cert.SubHost

end
-- ==== Proof.SubAlgebraic.lean ====
/- The claims for the projection into four subsequences: its programs run to the end with their arguments unchanged, and the launches
   leave the reference's projected rows and input gradient. -/
module

public import proofs.«01_k».proof.Proof.SubRun
public import proofs.«01_k».proof.Proof.SubHost
public import proofs.«01_k».proof.Proof.Gen.Kernel5.Frame
public import proofs.«01_k».proof.Proof.Gen.Reference5Ideal.Run
public import proofs.«01_k».proof.Proof.Gen.Reference5Ideal.Read
public import proofs.«01_k».proof.Defs

@[expose] public section

noncomputable section

namespace Cert.SubAlgebraic

open Idealize.ShloMosaic Idealize.SL.Sem Cert.Kernel5Ideal.Gen Cert.Reference5Ideal.Gen Cert.SubArray Cert.SubHost
open Cert.Reference5Ideal.Read Idealize.ShloMosaic.TcCoe
open scoped BigOperators

/-! ### Frames -/

theorem kernel : Cert.quiescent_Kernel5 := fun m ρ _ => Cert.Kernel5.Gen.frame m ρ

theorem kernelIdeal : Cert.quiescent_Kernel5Ideal := fun m ρ _ => Cert.Kernel5Ideal.Gen.frame m ρ

theorem referenceIdeal : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem preserves : Cert.preserves_Kernel5_Kernel5Ideal := trivial

/-! ### The reference's results -/

section reference
variable (x : Cert.Kernel5Ideal.S4096x1024.Idx → EReal) (w : Cert.Kernel5Ideal.S1024x9216.Idx → EReal) (q : Cert.Kernel5Ideal.S4096x3072.Idx → EReal)

/-- The group's columns of the weights. -/
theorem columns (k : Fin 1024) (f : Fin 3072) (j : Cert.Reference5Ideal.S1024x3072.Idx) (h0 : (j 0).val = k.val) (h1 : (j 1).val = f.val) :
    val_main_v0 (F := Ideal) w j = w (ix2 (n0 := 1024) (n1 := 9216) k (wcol f)) := by
  unfold val_main_v0
  exact extractStridedSlice_apply _ _ _ _ (ix2 (n0 := 1024) (n1 := 9216) k (wcol f)) (by
    intro a; fin_cases a
    · exact h0.symm.trans (Nat.zero_add _).symm
    · exact congrArg (3072 + ·) h1.symm)

theorem reference_sub : val_main_v3 (F := Ideal) x w = qkv x w := by
  funext i
  have e : val_main_v3 (F := Ideal) x w i = val_main_v1 (F := Ideal) x w (ix2 (n0 := 4096) (n1 := 3072) (srow (i 0) (i 1)) (i 2)) := by
    unfold val_main_v3
    refine (transpose_apply _ _ _ _ (ix3 (n0 := 1024) (n1 := 4) (n2 := 3072) (i 1) (i 0) (i 2)) (by intro b; fin_cases b <;> rfl)).trans ?_
    unfold val_main_v2
    refine shapeCast_apply _ _ _ _ ?_
    rewrite [Shape.rowMajor_val_three, Shape.rowMajor_val_two]
    show (4 * (i 1).val + (i 0).val) * 3072 + (i 2).val = ((i 1).val * 4 + (i 0).val) * 3072 + (i 2).val
    omega
  refine e.trans ((val_main_v1_apply x w _).trans ?_)
  unfold qkv
  refine Finset.sum_congr rfl fun k _ => ?_
  exact congrArg₂ (fun a b : EReal => a * b) (congrArg x (eq_ix2 (n0 := 4096) (n1 := 1024) _)) (columns w k (i 2) _ rfl rfl)

theorem reference_qkv : val_main_v5 (F := Ideal) x w = rows (qkv x w) :=
  (show val_main_v5 (F := Ideal) x w = rows (val_main_v3 (F := Ideal) x w) from rfl).trans (congrArg rows (reference_sub x w))

theorem reference_rows (j : Cert.Reference5Ideal.S4096x3072.Idx) :
    val_main_v8 (F := Ideal) q j = cut q (ix3 (n0 := 4) (n1 := 1024) (n2 := 3072) ⟨(j 0).val % 4, by omega⟩
      ⟨(j 0).val / 4, by have : (j 0).val < 4096 := (j 0).isLt; omega⟩ (j 1)) := by
  have hj : (j 0).val < 4096 := (j 0).isLt
  unfold val_main_v8
  refine (shapeCast_apply _ _ _ (ix3 (n0 := 1024) (n1 := 4) (n2 := 3072) ⟨(j 0).val / 4, by omega⟩ ⟨(j 0).val % 4, by omega⟩ (j 1)) (by
    rewrite [Shape.rowMajor_val_three, Shape.rowMajor_val_two]
    show ((j 0).val / 4 * 4 + (j 0).val % 4) * 3072 + (j 1).val = (j 0).val * 3072 + (j 1).val
    omega)).trans ?_
  unfold val_main_v7
  exact transpose_apply _ _ _ _ (ix3 (n0 := 4) (n1 := 1024) (n2 := 3072) ⟨(j 0).val % 4, by omega⟩ ⟨(j 0).val / 4, by omega⟩ (j 1)) (by
    intro b; fin_cases b <;> rfl)

theorem reference_input : val_main_v9 (F := Ideal) w q = dx w (cut q) := by
  funext i
  refine (val_main_v9_apply w q i).trans ?_
  unfold dx
  refine Finset.sum_congr rfl fun k _ => ?_
  exact congrArg₂ (fun a b : EReal => a * b) (reference_rows q _) (columns w (i 1) k _ rfl rfl)

end reference

theorem algebraic : Cert.algebraic_Kernel5Ideal_Reference5Ideal := by
  intro m g m' g' _ hargs
  refine ⟨fun c => rows (qkv (X m c) (Wt m c)), fun c => dx (Wt m c) (cut (Q m c)), ?_, ?_⟩
  · refine (θ_run Cert.Kernel5Ideal.defs _ _).mono (fun r h c => ?_) (Cert.SubRun.run m g)
    refine ⟨(h c _ (mem_uc Cert.Kernel5Ideal.main_v3 (by decide))).trans (result_qkv m g c),
      (h c _ (mem_uc Cert.Kernel5Ideal.main_v6 (by decide))).trans (result_input m g c),
      (h c _ (mem_uc Cert.Kernel5Ideal.main_arg0 (by decide))).trans (W4_main_arg0 m g c),
      (h c _ (mem_uc Cert.Kernel5Ideal.main_arg1 (by decide))).trans (W4_main_arg1 m g c),
      (h c _ (mem_uc Cert.Kernel5Ideal.main_arg2 (by decide))).trans (W4_main_arg2 m g c)⟩
  · refine (θ_run Cert.Reference5Ideal.defs _ _).mono (fun r h c => ?_) (Cert.Reference5Ideal.Value.run (F := Ideal) m' g')
    obtain ⟨e0, e1, e2⟩ := hargs c
    obtain ⟨k0, k1, hk⟩ := h c
    refine ⟨k0.trans ((val_main_v5_eq (F := Ideal) _ _).trans ?_), k1.trans ((val_main_v9_eq (F := Ideal) _ _).trans ?_), hk⟩
    · exact (congrArg₂ (val_main_v5 (F := Ideal)) e0 e1).trans (reference_qkv _ _)
    · exact (congrArg₂ (val_main_v9 (F := Ideal)) e1 e2).trans (reference_input _ _)

end Cert.SubAlgebraic

end
-- ==== Proof.SubdwBlock.lean ====
/- The weights' gradient of a group with four subsequences: the launch copies the rows it multiplies side by side once per block of
   rows, keeps them for the blocks of columns that follow, and leaves the array of sums its blocks make up. -/
module

public import proofs.«01_k».proof.Proof.Gen.Kernel6Ideal.Frame
public import proofs.«01_k».proof.Proof.Strided
public import Idealize.ShloMosaic.Lib.Pipeline.ValueKit
public import Idealize.ShloMosaic.Lib.Pipeline.ValueKit.Partial
public import Idealize.ShloMosaic.Lib.Pointwise

@[expose] public section

set_option maxRecDepth 16384
set_option backward.isDefEq.respectTransparency false

noncomputable section

namespace Cert.SubdwBlock

open Cert.Kernel6Ideal Cert.Kernel6Ideal.Gen Cert.Strided
open Idealize.ShloMosaic Idealize.ShloMosaic.TcCoe Idealize.SL.Sem
open scoped BigOperators

/-! ### The copied rows -/

variable (m : (ℓ : Loc nD τ sig) → Buf (Elt Ideal) ℓ) (c : Dev nD)

/-- The subsequences' columns, side by side. -/
abbrev strips (a : S4x512x1024.Idx → EReal) : S512x4096.Idx → EReal := beside (d := 4) (n := 1024) rfl (by decide) a

/-- The copied columns make up all of the scratch buffer. -/
theorem cover (L : List (View.Piece (Elt Ideal) S512x4096 .bf16))
    (h : L.map place2 = List.ofFn fun n : Fin 4 => ((0, 1024 * (3 - n.val)), (512, 1024), (1, 1))) (y : S512x4096.Idx) : ∃ p ∈ L, y ∈ p.1.set := by
  have hy : (y 1).val < 4096 := (y 1).isLt
  refine mem_strip _ (1024 * ((y 1).val / 1024)) 1024 ?_ y (by omega) (by omega)
  rw [h]
  exact (by decide : ∀ s : Fin 4, ((0, 1024 * s.val), (512, 1024), (1, 1)) ∈ List.ofFn fun n : Fin 4 => ((0, 1024 * (3 - n.val)), (512, 1024), (1, 1)))
    ⟨(y 1).val / 1024, by omega⟩

theorem carried_A (t : Fin cfg0.N) (h : t.val % 8 = 0) : (outsAt0 m c t.val t.isLt).2 = strips (iblk m c 0 t) := by
  rw [outsAt0_A m c t h]
  funext y
  generalize iblk m c 0 t = a
  generalize iblk m c 1 t = b
  frame_out
  refine View.canon_apply_of_pieces (Val := Elt Ideal) (e := .bf16) (strips a) _ ?_ y ?_; rotate_left; · exact cover _ rfl y
  repeat refine List.forall_mem_cons.2 ⟨fun x => beside_store (d := 4) (n := 1024) rfl (by decide) a _ _ (by rfl) (by decide) (by decide) (by decide) (by decide) x, ?_⟩
  exact fun p hp => absurd hp List.not_mem_nil

theorem product_A (t : Fin cfg0.N) (h : t.val % 8 = 0) :
    (outsAt0 m c t.val t.isLt).1 = k0_pay5 (F := Ideal) (strips (iblk m c 0 t)) (iblk m c 1 t) := by
  rw [outsAt0_A m c t h]
  funext y
  generalize iblk m c 0 t = a
  generalize iblk m c 1 t = b
  frame_out
  refine congrFun (congrArg (fun s => k0_pay5 (F := Ideal) s b) ?_) y
  refine read_all (View.whole cc0_scratch0) (strips a) _ ?_ ?_ (by decide); rotate_left; · exact cover _ rfl
  repeat refine List.forall_mem_cons.2 ⟨fun x => beside_store (d := 4) (n := 1024) rfl (by decide) a _ _ (by rfl) (by decide) (by decide) (by decide) (by decide) x, ?_⟩
  exact fun p hp => absurd hp List.not_mem_nil

theorem product_B (t : Fin cfg0.N) (h : ¬ t.val % 8 = 0) : (outsAt0 m c t.val t.isLt).1
    = k0_pay5 (F := Ideal) (outsAt0 m c (t.val - 1) (Nat.lt_of_le_of_lt (Nat.sub_le _ _) t.isLt)).2 (iblk m c 1 t) := by
  rw [outsAt0_B m c t h]
  generalize (outsAt0 m c (t.val - 1) (Nat.lt_of_le_of_lt (Nat.sub_le _ _) t.isLt)).2 = s
  generalize iblk m c 0 t = a
  generalize iblk m c 1 t = b
  frame_out
  exact congrArg (fun s => k0_pay5 (F := Ideal) s b) (Memref.IsWhole.read_unread _ s)

theorem carried_B (t : Fin cfg0.N) (h : ¬ t.val % 8 = 0) : (outsAt0 m c t.val t.isLt).2
    = (outsAt0 m c (t.val - 1) (Nat.lt_of_le_of_lt (Nat.sub_le _ _) t.isLt)).2 := by
  rw [outsAt0_B m c t h]; rfl

/-! ### The launch -/

/-- Rows `4 n + s`, turned, for every `s`. -/
def turned (x : S4096x1024.Idx → EReal) : S4x1024x1024.Idx → EReal := fun i =>
  x (ix2 (n0 := 4096) (n1 := 1024) ⟨4 * (i 2).val + (i 0).val, by
    have : (i 0).val < 4 := (i 0).isLt; have : (i 2).val < 1024 := (i 2).isLt; omega⟩ (i 1))

/-- The row of `x` that the cotangent's row `t` belongs to. -/
def srow (t : Fin 4096) : Fin 4096 := ⟨4 * (t.val % 1024) + t.val / 1024, by omega⟩

/-- The weights' gradient at a row and a column. -/
def dw (x : S4096x1024.Idx → EReal) (q : S4096x3072.Idx → EReal) (k : Fin 1024) (f : Fin 3072) : EReal :=
  ∑ t : Fin 4096, x (ix2 (n0 := 4096) (n1 := 1024) (srow t) k) * q (ix2 (n0 := 4096) (n1 := 3072) t f)

/-- The device whose columns a slot holds: the even devices' slots come first; and the slot of a device. -/
def dev (s : ℕ) : ℕ := 2 * (s % 4) + s / 4
def slot (d : ℕ) : ℕ := 4 * (d % 2) + d / 2

/-- The gradient in its slots, where they hold the group's columns. -/
def slots (x : S4096x1024.Idx → EReal) (q : S4096x3072.Idx → EReal) : S8x1024x1152.Idx → EReal := fun i =>
  if h : 3072 ≤ 1152 * dev (i 0).val + (i 2).val ∧ 1152 * dev (i 0).val + (i 2).val < 6144 then
    dw x q (i 1) ⟨1152 * dev (i 0).val + (i 2).val - 3072, by omega⟩ else 0

variable {x : S4096x1024.Idx → EReal} {q : S4096x3072.Idx → EReal}

theorem pay (a : Vec Ideal S512x4096 .bf16) (b : Vec Ideal S4096x384 .bf16) (o : Fin 1) (r : Fin 512) (f : Fin 384) :
    k0_pay5 a b (ix3 (n0 := 1) (n1 := 512) (n2 := 384) o r f)
      = ∑ t : Fin 4096, (a (ix2 (n0 := 512) (n1 := 4096) r t) * b (ix2 (n0 := 4096) (n1 := 384) t f) : EReal) := by
  pointwise [k0_pay5]

theorem idx : ∀ t : Fin cfg0.N, win0_0.index t = ![0, t.val / 8, 0] ∧ win0_1.index t = ![0, t.val % 8]
    ∧ win0_2.index t = ![slot ((8 + t.val % 8) / 3), t.val / 8, (8 + t.val % 8) % 3] :=
  (by decide +kernel : ∀ t : Fin grid0.N, _)

def row (g : ℕ) (hg : g < 2) (r : Fin 512) : Fin 1024 := ⟨512 * g + r.val, by omega⟩
def col (t : Fin cfg0.N) (f : Fin 384) : Fin 3072 := ⟨384 * (t.val % 8) + f.val, by omega⟩

theorem half (t : Fin cfg0.N) : t.val / 8 < 2 := by have := lt_of_lt_of_eq t.isLt N_0; omega

/-- What a block of rows is multiplied from. -/
def held (x : S4096x1024.Idx → EReal) (g : ℕ) (hg : g < 2) : S512x4096.Idx → EReal := fun i =>
  x (ix2 (n0 := 4096) (n1 := 1024) (srow (i 1)) (row g hg (i 0)))

theorem held_congr (x : S4096x1024.Idx → EReal) {g g' : ℕ} (e : g = g') (hg : g < 2) (hg' : g' < 2) : held x g hg = held x g' hg' := by
  subst e; rfl

theorem strips_held (hx : V m c main_v2 = turned x) (t : Fin cfg0.N) : strips (iblk m c 0 t) = held x (t.val / 8) (half t) := by
  obtain ⟨i0, i1, i2⟩ := idx t
  funext i
  unfold strips beside held
  refine (show _ = V m c main_v2 (ix3 (n0 := 4) (n1 := 1024) (n2 := 1024) ⟨(i 1).val / 1024, by have : (i 1).val < 4096 := (i 1).isLt; omega⟩
      (row (t.val / 8) (half t) (i 0)) ⟨(i 1).val % 1024, by omega⟩) by
    unfold iblk; generalize V m c = W; blk_ext [i0, row]).trans ((congrFun hx _).trans ?_)
  rfl

theorem carried (hx : V m c main_v2 = turned x) : ∀ (n : ℕ) (hn : n < cfg0.N), (outsAt0 m c n hn).2 = held x (n / 8) (half ⟨n, hn⟩)
  | 0, hn => (carried_A m c ⟨0, hn⟩ rfl).trans (strips_held m c hx ⟨0, hn⟩)
  | n + 1, hn => by
    by_cases h : (n + 1) % 8 = 0
    · exact (carried_A m c ⟨n + 1, hn⟩ h).trans (strips_held m c hx ⟨n + 1, hn⟩)
    · refine (carried_B m c ⟨n + 1, hn⟩ h).trans ((carried hx n (Nat.lt_of_succ_lt hn)).trans ?_)
      exact held_congr x (by omega) _ _

theorem product (hx : V m c main_v2 = turned x) (t : Fin cfg0.N) : (outsAt0 m c t.val t.isLt).1
    = k0_pay5 (F := Ideal) (held x (t.val / 8) (half t)) (iblk m c 1 t) := by
  by_cases h : t.val % 8 = 0
  · exact (product_A m c t h).trans (congrArg (fun s => k0_pay5 (F := Ideal) s _) (strips_held m c hx t))
  · refine (product_B m c t h).trans (congrArg (fun s => k0_pay5 (F := Ideal) s _) ?_)
    exact (carried_B m c t h).symm.trans (carried m c hx t.val t.isLt)

theorem block (t : Fin cfg0.N) (b : Vec Ideal S4096x384 .bf16)
    (hb : ∀ (k : Fin 4096) (f : Fin 384), b (ix2 (n0 := 4096) (n1 := 384) k f) = q (ix2 (n0 := 4096) (n1 := 3072) k (col t f)))
    (z : S8x1024x1152.Idx) (y : S1x512x384.Idx) (h0 : (z 0).val = slot ((8 + t.val % 8) / 3) + (y 0).val) (h1 : (z 1).val = 512 * (t.val / 8) + (y 1).val)
    (h2 : (z 2).val = 384 * ((8 + t.val % 8) % 3) + (y 2).val) : k0_pay5 (F := Ideal) (held x (t.val / 8) (half t)) b y = slots x q z := by
  refine (congrArg (k0_pay5 (held x (t.val / 8) (half t)) b) (eq_ix3 (n0 := 1) (n1 := 512) (n2 := 384) y)).trans ((pay _ _ _ _ _).trans ?_)
  have hy0 : (y 0).val < 1 := (y 0).isLt
  have hy2 : (y 2).val < 384 := (y 2).isLt
  have hz : 1152 * dev (z 0).val + (z 2).val = 3072 + 384 * (t.val % 8) + (y 2).val := by
    unfold dev; unfold slot at h0; omega
  have hlt : 3072 ≤ 1152 * dev (z 0).val + (z 2).val ∧ 1152 * dev (z 0).val + (z 2).val < 6144 := by omega
  unfold slots dw
  rw [dif_pos hlt, show z 1 = row (t.val / 8) (half t) (y 1) from Fin.ext h1,
    show (⟨1152 * dev (z 0).val + (z 2).val - 3072, by omega⟩ : Fin 3072) = col t (y 2) from Fin.ext (by unfold col; show 1152 * dev (z 0).val + (z 2).val - 3072 = 384 * (t.val % 8) + (y 2).val; omega)]
  refine Finset.sum_congr rfl fun k _ => ?_
  rw [hb]
  rfl

theorem arr (hx : V m c main_v2 = turned x) (hq : V m c main_v3 = q) (i : S8x1024x1152.Idx)
    (hi : 3072 ≤ 1152 * dev (i 0).val + (i 2).val ∧ 1152 * dev (i 0).val + (i 2).val < 6144) :
    (dats m 0 c).arrAt 2 cfg0.N i = slots x q i := by
  have hdev : 8 ≤ 3 * dev (i 0).val + (i 2).val / 384 ∧ 3 * dev (i 0).val + (i 2).val / 384 < 16 := by omega
  refine ((dats m 0 c).arrAt_apply_of_coversWhere 2 (slots x q)
    (P := fun i : S8x1024x1152.Idx => 8 ≤ 3 * dev (i 0).val + (i 2).val / 384 ∧ 3 * dev (i 0).val + (i 2).val / 384 < 16)
    (fun β => 8 ≤ 3 * dev (β (0 : Fin 3)) + β (2 : Fin 3) ∧ 3 * dev (β (0 : Fin 3)) + β (2 : Fin 3) < 16) (by decide +kernel)
    (fun t hf y => ?_) (fun j => ?_) i).trans (if_pos hdev)
  · obtain ⟨i0, i1, i2⟩ := idx t
    have hb : ∀ (k : Fin 4096) (f : Fin 384), iblk m c 1 t (ix2 (n0 := 4096) (n1 := 384) k f) = q (ix2 (n0 := 4096) (n1 := 3072) k (col t f)) := fun k f =>
      (show _ = V m c main_v3 (ix2 (n0 := 4096) (n1 := 3072) k (col t f)) by
        unfold iblk; generalize V m c = W; blk_ext [i1, col]).trans (congrFun hq _)
    blk_simp
    rw [after0_2, product m c hx t]
    refine block t _ hb _ _ ?_ ?_ ?_
    · blk_simp [i2]
    · blk_simp [i2]; exact congrArg (· + (y 1).val) (Nat.mul_comm _ _)
    · blk_simp [i2]; exact congrArg (· + (y 2).val) (Nat.mul_comm _ _)
  · blk_simp [Pipeline.Window.cell_apply]; rw [Nat.div_one]

end Cert.SubdwBlock

end
-- ==== Proof.SubdwAlgebraic.lean ====
/- The claims for the weights' gradient of a group with four subsequences: its programs run to the end with their arguments unchanged,
   and the launch leaves the reference's gradient. -/
module

public import proofs.«01_k».proof.Proof.SubdwBlock
public import proofs.«01_k».proof.Proof.Gen.Kernel6.Frame
public import proofs.«01_k».proof.Proof.Gen.Reference6Ideal.Run
public import proofs.«01_k».proof.Proof.Gen.Reference6Ideal.Read
public import proofs.«01_k».proof.Defs
public import Idealize.ShloMosaic.Lib.StableHlo.RunRead

@[expose] public section

set_option maxRecDepth 16384
set_option backward.isDefEq.respectTransparency false

noncomputable section

namespace Cert.SubdwAlgebraic

open Idealize.ShloMosaic Idealize.SL.Sem Cert.SubdwBlock Idealize.ShloMosaic.StableHlo
open Idealize.ShloMosaic.TcCoe
open scoped BigOperators

/-! ### Frames -/

theorem kernel : Cert.quiescent_Kernel6 := fun m ρ _ => Cert.Kernel6.Gen.frame m ρ

theorem kernelIdeal : Cert.quiescent_Kernel6Ideal := fun m ρ _ => Cert.Kernel6Ideal.Gen.frame m ρ

theorem referenceIdeal : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem preserves : Cert.preserves_Kernel6_Kernel6Ideal := trivial

/-! ### The kernel's result -/

section kernel
open Cert.Kernel6Ideal Cert.Kernel6Ideal.Gen

variable (m : (ℓ : Loc nD τ sig) → Buf (Elt Ideal) ℓ) (c : Dev nD)

abbrev Vals : Type := Valuation τ sig (Elt Ideal)

abbrev X : S4096x1024.Idx → EReal := m ((c : Thread nD τ).loc main_arg0)
abbrev Q : S4096x3072.Idx → EReal := m ((c : Thread nD τ).loc main_arg1)

theorem s0x (W : Vals) : after hostOps0 W (Proc.devRef .tc main_v2)
    = transpose S4x1024x1024 [1, 2, 0] (shapeCast S1024x4x1024 (W (Proc.devRef .tc main_arg0)) shapeCasts_S4096x1024_S1024x4x1024)
        transposes_S1024x4x1024_S4x1024x1024_1_2_0 := by
  after_reads_simp; rfl
theorem s0q (W : Vals) : after hostOps0 W (Proc.devRef .tc main_v3) = W (Proc.devRef .tc main_arg1) := by
  after_reads_simp; rfl

theorem turned_eq (x : S4096x1024.Idx → EReal) : transpose S4x1024x1024 [1, 2, 0]
    (shapeCast S1024x4x1024 x shapeCasts_S4096x1024_S1024x4x1024) transposes_S1024x4x1024_S4x1024x1024_1_2_0 = turned x := by
  funext i
  refine (transpose_apply _ _ _ _ (ix3 (n0 := 1024) (n1 := 4) (n2 := 1024) (i 2) (i 0) (i 1)) (by intro b; fin_cases b <;> rfl)).trans ?_
  refine shapeCast_apply _ _ _ _ ?_
  rewrite [Shape.rowMajor_val_three, Shape.rowMajor_val_two]
  show (4 * (i 2).val + (i 0).val) * 1024 + (i 1).val = ((i 2).val * 4 + (i 0).val) * 1024 + (i 1).val
  omega

theorem entry_x : V m c main_v2 = turned (X m c) := (s0x _).trans (turned_eq _)
theorem entry_q : V m c main_v3 = Q m c := s0q _

/-- Out of the slots: the devices' columns in their order, side by side, and of these the group's. -/
def unslot (g : S8x1024x1152.Idx → EReal) : S1024x3072.Idx → EReal :=
  extractStridedSlice S1024x3072 ![0, 3072]
    (shapeCast S1024x9216
      (transpose S1024x8x1152 [1, 0, 2]
        (shapeCast S8x1024x1152
          (transpose S4x2x1024x1152 [1, 0, 2, 3] (shapeCast S2x4x1024x1152 g shapeCasts_S8x1024x1152_S2x4x1024x1152)
            transposes_S2x4x1024x1152_S4x2x1024x1152_1_0_2_3)
          shapeCasts_S4x2x1024x1152_S8x1024x1152)
        transposes_S8x1024x1152_S1024x8x1152_1_0_2)
      shapeCasts_S1024x8x1152_S1024x9216)
    slices_S1024x9216_S1024x3072_0_3072

theorem s1g (W : Vals) : after hostOps1 W (Proc.devRef .tc main_v10) = unslot (W (Proc.devRef .tc main_v4)) := by
  after_reads_simp; rfl

/-- Column `1152 * d + f` is device `d`'s column `f`, read in the device's slot. -/
theorem unslot_apply (g : S8x1024x1152.Idx → EReal) (i : S1024x3072.Idx) (a : Fin 2) (b : Fin 4) (f : Fin 1152)
    (s : Fin 8) (hs : s.val = 4 * a.val + b.val) (hf : 3072 + (i 1).val = 1152 * (2 * b.val + a.val) + f.val) :
    unslot g i = g (ix3 (n0 := 8) (n1 := 1024) (n2 := 1152) s (i 0) f) := by
  have hi : (i 1).val < 3072 := (i 1).isLt
  unfold unslot
  refine (extractStridedSlice_apply _ _ _ _ (ix2 (n0 := 1024) (n1 := 9216) (i 0) ⟨3072 + (i 1).val, by omega⟩) (by
    intro k; fin_cases k
    · exact (Nat.zero_add _).symm
    · rfl)).trans ?_
  refine (shapeCast_apply _ _ _ (ix3 (n0 := 1024) (n1 := 8) (n2 := 1152) (i 0) ⟨2 * b.val + a.val, by omega⟩ f) (by
    rewrite [Shape.rowMajor_val_three, Shape.rowMajor_val_two]
    show ((i 0).val * 8 + (2 * b.val + a.val)) * 1152 + f.val = (i 0).val * 9216 + (3072 + (i 1).val)
    omega)).trans ?_
  refine (transpose_apply _ _ _ _ (ix3 (n0 := 8) (n1 := 1024) (n2 := 1152) ⟨2 * b.val + a.val, by omega⟩ (i 0) f) (by
    intro k; fin_cases k <;> rfl)).trans ?_
  refine (shapeCast_apply _ _ _ (ix4 (n0 := 4) (n1 := 2) (n2 := 1024) (n3 := 1152) b a (i 0) f) (by
    rewrite [Shape.rowMajor_val_four, Shape.rowMajor_val_three]
    show ((b.val * 2 + a.val) * 1024 + (i 0).val) * 1152 + f.val = ((2 * b.val + a.val) * 1024 + (i 0).val) * 1152 + f.val
    omega)).trans ?_
  refine (transpose_apply _ _ _ _ (ix4 (n0 := 2) (n1 := 4) (n2 := 1024) (n3 := 1152) a b (i 0) f) (by
    intro k; fin_cases k <;> rfl)).trans ?_
  exact shapeCast_apply _ _ _ (ix3 (n0 := 8) (n1 := 1024) (n2 := 1152) s (i 0) f) (by
    rewrite [Shape.rowMajor_val_four, Shape.rowMajor_val_three]
    show (s.val * 1024 + (i 0).val) * 1152 + f.val = ((a.val * 4 + b.val) * 1024 + (i 0).val) * 1152 + f.val
    omega)

theorem result (i : S1024x3072.Idx) :
    Pipeline.afterTail₀ cfgs (dats m) 0 (V0 m) [hostOps1] c main_v10 i = dw (X m c) (Q m c) (i 0) (i 1) := by
  have hi : (i 1).val < 3072 := (i 1).isLt
  unfold Pipeline.afterTail₀
  refine (congrFun (s1g _) i).trans ?_
  refine (unslot_apply _ i ⟨(3072 + (i 1).val) / 1152 % 2, by omega⟩ ⟨(3072 + (i 1).val) / 1152 / 2, by omega⟩ ⟨(3072 + (i 1).val) % 1152, by omega⟩
    ⟨4 * ((3072 + (i 1).val) / 1152 % 2) + (3072 + (i 1).val) / 1152 / 2, by omega⟩ rfl
    (by show 3072 + (i 1).val = 1152 * (2 * ((3072 + (i 1).val) / 1152 / 2) + (3072 + (i 1).val) / 1152 % 2) + (3072 + (i 1).val) % 1152; omega)).trans ?_
  have e : 1152 * dev (4 * ((3072 + (i 1).val) / 1152 % 2) + (3072 + (i 1).val) / 1152 / 2) + (3072 + (i 1).val) % 1152 = 3072 + (i 1).val := by
    unfold dev; omega
  have hlt : 3072 ≤ 1152 * dev (4 * ((3072 + (i 1).val) / 1152 % 2) + (3072 + (i 1).val) / 1152 / 2) + (3072 + (i 1).val) % 1152
      ∧ 1152 * dev (4 * ((3072 + (i 1).val) / 1152 % 2) + (3072 + (i 1).val) / 1152 / 2) + (3072 + (i 1).val) % 1152 < 6144 := by omega
  refine (congrFun (Pipeline.withArrays_arr spec0 launch0.win.arr_inj c _ _ 2) _).trans ((arr m c (entry_x m c) (entry_q m c) _ hlt).trans ?_)
  unfold slots
  refine (dif_pos hlt).trans ?_
  exact congrArg (dw (X m c) (Q m c) (i 0)) (Fin.ext (by
    show 1152 * dev (4 * ((3072 + (i 1).val) / 1152 % 2) + (3072 + (i 1).val) / 1152 / 2) + (3072 + (i 1).val) % 1152 - 3072 = (i 1).val
    omega))

end kernel

/-! ### The reference's result -/

section reference
open Cert.Reference6Ideal.Gen Cert.Reference6Ideal.Read

variable (x : Cert.Kernel6Ideal.S4096x1024.Idx → EReal) (q : Cert.Kernel6Ideal.S4096x3072.Idx → EReal)

/-- The row of the cotangent that belongs to the row `t` of `x`. -/
def qrow (t : Fin 4096) : Fin 4096 := ⟨1024 * (t.val % 4) + t.val / 4, by omega⟩

theorem reference_rows (j : Cert.Reference6Ideal.S4096x3072.Idx) :
    val_main_v7 (F := Ideal) q j = q (ix2 (n0 := 4096) (n1 := 3072) (qrow (j 0)) (j 1)) := by
  have hj : (j 0).val < 4096 := (j 0).isLt
  unfold val_main_v7
  refine (shapeCast_apply _ _ _ (ix3 (n0 := 1024) (n1 := 4) (n2 := 3072) ⟨(j 0).val / 4, by omega⟩ ⟨(j 0).val % 4, by omega⟩ (j 1)) (by
    rewrite [Shape.rowMajor_val_three, Shape.rowMajor_val_two]
    show ((j 0).val / 4 * 4 + (j 0).val % 4) * 3072 + (j 1).val = (j 0).val * 3072 + (j 1).val
    omega)).trans ?_
  unfold val_main_v6
  refine (transpose_apply _ _ _ _ (ix3 (n0 := 4) (n1 := 1024) (n2 := 3072) ⟨(j 0).val % 4, by omega⟩ ⟨(j 0).val / 4, by omega⟩ (j 1)) (by
    intro b; fin_cases b <;> rfl)).trans ?_
  unfold val_main_v5
  refine shapeCast_apply _ _ _ _ ?_
  rewrite [Shape.rowMajor_val_three, Shape.rowMajor_val_two]
  show (1024 * ((j 0).val % 4) + (j 0).val / 4) * 3072 + (j 1).val = ((j 0).val % 4 * 1024 + (j 0).val / 4) * 3072 + (j 1).val
  omega

/-- The rows of `x` and the rows of the cotangent, one for one. -/
def rowEquiv : Fin 4096 ≃ Fin 4096 where
  toFun := qrow
  invFun := srow
  left_inv t := Fin.ext (by show 4 * ((1024 * (t.val % 4) + t.val / 4) % 1024) + (1024 * (t.val % 4) + t.val / 4) / 1024 = t.val; omega)
  right_inv t := Fin.ext (by show 1024 * ((4 * (t.val % 1024) + t.val / 1024) % 4) + (4 * (t.val % 1024) + t.val / 1024) / 4 = t.val; omega)

theorem reference_weights (i : Cert.Reference6Ideal.S1024x3072.Idx) : val_main_v10 (F := Ideal) x q i = dw x q (i 0) (i 1) := by
  have e : val_main_v10 (F := Ideal) x q i = val_main_v8 (F := Ideal) x q (ix2 (n0 := 3072) (n1 := 1024) (i 1) (i 0)) := by
    show val_main_v9 (F := Ideal) x q i = _
    unfold val_main_v9
    exact transpose_apply _ _ _ _ _ (by intro b; fin_cases b <;> rfl)
  refine e.trans ((val_main_v8_apply x q _).trans ?_)
  unfold dw
  refine Fintype.sum_equiv rowEquiv _ _ fun t => ?_
  refine (congrArg₂ (fun a b : EReal => a * b) (reference_rows q _) (congrArg x (eq_ix2 (n0 := 4096) (n1 := 1024) _))).trans ((mul_comm _ _).trans ?_)
  refine congrArg₂ (fun a b : EReal => a * b) (congrArg x (funext fun a => Fin.ext ?_)) rfl
  match a with
  | ⟨0, _⟩ => exact (congrArg Fin.val (rowEquiv.left_inv t)).symm
  | ⟨1, _⟩ => rfl

end reference

open Cert.Reference6Ideal.Read in
theorem algebraic : Cert.algebraic_Kernel6Ideal_Reference6Ideal := by
  intro m g m' g' _ hargs
  refine ⟨fun c i => dw (X m c) (Q m c) (i 0) (i 1), ?_, ?_⟩
  · refine (θ_run Cert.Kernel6Ideal.defs _ _).mono (fun r h c => ?_) (Cert.Kernel6Ideal.Gen.run_main m g)
    exact ⟨((h c).2 Cert.Kernel6Ideal.main_v10 (Pipeline.mem_restRefs_of Cert.Kernel6Ideal.main_v10 (by decide) (by decide))).trans (funext (result m c)),
      ((h c).2 Cert.Kernel6Ideal.main_arg0 (Pipeline.mem_restRefs_of Cert.Kernel6Ideal.main_arg0 (by decide) (by decide))).trans (Cert.Kernel6Ideal.Gen.W_main_arg0 m _ c),
      ((h c).2 Cert.Kernel6Ideal.main_arg1 (Pipeline.mem_restRefs_of Cert.Kernel6Ideal.main_arg1 (by decide) (by decide))).trans (Cert.Kernel6Ideal.Gen.W_main_arg1 m _ c)⟩
  · refine (θ_run Cert.Reference6Ideal.defs _ _).mono (fun r h c => ?_) (Cert.Reference6Ideal.Value.run (F := Ideal) m' g')
    obtain ⟨e0, e1⟩ := hargs c
    obtain ⟨k0, hk⟩ := h c
    refine ⟨k0.trans ((val_main_v10_eq (F := Ideal) _ _).trans ?_), hk⟩
    exact (congrArg₂ (val_main_v10 (F := Ideal)) e0 e1).trans (funext fun i => reference_weights _ _ i)

end Cert.SubdwAlgebraic

end
-- ==== Proof.Sub16Run.lean ====
/- The run of the program that projects into sixteen subsequences: each core ends with every buffer at the contents the launches and the
   host operations between them leave. -/
module

public import proofs.«01_k».proof.Proof.Gen.Kernel7Ideal.Frame

@[expose] public section

set_option maxRecDepth 16384

noncomputable section

namespace Cert.Sub16Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Sub16Run

end
-- ==== Proof.Sub16Block.lean ====
/- A group's projection where the rows go to their subsequences and back: what the two launches' stores and strided loads make of a
   product. -/
module

public import proofs.«01_k».proof.Proof.Gen.Kernel7Ideal.Frame
public import proofs.«01_k».proof.Proof.Strided
public import Idealize.ShloMosaic.Lib.Pipeline.ValueKit
public import Idealize.ShloMosaic.Lib.Pointwise

@[expose] public section

set_option maxRecDepth 16384
set_option backward.isDefEq.respectTransparency false

noncomputable section

namespace Cert.Sub16Block

open Cert.Kernel7Ideal Cert.Kernel7Ideal.Gen Cert.Strided
open Idealize.ShloMosaic Idealize.ShloMosaic.TcCoe Idealize.SL.Sem
open scoped BigOperators

variable (V : (c : Dev nD) → (b : Ref sig .tc) → Buf (Elt Ideal) ((c : Thread nD τ).loc b)) (c : Dev nD)

/-- The chunks of a product, as the first launch stores them. -/
def stored (a : Vec Ideal S1024x1024 .bf16) (b : Vec Ideal S1024x768 .bf16) : List (View.Piece (Elt Ideal) S6x1024x128 .f32) :=
  [⟨Rect.unit ![5, 0, 0] ![1, 1024, 128] inb_S6x1024x128_S1x1024x128_5_0_0, k0_pay8 a b⟩,
    ⟨Rect.unit ![4, 0, 0] ![1, 1024, 128] inb_S6x1024x128_S1x1024x128_4_0_0, k0_pay7 a b⟩,
    ⟨Rect.unit ![3, 0, 0] ![1, 1024, 128] inb_S6x1024x128_S1x1024x128_3_0_0, k0_pay6 a b⟩,
    ⟨Rect.unit ![2, 0, 0] ![1, 1024, 128] inb_S6x1024x128_S1x1024x128_2_0_0, k0_pay5 a b⟩,
    ⟨Rect.unit ![1, 0, 0] ![1, 1024, 128] inb_S6x1024x128_S1x1024x128_1_0_0, k0_pay4 a b⟩,
    ⟨Rect.unit ![0, 0, 0] ![1, 1024, 128] inb_S6x1024x128_S1x1024x128_0_0_0, k0_pay3 a b⟩]

theorem stored_hold (a : Vec Ideal S1024x1024 .bf16) (b : Vec Ideal S1024x768 .bf16) :
    ∀ p ∈ stored a b, ∀ x : p.1.shape.Idx, p.2 x = chunks (N := 6) rfl (k0_pay2 a b) (p.1.emb x) := by
  unfold stored
  repeat refine List.forall_mem_cons.2 ⟨fun x => chunk_store (N := 6) rfl (k0_pay2 a b) _ _ (by rfl) (by decide) (by decide) (by decide) x, ?_⟩
  exact fun p hp => absurd hp List.not_mem_nil

theorem stored_cover (a : Vec Ideal S1024x1024 .bf16) (b : Vec Ideal S1024x768 .bf16) (y : S6x1024x128.Idx) : ∃ p ∈ stored a b, y ∈ p.1.set := by
  refine mem_place _ (y 0).val 0 1024 1 ?_ y rfl (y 1).val (y 1).isLt (by omega)
  exact (by decide : ∀ j : Fin 6, ((j.val, 0, 0), (1, 1024, 128), (1, 1, 1)) ∈ List.ofFn fun n : Fin 6 => ((5 - n.val, 0, 0), (1, 1024, 128), (1, 1, 1))) (y 0)

theorem block0 (t : Fin cfg0.N) (y : S16x64x768.Idx) : outsAt0 V c t y = k0_pay2 (iblk0 V c 0 t) (iblk0 V c 1 t)
    (ix2 (n0 := 1024) (n1 := 768)
      ⟨16 * (y 1).val + (y 0).val, by have : (y 0).val < 16 := (y 0).isLt; have : (y 1).val < 64 := (y 1).isLt; omega⟩ (y 2)) := by
  unfold outsAt0
  generalize iblk0 V c 0 t = a
  generalize iblk0 V c 1 t = b
  frame_out
  refine View.canon_apply_of_pieces (Val := Elt Ideal) (e := .bf16) (fun i : S16x64x768.Idx => k0_pay2 a b (ix2 (n0 := 1024) (n1 := 768)
      ⟨16 * (i 1).val + (i 0).val, by have : (i 0).val < 16 := (i 0).isLt; have : (i 1).val < 64 := (i 1).isLt; omega⟩ (i 2))) _ ?_ y ?_
  · repeat refine List.forall_mem_cons.2 ⟨fun x => gathered (d := 16) (m := 64) rfl (k0_pay2 a b) _ (stored a b) (stored_hold a b) (stored_cover a b) _
      (by decide) (by decide) (by decide) (by decide) (by decide) (by decide) (by decide) x, ?_⟩
    exact fun p hp => absurd hp List.not_mem_nil
  · refine mem_place _ (y 0).val 0 64 1 ?_ y rfl (y 1).val (y 1).isLt (by omega)
    exact (by decide : ∀ j : Fin 16, ((j.val, 0, 0), (1, 64, 768), (1, 1, 1)) ∈ List.ofFn fun n : Fin 16 => ((15 - n.val, 0, 0), (1, 64, 768), (1, 1, 1))) (y 0)

theorem block1 (t : Fin cfg1.N) (y : S512x1024.Idx) : outsAt1 V c t y = k1_pay2 (iblk1 V c 0 t) (iblk1 V c 1 t)
    (ix2 (n0 := 512) (n1 := 1024) ⟨32 * ((y 0).val % 16) + (y 0).val / 16, by have : (y 0).val < 512 := (y 0).isLt; omega⟩ (y 1)) := by
  unfold outsAt1
  generalize iblk1 V c 0 t = a
  generalize iblk1 V c 1 t = b
  frame_out
  refine ordered (d := 16) (m := 32) rfl (by decide) (k1_pay2 a b) _ _ ?_ (fun i => ?_) (by decide) (by decide) (by decide) y
  · repeat refine List.forall_mem_cons.2 ⟨fun x => scatter_store (N := 8) (d := 16) (m := 32) rfl rfl (by decide) (k1_pay2 a b) _ _ _ _ (by decide) (by rfl) (by rfl)
      (by decide) (by decide) (by decide) (by decide) (by decide) x, ?_⟩
    exact fun p hp => absurd hp List.not_mem_nil
  · have hi : (i 1).val < 512 := (i 1).isLt
    refine mem_place _ (i 0).val ((i 1).val % 16) 32 16 ?_ i rfl ((i 1).val / 16) (by omega) (by omega)
    exact (by decide : ∀ (j : Fin 8) (s : Fin 16), ((j.val, s.val, 0), (1, 32, 128), (1, 16, 1)) ∈
      List.ofFn fun n : Fin 128 => ((7 - n.val % 8, 15 - n.val / 8, 0), (1, 32, 128), (1, 16, 1))) (i 0) ⟨(i 1).val % 16, by omega⟩

end Cert.Sub16Block

end
-- ==== Proof.Sub16Array.lean ====
/- The projection with its rows in sixteen subsequences: the arrays the two launches make up, as sums. -/
module

public import proofs.«01_k».proof.Proof.Sub16Block

@[expose] public section

set_option maxRecDepth 16384
set_option backward.isDefEq.respectTransparency false

noncomputable section

namespace Cert.Sub16Array

open Cert.Kernel7Ideal Cert.Kernel7Ideal.Gen
open Idealize.ShloMosaic Idealize.ShloMosaic.TcCoe Idealize.SL.Sem
open scoped BigOperators

/-! ### The two results, of rows `x`, weights `w` and the cotangent `q` by subsequence -/

/-- A column of the group, among the columns of all groups. -/
def wcol (f : Fin 3072) : Fin 9216 := ⟨6144 + f.val, by omega⟩

/-- Row `n` of subsequence `s`. -/
def srow (s : Fin 16) (n : Fin 256) : Fin 4096 := ⟨16 * n.val + s.val, by omega⟩

/-- The rows times the group's columns, by subsequence. -/
def qkv (x : S4096x1024.Idx → EReal) (w : S1024x9216.Idx → EReal) : S16x256x3072.Idx → EReal := fun i =>
  ∑ k : Fin 1024, x (ix2 (n0 := 4096) (n1 := 1024) (srow (i 0) (i 1)) k) * w (ix2 (n0 := 1024) (n1 := 9216) k (wcol (i 2)))

/-- The input's gradient. -/
def dx (w : S1024x9216.Idx → EReal) (q : S16x256x3072.Idx → EReal) : S4096x1024.Idx → EReal := fun i =>
  ∑ f : Fin 3072, q (ix3 (n0 := 16) (n1 := 256) (n2 := 3072) ⟨(i 0).val % 16, by omega⟩
    ⟨(i 0).val / 16, by have : (i 0).val < 4096 := (i 0).isLt; omega⟩ f) * w (ix2 (n0 := 1024) (n1 := 9216) (i 1) (wcol f))

variable {x : S4096x1024.Idx → EReal} {w : S1024x9216.Idx → EReal} {q : S16x256x3072.Idx → EReal}
variable (V : (c : Dev nD) → (b : Ref sig .tc) → Buf (Elt Ideal) ((c : Thread nD τ).loc b)) (c : Dev nD)

/-! ### The projected rows -/

theorem pay0 (a : Vec Ideal S1024x1024 .bf16) (b : Vec Ideal S1024x768 .bf16) (r : Fin 1024) (f : Fin 768) :
    k0_pay2 a b (ix2 (n0 := 1024) (n1 := 768) r f)
      = ∑ k : Fin 1024, (a (ix2 (n0 := 1024) (n1 := 1024) r k) * b (ix2 (n0 := 1024) (n1 := 768) k f) : EReal) := by
  pointwise [k0_pay2]

theorem idx0 : ∀ t : Fin cfg0.N, win0_0.index t = ![t.val % 4, 0] ∧ win0_1.index t = ![0, 8 + t.val / 4]
    ∧ win0_2.index t = ![0, t.val % 4, t.val / 4] :=
  (by decide +kernel : ∀ t : Fin grid0.N, _)

def row0 (t : Fin cfg0.N) (r : Fin 1024) : Fin 4096 := ⟨1024 * (t.val % 4) + r.val, by omega⟩
def col0 (t : Fin cfg0.N) (f : Fin 768) : Fin 3072 := ⟨768 * (t.val / 4) + f.val, by have := lt_of_lt_of_eq t.isLt N_0; omega⟩

theorem block0 (t : Fin cfg0.N) (a : Vec Ideal S1024x1024 .bf16) (b : Vec Ideal S1024x768 .bf16)
    (ha : ∀ r k : Fin 1024, a (ix2 (n0 := 1024) (n1 := 1024) r k) = x (ix2 (n0 := 4096) (n1 := 1024) (row0 t r) k))
    (hb : ∀ (k : Fin 1024) (f : Fin 768), b (ix2 (n0 := 1024) (n1 := 768) k f) = w (ix2 (n0 := 1024) (n1 := 9216) k (wcol (col0 t f))))
    (z : S16x256x3072.Idx) (y : S16x64x768.Idx) (h0 : (z 0).val = (y 0).val) (h1 : (z 1).val = 64 * (t.val % 4) + (y 1).val)
    (h2 : (z 2).val = 768 * (t.val / 4) + (y 2).val) (r : Fin 1024) (hr : r.val = 16 * (y 1).val + (y 0).val) :
    k0_pay2 (F := Ideal) a b (ix2 (n0 := 1024) (n1 := 768) r (y 2)) = qkv x w z := by
  refine (pay0 _ _ _ _).trans ?_
  unfold qkv
  rw [show srow (z 0) (z 1) = row0 t r from Fin.ext (by
    show 16 * (z 1).val + (z 0).val = 1024 * (t.val % 4) + r.val; omega), show z 2 = col0 t (y 2) from Fin.ext h2]
  refine Finset.sum_congr rfl fun k _ => ?_
  rw [ha, hb]

theorem arr0 (hx : V c main_v1 = x) (hw : V c main_v0 = w) : (dat0 V c).arrAt 2 cfg0.N = qkv x w := by
  refine (dat0 V c).arrAt_eq_of_covers 2 _ (by decide +kernel) fun t hf y => ?_
  obtain ⟨i0, i1, i2⟩ := idx0 t
  have ha : ∀ r k : Fin 1024, iblk0 V c 0 t (ix2 (n0 := 1024) (n1 := 1024) r k) = x (ix2 (n0 := 4096) (n1 := 1024) (row0 t r) k) := fun r k =>
    (show _ = V c main_v1 (ix2 (n0 := 4096) (n1 := 1024) (row0 t r) k) by
      unfold iblk0; generalize V c = W; blk_ext [i0, row0]).trans (congrFun hx _)
  have hb : ∀ (k : Fin 1024) (f : Fin 768), iblk0 V c 1 t (ix2 (n0 := 1024) (n1 := 768) k f)
      = w (ix2 (n0 := 1024) (n1 := 9216) k (wcol (col0 t f))) := fun k f =>
    (show _ = V c main_v0 (ix2 (n0 := 1024) (n1 := 9216) k (wcol (col0 t f))) by
      unfold iblk0; generalize V c = W; blk_ext [i1, wcol, col0]).trans (congrFun hw _)
  blk_simp
  rw [after0_2]
  refine (Sub16Block.block0 V c t y).trans (block0 t _ _ ha hb _ _ ?_ ?_ ?_ _ rfl)
  · blk_simp [i2]
  · blk_simp [i2]; exact congrArg (· + (y 1).val) (Nat.mul_comm _ _)
  · blk_simp [i2]; exact congrArg (· + (y 2).val) (Nat.mul_comm _ _)

/-! ### The input's gradient -/

theorem pay1 (a : Vec Ideal S16x32x3072 .bf16) (b : Vec Ideal S1024x3072 .bf16) (s : Fin 16) (n : Fin 32) (r : Fin 512)
    (hr : r.val = 32 * s.val + n.val) (d : Fin 1024) :
    k1_pay2 a b (ix2 (n0 := 512) (n1 := 1024) r d)
      = ∑ f : Fin 3072, (a (ix3 (n0 := 16) (n1 := 32) (n2 := 3072) s n f) * b (ix2 (n0 := 1024) (n1 := 3072) d f) : EReal) := by
  have e : k1_pay2 a b (ix2 (n0 := 512) (n1 := 1024) r d)
      = ∑ f : Fin 3072, (shapeCast S512x3072 a shapeCasts_S16x32x3072_S512x3072 (ix2 (n0 := 512) (n1 := 3072) r f)
          * b (ix2 (n0 := 1024) (n1 := 3072) d f) : EReal) := by
    generalize hg : shapeCast S512x3072 a shapeCasts_S16x32x3072_S512x3072 = g
    unfold k1_pay2
    rw [shapeCast_self, hg]
    pointwise
  rw [e]
  refine Finset.sum_congr rfl fun f _ => ?_
  refine congrArg (· * b (ix2 (n0 := 1024) (n1 := 3072) d f)) (shapeCast_apply _ _ _ _ ?_)
  rewrite [Shape.rowMajor_val_three, Shape.rowMajor_val_two]
  show (s.val * 32 + n.val) * 3072 + f.val = r.val * 3072 + f.val
  omega

theorem idx1 : ∀ t : Fin cfg1.N, win1_0.index t = ![0, t.val, 0] ∧ win1_1.index t = ![0, 2] ∧ win1_2.index t = ![t.val, 0] :=
  (by decide +kernel : ∀ t : Fin grid1.N, _)

def row1 (t : Fin cfg1.N) (n : Fin 32) : Fin 256 := ⟨32 * t.val + n.val, by have := lt_of_lt_of_eq t.isLt N_1; omega⟩

theorem block1 (t : Fin cfg1.N) (a : Vec Ideal S16x32x3072 .bf16) (b : Vec Ideal S1024x3072 .bf16)
    (ha : ∀ (s : Fin 16) (n : Fin 32) (f : Fin 3072), a (ix3 (n0 := 16) (n1 := 32) (n2 := 3072) s n f)
      = q (ix3 (n0 := 16) (n1 := 256) (n2 := 3072) s (row1 t n) f))
    (hb : ∀ (d : Fin 1024) (f : Fin 3072), b (ix2 (n0 := 1024) (n1 := 3072) d f) = w (ix2 (n0 := 1024) (n1 := 9216) d (wcol f)))
    (z : S4096x1024.Idx) (y : S512x1024.Idx) (h0 : (z 0).val = 512 * t.val + (y 0).val) (h1 : (z 1).val = (y 1).val)
    (r : Fin 512) (hr : r.val = 32 * ((y 0).val % 16) + (y 0).val / 16) :
    k1_pay2 (F := Ideal) a b (ix2 (n0 := 512) (n1 := 1024) r (y 1)) = dx w q z := by
  have hy : (y 0).val < 512 := (y 0).isLt
  refine (pay1 _ _ ⟨(y 0).val % 16, by omega⟩ ⟨(y 0).val / 16, by omega⟩ _ hr _).trans ?_
  unfold dx
  refine Finset.sum_congr rfl fun f _ => ?_
  rw [ha, hb]
  refine congrArg₂ (fun a b : EReal => a * b) (congrArg q ?_) (congrArg w ?_)
  · refine congrArg₂ (fun s n => ix3 (n0 := 16) (n1 := 256) (n2 := 3072) s n f) (Fin.ext ?_) (Fin.ext ?_)
    · show (y 0).val % 16 = (z 0).val % 16; omega
    · show 32 * t.val + (y 0).val / 16 = (z 0).val / 16; omega
  · exact congrArg (fun d => ix2 (n0 := 1024) (n1 := 9216) d (wcol f)) (Fin.ext h1.symm)

theorem arr1 (hq : V c main_v5 = q) (hw : V c main_v0 = w) : (dat1 V c).arrAt 2 cfg1.N = dx w q := by
  refine (dat1 V c).arrAt_eq_of_covers 2 _ (by decide +kernel) fun t hf y => ?_
  obtain ⟨i0, i1, i2⟩ := idx1 t
  have ha : ∀ (s : Fin 16) (n : Fin 32) (f : Fin 3072), iblk1 V c 0 t (ix3 (n0 := 16) (n1 := 32) (n2 := 3072) s n f)
      = q (ix3 (n0 := 16) (n1 := 256) (n2 := 3072) s (row1 t n) f) := fun s n f =>
    (show _ = V c main_v5 (ix3 (n0 := 16) (n1 := 256) (n2 := 3072) s (row1 t n) f) by
      unfold iblk1; generalize V c = W; blk_ext [i0, row1]).trans (congrFun hq _)
  have hb : ∀ (d : Fin 1024) (f : Fin 3072), iblk1 V c 1 t (ix2 (n0 := 1024) (n1 := 3072) d f) = w (ix2 (n0 := 1024) (n1 := 9216) d (wcol f)) := fun d f =>
    (show _ = V c main_v0 (ix2 (n0 := 1024) (n1 := 9216) d (wcol f)) by
      unfold iblk1; generalize V c = W; blk_ext [i1, wcol]).trans (congrFun hw _)
  blk_simp
  rw [after1_2]
  refine (Sub16Block.block1 V c t y).trans (block1 t _ _ ha hb _ _ ?_ ?_ _ rfl)
  · blk_simp [i2]; exact congrArg (· + (y 0).val) (Nat.mul_comm _ _)
  · blk_simp [i2]

end Cert.Sub16Array

end
-- ==== Proof.Sub16Host.lean ====
/- What the launches that project into sixteen subsequences find in their operands and what they leave, down to the two results. -/
module

public import proofs.«01_k».proof.Proof.Sub16Array
public import Idealize.ShloMosaic.Lib.StableHlo.RunRead

@[expose] public section

set_option maxRecDepth 16384
set_option backward.isDefEq.respectTransparency false

noncomputable section

namespace Cert.Sub16Host

open Cert.Kernel7Ideal Cert.Kernel7Ideal.Gen Cert.Sub16Array Idealize.ShloMosaic.StableHlo
open Idealize.ShloMosaic Idealize.ShloMosaic.TcCoe Idealize.SL.Sem
open scoped BigOperators

abbrev Vals : Type := Valuation τ sig (Elt Ideal)

/-! ### The host operations, over any contents before them -/

/-- The rows of sixteen subsequences, one after another. -/
def rows (g : S16x256x3072.Idx → EReal) : S4096x3072.Idx → EReal := shapeCast S4096x3072 g shapeCasts_S16x256x3072_S4096x3072

/-- Rows, cut into sixteen subsequences. -/
def cut (q : S4096x3072.Idx → EReal) : S16x256x3072.Idx → EReal := shapeCast S16x256x3072 q shapeCasts_S4096x3072_S16x256x3072

theorem s0w (W : Vals) : after hostOps0 W (Proc.devRef .tc main_v0) = W (Proc.devRef .tc main_arg1) := by
  after_reads_simp; rfl
theorem s0x (W : Vals) : after hostOps0 W (Proc.devRef .tc main_v1) = W (Proc.devRef .tc main_arg0) := by
  after_reads_simp; rfl
theorem s1y (W : Vals) : after hostOps1 W (Proc.devRef .tc main_v3) = rows (W (Proc.devRef .tc main_v2)) := by
  after_reads_simp; rfl
theorem s1q (W : Vals) : after hostOps1 W (Proc.devRef .tc main_v5) = cut (W (Proc.devRef .tc main_arg2)) := by
  after_reads_simp; rfl

/-! ### Launch by launch -/

variable (m : (ℓ : Loc nD τ sig) → Buf (Elt Ideal) ℓ) (ρ : Dev nD → PrngReg) (c : Dev nD)

abbrev X : S4096x1024.Idx → EReal := m ((c : Thread nD τ).loc main_arg0)
abbrev Wt : S1024x9216.Idx → EReal := m ((c : Thread nD τ).loc main_arg1)
abbrev Q : S4096x3072.Idx → EReal := m ((c : Thread nD τ).loc main_arg2)

theorem w1w : W1 m ρ c (Proc.devRef .tc main_v0) = Wt m c := s0w _
theorem w1x : W1 m ρ c (Proc.devRef .tc main_v1) = X m c := s0x _

theorem w2y : W2 m ρ c (Proc.devRef .tc main_v2) = qkv (X m c) (Wt m c) :=
  (W2_arr m ρ c 2).trans (arr0 (V1 m ρ) c (w1x m ρ c) (w1w m ρ c))

theorem w3w : W3 m ρ c (Proc.devRef .tc main_v0) = Wt m c :=
  (W3_of m ρ c main_v0 (by decide)).trans ((W2_of m ρ c main_v0 (by decide)).trans (w1w m ρ c))
theorem w3q : W3 m ρ c (Proc.devRef .tc main_v5) = cut (Q m c) :=
  (s1q _).trans (congrArg cut (W2_args m ρ c main_arg2 (by decide)))
theorem w3y : W3 m ρ c (Proc.devRef .tc main_v3) = rows (qkv (X m c) (Wt m c)) := (s1y _).trans (congrArg rows (w2y m ρ c))

theorem result_qkv : W4 m ρ c (Proc.devRef .tc main_v3) = rows (qkv (X m c) (Wt m c)) :=
  (W4_of m ρ c main_v3 (by decide)).trans (w3y m ρ c)
theorem result_input : W4 m ρ c (Proc.devRef .tc main_v6) = dx (Wt m c) (cut (Q m c)) :=
  (W4_arr m ρ c 2).trans (arr1 (V3 m ρ) c (w3q m ρ c) (w3w m ρ c))

end Cert.Sub16Host

end
-- ==== Proof.Sub16Algebraic.lean ====
/- The claims for the projection into sixteen subsequences: its programs run to the end with their arguments unchanged, and the launches
   leave the reference's projected rows and input gradient. -/
module

public import proofs.«01_k».proof.Proof.Sub16Run
public import proofs.«01_k».proof.Proof.Sub16Host
public import proofs.«01_k».proof.Proof.Gen.Kernel7.Frame
public import proofs.«01_k».proof.Proof.Gen.Reference7Ideal.Run
public import proofs.«01_k».proof.Proof.Gen.Reference7Ideal.Read
public import proofs.«01_k».proof.Defs

@[expose] public section

noncomputable section

namespace Cert.Sub16Algebraic

open Idealize.ShloMosaic Idealize.SL.Sem Cert.Kernel7Ideal.Gen Cert.Reference7Ideal.Gen Cert.Sub16Array Cert.Sub16Host
open Cert.Reference7Ideal.Read Idealize.ShloMosaic.TcCoe
open scoped BigOperators

/-! ### Frames -/

theorem kernel : Cert.quiescent_Kernel7 := fun m ρ _ => Cert.Kernel7.Gen.frame m ρ

theorem kernelIdeal : Cert.quiescent_Kernel7Ideal := fun m ρ _ => Cert.Kernel7Ideal.Gen.frame m ρ

theorem referenceIdeal : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

theorem preserves : Cert.preserves_Kernel7_Kernel7Ideal := trivial

/-! ### The reference's results -/

section reference
variable (x : Cert.Kernel7Ideal.S4096x1024.Idx → EReal) (w : Cert.Kernel7Ideal.S1024x9216.Idx → EReal) (q : Cert.Kernel7Ideal.S4096x3072.Idx → EReal)

/-- The group's columns of the weights. -/
theorem columns (k : Fin 1024) (f : Fin 3072) (j : Cert.Reference7Ideal.S1024x3072.Idx) (h0 : (j 0).val = k.val) (h1 : (j 1).val = f.val) :
    val_main_v0 (F := Ideal) w j = w (ix2 (n0 := 1024) (n1 := 9216) k (wcol f)) := by
  unfold val_main_v0
  exact extractStridedSlice_apply _ _ _ _ (ix2 (n0 := 1024) (n1 := 9216) k (wcol f)) (by
    intro a; fin_cases a
    · exact h0.symm.trans (Nat.zero_add _).symm
    · exact congrArg (6144 + ·) h1.symm)

theorem reference_sub : val_main_v3 (F := Ideal) x w = qkv x w := by
  funext i
  have e : val_main_v3 (F := Ideal) x w i = val_main_v1 (F := Ideal) x w (ix2 (n0 := 4096) (n1 := 3072) (srow (i 0) (i 1)) (i 2)) := by
    unfold val_main_v3
    refine (transpose_apply _ _ _ _ (ix3 (n0 := 256) (n1 := 16) (n2 := 3072) (i 1) (i 0) (i 2)) (by intro b; fin_cases b <;> rfl)).trans ?_
    unfold val_main_v2
    refine shapeCast_apply _ _ _ _ ?_
    rewrite [Shape.rowMajor_val_three, Shape.rowMajor_val_two]
    show (16 * (i 1).val + (i 0).val) * 3072 + (i 2).val = ((i 1).val * 16 + (i 0).val) * 3072 + (i 2).val
    omega
  refine e.trans ((val_main_v1_apply x w _).trans ?_)
  unfold qkv
  refine Finset.sum_congr rfl fun k _ => ?_
  exact congrArg₂ (fun a b : EReal => a * b) (congrArg x (eq_ix2 (n0 := 4096) (n1 := 1024) _)) (columns w k (i 2) _ rfl rfl)

theorem reference_qkv : val_main_v5 (F := Ideal) x w = rows (qkv x w) :=
  (show val_main_v5 (F := Ideal) x w = rows (val_main_v3 (F := Ideal) x w) from rfl).trans (congrArg rows (reference_sub x w))

theorem reference_rows (j : Cert.Reference7Ideal.S4096x3072.Idx) :
    val_main_v8 (F := Ideal) q j = cut q (ix3 (n0 := 16) (n1 := 256) (n2 := 3072) ⟨(j 0).val % 16, by omega⟩
      ⟨(j 0).val / 16, by have : (j 0).val < 4096 := (j 0).isLt; omega⟩ (j 1)) := by
  have hj : (j 0).val < 4096 := (j 0).isLt
  unfold val_main_v8
  refine (shapeCast_apply _ _ _ (ix3 (n0 := 256) (n1 := 16) (n2 := 3072) ⟨(j 0).val / 16, by omega⟩ ⟨(j 0).val % 16, by omega⟩ (j 1)) (by
    rewrite [Shape.rowMajor_val_three, Shape.rowMajor_val_two]
    show ((j 0).val / 16 * 16 + (j 0).val % 16) * 3072 + (j 1).val = (j 0).val * 3072 + (j 1).val
    omega)).trans ?_
  unfold val_main_v7
  exact transpose_apply _ _ _ _ (ix3 (n0 := 16) (n1 := 256) (n2 := 3072) ⟨(j 0).val % 16, by omega⟩ ⟨(j 0).val / 16, by omega⟩ (j 1)) (by
    intro b; fin_cases b <;> rfl)

theorem reference_input : val_main_v9 (F := Ideal) w q = dx w (cut q) := by
  funext i
  refine (val_main_v9_apply w q i).trans ?_
  unfold dx
  refine Finset.sum_congr rfl fun k _ => ?_
  exact congrArg₂ (fun a b : EReal => a * b) (reference_rows q _) (columns w (i 1) k _ rfl rfl)

end reference

theorem algebraic : Cert.algebraic_Kernel7Ideal_Reference7Ideal := by
  intro m g m' g' _ hargs
  refine ⟨fun c => rows (qkv (X m c) (Wt m c)), fun c => dx (Wt m c) (cut (Q m c)), ?_, ?_⟩
  · refine (θ_run Cert.Kernel7Ideal.defs _ _).mono (fun r h c => ?_) (Cert.Sub16Run.run m g)
    refine ⟨(h c _ (mem_uc Cert.Kernel7Ideal.main_v3 (by decide))).trans (result_qkv m g c),
      (h c _ (mem_uc Cert.Kernel7Ideal.main_v6 (by decide))).trans (result_input m g c),
      (h c _ (mem_uc Cert.Kernel7Ideal.main_arg0 (by decide))).trans (W4_main_arg0 m g c),
      (h c _ (mem_uc Cert.Kernel7Ideal.main_arg1 (by decide))).trans (W4_main_arg1 m g c),
      (h c _ (mem_uc Cert.Kernel7Ideal.main_arg2 (by decide))).trans (W4_main_arg2 m g c)⟩
  · refine (θ_run Cert.Reference7Ideal.defs _ _).mono (fun r h c => ?_) (Cert.Reference7Ideal.Value.run (F := Ideal) m' g')
    obtain ⟨e0, e1, e2⟩ := hargs c
    obtain ⟨k0, k1, hk⟩ := h c
    refine ⟨k0.trans ((val_main_v5_eq (F := Ideal) _ _).trans ?_), k1.trans ((val_main_v9_eq (F := Ideal) _ _).trans ?_), hk⟩
    · exact (congrArg₂ (val_main_v5 (F := Ideal)) e0 e1).trans (reference_qkv _ _)
    · exact (congrArg₂ (val_main_v9 (F := Ideal)) e1 e2).trans (reference_input _ _)

end Cert.Sub16Algebraic

end
-- ==== Proof.Sub16dwBlock.lean ====
/- The weights' gradient of a group with sixteen subsequences: the launch copies the rows it multiplies side by side once per block of
   rows, keeps them for the blocks of columns that follow, and leaves the array of sums its blocks make up. -/
module

public import proofs.«01_k».proof.Proof.Gen.Kernel8Ideal.Frame
public import proofs.«01_k».proof.Proof.Strided
public import Idealize.ShloMosaic.Lib.Pipeline.ValueKit
public import Idealize.ShloMosaic.Lib.Pipeline.ValueKit.Partial
public import Idealize.ShloMosaic.Lib.Pointwise

@[expose] public section

set_option maxRecDepth 16384
set_option backward.isDefEq.respectTransparency false

noncomputable section

namespace Cert.Sub16dwBlock

open Cert.Kernel8Ideal Cert.Kernel8Ideal.Gen Cert.Strided
open Idealize.ShloMosaic Idealize.ShloMosaic.TcCoe Idealize.SL.Sem
open scoped BigOperators

/-! ### The copied rows -/

variable (m : (ℓ : Loc nD τ sig) → Buf (Elt Ideal) ℓ) (c : Dev nD)

/-- The subsequences' columns, side by side. -/
abbrev strips (a : S16x512x256.Idx → EReal) : S512x4096.Idx → EReal := beside (d := 16) (n := 256) rfl (by decide) a

/-- The copied columns make up all of the scratch buffer. -/
theorem cover (L : List (View.Piece (Elt Ideal) S512x4096 .bf16))
    (h : L.map place2 = List.ofFn fun n : Fin 16 => ((0, 256 * (15 - n.val)), (512, 256), (1, 1))) (y : S512x4096.Idx) : ∃ p ∈ L, y ∈ p.1.set := by
  have hy : (y 1).val < 4096 := (y 1).isLt
  refine mem_strip _ (256 * ((y 1).val / 256)) 256 ?_ y (by omega) (by omega)
  rw [h]
  exact (by decide : ∀ s : Fin 16, ((0, 256 * s.val), (512, 256), (1, 1)) ∈ List.ofFn fun n : Fin 16 => ((0, 256 * (15 - n.val)), (512, 256), (1, 1)))
    ⟨(y 1).val / 256, by omega⟩

theorem carried_A (t : Fin cfg0.N) (h : t.val % 8 = 0) : (outsAt0 m c t.val t.isLt).2 = strips (iblk m c 0 t) := by
  rw [outsAt0_A m c t h]
  funext y
  generalize iblk m c 0 t = a
  generalize iblk m c 1 t = b
  frame_out
  refine View.canon_apply_of_pieces (Val := Elt Ideal) (e := .bf16) (strips a) _ ?_ y ?_; rotate_left; · exact cover _ rfl y
  repeat refine List.forall_mem_cons.2 ⟨fun x => beside_store (d := 16) (n := 256) rfl (by decide) a _ _ (by rfl) (by decide) (by decide) (by decide) (by decide) x, ?_⟩
  exact fun p hp => absurd hp List.not_mem_nil

theorem product_A (t : Fin cfg0.N) (h : t.val % 8 = 0) :
    (outsAt0 m c t.val t.isLt).1 = k0_pay6 (F := Ideal) (strips (iblk m c 0 t)) (iblk m c 1 t) := by
  rw [outsAt0_A m c t h]
  funext y
  generalize iblk m c 0 t = a
  generalize iblk m c 1 t = b
  frame_out
  refine congrFun (congrArg (fun s => k0_pay6 (F := Ideal) s b) ?_) y
  refine read_all (View.whole cc0_scratch0) (strips a) _ ?_ ?_ (by decide); rotate_left; · exact cover _ rfl
  repeat refine List.forall_mem_cons.2 ⟨fun x => beside_store (d := 16) (n := 256) rfl (by decide) a _ _ (by rfl) (by decide) (by decide) (by decide) (by decide) x, ?_⟩
  exact fun p hp => absurd hp List.not_mem_nil

theorem product_B (t : Fin cfg0.N) (h : ¬ t.val % 8 = 0) : (outsAt0 m c t.val t.isLt).1
    = k0_pay6 (F := Ideal) (outsAt0 m c (t.val - 1) (Nat.lt_of_le_of_lt (Nat.sub_le _ _) t.isLt)).2 (iblk m c 1 t) := by
  rw [outsAt0_B m c t h]
  generalize (outsAt0 m c (t.val - 1) (Nat.lt_of_le_of_lt (Nat.sub_le _ _) t.isLt)).2 = s
  generalize iblk m c 0 t = a
  generalize iblk m c 1 t = b
  frame_out
  exact congrArg (fun s => k0_pay6 (F := Ideal) s b) (Memref.IsWhole.read_unread _ s)

theorem carried_B (t : Fin cfg0.N) (h : ¬ t.val % 8 = 0) : (outsAt0 m c t.val t.isLt).2
    = (outsAt0 m c (t.val - 1) (Nat.lt_of_le_of_lt (Nat.sub_le _ _) t.isLt)).2 := by
  rw [outsAt0_B m c t h]; rfl

/-! ### The launch -/

/-- Rows `16 n + s`, turned, for every `s`. -/
def turned (x : S4096x1024.Idx → EReal) : S16x1024x256.Idx → EReal := fun i =>
  x (ix2 (n0 := 4096) (n1 := 1024) ⟨16 * (i 2).val + (i 0).val, by
    have : (i 0).val < 16 := (i 0).isLt; have : (i 2).val < 256 := (i 2).isLt; omega⟩ (i 1))

/-- The row of `x` that the cotangent's row `t` belongs to. -/
def srow (t : Fin 4096) : Fin 4096 := ⟨16 * (t.val % 256) + t.val / 256, by omega⟩

/-- The weights' gradient at a row and a column. -/
def dw (x : S4096x1024.Idx → EReal) (q : S4096x3072.Idx → EReal) (k : Fin 1024) (f : Fin 3072) : EReal :=
  ∑ t : Fin 4096, x (ix2 (n0 := 4096) (n1 := 1024) (srow t) k) * q (ix2 (n0 := 4096) (n1 := 3072) t f)

/-- The device whose columns a slot holds: the even devices' slots come first; and the slot of a device. -/
def dev (s : ℕ) : ℕ := 2 * (s % 4) + s / 4
def slot (d : ℕ) : ℕ := 4 * (d % 2) + d / 2

/-- The gradient in its slots, where they hold the group's columns. -/
def slots (x : S4096x1024.Idx → EReal) (q : S4096x3072.Idx → EReal) : S8x1024x1152.Idx → EReal := fun i =>
  if h : 6144 ≤ 1152 * dev (i 0).val + (i 2).val ∧ 1152 * dev (i 0).val + (i 2).val < 9216 then
    dw x q (i 1) ⟨1152 * dev (i 0).val + (i 2).val - 6144, by omega⟩ else 0

variable {x : S4096x1024.Idx → EReal} {q : S4096x3072.Idx → EReal}

theorem pay (a : Vec Ideal S512x4096 .bf16) (b : Vec Ideal S4096x384 .bf16) (o : Fin 1) (r : Fin 512) (f : Fin 384) :
    k0_pay6 a b (ix3 (n0 := 1) (n1 := 512) (n2 := 384) o r f)
      = ∑ t : Fin 4096, (a (ix2 (n0 := 512) (n1 := 4096) r t) * b (ix2 (n0 := 4096) (n1 := 384) t f) : EReal) := by
  pointwise [k0_pay6]

theorem idx : ∀ t : Fin cfg0.N, win0_0.index t = ![0, t.val / 8, 0] ∧ win0_1.index t = ![0, t.val % 8]
    ∧ win0_2.index t = ![slot ((16 + t.val % 8) / 3), t.val / 8, (16 + t.val % 8) % 3] :=
  (by decide +kernel : ∀ t : Fin grid0.N, _)

def row (g : ℕ) (hg : g < 2) (r : Fin 512) : Fin 1024 := ⟨512 * g + r.val, by omega⟩
def col (t : Fin cfg0.N) (f : Fin 384) : Fin 3072 := ⟨384 * (t.val % 8) + f.val, by omega⟩

theorem half (t : Fin cfg0.N) : t.val / 8 < 2 := by have := lt_of_lt_of_eq t.isLt N_0; omega

/-- What a block of rows is multiplied from. -/
def held (x : S4096x1024.Idx → EReal) (g : ℕ) (hg : g < 2) : S512x4096.Idx → EReal := fun i =>
  x (ix2 (n0 := 4096) (n1 := 1024) (srow (i 1)) (row g hg (i 0)))

theorem held_congr (x : S4096x1024.Idx → EReal) {g g' : ℕ} (e : g = g') (hg : g < 2) (hg' : g' < 2) : held x g hg = held x g' hg' := by
  subst e; rfl

theorem strips_held (hx : V m c main_v2 = turned x) (t : Fin cfg0.N) : strips (iblk m c 0 t) = held x (t.val / 8) (half t) := by
  obtain ⟨i0, i1, i2⟩ := idx t
  funext i
  unfold strips beside held
  refine (show _ = V m c main_v2 (ix3 (n0 := 16) (n1 := 1024) (n2 := 256) ⟨(i 1).val / 256, by have : (i 1).val < 4096 := (i 1).isLt; omega⟩
      (row (t.val / 8) (half t) (i 0)) ⟨(i 1).val % 256, by omega⟩) by
    unfold iblk; generalize V m c = W; blk_ext [i0, row]).trans ((congrFun hx _).trans ?_)
  rfl

theorem carried (hx : V m c main_v2 = turned x) : ∀ (n : ℕ) (hn : n < cfg0.N), (outsAt0 m c n hn).2 = held x (n / 8) (half ⟨n, hn⟩)
  | 0, hn => (carried_A m c ⟨0, hn⟩ rfl).trans (strips_held m c hx ⟨0, hn⟩)
  | n + 1, hn => by
    by_cases h : (n + 1) % 8 = 0
    · exact (carried_A m c ⟨n + 1, hn⟩ h).trans (strips_held m c hx ⟨n + 1, hn⟩)
    · refine (carried_B m c ⟨n + 1, hn⟩ h).trans ((carried hx n (Nat.lt_of_succ_lt hn)).trans ?_)
      exact held_congr x (by omega) _ _

theorem product (hx : V m c main_v2 = turned x) (t : Fin cfg0.N) : (outsAt0 m c t.val t.isLt).1
    = k0_pay6 (F := Ideal) (held x (t.val / 8) (half t)) (iblk m c 1 t) := by
  by_cases h : t.val % 8 = 0
  · exact (product_A m c t h).trans (congrArg (fun s => k0_pay6 (F := Ideal) s _) (strips_held m c hx t))
  · refine (product_B m c t h).trans (congrArg (fun s => k0_pay6 (F := Ideal) s _) ?_)
    exact (carried_B m c t h).symm.trans (carried m c hx t.val t.isLt)

theorem block (t : Fin cfg0.N) (b : Vec Ideal S4096x384 .bf16)
    (hb : ∀ (k : Fin 4096) (f : Fin 384), b (ix2 (n0 := 4096) (n1 := 384) k f) = q (ix2 (n0 := 4096) (n1 := 3072) k (col t f)))
    (z : S8x1024x1152.Idx) (y : S1x512x384.Idx) (h0 : (z 0).val = slot ((16 + t.val % 8) / 3) + (y 0).val) (h1 : (z 1).val = 512 * (t.val / 8) + (y 1).val)
    (h2 : (z 2).val = 384 * ((16 + t.val % 8) % 3) + (y 2).val) : k0_pay6 (F := Ideal) (held x (t.val / 8) (half t)) b y = slots x q z := by
  refine (congrArg (k0_pay6 (held x (t.val / 8) (half t)) b) (eq_ix3 (n0 := 1) (n1 := 512) (n2 := 384) y)).trans ((pay _ _ _ _ _).trans ?_)
  have hy0 : (y 0).val < 1 := (y 0).isLt
  have hy2 : (y 2).val < 384 := (y 2).isLt
  have hz : 1152 * dev (z 0).val + (z 2).val = 6144 + 384 * (t.val % 8) + (y 2).val := by
    unfold dev; unfold slot at h0; omega
  have hlt : 6144 ≤ 1152 * dev (z 0).val + (z 2).val ∧ 1152 * dev (z 0).val + (z 2).val < 9216 := by omega
  unfold slots dw
  rw [dif_pos hlt, show z 1 = row (t.val / 8) (half t) (y 1) from Fin.ext h1,
    show (⟨1152 * dev (z 0).val + (z 2).val - 6144, by omega⟩ : Fin 3072) = col t (y 2) from Fin.ext (by unfold col; show 1152 * dev (z 0).val + (z 2).val - 6144 = 384 * (t.val % 8) + (y 2).val; omega)]
  refine Finset.sum_congr rfl fun k _ => ?_
  rw [hb]
  rfl

theorem arr (hx : V m c main_v2 = turned x) (hq : V m c main_v3 = q) (i : S8x1024x1152.Idx)
    (hi : 6144 ≤ 1152 * dev (i 0).val + (i 2).val ∧ 1152 * dev (i 0).val + (i 2).val < 9216) :
    (dats m 0 c).arrAt 2 cfg0.N i = slots x q i := by
  have hdev : 16 ≤ 3 * dev (i 0).val + (i 2).val / 384 ∧ 3 * dev (i 0).val + (i 2).val / 384 < 24 := by omega
  refine ((dats m 0 c).arrAt_apply_of_coversWhere 2 (slots x q)
    (P := fun i : S8x1024x1152.Idx => 16 ≤ 3 * dev (i 0).val + (i 2).val / 384 ∧ 3 * dev (i 0).val + (i 2).val / 384 < 24)
    (fun β => 16 ≤ 3 * dev (β (0 : Fin 3)) + β (2 : Fin 3) ∧ 3 * dev (β (0 : Fin 3)) + β (2 : Fin 3) < 24) (by decide +kernel)
    (fun t hf y => ?_) (fun j => ?_) i).trans (if_pos hdev)
  · obtain ⟨i0, i1, i2⟩ := idx t
    have hb : ∀ (k : Fin 4096) (f : Fin 384), iblk m c 1 t (ix2 (n0 := 4096) (n1 := 384) k f) = q (ix2 (n0 := 4096) (n1 := 3072) k (col t f)) := fun k f =>
      (show _ = V m c main_v3 (ix2 (n0 := 4096) (n1 := 3072) k (col t f)) by
        unfold iblk; generalize V m c = W; blk_ext [i1, col]).trans (congrFun hq _)
    blk_simp
    rw [after0_2, product m c hx t]
    refine block t _ hb _ _ ?_ ?_ ?_
    · blk_simp [i2]
    · blk_simp [i2]; exact congrArg (· + (y 1).val) (Nat.mul_comm _ _)
    · blk_simp [i2]; exact congrArg (· + (y 2).val) (Nat.mul_comm _ _)
  · blk_simp [Pipeline.Window.cell_apply]; rw [Nat.div_one]

end Cert.Sub16dwBlock

end
-- ==== Proof.Sub16dwAlgebraic.lean ====
/- The claims for the weights' gradient of a group with sixteen subsequences: its programs run to the end with their arguments unchanged,
   and the launch leaves the reference's gradient. -/
module

public import proofs.«01_k».proof.Proof.Sub16dwBlock
public import proofs.«01_k».proof.Proof.Gen.Kernel8.Frame
public import proofs.«01_k».proof.Proof.Gen.Reference8Ideal.Run
public import proofs.«01_k».proof.Proof.Gen.Reference8Ideal.Read
public import proofs.«01_k».proof.Defs
public import Idealize.ShloMosaic.Lib.StableHlo.RunRead

@[expose] public section

set_option maxRecDepth 16384
set_option backward.isDefEq.respectTransparency false

noncomputable section

namespace Cert.Sub16dwAlgebraic

open Idealize.ShloMosaic Idealize.SL.Sem Cert.Sub16dwBlock Idealize.ShloMosaic.StableHlo
open Idealize.ShloMosaic.TcCoe
open scoped BigOperators

/-! ### Frames -/

theorem kernel : Cert.quiescent_Kernel8 := fun m ρ _ => Cert.Kernel8.Gen.frame m ρ

theorem kernelIdeal : Cert.quiescent_Kernel8Ideal := fun m ρ _ => Cert.Kernel8Ideal.Gen.frame m ρ

theorem referenceIdeal : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves : Cert.preserves_Kernel8_Kernel8Ideal := trivial

/-! ### The kernel's result -/

section kernel
open Cert.Kernel8Ideal Cert.Kernel8Ideal.Gen

variable (m : (ℓ : Loc nD τ sig) → Buf (Elt Ideal) ℓ) (c : Dev nD)

abbrev Vals : Type := Valuation τ sig (Elt Ideal)

abbrev X : S4096x1024.Idx → EReal := m ((c : Thread nD τ).loc main_arg0)
abbrev Q : S4096x3072.Idx → EReal := m ((c : Thread nD τ).loc main_arg1)

theorem s0x (W : Vals) : after hostOps0 W (Proc.devRef .tc main_v2)
    = transpose S16x1024x256 [1, 2, 0] (shapeCast S256x16x1024 (W (Proc.devRef .tc main_arg0)) shapeCasts_S4096x1024_S256x16x1024)
        transposes_S256x16x1024_S16x1024x256_1_2_0 := by
  after_reads_simp; rfl
theorem s0q (W : Vals) : after hostOps0 W (Proc.devRef .tc main_v3) = W (Proc.devRef .tc main_arg1) := by
  after_reads_simp; rfl

theorem turned_eq (x : S4096x1024.Idx → EReal) : transpose S16x1024x256 [1, 2, 0]
    (shapeCast S256x16x1024 x shapeCasts_S4096x1024_S256x16x1024) transposes_S256x16x1024_S16x1024x256_1_2_0 = turned x := by
  funext i
  refine (transpose_apply _ _ _ _ (ix3 (n0 := 256) (n1 := 16) (n2 := 1024) (i 2) (i 0) (i 1)) (by intro b; fin_cases b <;> rfl)).trans ?_
  refine shapeCast_apply _ _ _ _ ?_
  rewrite [Shape.rowMajor_val_three, Shape.rowMajor_val_two]
  show (16 * (i 2).val + (i 0).val) * 1024 + (i 1).val = ((i 2).val * 16 + (i 0).val) * 1024 + (i 1).val
  omega

theorem entry_x : V m c main_v2 = turned (X m c) := (s0x _).trans (turned_eq _)
theorem entry_q : V m c main_v3 = Q m c := s0q _

/-- Out of the slots: the devices' columns in their order, side by side, and of these the group's. -/
def unslot (g : S8x1024x1152.Idx → EReal) : S1024x3072.Idx → EReal :=
  extractStridedSlice S1024x3072 ![0, 6144]
    (shapeCast S1024x9216
      (transpose S1024x8x1152 [1, 0, 2]
        (shapeCast S8x1024x1152
          (transpose S4x2x1024x1152 [1, 0, 2, 3] (shapeCast S2x4x1024x1152 g shapeCasts_S8x1024x1152_S2x4x1024x1152)
            transposes_S2x4x1024x1152_S4x2x1024x1152_1_0_2_3)
          shapeCasts_S4x2x1024x1152_S8x1024x1152)
        transposes_S8x1024x1152_S1024x8x1152_1_0_2)
      shapeCasts_S1024x8x1152_S1024x9216)
    slices_S1024x9216_S1024x3072_0_6144

theorem s1g (W : Vals) : after hostOps1 W (Proc.devRef .tc main_v10) = unslot (W (Proc.devRef .tc main_v4)) := by
  after_reads_simp; rfl

/-- Column `1152 * d + f` is device `d`'s column `f`, read in the device's slot. -/
theorem unslot_apply (g : S8x1024x1152.Idx → EReal) (i : S1024x3072.Idx) (a : Fin 2) (b : Fin 4) (f : Fin 1152)
    (s : Fin 8) (hs : s.val = 4 * a.val + b.val) (hf : 6144 + (i 1).val = 1152 * (2 * b.val + a.val) + f.val) :
    unslot g i = g (ix3 (n0 := 8) (n1 := 1024) (n2 := 1152) s (i 0) f) := by
  have hi : (i 1).val < 3072 := (i 1).isLt
  unfold unslot
  refine (extractStridedSlice_apply _ _ _ _ (ix2 (n0 := 1024) (n1 := 9216) (i 0) ⟨6144 + (i 1).val, by omega⟩) (by
    intro k; fin_cases k
    · exact (Nat.zero_add _).symm
    · rfl)).trans ?_
  refine (shapeCast_apply _ _ _ (ix3 (n0 := 1024) (n1 := 8) (n2 := 1152) (i 0) ⟨2 * b.val + a.val, by omega⟩ f) (by
    rewrite [Shape.rowMajor_val_three, Shape.rowMajor_val_two]
    show ((i 0).val * 8 + (2 * b.val + a.val)) * 1152 + f.val = (i 0).val * 9216 + (6144 + (i 1).val)
    omega)).trans ?_
  refine (transpose_apply _ _ _ _ (ix3 (n0 := 8) (n1 := 1024) (n2 := 1152) ⟨2 * b.val + a.val, by omega⟩ (i 0) f) (by
    intro k; fin_cases k <;> rfl)).trans ?_
  refine (shapeCast_apply _ _ _ (ix4 (n0 := 4) (n1 := 2) (n2 := 1024) (n3 := 1152) b a (i 0) f) (by
    rewrite [Shape.rowMajor_val_four, Shape.rowMajor_val_three]
    show ((b.val * 2 + a.val) * 1024 + (i 0).val) * 1152 + f.val = ((2 * b.val + a.val) * 1024 + (i 0).val) * 1152 + f.val
    omega)).trans ?_
  refine (transpose_apply _ _ _ _ (ix4 (n0 := 2) (n1 := 4) (n2 := 1024) (n3 := 1152) a b (i 0) f) (by
    intro k; fin_cases k <;> rfl)).trans ?_
  exact shapeCast_apply _ _ _ (ix3 (n0 := 8) (n1 := 1024) (n2 := 1152) s (i 0) f) (by
    rewrite [Shape.rowMajor_val_four, Shape.rowMajor_val_three]
    show (s.val * 1024 + (i 0).val) * 1152 + f.val = ((a.val * 4 + b.val) * 1024 + (i 0).val) * 1152 + f.val
    omega)

theorem result (i : S1024x3072.Idx) :
    Pipeline.afterTail₀ cfgs (dats m) 0 (V0 m) [hostOps1] c main_v10 i = dw (X m c) (Q m c) (i 0) (i 1) := by
  have hi : (i 1).val < 3072 := (i 1).isLt
  unfold Pipeline.afterTail₀
  refine (congrFun (s1g _) i).trans ?_
  refine (unslot_apply _ i ⟨(6144 + (i 1).val) / 1152 % 2, by omega⟩ ⟨(6144 + (i 1).val) / 1152 / 2, by omega⟩ ⟨(6144 + (i 1).val) % 1152, by omega⟩
    ⟨4 * ((6144 + (i 1).val) / 1152 % 2) + (6144 + (i 1).val) / 1152 / 2, by omega⟩ rfl
    (by show 6144 + (i 1).val = 1152 * (2 * ((6144 + (i 1).val) / 1152 / 2) + (6144 + (i 1).val) / 1152 % 2) + (6144 + (i 1).val) % 1152; omega)).trans ?_
  have e : 1152 * dev (4 * ((6144 + (i 1).val) / 1152 % 2) + (6144 + (i 1).val) / 1152 / 2) + (6144 + (i 1).val) % 1152 = 6144 + (i 1).val := by
    unfold dev; omega
  have hlt : 6144 ≤ 1152 * dev (4 * ((6144 + (i 1).val) / 1152 % 2) + (6144 + (i 1).val) / 1152 / 2) + (6144 + (i 1).val) % 1152
      ∧ 1152 * dev (4 * ((6144 + (i 1).val) / 1152 % 2) + (6144 + (i 1).val) / 1152 / 2) + (6144 + (i 1).val) % 1152 < 9216 := by omega
  refine (congrFun (Pipeline.withArrays_arr spec0 launch0.win.arr_inj c _ _ 2) _).trans ((arr m c (entry_x m c) (entry_q m c) _ hlt).trans ?_)
  unfold slots
  refine (dif_pos hlt).trans ?_
  exact congrArg (dw (X m c) (Q m c) (i 0)) (Fin.ext (by
    show 1152 * dev (4 * ((6144 + (i 1).val) / 1152 % 2) + (6144 + (i 1).val) / 1152 / 2) + (6144 + (i 1).val) % 1152 - 6144 = (i 1).val
    omega))

end kernel

/-! ### The reference's result -/

section reference
open Cert.Reference8Ideal.Gen Cert.Reference8Ideal.Read

variable (x : Cert.Kernel8Ideal.S4096x1024.Idx → EReal) (q : Cert.Kernel8Ideal.S4096x3072.Idx → EReal)

/-- The row of the cotangent that belongs to the row `t` of `x`. -/
def qrow (t : Fin 4096) : Fin 4096 := ⟨256 * (t.val % 16) + t.val / 16, by omega⟩

theorem reference_rows (j : Cert.Reference8Ideal.S4096x3072.Idx) :
    val_main_v7 (F := Ideal) q j = q (ix2 (n0 := 4096) (n1 := 3072) (qrow (j 0)) (j 1)) := by
  have hj : (j 0).val < 4096 := (j 0).isLt
  unfold val_main_v7
  refine (shapeCast_apply _ _ _ (ix3 (n0 := 256) (n1 := 16) (n2 := 3072) ⟨(j 0).val / 16, by omega⟩ ⟨(j 0).val % 16, by omega⟩ (j 1)) (by
    rewrite [Shape.rowMajor_val_three, Shape.rowMajor_val_two]
    show ((j 0).val / 16 * 16 + (j 0).val % 16) * 3072 + (j 1).val = (j 0).val * 3072 + (j 1).val
    omega)).trans ?_
  unfold val_main_v6
  refine (transpose_apply _ _ _ _ (ix3 (n0 := 16) (n1 := 256) (n2 := 3072) ⟨(j 0).val % 16, by omega⟩ ⟨(j 0).val / 16, by omega⟩ (j 1)) (by
    intro b; fin_cases b <;> rfl)).trans ?_
  unfold val_main_v5
  refine shapeCast_apply _ _ _ _ ?_
  rewrite [Shape.rowMajor_val_three, Shape.rowMajor_val_two]
  show (256 * ((j 0).val % 16) + (j 0).val / 16) * 3072 + (j 1).val = ((j 0).val % 16 * 256 + (j 0).val / 16) * 3072 + (j 1).val
  omega

/-- The rows of `x` and the rows of the cotangent, one for one. -/
def rowEquiv : Fin 4096 ≃ Fin 4096 where
  toFun := qrow
  invFun := srow
  left_inv t := Fin.ext (by show 16 * ((256 * (t.val % 16) + t.val / 16) % 256) + (256 * (t.val % 16) + t.val / 16) / 256 = t.val; omega)
  right_inv t := Fin.ext (by show 256 * ((16 * (t.val % 256) + t.val / 256) % 16) + (16 * (t.val % 256) + t.val / 256) / 16 = t.val; omega)

theorem reference_weights (i : Cert.Reference8Ideal.S1024x3072.Idx) : val_main_v10 (F := Ideal) x q i = dw x q (i 0) (i 1) := by
  have e : val_main_v10 (F := Ideal) x q i = val_main_v8 (F := Ideal) x q (ix2 (n0 := 3072) (n1 := 1024) (i 1) (i 0)) := by
    show val_main_v9 (F := Ideal) x q i = _
    unfold val_main_v9
    exact transpose_apply _ _ _ _ _ (by intro b; fin_cases b <;> rfl)
  refine e.trans ((val_main_v8_apply x q _).trans ?_)
  unfold dw
  refine Fintype.sum_equiv rowEquiv _ _ fun t => ?_
  refine (congrArg₂ (fun a b : EReal => a * b) (reference_rows q _) (congrArg x (eq_ix2 (n0 := 4096) (n1 := 1024) _))).trans ((mul_comm _ _).trans ?_)
  refine congrArg₂ (fun a b : EReal => a * b) (congrArg x (funext fun a => Fin.ext ?_)) rfl
  match a with
  | ⟨0, _⟩ => exact (congrArg Fin.val (rowEquiv.left_inv t)).symm
  | ⟨1, _⟩ => rfl

end reference

open Cert.Reference8Ideal.Read in
theorem algebraic : Cert.algebraic_Kernel8Ideal_Reference8Ideal := by
  intro m g m' g' _ hargs
  refine ⟨fun c i => dw (X m c) (Q m c) (i 0) (i 1), ?_, ?_⟩
  · refine (θ_run Cert.Kernel8Ideal.defs _ _).mono (fun r h c => ?_) (Cert.Kernel8Ideal.Gen.run_main m g)
    exact ⟨((h c).2 Cert.Kernel8Ideal.main_v10 (Pipeline.mem_restRefs_of Cert.Kernel8Ideal.main_v10 (by decide) (by decide))).trans (funext (result m c)),
      ((h c).2 Cert.Kernel8Ideal.main_arg0 (Pipeline.mem_restRefs_of Cert.Kernel8Ideal.main_arg0 (by decide) (by decide))).trans (Cert.Kernel8Ideal.Gen.W_main_arg0 m _ c),
      ((h c).2 Cert.Kernel8Ideal.main_arg1 (Pipeline.mem_restRefs_of Cert.Kernel8Ideal.main_arg1 (by decide) (by decide))).trans (Cert.Kernel8Ideal.Gen.W_main_arg1 m _ c)⟩
  · refine (θ_run Cert.Reference8Ideal.defs _ _).mono (fun r h c => ?_) (Cert.Reference8Ideal.Value.run (F := Ideal) m' g')
    obtain ⟨e0, e1⟩ := hargs c
    obtain ⟨k0, hk⟩ := h c
    refine ⟨k0.trans ((val_main_v10_eq (F := Ideal) _ _).trans ?_), hk⟩
    exact (congrArg₂ (val_main_v10 (F := Ideal)) e0 e1).trans (funext fun i => reference_weights _ _ i)

end Cert.Sub16dwAlgebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Frames
public import proofs.«01_k».proof.Proof.Gen.Kernel2
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Reference8Ideal.Read
public import proofs.«01_k».proof.Proof.Algebraic
public import proofs.«01_k».proof.Proof.FfnAlgebraic
public import proofs.«01_k».proof.Proof.NormAlgebraic
public import proofs.«01_k».proof.Proof.QkvAlgebraic
public import proofs.«01_k».proof.Proof.SubAlgebraic
public import proofs.«01_k».proof.Proof.SubdwAlgebraic
public import proofs.«01_k».proof.Proof.Sub16Algebraic
public import proofs.«01_k».proof.Proof.Sub16dwAlgebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Finite.facts, FfnAlgebraic.facts, NormAlgebraic.facts,
  Frames.kernel, Frames.kernelIdeal, Algebraic.kernel_frame, Frames.referenceIdeal, Algebraic.reference_frame,
  FfnAlgebraic.kernel, FfnAlgebraic.kernelIdeal, FfnAlgebraic.kernel_frame, FfnAlgebraic.referenceIdeal, FfnAlgebraic.reference_frame,
  NormAlgebraic.kernel, NormAlgebraic.kernelIdeal, NormAlgebraic.kernel_frame, NormAlgebraic.referenceIdeal, NormAlgebraic.reference_frame,
  QkvAlgebraic.kernel, QkvAlgebraic.kernelIdeal, QkvAlgebraic.referenceIdeal,
  SubAlgebraic.kernel, SubAlgebraic.kernelIdeal, SubAlgebraic.referenceIdeal,
  SubdwAlgebraic.kernel, SubdwAlgebraic.kernelIdeal, SubdwAlgebraic.referenceIdeal,
  Sub16Algebraic.kernel, Sub16Algebraic.kernelIdeal, Sub16Algebraic.referenceIdeal,
  Sub16dwAlgebraic.kernel, Sub16dwAlgebraic.kernelIdeal, Sub16dwAlgebraic.referenceIdeal,
  Frames.preserves, Algebraic.algebraic, FfnAlgebraic.preserves, FfnAlgebraic.algebraic,
  NormAlgebraic.preserves, NormAlgebraic.algebraic, QkvAlgebraic.preserves, QkvAlgebraic.algebraic,
  SubAlgebraic.preserves, SubAlgebraic.algebraic, SubdwAlgebraic.preserves, SubdwAlgebraic.algebraic,
  Sub16Algebraic.preserves, Sub16Algebraic.algebraic, Sub16dwAlgebraic.preserves, Sub16dwAlgebraic.algebraic⟩

end Cert.Proof

end
